-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_ProjFReferenceIdeal (m : (ℓ : Loc Cert.ProjFReferenceIdeal.nD Cert.ProjFReferenceIdeal.τ Cert.ProjFReferenceIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBReferenceIdeal (m : (ℓ : Loc Cert.ProjBReferenceIdeal.nD Cert.ProjBReferenceIdeal.τ Cert.ProjBReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_operands [hPre_finite_operands : Cert.Pre_finite_operands.Facts] (m : (ℓ : Loc Cert.DiffIdeal.nD Cert.DiffIdeal.τ Cert.DiffIdeal.sig) → Buf (Elt Ideal) ℓ) : Prop :=
  ∀ c : Dev Cert.DiffIdeal.nD,
    (Cert.Pre_finite_operands.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2))) = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_finite_operands [hPre_finite_operands : Cert.Pre_finite_operands.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_finite_operands.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Group (m : (ℓ : Loc Cert.Group.nD Cert.Group.τ Cert.Group.sig) → Buf (Elt Bits) ℓ) : Prop :=
  True

def Pre_GroupIdeal (m : (ℓ : Loc Cert.GroupIdeal.nD Cert.GroupIdeal.τ Cert.GroupIdeal.sig) → Buf (Elt Ideal) ℓ) : Prop :=
  True

def Pre_GroupReferenceIdeal (m : (ℓ : Loc Cert.GroupReferenceIdeal.nD Cert.GroupReferenceIdeal.τ Cert.GroupReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ r.2.sem = fun _ => 0)

def quiescent_ProjFReferenceIdeal [hProjFReferenceIdeal : Cert.ProjFReferenceIdeal.Facts] : Prop :=
  ∀ (m : (ℓ : Loc Cert.ProjFReferenceIdeal.nD Cert.ProjFReferenceIdeal.τ Cert.ProjFReferenceIdeal.sig) → Buf (Elt Ideal) ℓ) (g : Dev Cert.ProjFReferenceIdeal.nD → PrngReg), Pre_ProjFReferenceIdeal m →
    θ_run (Cert.ProjFReferenceIdeal.defs (F := Ideal)) (onTc (τ := Cert.ProjFReferenceIdeal.τ) (Cert.ProjFReferenceIdeal.main (F := Ideal))) ⟨m, fun _ => 0, g⟩ (fun r => (∀ c : Dev Cert.ProjFReferenceIdeal.nD,
      r.2.mem ((c.tc : Thread Cert.ProjFReferenceIdeal.nD Cert.ProjFReferenceIdeal.τ).loc Cert.ProjFReferenceIdeal.main_arg0) = m ((c.tc : Thread Cert.ProjFReferenceIdeal.nD Cert.ProjFReferenceIdeal.τ).loc Cert.ProjFReferenceIdeal.main_arg0)
      ∧ r.2.mem ((c.tc : Thread Cert.ProjFReferenceIdeal.nD Cert.ProjFReferenceIdeal.τ).loc Cert.ProjFReferenceIdeal.main_arg1) = m ((c.tc : Thread Cert.ProjFReferenceIdeal.nD Cert.ProjFReferenceIdeal.τ).loc Cert.ProjFReferenceIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBReferenceIdeal [hProjBReferenceIdeal : Cert.ProjBReferenceIdeal.Facts] : Prop :=
  ∀ (m : (ℓ : Loc Cert.ProjBReferenceIdeal.nD Cert.ProjBReferenceIdeal.τ Cert.ProjBReferenceIdeal.sig) → Buf (Elt Ideal) ℓ) (g : Dev Cert.ProjBReferenceIdeal.nD → PrngReg), Pre_ProjBReferenceIdeal m →
    θ_run (Cert.ProjBReferenceIdeal.defs (F := Ideal)) (onTc (τ := Cert.ProjBReferenceIdeal.τ) (Cert.ProjBReferenceIdeal.main (F := Ideal))) ⟨m, fun _ => 0, g⟩ (fun r => (∀ c : Dev Cert.ProjBReferenceIdeal.nD,
      r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
      ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffIdeal_pre_finite_operands [hDiffIdeal : Cert.DiffIdeal.Facts] [hPre_finite_operands : Cert.Pre_finite_operands.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_operands m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2))
      ∧ r.2.sem = fun _ => 0)

def quiescent_DiffReferenceIdeal_pre_finite_operands [hDiffReferenceIdeal : Cert.DiffReferenceIdeal.Facts] [hPre_finite_operands : Cert.Pre_finite_operands.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_finite_operands m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1))
      ∧ r.2.sem = fun _ => 0)

def quiescent_Group [hGroup : Cert.Group.Facts] : Prop :=
  ∀ (m : (ℓ : Loc Cert.Group.nD Cert.Group.τ Cert.Group.sig) → Buf (Elt Bits) ℓ) (g : Dev Cert.Group.nD → PrngReg), Pre_Group m →
    θ_run (Cert.Group.defs (F := Bits)) (onTc (τ := Cert.Group.τ) (Cert.Group.main (F := Bits))) ⟨m, fun _ => 0, g⟩ (fun r => (∀ c : Dev Cert.Group.nD,
      r.2.mem ((c.tc : Thread Cert.Group.nD Cert.Group.τ).loc Cert.Group.main_arg0) = m ((c.tc : Thread Cert.Group.nD Cert.Group.τ).loc Cert.Group.main_arg0)
      ∧ r.2.mem ((c.tc : Thread Cert.Group.nD Cert.Group.τ).loc Cert.Group.main_arg1) = m ((c.tc : Thread Cert.Group.nD Cert.Group.τ).loc Cert.Group.main_arg1)
      ∧ r.2.mem ((c.tc : Thread Cert.Group.nD Cert.Group.τ).loc Cert.Group.main_arg2) = m ((c.tc : Thread Cert.Group.nD Cert.Group.τ).loc Cert.Group.main_arg2)
      ∧ r.2.mem ((c.tc : Thread Cert.Group.nD Cert.Group.τ).loc Cert.Group.main_arg3) = m ((c.tc : Thread Cert.Group.nD Cert.Group.τ).loc Cert.Group.main_arg3)
      ∧ r.2.mem ((c.tc : Thread Cert.Group.nD Cert.Group.τ).loc Cert.Group.main_arg4) = m ((c.tc : Thread Cert.Group.nD Cert.Group.τ).loc Cert.Group.main_arg4))
      ∧ r.2.sem = fun _ => 0)

def quiescent_GroupIdeal [hGroupIdeal : Cert.GroupIdeal.Facts] : Prop :=
  ∀ (m : (ℓ : Loc Cert.GroupIdeal.nD Cert.GroupIdeal.τ Cert.GroupIdeal.sig) → Buf (Elt Ideal) ℓ) (g : Dev Cert.GroupIdeal.nD → PrngReg), Pre_GroupIdeal m →
    θ_run (Cert.GroupIdeal.defs (F := Ideal)) (onTc (τ := Cert.GroupIdeal.τ) (Cert.GroupIdeal.main (F := Ideal))) ⟨m, fun _ => 0, g⟩ (fun r => (∀ c : Dev Cert.GroupIdeal.nD,
      r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
      ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
      ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2)
      ∧ r.2.mem ((c.tc : Thread Cert.GroupIdeal.nD Cert.GroupIdeal.τ).loc Cert.GroupIdeal.main_arg3) = m ((c.tc : Thread Cert.GroupIdeal.nD Cert.GroupIdeal.τ).loc Cert.GroupIdeal.main_arg3)
      ∧ r.2.mem ((c.tc : Thread Cert.GroupIdeal.nD Cert.GroupIdeal.τ).loc Cert.GroupIdeal.main_arg4) = m ((c.tc : Thread Cert.GroupIdeal.nD Cert.GroupIdeal.τ).loc Cert.GroupIdeal.main_arg4))
      ∧ r.2.sem = fun _ => 0)

def quiescent_GroupReferenceIdeal [hGroupReferenceIdeal : Cert.GroupReferenceIdeal.Facts] : Prop :=
  ∀ (m : (ℓ : Loc Cert.GroupReferenceIdeal.nD Cert.GroupReferenceIdeal.τ Cert.GroupReferenceIdeal.sig) → Buf (Elt Ideal) ℓ) (g : Dev Cert.GroupReferenceIdeal.nD → PrngReg), Pre_GroupReferenceIdeal m →
    θ_run (Cert.GroupReferenceIdeal.defs (F := Ideal)) (onTc (τ := Cert.GroupReferenceIdeal.τ) (Cert.GroupReferenceIdeal.main (F := Ideal))) ⟨m, fun _ => 0, g⟩ (fun r => (∀ c : Dev Cert.GroupReferenceIdeal.nD,
      r.2.mem ((c.tc : Thread Cert.GroupReferenceIdeal.nD Cert.GroupReferenceIdeal.τ).loc Cert.GroupReferenceIdeal.main_arg0) = m ((c.tc : Thread Cert.GroupReferenceIdeal.nD Cert.GroupReferenceIdeal.τ).loc Cert.GroupReferenceIdeal.main_arg0)
      ∧ r.2.mem ((c.tc : Thread Cert.GroupReferenceIdeal.nD Cert.GroupReferenceIdeal.τ).loc Cert.GroupReferenceIdeal.main_arg1) = m ((c.tc : Thread Cert.GroupReferenceIdeal.nD Cert.GroupReferenceIdeal.τ).loc Cert.GroupReferenceIdeal.main_arg1)
      ∧ r.2.mem ((c.tc : Thread Cert.GroupReferenceIdeal.nD Cert.GroupReferenceIdeal.τ).loc Cert.GroupReferenceIdeal.main_arg2) = m ((c.tc : Thread Cert.GroupReferenceIdeal.nD Cert.GroupReferenceIdeal.τ).loc Cert.GroupReferenceIdeal.main_arg2)
      ∧ r.2.mem ((c.tc : Thread Cert.GroupReferenceIdeal.nD Cert.GroupReferenceIdeal.τ).loc Cert.GroupReferenceIdeal.main_arg3) = m ((c.tc : Thread Cert.GroupReferenceIdeal.nD Cert.GroupReferenceIdeal.τ).loc Cert.GroupReferenceIdeal.main_arg3)
      ∧ r.2.mem ((c.tc : Thread Cert.GroupReferenceIdeal.nD Cert.GroupReferenceIdeal.τ).loc Cert.GroupReferenceIdeal.main_arg4) = m ((c.tc : Thread Cert.GroupReferenceIdeal.nD Cert.GroupReferenceIdeal.τ).loc Cert.GroupReferenceIdeal.main_arg4))
      ∧ r.2.sem = fun _ => 0)

def preserves_Kernel_KernelIdeal : Prop :=
  IdealRules.named_const.Statement Cert.KernelIdeal.κ "qscale" .f32 0x3DD53B95#32 (((Real.sqrt 192)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v7) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v18) = v0 c
          ∧ r.2.mem ((c.tc : Thread Cert.DownReferenceIdeal.nD Cert.DownReferenceIdeal.τ).loc Cert.DownReferenceIdeal.main_v32) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_ProjF_ProjFIdeal : Prop :=
  True

def algebraic_ProjFIdeal_ProjFReferenceIdeal [hProjFIdeal : Cert.ProjFIdeal.Facts] [hProjFReferenceIdeal : Cert.ProjFReferenceIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.ProjFReferenceIdeal.nD Cert.ProjFReferenceIdeal.τ Cert.ProjFReferenceIdeal.sig) → Buf (Elt Ideal) ℓ) (g' : Dev Cert.ProjFReferenceIdeal.nD → PrngReg), Pre_ProjFIdeal m →
    (∀ c : Dev Cert.ProjFIdeal.nD,
      m' ((c.tc : Thread Cert.ProjFReferenceIdeal.nD Cert.ProjFReferenceIdeal.τ).loc Cert.ProjFReferenceIdeal.main_arg0) = m ((c.tc : Thread Cert.ProjFIdeal.nD Cert.ProjFIdeal.τ).loc Cert.ProjFIdeal.main_arg0)
      ∧ m' ((c.tc : Thread Cert.ProjFReferenceIdeal.nD Cert.ProjFReferenceIdeal.τ).loc Cert.ProjFReferenceIdeal.main_arg1) = m ((c.tc : Thread Cert.ProjFIdeal.nD Cert.ProjFIdeal.τ).loc Cert.ProjFIdeal.main_arg1)) →
    ∃ (v0 : (c : Dev Cert.ProjFIdeal.nD) → Buf (Elt Ideal) ((c.tc : Thread Cert.ProjFIdeal.nD Cert.ProjFIdeal.τ).loc Cert.ProjFIdeal.main_v2)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v2) = v0 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ θ_run (Cert.ProjFReferenceIdeal.defs (F := Ideal)) (onTc (τ := Cert.ProjFReferenceIdeal.τ) (Cert.ProjFReferenceIdeal.main (F := Ideal))) ⟨m', fun _ => 0, g'⟩ (fun r => ∀ c : Dev Cert.ProjFReferenceIdeal.nD,
          r.2.mem ((c.tc : Thread Cert.ProjFReferenceIdeal.nD Cert.ProjFReferenceIdeal.τ).loc Cert.ProjFReferenceIdeal.main_v1) = v0 c
          ∧ r.2.mem ((c.tc : Thread Cert.ProjFReferenceIdeal.nD Cert.ProjFReferenceIdeal.τ).loc Cert.ProjFReferenceIdeal.main_arg0) = m' ((c.tc : Thread Cert.ProjFReferenceIdeal.nD Cert.ProjFReferenceIdeal.τ).loc Cert.ProjFReferenceIdeal.main_arg0)
          ∧ r.2.mem ((c.tc : Thread Cert.ProjFReferenceIdeal.nD Cert.ProjFReferenceIdeal.τ).loc Cert.ProjFReferenceIdeal.main_arg1) = m' ((c.tc : Thread Cert.ProjFReferenceIdeal.nD Cert.ProjFReferenceIdeal.τ).loc Cert.ProjFReferenceIdeal.main_arg1))

def preserves_ProjB_ProjBIdeal : Prop :=
  True

def algebraic_ProjBIdeal_ProjBReferenceIdeal [hProjBIdeal : Cert.ProjBIdeal.Facts] [hProjBReferenceIdeal : Cert.ProjBReferenceIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBReferenceIdeal.nD Cert.ProjBReferenceIdeal.τ Cert.ProjBReferenceIdeal.sig) → Buf (Elt Ideal) ℓ) (g' : Dev Cert.ProjBReferenceIdeal.nD → PrngReg), Pre_ProjBIdeal m →
    (∀ c : Dev Cert.ProjBIdeal.nD,
      m' ((c.tc : Thread Cert.ProjBReferenceIdeal.nD Cert.ProjBReferenceIdeal.τ).loc Cert.ProjBReferenceIdeal.main_arg0) = m ((c.tc : Thread Cert.ProjBIdeal.nD Cert.ProjBIdeal.τ).loc Cert.ProjBIdeal.main_arg0)
      ∧ m' ((c.tc : Thread Cert.ProjBReferenceIdeal.nD Cert.ProjBReferenceIdeal.τ).loc Cert.ProjBReferenceIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v2)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v2) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBReferenceIdeal.defs (F := Ideal)) (onTc (τ := Cert.ProjBReferenceIdeal.τ) (Cert.ProjBReferenceIdeal.main (F := Ideal))) ⟨m', fun _ => 0, g'⟩ (fun r => ∀ c : Dev Cert.ProjBReferenceIdeal.nD,
          r.2.mem ((c.tc : Thread Cert.ProjBReferenceIdeal.nD Cert.ProjBReferenceIdeal.τ).loc Cert.ProjBReferenceIdeal.main_v2) = v0 c
          ∧ r.2.mem ((c.tc : Thread Cert.ProjBReferenceIdeal.nD Cert.ProjBReferenceIdeal.τ).loc Cert.ProjBReferenceIdeal.main_arg0) = m' ((c.tc : Thread Cert.ProjBReferenceIdeal.nD Cert.ProjBReferenceIdeal.τ).loc Cert.ProjBReferenceIdeal.main_arg0)
          ∧ r.2.mem ((c.tc : Thread Cert.ProjBReferenceIdeal.nD Cert.ProjBReferenceIdeal.τ).loc Cert.ProjBReferenceIdeal.main_arg1) = m' ((c.tc : Thread Cert.ProjBReferenceIdeal.nD Cert.ProjBReferenceIdeal.τ).loc Cert.ProjBReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v16) = v0 c
          ∧ r.2.mem ((c.tc : Thread Cert.OutReferenceIdeal.nD Cert.OutReferenceIdeal.τ).loc Cert.OutReferenceIdeal.main_v30) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Diff_DiffIdeal : Prop :=
  IdealRules.named_const.Statement Cert.DiffIdeal.κ "dscale" .f32 0x3E38AA3B#32 (((Real.sqrt 64)⁻¹ * (Real.log 2)⁻¹ : ℝ) : EReal)
  ∧ IdealRules.named_const.Statement Cert.DiffIdeal.κ "log2e" .f32 0x3FB8AA3B#32 (((Real.log 2)⁻¹ : ℝ) : EReal)

def algebraic_DiffIdeal_DiffReferenceIdeal_pre_finite_operands [hDiffIdeal : Cert.DiffIdeal.Facts] [hDiffReferenceIdeal : Cert.DiffReferenceIdeal.Facts] [hPre_finite_operands : Cert.Pre_finite_operands.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal_finite_operands m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)) →
    ∃ (v0 : (c : Dev Cert.DiffIdeal.nD) → Buf (Elt Ideal) ((c.tc : Thread Cert.DiffIdeal.nD Cert.DiffIdeal.τ).loc Cert.DiffIdeal.main_v29)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v29) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v107) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)) →
    ∃ (v0 : (c : Dev Cert.FirstIdeal.nD) → Buf (Elt Ideal) ((c.tc : Thread Cert.FirstIdeal.nD Cert.FirstIdeal.τ).loc Cert.FirstIdeal.main_v1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v13) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1))

def preserves_Group_GroupIdeal : Prop :=
  True

def algebraic_GroupIdeal_GroupReferenceIdeal [hGroupIdeal : Cert.GroupIdeal.Facts] [hGroupReferenceIdeal : Cert.GroupReferenceIdeal.Facts] : Prop :=
  ∀ (m : (ℓ : Loc Cert.GroupIdeal.nD Cert.GroupIdeal.τ Cert.GroupIdeal.sig) → Buf (Elt Ideal) ℓ) (g : Dev Cert.GroupIdeal.nD → PrngReg)
    (m' : (ℓ : Loc Cert.GroupReferenceIdeal.nD Cert.GroupReferenceIdeal.τ Cert.GroupReferenceIdeal.sig) → Buf (Elt Ideal) ℓ) (g' : Dev Cert.GroupReferenceIdeal.nD → PrngReg), Pre_GroupIdeal m →
    (∀ c : Dev Cert.GroupIdeal.nD,
      m' ((c.tc : Thread Cert.GroupReferenceIdeal.nD Cert.GroupReferenceIdeal.τ).loc Cert.GroupReferenceIdeal.main_arg0) = m ((c.tc : Thread Cert.GroupIdeal.nD Cert.GroupIdeal.τ).loc Cert.GroupIdeal.main_arg0)
      ∧ m' ((c.tc : Thread Cert.GroupReferenceIdeal.nD Cert.GroupReferenceIdeal.τ).loc Cert.GroupReferenceIdeal.main_arg1) = m ((c.tc : Thread Cert.GroupIdeal.nD Cert.GroupIdeal.τ).loc Cert.GroupIdeal.main_arg1)
      ∧ m' ((c.tc : Thread Cert.GroupReferenceIdeal.nD Cert.GroupReferenceIdeal.τ).loc Cert.GroupReferenceIdeal.main_arg2) = m ((c.tc : Thread Cert.GroupIdeal.nD Cert.GroupIdeal.τ).loc Cert.GroupIdeal.main_arg2)
      ∧ m' ((c.tc : Thread Cert.GroupReferenceIdeal.nD Cert.GroupReferenceIdeal.τ).loc Cert.GroupReferenceIdeal.main_arg3) = m ((c.tc : Thread Cert.GroupIdeal.nD Cert.GroupIdeal.τ).loc Cert.GroupIdeal.main_arg3)
      ∧ m' ((c.tc : Thread Cert.GroupReferenceIdeal.nD Cert.GroupReferenceIdeal.τ).loc Cert.GroupReferenceIdeal.main_arg4) = m ((c.tc : Thread Cert.GroupIdeal.nD Cert.GroupIdeal.τ).loc Cert.GroupIdeal.main_arg4)) →
    ∃ (v0 : (c : Dev Cert.GroupIdeal.nD) → Buf (Elt Ideal) ((c.tc : Thread Cert.GroupIdeal.nD Cert.GroupIdeal.τ).loc Cert.GroupIdeal.main_v1)),
      θ_run (Cert.GroupIdeal.defs (F := Ideal)) (onTc (τ := Cert.GroupIdeal.τ) (Cert.GroupIdeal.main (F := Ideal))) ⟨m, fun _ => 0, g⟩ (fun r => ∀ c : Dev Cert.GroupIdeal.nD,
          r.2.mem ((c.tc : Thread Cert.GroupIdeal.nD Cert.GroupIdeal.τ).loc Cert.GroupIdeal.main_v1) = v0 c
          ∧ r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
          ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
          ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2)
          ∧ r.2.mem ((c.tc : Thread Cert.GroupIdeal.nD Cert.GroupIdeal.τ).loc Cert.GroupIdeal.main_arg3) = m ((c.tc : Thread Cert.GroupIdeal.nD Cert.GroupIdeal.τ).loc Cert.GroupIdeal.main_arg3)
          ∧ r.2.mem ((c.tc : Thread Cert.GroupIdeal.nD Cert.GroupIdeal.τ).loc Cert.GroupIdeal.main_arg4) = m ((c.tc : Thread Cert.GroupIdeal.nD Cert.GroupIdeal.τ).loc Cert.GroupIdeal.main_arg4))
      ∧ θ_run (Cert.GroupReferenceIdeal.defs (F := Ideal)) (onTc (τ := Cert.GroupReferenceIdeal.τ) (Cert.GroupReferenceIdeal.main (F := Ideal))) ⟨m', fun _ => 0, g'⟩ (fun r => ∀ c : Dev Cert.GroupReferenceIdeal.nD,
          r.2.mem ((c.tc : Thread Cert.GroupReferenceIdeal.nD Cert.GroupReferenceIdeal.τ).loc Cert.GroupReferenceIdeal.main_v57) = v0 c
          ∧ r.2.mem ((c.tc : Thread Cert.GroupReferenceIdeal.nD Cert.GroupReferenceIdeal.τ).loc Cert.GroupReferenceIdeal.main_arg0) = m' ((c.tc : Thread Cert.GroupReferenceIdeal.nD Cert.GroupReferenceIdeal.τ).loc Cert.GroupReferenceIdeal.main_arg0)
          ∧ r.2.mem ((c.tc : Thread Cert.GroupReferenceIdeal.nD Cert.GroupReferenceIdeal.τ).loc Cert.GroupReferenceIdeal.main_arg1) = m' ((c.tc : Thread Cert.GroupReferenceIdeal.nD Cert.GroupReferenceIdeal.τ).loc Cert.GroupReferenceIdeal.main_arg1)
          ∧ r.2.mem ((c.tc : Thread Cert.GroupReferenceIdeal.nD Cert.GroupReferenceIdeal.τ).loc Cert.GroupReferenceIdeal.main_arg2) = m' ((c.tc : Thread Cert.GroupReferenceIdeal.nD Cert.GroupReferenceIdeal.τ).loc Cert.GroupReferenceIdeal.main_arg2)
          ∧ r.2.mem ((c.tc : Thread Cert.GroupReferenceIdeal.nD Cert.GroupReferenceIdeal.τ).loc Cert.GroupReferenceIdeal.main_arg3) = m' ((c.tc : Thread Cert.GroupReferenceIdeal.nD Cert.GroupReferenceIdeal.τ).loc Cert.GroupReferenceIdeal.main_arg3)
          ∧ r.2.mem ((c.tc : Thread Cert.GroupReferenceIdeal.nD Cert.GroupReferenceIdeal.τ).loc Cert.GroupReferenceIdeal.main_arg4) = m' ((c.tc : Thread Cert.GroupReferenceIdeal.nD Cert.GroupReferenceIdeal.τ).loc Cert.GroupReferenceIdeal.main_arg4))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hProjF : Cert.ProjF.Facts) (hProjFIdeal : Cert.ProjFIdeal.Facts) (hProjFReferenceIdeal : Cert.ProjFReferenceIdeal.Facts) (hProjB : Cert.ProjB.Facts) (hProjBIdeal : Cert.ProjBIdeal.Facts) (hProjBReferenceIdeal : Cert.ProjBReferenceIdeal.Facts) (hOut : Cert.Out.Facts) (hOutIdeal : Cert.OutIdeal.Facts) (hOutReferenceIdeal : Cert.OutReferenceIdeal.Facts) (hDiff : Cert.Diff.Facts) (hDiffIdeal : Cert.DiffIdeal.Facts) (hDiffReferenceIdeal : Cert.DiffReferenceIdeal.Facts) (hFirst : Cert.First.Facts) (hFirstIdeal : Cert.FirstIdeal.Facts) (hFirstReferenceIdeal : Cert.FirstReferenceIdeal.Facts) (hGroup : Cert.Group.Facts) (hGroupIdeal : Cert.GroupIdeal.Facts) (hGroupReferenceIdeal : Cert.GroupReferenceIdeal.Facts) (hPre_finite_scores : Cert.Pre_finite_scores.Facts) (hPre_finite_operands : Cert.Pre_finite_operands.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_ProjF (hProjF := hProjF)
    ∧ quiescent_ProjFIdeal (hProjFIdeal := hProjFIdeal)
    ∧ quiescent_ProjFReferenceIdeal (hProjFReferenceIdeal := hProjFReferenceIdeal)
    ∧ quiescent_ProjB (hProjB := hProjB)
    ∧ quiescent_ProjBIdeal (hProjBIdeal := hProjBIdeal)
    ∧ quiescent_ProjBReferenceIdeal (hProjBReferenceIdeal := hProjBReferenceIdeal)
    ∧ quiescent_Out (hOut := hOut)
    ∧ quiescent_OutIdeal (hOutIdeal := hOutIdeal)
    ∧ quiescent_OutReferenceIdeal (hOutReferenceIdeal := hOutReferenceIdeal)
    ∧ quiescent_Diff (hDiff := hDiff)
    ∧ quiescent_DiffIdeal (hDiffIdeal := hDiffIdeal)
    ∧ quiescent_DiffIdeal_pre_finite_operands (hDiffIdeal := hDiffIdeal) (hPre_finite_operands := hPre_finite_operands)
    ∧ quiescent_DiffReferenceIdeal (hDiffReferenceIdeal := hDiffReferenceIdeal)
    ∧ quiescent_DiffReferenceIdeal_pre_finite_operands (hDiffReferenceIdeal := hDiffReferenceIdeal) (hPre_finite_operands := hPre_finite_operands)
    ∧ quiescent_First (hFirst := hFirst)
    ∧ quiescent_FirstIdeal (hFirstIdeal := hFirstIdeal)
    ∧ quiescent_FirstReferenceIdeal (hFirstReferenceIdeal := hFirstReferenceIdeal)
    ∧ quiescent_Group (hGroup := hGroup)
    ∧ quiescent_GroupIdeal (hGroupIdeal := hGroupIdeal)
    ∧ quiescent_GroupReferenceIdeal (hGroupReferenceIdeal := hGroupReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_ProjF_ProjFIdeal
    ∧ algebraic_ProjFIdeal_ProjFReferenceIdeal (hProjFIdeal := hProjFIdeal) (hProjFReferenceIdeal := hProjFReferenceIdeal)
    ∧ preserves_ProjB_ProjBIdeal
    ∧ algebraic_ProjBIdeal_ProjBReferenceIdeal (hProjBIdeal := hProjBIdeal) (hProjBReferenceIdeal := hProjBReferenceIdeal)
    ∧ preserves_Out_OutIdeal
    ∧ algebraic_OutIdeal_OutReferenceIdeal (hOutIdeal := hOutIdeal) (hOutReferenceIdeal := hOutReferenceIdeal)
    ∧ preserves_Diff_DiffIdeal
    ∧ algebraic_DiffIdeal_DiffReferenceIdeal_pre_finite_operands (hDiffIdeal := hDiffIdeal) (hDiffReferenceIdeal := hDiffReferenceIdeal) (hPre_finite_operands := hPre_finite_operands)
    ∧ preserves_First_FirstIdeal
    ∧ algebraic_FirstIdeal_FirstReferenceIdeal (hFirstIdeal := hFirstIdeal) (hFirstReferenceIdeal := hFirstReferenceIdeal)
    ∧ preserves_Group_GroupIdeal
    ∧ algebraic_GroupIdeal_GroupReferenceIdeal (hGroupIdeal := hGroupIdeal) (hGroupReferenceIdeal := hGroupReferenceIdeal)
-- ==== Pre_finite_operands.lean ====
abbrev S2x4096x3072 : Shape := ⟨3, ![2, 4096, 3072]⟩
abbrev S4x64 : Shape := ⟨2, ![4, 64]⟩
abbrev S128 : Shape := ⟨1, ![128]⟩
abbrev S_ : Shape := ⟨0, ![]⟩

class Facts : Prop where
  bcast_S_S2x4096x3072 : S_.BroadcastsInDim S2x4096x3072 (![] : Fin 0 → Fin S2x4096x3072.rank)
  reducesTo_S2x4096x3072_S_d0_1_2 : S2x4096x3072.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S2x4096x3072 .f32) (main_arg1 : FVec F S4x64 .f32) (main_arg2 : FVec F S128 .f32) : IVec S_ 1 :=
  let main_v0 : FVec F S2x4096x3072 .f32 := Host.absf main_arg0
  let main_cst : FVec F S_ .f32 := constant S_ .f32 0x7F800000#32
  let main_v1 : FVec F S2x4096x3072 .f32 := broadcastInDim S2x4096x3072 ![] bcast_S_S2x4096x3072 main_cst
  let main_v2 : IVec S2x4096x3072 1 := cmpf .olt main_v0 main_v1
  let main_c : IVec S_ 1 := constantI S_ 1 1#1
  let main_v3 : IVec S_ 1 := (fun x v => Host.reduce IntOp.andi x v reducesTo_S2x4096x3072_S_d0_1_2 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Pre_finite_scores.lean ====
abbrev S2x4096x8x192 : Shape := ⟨4, ![2, 4096, 8, 192]⟩
abbrev S2x4096x8x128 : Shape := ⟨4, ![2, 4096, 8, 128]⟩
abbrev S_ : Shape := ⟨0, ![]⟩

class Facts : Prop where
  bcast_S_S2x4096x8x192 : S_.BroadcastsInDim S2x4096x8x192 (![] : Fin 0 → Fin S2x4096x8x192.rank)
  reducesTo_S2x4096x8x192_S_d0_1_2_3 : S2x4096x8x192.ReducesTo [0, 1, 2, 3] S_
  h_S_ : 0 < S_.numel

variable [Facts]

def fn {F : FTy → Type} [FloatOps F] (main_arg0 : FVec F S2x4096x8x192 .f32) (main_arg1 : FVec F S2x4096x8x192 .f32) (main_arg2 : FVec F S2x4096x8x128 .f32) : IVec S_ 1 :=
  let main_v0 : FVec F S2x4096x8x192 .f32 := Host.absf main_arg0
  let main_cst : FVec F S_ .f32 := constant S_ .f32 0x7F800000#32
  let main_v1 : FVec F S2x4096x8x192 .f32 := broadcastInDim S2x4096x8x192 ![] bcast_S_S2x4096x8x192 main_cst
  let main_v2 : IVec S2x4096x8x192 1 := cmpf .olt main_v0 main_v1
  let main_c : IVec S_ 1 := constantI S_ 1 1#1
  let main_v3 : IVec S_ 1 := (fun x v => Host.reduce IntOp.andi x v reducesTo_S2x4096x8x192_S_d0_1_2_3 h_S_) main_v2 main_c
  let main_v4 : FVec F S2x4096x8x192 .f32 := Host.absf main_arg1
  let main_cst_0 : FVec F S_ .f32 := constant S_ .f32 0x7F800000#32
  let main_v5 : FVec F S2x4096x8x192 .f32 := broadcastInDim S2x4096x8x192 ![] bcast_S_S2x4096x8x192 main_cst_0
  let main_v6 : IVec S2x4096x8x192 1 := cmpf .olt main_v4 main_v5
  let main_c_1 : IVec S_ 1 := constantI S_ 1 1#1
  let main_v7 : IVec S_ 1 := (fun x v => Host.reduce IntOp.andi x v reducesTo_S2x4096x8x192_S_d0_1_2_3 h_S_) main_v6 main_c_1
  let main_v8 : IVec S_ 1 := andi main_v3 main_v7
  main_v8
-- ==== Kernel.lean ====
abbrev S2x4096x8x192 : Shape := ⟨4, ![2, 4096, 8, 192]⟩
abbrev S2x4096x8x128 : Shape := ⟨4, ![2, 4096, 8, 128]⟩
abbrev S2x8x4096x192 : Shape := ⟨4, ![2, 8, 4096, 192]⟩
abbrev S2x8x4096x128 : Shape := ⟨4, ![2, 8, 4096, 128]⟩
abbrev S8192x1024 : Shape := ⟨2, ![8192, 1024]⟩
abbrev S1x1x4096x192 : Shape := ⟨4, ![1, 1, 4096, 192]⟩
abbrev S1x1x4096x128 : Shape := ⟨4, ![1, 1, 4096, 128]⟩
abbrev S4096x128 : Shape := ⟨2, ![4096, 128]⟩
abbrev S4096x256 : Shape := ⟨2, ![4096, 256]⟩
abbrev S4096x192 : Shape := ⟨2, ![4096, 192]⟩
abbrev S1x1x256x192 : Shape := ⟨4, ![1, 1, 256, 192]⟩
abbrev S256x192 : Shape := ⟨2, ![256, 192]⟩
abbrev S4096 : Shape := ⟨1, ![4096]⟩
abbrev S4096x1 : Shape := ⟨2, ![4096, 1]⟩
abbrev S256x256 : Shape := ⟨2, ![256, 256]⟩

abbrev nBuf : Space → Nat
  | .hbm => 9
  | .vmem => 9
  | .smem => 0
  | _ => 0

abbrev bufTy : (tb : Table) → Fin (tcTables nBuf tb) → BufTy
  | .hbm, ⟨0, _⟩ => ⟨S2x4096x8x192, .f32⟩
  | .hbm, ⟨1, _⟩ => ⟨S2x4096x8x192, .f32⟩
  | .hbm, ⟨2, _⟩ => ⟨S2x4096x8x128, .f32⟩
  | .hbm, ⟨3, _⟩ => ⟨S2x8x4096x192, .f32⟩
  | .hbm, ⟨4, _⟩ => ⟨S2x8x4096x192, .f32⟩
  | .hbm, ⟨5, _⟩ => ⟨S2x8x4096x192, .bf16⟩
  | .hbm, ⟨6, _⟩ => ⟨S2x8x4096x128, .f32⟩
  | .hbm, ⟨7, _⟩ => ⟨S2x8x4096x128, .bf16⟩
  | .hbm, ⟨8, _⟩ => ⟨S8192x1024, .f32⟩
  | .local _ .vmem, ⟨0, _⟩ => ⟨S1x1x4096x192, .f32⟩
  | .local _ .vmem, ⟨1, _⟩ => ⟨S1x1x4096x192, .f32⟩
  | .local _ .vmem, ⟨2, _⟩ => ⟨S1x1x4096x192, .bf16⟩
  | .local _ .vmem, ⟨3, _⟩ => ⟨S1x1x4096x192, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S4096x128, .f32⟩
  | .local _ .vmem, ⟨7, _⟩ => ⟨S4096x128, .f32⟩
  | .local _ .vmem, ⟨8, _⟩ => ⟨S4096x256, .bf16⟩
  | _, _ => ⟨S2x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S1x1x4096x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "qscale" => some (((Real.sqrt 192)⁻¹ * (Real.log 2)⁻¹ : ℝ) : EReal)
  | _ => none
-- ==== ReferenceIdeal.lean ====
abbrev S2x4096x8x192 : Shape := ⟨4, ![2, 4096, 8, 192]⟩
abbrev S2x4096x8x128 : Shape := ⟨4, ![2, 4096, 8, 128]⟩
abbrev S_ : Shape := ⟨0, ![]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S8192x1024 : Shape := ⟨2, ![8192, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x8x192, .f32⟩
  | .hbm, ⟨1, _⟩ => ⟨S2x4096x8x192, .f32⟩
  | .hbm, ⟨2, _⟩ => ⟨S2x4096x8x128, .f32⟩
  | .hbm, ⟨3, _⟩ => ⟨S_, .f32⟩
  | .hbm, ⟨4, _⟩ => ⟨S_, .f32⟩
  | .hbm, ⟨5, _⟩ => ⟨S2x8x4096x4096, .f32⟩
  | .hbm, ⟨6, _⟩ => ⟨S2x8x4096x4096, .f32⟩
  | .hbm, ⟨7, _⟩ => ⟨S2x8x4096x4096, .f32⟩
  | .hbm, ⟨8, _⟩ => ⟨S_, .f32⟩
  | .hbm, ⟨9, _⟩ => ⟨S2x8x4096, .f32⟩
  | .hbm, ⟨10, _⟩ => ⟨S_, .f32⟩
  | .hbm, ⟨11, _⟩ => ⟨S2x8x4096, .f32⟩
  | .hbm, ⟨12, _⟩ => ⟨S2x8x4096, .f32⟩
  | .hbm, ⟨13, _⟩ => ⟨S2x8x4096x1, .f32⟩
  | .hbm, ⟨14, _⟩ => ⟨S2x8x4096x4096, .f32⟩
  | .hbm, ⟨15, _⟩ => ⟨S2x8x4096x4096, .f32⟩
  | .hbm, ⟨16, _⟩ => ⟨S2x8x4096x4096, .f32⟩
  | .hbm, ⟨17, _⟩ => ⟨S_, .f32⟩
  | .hbm, ⟨18, _⟩ => ⟨S2x8x4096, .f32⟩
  | .hbm, ⟨19, _⟩ => ⟨S2x8x4096x1, .f32⟩
  | .hbm, ⟨20, _⟩ => ⟨S2x8x4096x4096, .f32⟩
  | .hbm, ⟨21, _⟩ => ⟨S2x8x4096x4096, .f32⟩
  | .hbm, ⟨22, _⟩ => ⟨S2x8x128x4096, .f32⟩
  | .hbm, ⟨23, _⟩ => ⟨S2x4096x8x128, .f32⟩
  | .hbm, ⟨24, _⟩ => ⟨S8192x1024, .f32⟩
  | _, _ => ⟨S2x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Up.lean ====
abbrev S8192x4096 : Shape := ⟨2, ![8192, 4096]⟩
abbrev S4x4096x12288 : Shape := ⟨3, ![4, 4096, 12288]⟩
abbrev S8192x6144 : Shape := ⟨2, ![8192, 6144]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩
abbrev S1024x4096 : Shape := ⟨2, ![1024, 4096]⟩
abbrev S1024x256 : Shape := ⟨2, ![1024, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4x4096x12288, .f32⟩
  | .hbm, ⟨2, _⟩ => ⟨S8192x4096, .bf16⟩
  | .hbm, ⟨3, _⟩ => ⟨S8192x6144, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2048x256, .bf16⟩
  | .local _ .vmem, ⟨7, _⟩ => ⟨S2048x256, .bf16⟩
  | .local _ .vmem, ⟨8, _⟩ => ⟨S4096x256, .bf16⟩
  | .local _ .vmem, ⟨9, _⟩ => ⟨S4096x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi arg0 c24_i32
  let c3_i32 : BitVec 32 := 3#32
  let c0_i32 : BitVec 32 := 0#32
  let c0_i32_0 : BitVec 32 := 0#32
  ![c3_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S8192x4096 : Shape := ⟨2, ![8192, 4096]⟩
abbrev S4x4096x12288 : Shape := ⟨3, ![4, 4096, 12288]⟩
abbrev S1x4096x12288 : Shape := ⟨3, ![1, 4096, 12288]⟩
abbrev S4096x12288 : Shape := ⟨2, ![4096, 12288]⟩
abbrev S8192x12288 : Shape := ⟨2, ![8192, 12288]⟩
abbrev S8192x6144 : Shape := ⟨2, ![8192, 6144]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x4096x12288, .f32⟩
  | .hbm, ⟨2, _⟩ => ⟨S1x4096x12288, .f32⟩
  | .hbm, ⟨3, _⟩ => ⟨S4096x12288, .f32⟩
  | .hbm, ⟨4, _⟩ => ⟨S8192x12288, .f32⟩
  | .hbm, ⟨5, _⟩ => ⟨S8192x6144, .f32⟩
  | .hbm, ⟨6, _⟩ => ⟨S8192x6144, .f32⟩
  | .hbm, ⟨7, _⟩ => ⟨S8192x6144, .f32⟩
  | .hbm, ⟨8, _⟩ => ⟨S8192x6144, .f32⟩
  | .hbm, ⟨9, _⟩ => ⟨S_, .f32⟩
  | .hbm, ⟨10, _⟩ => ⟨S8192x6144, .f32⟩
  | .hbm, ⟨11, _⟩ => ⟨S8192x6144, .f32⟩
  | .hbm, ⟨12, _⟩ => ⟨S_, .f32⟩
  | .hbm, ⟨13, _⟩ => ⟨S8192x6144, .f32⟩
  | .hbm, ⟨14, _⟩ => ⟨S8192x6144, .f32⟩
  | .hbm, ⟨15, _⟩ => ⟨S8192x6144, .f32⟩
  | .hbm, ⟨16, _⟩ => ⟨S8192x6144, .f32⟩
  | .hbm, ⟨17, _⟩ => ⟨S8192x6144, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Down.lean ====
abbrev S8192x6144 : Shape := ⟨2, ![8192, 6144]⟩
abbrev S4x6144x4096 : Shape := ⟨3, ![4, 6144, 4096]⟩
abbrev S8192x4096 : Shape := ⟨2, ![8192, 4096]⟩
abbrev S4096 : Shape := ⟨1, ![4096]⟩
abbrev S1x4096 : Shape := ⟨2, ![1, 4096]⟩
abbrev S1024x768 : Shape := ⟨2, ![1024, 768]⟩
abbrev S1x768x4096 : Shape := ⟨3, ![1, 768, 4096]⟩
abbrev S128x4096 : Shape := ⟨2, ![128, 4096]⟩
abbrev S1024x4096 : Shape := ⟨2, ![1024, 4096]⟩
abbrev S128 : Shape := ⟨1, ![128]⟩
abbrev S128x1 : Shape := ⟨2, ![128, 1]⟩
abbrev S768x4096 : Shape := ⟨2, ![768, 4096]⟩

abbrev nBuf : Space → Nat
  | .hbm => 11
  | .vmem => 14
  | .smem => 0
  | _ => 0

abbrev bufTy : (tb : Table) → Fin (tcTables nBuf tb) → BufTy
  | .hbm, ⟨0, _⟩ => ⟨S8192x6144, .f32⟩
  | .hbm, ⟨1, _⟩ => ⟨S4x6144x4096, .f32⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S8192x6144, .bf16⟩
  | .hbm, ⟨6, _⟩ => ⟨S4x6144x4096, .bf16⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S8192x4096, .bf16⟩
  | .local _ .vmem, ⟨0, _⟩ => ⟨S1024x768, .bf16⟩
  | .local _ .vmem, ⟨1, _⟩ => ⟨S1024x768, .bf16⟩
  | .local _ .vmem, ⟨2, _⟩ => ⟨S1x768x4096, .bf16⟩
  | .local _ .vmem, ⟨3, _⟩ => ⟨S1x768x4096, .bf16⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | .local _ .vmem, ⟨12, _⟩ => ⟨S1024x4096, .f32⟩
  | .local _ .vmem, ⟨13, _⟩ => ⟨S1024x4096, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![9, 8], ![false, false]⟩

def k0_cond2 (i : grid0.Coords) : BitVec 1 :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let c8_i32 : BitVec 32 := 8#32
  let v16 : BitVec 1 := Scalar.cmpi .slt arg0 c8_i32
  let v17 : BitVec 1 := Scalar.andi v15 v16
  let v18 : BitVec 32 := Scalar.extui v17
  let c0_i32_7 : BitVec 32 := 0#32
  let v19 : BitVec 1 := Scalar.cmpi .ne v18 c0_i32_7
  v19

def k0_mult1 (i : grid0.Coords) : BitVec 32 :=
  let arg1 : BitVec 32 := BitVec.ofNat 32 (i 1).val
  let c128_i32 : BitVec 32 := 128#32
  let v65 : BitVec 32 := Scalar.muli arg1 c128_i32
  v65
def k0_off1 (i : grid0.Coords) : Fin 2 → Nat :=
  let arg1 : BitVec 32 := BitVec.ofNat 32 (i 1).val
  let c128_i32 : BitVec 32 := 128#32
  let v65 : BitVec 32 := Scalar.muli arg1 c128_i32
  let v66 : BitVec 32 := v65
  let v68 : Index := Scalar.indexCast v66
  let c0_36 : Index := 0#32
  ![v68.toNat, 0]
def k0_cond3 (i : grid0.Coords) : BitVec 1 :=
  let arg0 : BitVec 32 := BitVec.ofNat 32 (i 0).val
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c0_i32_14 : BitVec 32 := 0#32
  let v30 : BitVec 1 := Scalar.cmpi .eq v29 c0_i32_14
  let c8_i32_15 : BitVec 32 := 8#32
  let v31 : BitVec 1 := Scalar.cmpi .eq arg0 c8_i32_15
  let v32 : BitVec 1 := Scalar.andi v30 v31
  let v33 : BitVec 32 := Scalar.extui v32
  let c0_i32_16 : BitVec 32 := 0#32
  let v34 : BitVec 1 := Scalar.cmpi .ne v33 c0_i32_16
  v34

def k0_mult2 (i : grid0.Coords) : BitVec 32 :=
  let arg1 : BitVec 32 := BitVec.ofNat 32 (i 1).val
  let c128_i32 : BitVec 32 := 128#32
  let v65 : BitVec 32 := Scalar.muli arg1 c128_i32
  v65
def k0_off2 (i : grid0.Coords) : Fin 2 → Nat :=
  let arg1 : BitVec 32 := BitVec.ofNat 32 (i 1).val
  let c128_i32 : BitVec 32 := 128#32
  let v65 : BitVec 32 := Scalar.muli arg1 c128_i32
  let v66 : BitVec 32 := v65
  let v68 : Index := Scalar.indexCast v66
  let c0_36 : Index := 0#32
  ![v68.toNat, 0]
def k0_cond4 (i : grid0.Coords) : BitVec 1 :=
  let arg0 : BitVec 32 := BitVec.ofNat 32 (i 0).val
  let c2_i32_17 : BitVec 32 := 2#32
  let c0_i32_18 : BitVec 32 := 0#32
  let v35 : BitVec 1 := Scalar.cmpi .eq c2_i32_17 c0_i32_18
  let c1_i32_19 : BitVec 32 := 1#32
  let v36 : BitVec 32 := Scalar.select v35 c1_i32_19 c2_i32_17
  let v37 : BitVec 32 := Scalar.remsi arg0 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c1_i32_23 : BitVec 32 := 1#32
  let v45 : BitVec 1 := Scalar.cmpi .eq v44 c1_i32_23
  let c8_i32_24 : BitVec 32 := 8#32
  let v46 : BitVec 1 := Scalar.cmpi .slt arg0 c8_i32_24
  let v47 : BitVec 1 := Scalar.andi v45 v46
  let v48 : BitVec 32 := Scalar.extui v47
  let c0_i32_25 : BitVec 32 := 0#32
  let v49 : BitVec 1 := Scalar.cmpi .ne v48 c0_i32_25
  v49

def k0_mult3 (i : grid0.Coords) : BitVec 32 :=
  let arg1 : BitVec 32 := BitVec.ofNat 32 (i 1).val
  let c128_i32 : BitVec 32 := 128#32
  let v65 : BitVec 32 := Scalar.muli arg1 c128_i32
  v65
def k0_off3 (i : grid0.Coords) : Fin 2 → Nat :=
  let arg1 : BitVec 32 := BitVec.ofNat 32 (i 1).val
  let c128_i32 : BitVec 32 := 128#32
  let v65 : BitVec 32 := Scalar.muli arg1 c128_i32
  let v66 : BitVec 32 := v65
  let v68 : Index := Scalar.indexCast v66
  let c0_36 : Index := 0#32
  ![v68.toNat, 0]
def k0_cond5 (i : grid0.Coords) : BitVec 1 :=
  let arg0 : BitVec 32 := BitVec.ofNat 32 (i 0).val
  let c2_i32_26 : BitVec 32 := 2#32
  let c0_i32_27 : BitVec 32 := 0#32
  let v50 : BitVec 1 := Scalar.cmpi .eq c2_i32_26 c0_i32_27
  let c1_i32_28 : BitVec 32 := 1#32
  let v51 : BitVec 32 := Scalar.select v50 c1_i32_28 c2_i32_26
  let v52 : BitVec 32 := Scalar.remsi arg0 v51
  let c0_i32_30 : BitVec 32 := 0#32
  let v54 : BitVec 1 := Scalar.cmpi .slt v52 c0_i32_30
  let c0_i32_31 : BitVec 32 := 0#32
  let v55 : BitVec 1 := Scalar.cmpi .slt v51 c0_i32_31
  let v56 : BitVec 1 := Scalar.xori v54 v55
  let c0_i32_29 : BitVec 32 := 0#32
  let v53 : BitVec 1 := Scalar.cmpi .ne v52 c0_i32_29
  let v57 : BitVec 1 := Scalar.andi v56 v53
  let v58 : BitVec 32 := Scalar.addi v52 v51
  let v59 : BitVec 32 := Scalar.select v57 v58 v52
  let c1_i32_32 : BitVec 32 := 1#32
  let v60 : BitVec 1 := Scalar.cmpi .eq v59 c1_i32_32
  let c8_i32_33 : BitVec 32 := 8#32
  let v61 : BitVec 1 := Scalar.cmpi .eq arg0 c8_i32_33
  let v62 : BitVec 1 := Scalar.andi v60 v61
  let v63 : BitVec 32 := Scalar.extui v62
  let c0_i32_34 : BitVec 32 := 0#32
  let v64 : BitVec 1 := Scalar.cmpi .ne v63 c0_i32_34
  v64

def k0_mult4 (i : grid0.Coords) : BitVec 32 :=
  let arg1 : BitVec 32 := BitVec.ofNat 32 (i 1).val
  let c128_i32 : BitVec 32 := 128#32
  let v65 : BitVec 32 := Scalar.muli arg1 c128_i32
  v65
def k0_off4 (i : grid0.Coords) : Fin 2 → Nat :=
  let arg1 : BitVec 32 := BitVec.ofNat 32 (i 1).val
  let c128_i32 : BitVec 32 := 128#32
  let v65 : BitVec 32 := Scalar.muli arg1 c128_i32
  let v66 : BitVec 32 := v65
  let v68 : Index := Scalar.indexCast v66
  let c0_36 : Index := 0#32
  ![v68.toNat, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownReferenceIdeal.lean ====
abbrev S8192x6144 : Shape := ⟨2, ![8192, 6144]⟩
abbrev S4x6144x4096 : Shape := ⟨3, ![4, 6144, 4096]⟩
abbrev S8192x4096 : Shape := ⟨2, ![8192, 4096]⟩
abbrev S4096 : Shape := ⟨1, ![4096]⟩
abbrev S1x6144x4096 : Shape := ⟨3, ![1, 6144, 4096]⟩
abbrev S6144x4096 : Shape := ⟨2, ![6144, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S4x6144x4096, .f32⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x6144x4096, .f32⟩
  | .hbm, ⟨6, _⟩ => ⟨S6144x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S8192x4096, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== ProjF.lean ====
abbrev S8192x4096 : Shape := ⟨2, ![8192, 4096]⟩
abbrev S3840x4096 : Shape := ⟨2, ![3840, 4096]⟩
abbrev S8192x3840 : Shape := ⟨2, ![8192, 3840]⟩
abbrev S1024x4096 : Shape := ⟨2, ![1024, 4096]⟩
abbrev S768x4096 : Shape := ⟨2, ![768, 4096]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S3840x4096, .f32⟩
  | .hbm, ⟨2, _⟩ => ⟨S8192x4096, .bf16⟩
  | .hbm, ⟨3, _⟩ => ⟨S3840x4096, .bf16⟩
  | .hbm, ⟨4, _⟩ => ⟨S8192x3840, .f32⟩
  | .local _ .vmem, ⟨0, _⟩ => ⟨S1024x4096, .bf16⟩
  | .local _ .vmem, ⟨1, _⟩ => ⟨S1024x4096, .bf16⟩
  | .local _ .vmem, ⟨2, _⟩ => ⟨S768x4096, .bf16⟩
  | .local _ .vmem, ⟨3, _⟩ => ⟨S768x4096, .bf16⟩
  | .local _ .vmem, ⟨4, _⟩ => ⟨S1024x768, .f32⟩
  | .local _ .vmem, ⟨5, _⟩ => ⟨S1024x768, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjFReferenceIdeal.lean ====
abbrev S8192x4096 : Shape := ⟨2, ![8192, 4096]⟩
abbrev S3840x4096 : Shape := ⟨2, ![3840, 4096]⟩
abbrev S4096x3840 : Shape := ⟨2, ![4096, 3840]⟩
abbrev S8192x3840 : Shape := ⟨2, ![8192, 3840]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S3840x4096, .f32⟩
  | .hbm, ⟨2, _⟩ => ⟨S4096x3840, .f32⟩
  | .hbm, ⟨3, _⟩ => ⟨S8192x3840, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjB.lean ====
abbrev S8192x4096 : Shape := ⟨2, ![8192, 4096]⟩
abbrev S5632x4096 : Shape := ⟨2, ![5632, 4096]⟩
abbrev S8192x5632 : Shape := ⟨2, ![8192, 5632]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S5632x4096, .f32⟩
  | .hbm, ⟨2, _⟩ => ⟨S8192x4096, .bf16⟩
  | .hbm, ⟨3, _⟩ => ⟨S5632x4096, .bf16⟩
  | .hbm, ⟨4, _⟩ => ⟨S8192x5632, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBReferenceIdeal.lean ====
abbrev S8192x4096 : Shape := ⟨2, ![8192, 4096]⟩
abbrev S5632x4096 : Shape := ⟨2, ![5632, 4096]⟩
abbrev S4096x5632 : Shape := ⟨2, ![4096, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S5632x4096, .f32⟩
  | .hbm, ⟨2, _⟩ => ⟨S4096x5632, .f32⟩
  | .hbm, ⟨3, _⟩ => ⟨S8192x5632, .f32⟩
  | .hbm, ⟨4, _⟩ => ⟨S8192x5632, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8192x4096 : Shape := ⟨2, ![8192, 4096]⟩
abbrev S4x4096x4096 : Shape := ⟨3, ![4, 4096, 4096]⟩
abbrev S4096 : Shape := ⟨1, ![4096]⟩
abbrev S1x4096 : Shape := ⟨2, ![1, 4096]⟩
abbrev S1024x512 : Shape := ⟨2, ![1024, 512]⟩
abbrev S1x512x4096 : Shape := ⟨3, ![1, 512, 4096]⟩
abbrev S128x4096 : Shape := ⟨2, ![128, 4096]⟩
abbrev S1024x4096 : Shape := ⟨2, ![1024, 4096]⟩
abbrev S128 : Shape := ⟨1, ![128]⟩
abbrev S128x1 : Shape := ⟨2, ![128, 1]⟩
abbrev S512x4096 : Shape := ⟨2, ![512, 4096]⟩

abbrev nBuf : Space → Nat
  | .hbm => 11
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4x4096x4096, .f32⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S8192x4096, .bf16⟩
  | .hbm, ⟨6, _⟩ => ⟨S4x4096x4096, .bf16⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512x4096, .bf16⟩
  | .local _ .vmem, ⟨3, _⟩ => ⟨S1x512x4096, .bf16⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | .local _ .vmem, ⟨12, _⟩ => ⟨S1024x4096, .f32⟩
  | .local _ .vmem, ⟨13, _⟩ => ⟨S1024x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![9, 8], ![false, false]⟩

def k0_cond2 (i : grid0.Coords) : BitVec 1 :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let c8_i32 : BitVec 32 := 8#32
  let v16 : BitVec 1 := Scalar.cmpi .slt arg0 c8_i32
  let v17 : BitVec 1 := Scalar.andi v15 v16
  let v18 : BitVec 32 := Scalar.extui v17
  let c0_i32_7 : BitVec 32 := 0#32
  let v19 : BitVec 1 := Scalar.cmpi .ne v18 c0_i32_7
  v19

def k0_mult1 (i : grid0.Coords) : BitVec 32 :=
  let arg1 : BitVec 32 := BitVec.ofNat 32 (i 1).val
  let c128_i32 : BitVec 32 := 128#32
  let v65 : BitVec 32 := Scalar.muli arg1 c128_i32
  v65
def k0_off1 (i : grid0.Coords) : Fin 2 → Nat :=
  let arg1 : BitVec 32 := BitVec.ofNat 32 (i 1).val
  let c128_i32 : BitVec 32 := 128#32
  let v65 : BitVec 32 := Scalar.muli arg1 c128_i32
  let v66 : BitVec 32 := v65
  let v68 : Index := Scalar.indexCast v66
  let c0_36 : Index := 0#32
  ![v68.toNat, 0]
def k0_cond3 (i : grid0.Coords) : BitVec 1 :=
  let arg0 : BitVec 32 := BitVec.ofNat 32 (i 0).val
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c0_i32_14 : BitVec 32 := 0#32
  let v30 : BitVec 1 := Scalar.cmpi .eq v29 c0_i32_14
  let c8_i32_15 : BitVec 32 := 8#32
  let v31 : BitVec 1 := Scalar.cmpi .eq arg0 c8_i32_15
  let v32 : BitVec 1 := Scalar.andi v30 v31
  let v33 : BitVec 32 := Scalar.extui v32
  let c0_i32_16 : BitVec 32 := 0#32
  let v34 : BitVec 1 := Scalar.cmpi .ne v33 c0_i32_16
  v34

def k0_mult2 (i : grid0.Coords) : BitVec 32 :=
  let arg1 : BitVec 32 := BitVec.ofNat 32 (i 1).val
  let c128_i32 : BitVec 32 := 128#32
  let v65 : BitVec 32 := Scalar.muli arg1 c128_i32
  v65
def k0_off2 (i : grid0.Coords) : Fin 2 → Nat :=
  let arg1 : BitVec 32 := BitVec.ofNat 32 (i 1).val
  let c128_i32 : BitVec 32 := 128#32
  let v65 : BitVec 32 := Scalar.muli arg1 c128_i32
  let v66 : BitVec 32 := v65
  let v68 : Index := Scalar.indexCast v66
  let c0_36 : Index := 0#32
  ![v68.toNat, 0]
def k0_cond4 (i : grid0.Coords) : BitVec 1 :=
  let arg0 : BitVec 32 := BitVec.ofNat 32 (i 0).val
  let c2_i32_17 : BitVec 32 := 2#32
  let c0_i32_18 : BitVec 32 := 0#32
  let v35 : BitVec 1 := Scalar.cmpi .eq c2_i32_17 c0_i32_18
  let c1_i32_19 : BitVec 32 := 1#32
  let v36 : BitVec 32 := Scalar.select v35 c1_i32_19 c2_i32_17
  let v37 : BitVec 32 := Scalar.remsi arg0 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c1_i32_23 : BitVec 32 := 1#32
  let v45 : BitVec 1 := Scalar.cmpi .eq v44 c1_i32_23
  let c8_i32_24 : BitVec 32 := 8#32
  let v46 : BitVec 1 := Scalar.cmpi .slt arg0 c8_i32_24
  let v47 : BitVec 1 := Scalar.andi v45 v46
  let v48 : BitVec 32 := Scalar.extui v47
  let c0_i32_25 : BitVec 32 := 0#32
  let v49 : BitVec 1 := Scalar.cmpi .ne v48 c0_i32_25
  v49

def k0_mult3 (i : grid0.Coords) : BitVec 32 :=
  let arg1 : BitVec 32 := BitVec.ofNat 32 (i 1).val
  let c128_i32 : BitVec 32 := 128#32
  let v65 : BitVec 32 := Scalar.muli arg1 c128_i32
  v65
def k0_off3 (i : grid0.Coords) : Fin 2 → Nat :=
  let arg1 : BitVec 32 := BitVec.ofNat 32 (i 1).val
  let c128_i32 : BitVec 32 := 128#32
  let v65 : BitVec 32 := Scalar.muli arg1 c128_i32
  let v66 : BitVec 32 := v65
  let v68 : Index := Scalar.indexCast v66
  let c0_36 : Index := 0#32
  ![v68.toNat, 0]
def k0_cond5 (i : grid0.Coords) : BitVec 1 :=
  let arg0 : BitVec 32 := BitVec.ofNat 32 (i 0).val
  let c2_i32_26 : BitVec 32 := 2#32
  let c0_i32_27 : BitVec 32 := 0#32
  let v50 : BitVec 1 := Scalar.cmpi .eq c2_i32_26 c0_i32_27
  let c1_i32_28 : BitVec 32 := 1#32
  let v51 : BitVec 32 := Scalar.select v50 c1_i32_28 c2_i32_26
  let v52 : BitVec 32 := Scalar.remsi arg0 v51
  let c0_i32_30 : BitVec 32 := 0#32
  let v54 : BitVec 1 := Scalar.cmpi .slt v52 c0_i32_30
  let c0_i32_31 : BitVec 32 := 0#32
  let v55 : BitVec 1 := Scalar.cmpi .slt v51 c0_i32_31
  let v56 : BitVec 1 := Scalar.xori v54 v55
  let c0_i32_29 : BitVec 32 := 0#32
  let v53 : BitVec 1 := Scalar.cmpi .ne v52 c0_i32_29
  let v57 : BitVec 1 := Scalar.andi v56 v53
  let v58 : BitVec 32 := Scalar.addi v52 v51
  let v59 : BitVec 32 := Scalar.select v57 v58 v52
  let c1_i32_32 : BitVec 32 := 1#32
  let v60 : BitVec 1 := Scalar.cmpi .eq v59 c1_i32_32
  let c8_i32_33 : BitVec 32 := 8#32
  let v61 : BitVec 1 := Scalar.cmpi .eq arg0 c8_i32_33
  let v62 : BitVec 1 := Scalar.andi v60 v61
  let v63 : BitVec 32 := Scalar.extui v62
  let c0_i32_34 : BitVec 32 := 0#32
  let v64 : BitVec 1 := Scalar.cmpi .ne v63 c0_i32_34
  v64

def k0_mult4 (i : grid0.Coords) : BitVec 32 :=
  let arg1 : BitVec 32 := BitVec.ofNat 32 (i 1).val
  let c128_i32 : BitVec 32 := 128#32
  let v65 : BitVec 32 := Scalar.muli arg1 c128_i32
  v65
def k0_off4 (i : grid0.Coords) : Fin 2 → Nat :=
  let arg1 : BitVec 32 := BitVec.ofNat 32 (i 1).val
  let c128_i32 : BitVec 32 := 128#32
  let v65 : BitVec 32 := Scalar.muli arg1 c128_i32
  let v66 : BitVec 32 := v65
  let v68 : Index := Scalar.indexCast v66
  let c0_36 : Index := 0#32
  ![v68.toNat, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutReferenceIdeal.lean ====
abbrev S8192x4096 : Shape := ⟨2, ![8192, 4096]⟩
abbrev S4x4096x4096 : Shape := ⟨3, ![4, 4096, 4096]⟩
abbrev S4096 : Shape := ⟨1, ![4096]⟩
abbrev S1x4096x4096 : Shape := ⟨3, ![1, 4096, 4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x4096x4096, .f32⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x4096x4096, .f32⟩
  | .hbm, ⟨6, _⟩ => ⟨S4096x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Diff.lean ====
abbrev S2x4096x3072 : Shape := ⟨3, ![2, 4096, 3072]⟩
abbrev S4x64 : Shape := ⟨2, ![4, 64]⟩
abbrev S128 : Shape := ⟨1, ![128]⟩
abbrev S8192x3072 : Shape := ⟨2, ![8192, 3072]⟩
abbrev S8 : Shape := ⟨1, ![8]⟩
abbrev S_ : Shape := ⟨0, ![]⟩
abbrev S128x1 : Shape := ⟨2, ![128, 1]⟩
abbrev S8064 : Shape := ⟨1, ![8064]⟩
abbrev S1x8064 : Shape := ⟨2, ![1, 8064]⟩
abbrev S128x8064 : Shape := ⟨2, ![128, 8064]⟩
abbrev S8x1x1 : Shape := ⟨3, ![8, 1, 1]⟩
abbrev S1x128x8064 : Shape := ⟨3, ![1, 128, 8064]⟩
abbrev S8x128x8064 : Shape := ⟨3, ![8, 128, 8064]⟩
abbrev S1x128 : Shape := ⟨2, ![1, 128]⟩
abbrev S8192x1024 : Shape := ⟨2, ![8192, 1024]⟩
abbrev S2048x128 : Shape := ⟨2, ![2048, 128]⟩
abbrev S4096x128 : Shape := ⟨2, ![4096, 128]⟩
abbrev S4096x256 : Shape := ⟨2, ![4096, 256]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S1x128x256 : Shape := ⟨3, ![1, 128, 256]⟩
abbrev S128x256 : Shape := ⟨2, ![128, 256]⟩
abbrev S4096 : Shape := ⟨1, ![4096]⟩
abbrev S4096x1 : Shape := ⟨2, ![4096, 1]⟩
abbrev S256x256 : Shape := ⟨2, ![256, 256]⟩
abbrev S2048 : Shape := ⟨1, ![2048]⟩
abbrev S2048x1 : Shape := ⟨2, ![2048, 1]⟩

abbrev nBuf : Space → Nat
  | .hbm => 38
  | .vmem => 13
  | .smem => 0
  | _ => 0

abbrev bufTy : (tb : Table) → Fin (tcTables nBuf tb) → BufTy
  | .hbm, ⟨0, _⟩ => ⟨S2x4096x3072, .f32⟩
  | .hbm, ⟨1, _⟩ => ⟨S4x64, .f32⟩
  | .hbm, ⟨2, _⟩ => ⟨S128, .f32⟩
  | .hbm, ⟨3, _⟩ => ⟨S8192x3072, .f32⟩
  | .hbm, ⟨4, _⟩ => ⟨S8192x3072, .bf16⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S128, .i32⟩
  | .hbm, ⟨19, _⟩ => ⟨S128x1, .i32⟩
  | .hbm, ⟨20, _⟩ => ⟨S8064, .i32⟩
  | .hbm, ⟨21, _⟩ => ⟨S1x8064, .i32⟩
  | .hbm, ⟨22, _⟩ => ⟨S128x8064, .i32⟩
  | .hbm, ⟨23, _⟩ => ⟨S128x8064, .i32⟩
  | .hbm, ⟨24, _⟩ => ⟨S128x8064, .i32⟩
  | .hbm, ⟨25, _⟩ => ⟨S_, .i32⟩
  | .hbm, ⟨26, _⟩ => ⟨S128x8064, .i32⟩
  | .hbm, ⟨27, _⟩ => ⟨S128x8064, .i32⟩
  | .hbm, ⟨28, _⟩ => ⟨S128x8064, .i32⟩
  | .hbm, ⟨29, _⟩ => ⟨S128x8064, .f32⟩
  | .hbm, ⟨30, _⟩ => ⟨S8, .f32⟩
  | .hbm, ⟨31, _⟩ => ⟨S8x1x1, .f32⟩
  | .hbm, ⟨32, _⟩ => ⟨S1x128x8064, .f32⟩
  | .hbm, ⟨33, _⟩ => ⟨S8x128x8064, .f32⟩
  | .hbm, ⟨34, _⟩ => ⟨S8x128x8064, .f32⟩
  | .hbm, ⟨35, _⟩ => ⟨S8x128x8064, .f32⟩
  | .hbm, ⟨36, _⟩ => ⟨S1x128, .f32⟩
  | .hbm, ⟨37, _⟩ => ⟨S8192x1024, .f32⟩
  | .local _ .vmem, ⟨0, _⟩ => ⟨S2048x128, .f32⟩
  | .local _ .vmem, ⟨1, _⟩ => ⟨S2048x128, .f32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x128x8064, .f32⟩
  | .local _ .vmem, ⟨7, _⟩ => ⟨S1x128x8064, .f32⟩
  | .local _ .vmem, ⟨8, _⟩ => ⟨S4x64, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S4096x256, .bf16⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 2], ![false, false, false]⟩

def k0_mult1 (i : grid0.Coords) : BitVec 32 :=
  let c3968_i32 : BitVec 32 := 3968#32
  let arg2 : BitVec 32 := BitVec.ofNat 32 (i 2).val
  let c2048_i32 : BitVec 32 := 2048#32
  let v36 : BitVec 32 := Scalar.muli arg2 c2048_i32
  let c0_i32_12 : BitVec 32 := 0#32
  let v37 : BitVec 32 := Scalar.addi v36 c0_i32_12
  let v38 : BitVec 32 := Scalar.subi c3968_i32 v37
  v38
def k0_off1 (i : grid0.Coords) (c0_i32_12 : BitVec 32) (c0_i32_13 : BitVec 32) : Fin 3 → Nat :=
  let c0_14 : Index := 0#32
  let c0_15 : Index := 0#32
  let c3968_i32 : BitVec 32 := 3968#32
  let arg2 : BitVec 32 := BitVec.ofNat 32 (i 2).val
  let c2048_i32 : BitVec 32 := 2048#32
  let v36 : BitVec 32 := Scalar.muli arg2 c2048_i32
  let v37 : BitVec 32 := Scalar.addi v36 c0_i32_12
  let v38 : BitVec 32 := Scalar.subi c3968_i32 v37
  let v39 : BitVec 32 := v38
  let v40 : BitVec 32 := Scalar.addi v39 c0_i32_13
  let v41 : Index := Scalar.indexCast v40
  ![0, 0, v41.toNat]
def k0_mult2 (i : grid0.Coords) : BitVec 32 :=
  let c3968_i32_17 : BitVec 32 := 3968#32
  let arg2 : BitVec 32 := BitVec.ofNat 32 (i 2).val
  let c2048_i32_16 : BitVec 32 := 2048#32
  let v44 : BitVec 32 := Scalar.muli arg2 c2048_i32_16
  let c128_i32 : BitVec 32 := 128#32
  let v45 : BitVec 32 := Scalar.addi v44 c128_i32
  let v46 : BitVec 32 := Scalar.subi c3968_i32_17 v45
  v46
def k0_mult3 (i : grid0.Coords) : BitVec 32 :=
  let c3968_i32_22 : BitVec 32 := 3968#32
  let arg2 : BitVec 32 := BitVec.ofNat 32 (i 2).val
  let c2048_i32_21 : BitVec 32 := 2048#32
  let v52 : BitVec 32 := Scalar.muli arg2 c2048_i32_21
  let c256_i32 : BitVec 32 := 256#32
  let v53 : BitVec 32 := Scalar.addi v52 c256_i32
  let v54 : BitVec 32 := Scalar.subi c3968_i32_22 v53
  v54
def k0_mult4 (i : grid0.Coords) : BitVec 32 :=
  let c3968_i32_27 : BitVec 32 := 3968#32
  let arg2 : BitVec 32 := BitVec.ofNat 32 (i 2).val
  let c2048_i32_26 : BitVec 32 := 2048#32
  let v60 : BitVec 32 := Scalar.muli arg2 c2048_i32_26
  let c384_i32 : BitVec 32 := 384#32
  let v61 : BitVec 32 := Scalar.addi v60 c384_i32
  let v62 : BitVec 32 := Scalar.subi c3968_i32_27 v61
  v62
def k0_mult5 (i : grid0.Coords) : BitVec 32 :=
  let c3968_i32_32 : BitVec 32 := 3968#32
  let arg2 : BitVec 32 := BitVec.ofNat 32 (i 2).val
  let c2048_i32_31 : BitVec 32 := 2048#32
  let v68 : BitVec 32 := Scalar.muli arg2 c2048_i32_31
  let c512_i32 : BitVec 32 := 512#32
  let v69 : BitVec 32 := Scalar.addi v68 c512_i32
  let v70 : BitVec 32 := Scalar.subi c3968_i32_32 v69
  v70
def k0_mult6 (i : grid0.Coords) : BitVec 32 :=
  let c3968_i32_37 : BitVec 32 := 3968#32
  let arg2 : BitVec 32 := BitVec.ofNat 32 (i 2).val
  let c2048_i32_36 : BitVec 32 := 2048#32
  let v76 : BitVec 32 := Scalar.muli arg2 c2048_i32_36
  let c640_i32 : BitVec 32 := 640#32
  let v77 : BitVec 32 := Scalar.addi v76 c640_i32
  let v78 : BitVec 32 := Scalar.subi c3968_i32_37 v77
  v78
def k0_mult7 (i : grid0.Coords) : BitVec 32 :=
  let c3968_i32_42 : BitVec 32 := 3968#32
  let arg2 : BitVec 32 := BitVec.ofNat 32 (i 2).val
  let c2048_i32_41 : BitVec 32 := 2048#32
  let v84 : BitVec 32 := Scalar.muli arg2 c2048_i32_41
  let c768_i32 : BitVec 32 := 768#32
  let v85 : BitVec 32 := Scalar.addi v84 c768_i32
  let v86 : BitVec 32 := Scalar.subi c3968_i32_42 v85
  v86
def k0_mult8 (i : grid0.Coords) : BitVec 32 :=
  let c3968_i32_47 : BitVec 32 := 3968#32
  let arg2 : BitVec 32 := BitVec.ofNat 32 (i 2).val
  let c2048_i32_46 : BitVec 32 := 2048#32
  let v92 : BitVec 32 := Scalar.muli arg2 c2048_i32_46
  let c896_i32 : BitVec 32 := 896#32
  let v93 : BitVec 32 := Scalar.addi v92 c896_i32
  let v94 : BitVec 32 := Scalar.subi c3968_i32_47 v93
  v94
def k0_mult9 (i : grid0.Coords) : BitVec 32 :=
  let c3968_i32_52 : BitVec 32 := 3968#32
  let arg2 : BitVec 32 := BitVec.ofNat 32 (i 2).val
  let c2048_i32_51 : BitVec 32 := 2048#32
  let v100 : BitVec 32 := Scalar.muli arg2 c2048_i32_51
  let c1024_i32 : BitVec 32 := 1024#32
  let v101 : BitVec 32 := Scalar.addi v100 c1024_i32
  let v102 : BitVec 32 := Scalar.subi c3968_i32_52 v101
  v102
def k0_mult10 (i : grid0.Coords) : BitVec 32 :=
  let c3968_i32_57 : BitVec 32 := 3968#32
  let arg2 : BitVec 32 := BitVec.ofNat 32 (i 2).val
  let c2048_i32_56 : BitVec 32 := 2048#32
  let v108 : BitVec 32 := Scalar.muli arg2 c2048_i32_56
  let c1152_i32 : BitVec 32 := 1152#32
  let v109 : BitVec 32 := Scalar.addi v108 c1152_i32
  let v110 : BitVec 32 := Scalar.subi c3968_i32_57 v109
  v110
def k0_mult11 (i : grid0.Coords) : BitVec 32 :=
  let c3968_i32_62 : BitVec 32 := 3968#32
  let arg2 : BitVec 32 := BitVec.ofNat 32 (i 2).val
  let c2048_i32_61 : BitVec 32 := 2048#32
  let v116 : BitVec 32 := Scalar.muli arg2 c2048_i32_61
  let c1280_i32 : BitVec 32 := 1280#32
  let v117 : BitVec 32 := Scalar.addi v116 c1280_i32
  let v118 : BitVec 32 := Scalar.subi c3968_i32_62 v117
  v118
def k0_mult12 (i : grid0.Coords) : BitVec 32 :=
  let c3968_i32_67 : BitVec 32 := 3968#32
  let arg2 : BitVec 32 := BitVec.ofNat 32 (i 2).val
  let c2048_i32_66 : BitVec 32 := 2048#32
  let v124 : BitVec 32 := Scalar.muli arg2 c2048_i32_66
  let c1408_i32 : BitVec 32 := 1408#32
  let v125 : BitVec 32 := Scalar.addi v124 c1408_i32
  let v126 : BitVec 32 := Scalar.subi c3968_i32_67 v125
  v126
def k0_mult13 (i : grid0.Coords) : BitVec 32 :=
  let c3968_i32_72 : BitVec 32 := 3968#32
  let arg2 : BitVec 32 := BitVec.ofNat 32 (i 2).val
  let c2048_i32_71 : BitVec 32 := 2048#32
  let v132 : BitVec 32 := Scalar.muli arg2 c2048_i32_71
  let c1536_i32 : BitVec 32 := 1536#32
  let v133 : BitVec 32 := Scalar.addi v132 c1536_i32
  let v134 : BitVec 32 := Scalar.subi c3968_i32_72 v133
  v134
def k0_mult14 (i : grid0.Coords) : BitVec 32 :=
  let c3968_i32_77 : BitVec 32 := 3968#32
  let arg2 : BitVec 32 := BitVec.ofNat 32 (i 2).val
  let c2048_i32_76 : BitVec 32 := 2048#32
  let v140 : BitVec 32 := Scalar.muli arg2 c2048_i32_76
  let c1664_i32 : BitVec 32 := 1664#32
  let v141 : BitVec 32 := Scalar.addi v140 c1664_i32
  let v142 : BitVec 32 := Scalar.subi c3968_i32_77 v141
  v142
def k0_mult15 (i : grid0.Coords) : BitVec 32 :=
  let c3968_i32_82 : BitVec 32 := 3968#32
  let arg2 : BitVec 32 := BitVec.ofNat 32 (i 2).val
  let c2048_i32_81 : BitVec 32 := 2048#32
  let v148 : BitVec 32 := Scalar.muli arg2 c2048_i32_81
  let c1792_i32 : BitVec 32 := 1792#32
  let v149 : BitVec 32 := Scalar.addi v148 c1792_i32
  let v150 : BitVec 32 := Scalar.subi c3968_i32_82 v149
  v150
def k0_mult16 (i : grid0.Coords) : BitVec 32 :=
  let c3968_i32_87 : BitVec 32 := 3968#32
  let arg2 : BitVec 32 := BitVec.ofNat 32 (i 2).val
  let c2048_i32_86 : BitVec 32 := 2048#32
  let v156 : BitVec 32 := Scalar.muli arg2 c2048_i32_86
  let c1920_i32 : BitVec 32 := 1920#32
  let v157 : BitVec 32 := Scalar.addi v156 c1920_i32
  let v158 : BitVec 32 := Scalar.subi c3968_i32_87 v157
  v158
def k0_mult17 (i : grid0.Coords) : BitVec 32 :=
  let c3968_i32_100 : BitVec 32 := 3968#32
  let arg2 : BitVec 32 := BitVec.ofNat 32 (i 2).val
  let c2048_i32_98 : BitVec 32 := 2048#32
  let v179 : BitVec 32 := Scalar.muli arg2 c2048_i32_98
  let c0_i32_99 : BitVec 32 := 0#32
  let v180 : BitVec 32 := Scalar.addi v179 c0_i32_99
  let v181 : BitVec 32 := Scalar.subi c3968_i32_100 v180
  v181
def k0_mult18 (i : grid0.Coords) : BitVec 32 :=
  let c3968_i32_106 : BitVec 32 := 3968#32
  let arg2 : BitVec 32 := BitVec.ofNat 32 (i 2).val
  let c2048_i32_104 : BitVec 32 := 2048#32
  let v187 : BitVec 32 := Scalar.muli arg2 c2048_i32_104
  let c128_i32_105 : BitVec 32 := 128#32
  let v188 : BitVec 32 := Scalar.addi v187 c128_i32_105
  let v189 : BitVec 32 := Scalar.subi c3968_i32_106 v188
  v189
def k0_mult19 (i : grid0.Coords) : BitVec 32 :=
  let c3968_i32_112 : BitVec 32 := 3968#32
  let arg2 : BitVec 32 := BitVec.ofNat 32 (i 2).val
  let c2048_i32_110 : BitVec 32 := 2048#32
  let v195 : BitVec 32 := Scalar.muli arg2 c2048_i32_110
  let c256_i32_111 : BitVec 32 := 256#32
  let v196 : BitVec 32 := Scalar.addi v195 c256_i32_111
  let v197 : BitVec 32 := Scalar.subi c3968_i32_112 v196
  v197
def k0_mult20 (i : grid0.Coords) : BitVec 32 :=
  let c3968_i32_118 : BitVec 32 := 3968#32
  let arg2 : BitVec 32 := BitVec.ofNat 32 (i 2).val
  let c2048_i32_116 : BitVec 32 := 2048#32
  let v203 : BitVec 32 := Scalar.muli arg2 c2048_i32_116
  let c384_i32_117 : BitVec 32 := 384#32
  let v204 : BitVec 32 := Scalar.addi v203 c384_i32_117
  let v205 : BitVec 32 := Scalar.subi c3968_i32_118 v204
  v205
def k0_mult21 (i : grid0.Coords) : BitVec 32 :=
  let c3968_i32_124 : BitVec 32 := 3968#32
  let arg2 : BitVec 32 := BitVec.ofNat 32 (i 2).val
  let c2048_i32_122 : BitVec 32 := 2048#32
  let v211 : BitVec 32 := Scalar.muli arg2 c2048_i32_122
  let c512_i32_123 : BitVec 32 := 512#32
  let v212 : BitVec 32 := Scalar.addi v211 c512_i32_123
  let v213 : BitVec 32 := Scalar.subi c3968_i32_124 v212
  v213
def k0_mult22 (i : grid0.Coords) : BitVec 32 :=
  let c3968_i32_130 : BitVec 32 := 3968#32
  let arg2 : BitVec 32 := BitVec.ofNat 32 (i 2).val
  let c2048_i32_128 : BitVec 32 := 2048#32
  let v219 : BitVec 32 := Scalar.muli arg2 c2048_i32_128
  let c640_i32_129 : BitVec 32 := 640#32
  let v220 : BitVec 32 := Scalar.addi v219 c640_i32_129
  let v221 : BitVec 32 := Scalar.subi c3968_i32_130 v220
  v221
def k0_mult23 (i : grid0.Coords) : BitVec 32 :=
  let c3968_i32_136 : BitVec 32 := 3968#32
  let arg2 : BitVec 32 := BitVec.ofNat 32 (i 2).val
  let c2048_i32_134 : BitVec 32 := 2048#32
  let v227 : BitVec 32 := Scalar.muli arg2 c2048_i32_134
  let c768_i32_135 : BitVec 32 := 768#32
  let v228 : BitVec 32 := Scalar.addi v227 c768_i32_135
  let v229 : BitVec 32 := Scalar.subi c3968_i32_136 v228
  v229
def k0_mult24 (i : grid0.Coords) : BitVec 32 :=
  let c3968_i32_142 : BitVec 32 := 3968#32
  let arg2 : BitVec 32 := BitVec.ofNat 32 (i 2).val
  let c2048_i32_140 : BitVec 32 := 2048#32
  let v235 : BitVec 32 := Scalar.muli arg2 c2048_i32_140
  let c896_i32_141 : BitVec 32 := 896#32
  let v236 : BitVec 32 := Scalar.addi v235 c896_i32_141
  let v237 : BitVec 32 := Scalar.subi c3968_i32_142 v236
  v237
def k0_mult25 (i : grid0.Coords) : BitVec 32 :=
  let c3968_i32_148 : BitVec 32 := 3968#32
  let arg2 : BitVec 32 := BitVec.ofNat 32 (i 2).val
  let c2048_i32_146 : BitVec 32 := 2048#32
  let v243 : BitVec 32 := Scalar.muli arg2 c2048_i32_146
  let c1024_i32_147 : BitVec 32 := 1024#32
  let v244 : BitVec 32 := Scalar.addi v243 c1024_i32_147
  let v245 : BitVec 32 := Scalar.subi c3968_i32_148 v244
  v245
def k0_mult26 (i : grid0.Coords) : BitVec 32 :=
  let c3968_i32_154 : BitVec 32 := 3968#32
  let arg2 : BitVec 32 := BitVec.ofNat 32 (i 2).val
  let c2048_i32_152 : BitVec 32 := 2048#32
  let v251 : BitVec 32 := Scalar.muli arg2 c2048_i32_152
  let c1152_i32_153 : BitVec 32 := 1152#32
  let v252 : BitVec 32 := Scalar.addi v251 c1152_i32_153
  let v253 : BitVec 32 := Scalar.subi c3968_i32_154 v252
  v253
def k0_mult27 (i : grid0.Coords) : BitVec 32 :=
  let c3968_i32_160 : BitVec 32 := 3968#32
  let arg2 : BitVec 32 := BitVec.ofNat 32 (i 2).val
  let c2048_i32_158 : BitVec 32 := 2048#32
  let v259 : BitVec 32 := Scalar.muli arg2 c2048_i32_158
  let c1280_i32_159 : BitVec 32 := 1280#32
  let v260 : BitVec 32 := Scalar.addi v259 c1280_i32_159
  let v261 : BitVec 32 := Scalar.subi c3968_i32_160 v260
  v261
def k0_mult28 (i : grid0.Coords) : BitVec 32 :=
  let c3968_i32_166 : BitVec 32 := 3968#32
  let arg2 : BitVec 32 := BitVec.ofNat 32 (i 2).val
  let c2048_i32_164 : BitVec 32 := 2048#32
  let v267 : BitVec 32 := Scalar.muli arg2 c2048_i32_164
  let c1408_i32_165 : BitVec 32 := 1408#32
  let v268 : BitVec 32 := Scalar.addi v267 c1408_i32_165
  let v269 : BitVec 32 := Scalar.subi c3968_i32_166 v268
  v269
def k0_mult29 (i : grid0.Coords) : BitVec 32 :=
  let c3968_i32_172 : BitVec 32 := 3968#32
  let arg2 : BitVec 32 := BitVec.ofNat 32 (i 2).val
  let c2048_i32_170 : BitVec 32 := 2048#32
  let v275 : BitVec 32 := Scalar.muli arg2 c2048_i32_170
  let c1536_i32_171 : BitVec 32 := 1536#32
  let v276 : BitVec 32 := Scalar.addi v275 c1536_i32_171
  let v277 : BitVec 32 := Scalar.subi c3968_i32_172 v276
  v277
def k0_mult30 (i : grid0.Coords) : BitVec 32 :=
  let c3968_i32_178 : BitVec 32 := 3968#32
  let arg2 : BitVec 32 := BitVec.ofNat 32 (i 2).val
  let c2048_i32_176 : BitVec 32 := 2048#32
  let v283 : BitVec 32 := Scalar.muli arg2 c2048_i32_176
  let c1664_i32_177 : BitVec 32 := 1664#32
  let v284 : BitVec 32 := Scalar.addi v283 c1664_i32_177
  let v285 : BitVec 32 := Scalar.subi c3968_i32_178 v284
  v285
def k0_mult31 (i : grid0.Coords) : BitVec 32 :=
  let c3968_i32_184 : BitVec 32 := 3968#32
  let arg2 : BitVec 32 := BitVec.ofNat 32 (i 2).val
  let c2048_i32_182 : BitVec 32 := 2048#32
  let v291 : BitVec 32 := Scalar.muli arg2 c2048_i32_182
  let c1792_i32_183 : BitVec 32 := 1792#32
  let v292 : BitVec 32 := Scalar.addi v291 c1792_i32_183
  let v293 : BitVec 32 := Scalar.subi c3968_i32_184 v292
  v293
def k0_mult32 (i : grid0.Coords) : BitVec 32 :=
  let c3968_i32_190 : BitVec 32 := 3968#32
  let arg2 : BitVec 32 := BitVec.ofNat 32 (i 2).val
  let c2048_i32_188 : BitVec 32 := 2048#32
  let v299 : BitVec 32 := Scalar.muli arg2 c2048_i32_188
  let c1920_i32_189 : BitVec 32 := 1920#32
  let v300 : BitVec 32 := Scalar.addi v299 c1920_i32_189
  let v301 : BitVec 32 := Scalar.subi c3968_i32_190 v300
  v301
def k0_mult33 (i : grid0.Coords) : BitVec 32 :=
  let c3968_i32_203 : BitVec 32 := 3968#32
  let arg2 : BitVec 32 := BitVec.ofNat 32 (i 2).val
  let c2048_i32_201 : BitVec 32 := 2048#32
  let v328 : BitVec 32 := Scalar.muli arg2 c2048_i32_201
  let c0_i32_202 : BitVec 32 := 0#32
  let v329 : BitVec 32 := Scalar.addi v328 c0_i32_202
  let v330 : BitVec 32 := Scalar.subi c3968_i32_203 v329
  v330
def k0_mult34 (i : grid0.Coords) : BitVec 32 :=
  let c3968_i32_209 : BitVec 32 := 3968#32
  let arg2 : BitVec 32 := BitVec.ofNat 32 (i 2).val
  let c2048_i32_207 : BitVec 32 := 2048#32
  let v336 : BitVec 32 := Scalar.muli arg2 c2048_i32_207
  let c128_i32_208 : BitVec 32 := 128#32
  let v337 : BitVec 32 := Scalar.addi v336 c128_i32_208
  let v338 : BitVec 32 := Scalar.subi c3968_i32_209 v337
  v338
def k0_mult35 (i : grid0.Coords) : BitVec 32 :=
  let c3968_i32_215 : BitVec 32 := 3968#32
  let arg2 : BitVec 32 := BitVec.ofNat 32 (i 2).val
  let c2048_i32_213 : BitVec 32 := 2048#32
  let v344 : BitVec 32 := Scalar.muli arg2 c2048_i32_213
  let c256_i32_214 : BitVec 32 := 256#32
  let v345 : BitVec 32 := Scalar.addi v344 c256_i32_214
  let v346 : BitVec 32 := Scalar.subi c3968_i32_215 v345
  v346
def k0_mult36 (i : grid0.Coords) : BitVec 32 :=
  let c3968_i32_221 : BitVec 32 := 3968#32
  let arg2 : BitVec 32 := BitVec.ofNat 32 (i 2).val
  let c2048_i32_219 : BitVec 32 := 2048#32
  let v352 : BitVec 32 := Scalar.muli arg2 c2048_i32_219
  let c384_i32_220 : BitVec 32 := 384#32
  let v353 : BitVec 32 := Scalar.addi v352 c384_i32_220
  let v354 : BitVec 32 := Scalar.subi c3968_i32_221 v353
  v354
def k0_mult37 (i : grid0.Coords) : BitVec 32 :=
  let c3968_i32_227 : BitVec 32 := 3968#32
  let arg2 : BitVec 32 := BitVec.ofNat 32 (i 2).val
  let c2048_i32_225 : BitVec 32 := 2048#32
  let v360 : BitVec 32 := Scalar.muli arg2 c2048_i32_225
  let c512_i32_226 : BitVec 32 := 512#32
  let v361 : BitVec 32 := Scalar.addi v360 c512_i32_226
  let v362 : BitVec 32 := Scalar.subi c3968_i32_227 v361
  v362
def k0_mult38 (i : grid0.Coords) : BitVec 32 :=
  let c3968_i32_233 : BitVec 32 := 3968#32
  let arg2 : BitVec 32 := BitVec.ofNat 32 (i 2).val
  let c2048_i32_231 : BitVec 32 := 2048#32
  let v368 : BitVec 32 := Scalar.muli arg2 c2048_i32_231
  let c640_i32_232 : BitVec 32 := 640#32
  let v369 : BitVec 32 := Scalar.addi v368 c640_i32_232
  let v370 : BitVec 32 := Scalar.subi c3968_i32_233 v369
  v370
def k0_mult39 (i : grid0.Coords) : BitVec 32 :=
  let c3968_i32_239 : BitVec 32 := 3968#32
  let arg2 : BitVec 32 := BitVec.ofNat 32 (i 2).val
  let c2048_i32_237 : BitVec 32 := 2048#32
  let v376 : BitVec 32 := Scalar.muli arg2 c2048_i32_237
  let c768_i32_238 : BitVec 32 := 768#32
  let v377 : BitVec 32 := Scalar.addi v376 c768_i32_238
  let v378 : BitVec 32 := Scalar.subi c3968_i32_239 v377
  v378
def k0_mult40 (i : grid0.Coords) : BitVec 32 :=
  let c3968_i32_245 : BitVec 32 := 3968#32
  let arg2 : BitVec 32 := BitVec.ofNat 32 (i 2).val
  let c2048_i32_243 : BitVec 32 := 2048#32
  let v384 : BitVec 32 := Scalar.muli arg2 c2048_i32_243
  let c896_i32_244 : BitVec 32 := 896#32
  let v385 : BitVec 32 := Scalar.addi v384 c896_i32_244
  let v386 : BitVec 32 := Scalar.subi c3968_i32_245 v385
  v386
def k0_mult41 (i : grid0.Coords) : BitVec 32 :=
  let c3968_i32_251 : BitVec 32 := 3968#32
  let arg2 : BitVec 32 := BitVec.ofNat 32 (i 2).val
  let c2048_i32_249 : BitVec 32 := 2048#32
  let v392 : BitVec 32 := Scalar.muli arg2 c2048_i32_249
  let c1024_i32_250 : BitVec 32 := 1024#32
  let v393 : BitVec 32 := Scalar.addi v392 c1024_i32_250
  let v394 : BitVec 32 := Scalar.subi c3968_i32_251 v393
  v394
def k0_mult42 (i : grid0.Coords) : BitVec 32 :=
  let c3968_i32_257 : BitVec 32 := 3968#32
  let arg2 : BitVec 32 := BitVec.ofNat 32 (i 2).val
  let c2048_i32_255 : BitVec 32 := 2048#32
  let v400 : BitVec 32 := Scalar.muli arg2 c2048_i32_255
  let c1152_i32_256 : BitVec 32 := 1152#32
  let v401 : BitVec 32 := Scalar.addi v400 c1152_i32_256
  let v402 : BitVec 32 := Scalar.subi c3968_i32_257 v401
  v402
def k0_mult43 (i : grid0.Coords) : BitVec 32 :=
  let c3968_i32_263 : BitVec 32 := 3968#32
  let arg2 : BitVec 32 := BitVec.ofNat 32 (i 2).val
  let c2048_i32_261 : BitVec 32 := 2048#32
  let v408 : BitVec 32 := Scalar.muli arg2 c2048_i32_261
  let c1280_i32_262 : BitVec 32 := 1280#32
  let v409 : BitVec 32 := Scalar.addi v408 c1280_i32_262
  let v410 : BitVec 32 := Scalar.subi c3968_i32_263 v409
  v410
def k0_mult44 (i : grid0.Coords) : BitVec 32 :=
  let c3968_i32_269 : BitVec 32 := 3968#32
  let arg2 : BitVec 32 := BitVec.ofNat 32 (i 2).val
  let c2048_i32_267 : BitVec 32 := 2048#32
  let v416 : BitVec 32 := Scalar.muli arg2 c2048_i32_267
  let c1408_i32_268 : BitVec 32 := 1408#32
  let v417 : BitVec 32 := Scalar.addi v416 c1408_i32_268
  let v418 : BitVec 32 := Scalar.subi c3968_i32_269 v417
  v418
def k0_mult45 (i : grid0.Coords) : BitVec 32 :=
  let c3968_i32_275 : BitVec 32 := 3968#32
  let arg2 : BitVec 32 := BitVec.ofNat 32 (i 2).val
  let c2048_i32_273 : BitVec 32 := 2048#32
  let v424 : BitVec 32 := Scalar.muli arg2 c2048_i32_273
  let c1536_i32_274 : BitVec 32 := 1536#32
  let v425 : BitVec 32 := Scalar.addi v424 c1536_i32_274
  let v426 : BitVec 32 := Scalar.subi c3968_i32_275 v425
  v426
def k0_mult46 (i : grid0.Coords) : BitVec 32 :=
  let c3968_i32_281 : BitVec 32 := 3968#32
  let arg2 : BitVec 32 := BitVec.ofNat 32 (i 2).val
  let c2048_i32_279 : BitVec 32 := 2048#32
  let v432 : BitVec 32 := Scalar.muli arg2 c2048_i32_279
  let c1664_i32_280 : BitVec 32 := 1664#32
  let v433 : BitVec 32 := Scalar.addi v432 c1664_i32_280
  let v434 : BitVec 32 := Scalar.subi c3968_i32_281 v433
  v434
def k0_mult47 (i : grid0.Coords) : BitVec 32 :=
  let c3968_i32_287 : BitVec 32 := 3968#32
  let arg2 : BitVec 32 := BitVec.ofNat 32 (i 2).val
  let c2048_i32_285 : BitVec 32 := 2048#32
  let v440 : BitVec 32 := Scalar.muli arg2 c2048_i32_285
  let c1792_i32_286 : BitVec 32 := 1792#32
  let v441 : BitVec 32 := Scalar.addi v440 c1792_i32_286
  let v442 : BitVec 32 := Scalar.subi c3968_i32_287 v441
  v442
def k0_mult48 (i : grid0.Coords) : BitVec 32 :=
  let c3968_i32_293 : BitVec 32 := 3968#32
  let arg2 : BitVec 32 := BitVec.ofNat 32 (i 2).val
  let c2048_i32_291 : BitVec 32 := 2048#32
  let v448 : BitVec 32 := Scalar.muli arg2 c2048_i32_291
  let c1920_i32_292 : BitVec 32 := 1920#32
  let v449 : BitVec 32 := Scalar.addi v448 c1920_i32_292
  let v450 : BitVec 32 := Scalar.subi c3968_i32_293 v449
  v450
def k0_mult49 (i : grid0.Coords) : BitVec 32 :=
  let c3968_i32_306 : BitVec 32 := 3968#32
  let arg2 : BitVec 32 := BitVec.ofNat 32 (i 2).val
  let c2048_i32_304 : BitVec 32 := 2048#32
  let v477 : BitVec 32 := Scalar.muli arg2 c2048_i32_304
  let c0_i32_305 : BitVec 32 := 0#32
  let v478 : BitVec 32 := Scalar.addi v477 c0_i32_305
  let v479 : BitVec 32 := Scalar.subi c3968_i32_306 v478
  v479
def k0_mult50 (i : grid0.Coords) : BitVec 32 :=
  let c3968_i32_312 : BitVec 32 := 3968#32
  let arg2 : BitVec 32 := BitVec.ofNat 32 (i 2).val
  let c2048_i32_310 : BitVec 32 := 2048#32
  let v485 : BitVec 32 := Scalar.muli arg2 c2048_i32_310
  let c128_i32_311 : BitVec 32 := 128#32
  let v486 : BitVec 32 := Scalar.addi v485 c128_i32_311
  let v487 : BitVec 32 := Scalar.subi c3968_i32_312 v486
  v487
def k0_mult51 (i : grid0.Coords) : BitVec 32 :=
  let c3968_i32_318 : BitVec 32 := 3968#32
  let arg2 : BitVec 32 := BitVec.ofNat 32 (i 2).val
  let c2048_i32_316 : BitVec 32 := 2048#32
  let v493 : BitVec 32 := Scalar.muli arg2 c2048_i32_316
  let c256_i32_317 : BitVec 32 := 256#32
  let v494 : BitVec 32 := Scalar.addi v493 c256_i32_317
  let v495 : BitVec 32 := Scalar.subi c3968_i32_318 v494
  v495
def k0_mult52 (i : grid0.Coords) : BitVec 32 :=
  let c3968_i32_324 : BitVec 32 := 3968#32
  let arg2 : BitVec 32 := BitVec.ofNat 32 (i 2).val
  let c2048_i32_322 : BitVec 32 := 2048#32
  let v501 : BitVec 32 := Scalar.muli arg2 c2048_i32_322
  let c384_i32_323 : BitVec 32 := 384#32
  let v502 : BitVec 32 := Scalar.addi v501 c384_i32_323
  let v503 : BitVec 32 := Scalar.subi c3968_i32_324 v502
  v503
def k0_mult53 (i : grid0.Coords) : BitVec 32 :=
  let c3968_i32_330 : BitVec 32 := 3968#32
  let arg2 : BitVec 32 := BitVec.ofNat 32 (i 2).val
  let c2048_i32_328 : BitVec 32 := 2048#32
  let v509 : BitVec 32 := Scalar.muli arg2 c2048_i32_328
  let c512_i32_329 : BitVec 32 := 512#32
  let v510 : BitVec 32 := Scalar.addi v509 c512_i32_329
  let v511 : BitVec 32 := Scalar.subi c3968_i32_330 v510
  v511
def k0_mult54 (i : grid0.Coords) : BitVec 32 :=
  let c3968_i32_336 : BitVec 32 := 3968#32
  let arg2 : BitVec 32 := BitVec.ofNat 32 (i 2).val
  let c2048_i32_334 : BitVec 32 := 2048#32
  let v517 : BitVec 32 := Scalar.muli arg2 c2048_i32_334
  let c640_i32_335 : BitVec 32 := 640#32
  let v518 : BitVec 32 := Scalar.addi v517 c640_i32_335
  let v519 : BitVec 32 := Scalar.subi c3968_i32_336 v518
  v519
def k0_mult55 (i : grid0.Coords) : BitVec 32 :=
  let c3968_i32_342 : BitVec 32 := 3968#32
  let arg2 : BitVec 32 := BitVec.ofNat 32 (i 2).val
  let c2048_i32_340 : BitVec 32 := 2048#32
  let v525 : BitVec 32 := Scalar.muli arg2 c2048_i32_340
  let c768_i32_341 : BitVec 32 := 768#32
  let v526 : BitVec 32 := Scalar.addi v525 c768_i32_341
  let v527 : BitVec 32 := Scalar.subi c3968_i32_342 v526
  v527
def k0_mult56 (i : grid0.Coords) : BitVec 32 :=
  let c3968_i32_348 : BitVec 32 := 3968#32
  let arg2 : BitVec 32 := BitVec.ofNat 32 (i 2).val
  let c2048_i32_346 : BitVec 32 := 2048#32
  let v533 : BitVec 32 := Scalar.muli arg2 c2048_i32_346
  let c896_i32_347 : BitVec 32 := 896#32
  let v534 : BitVec 32 := Scalar.addi v533 c896_i32_347
  let v535 : BitVec 32 := Scalar.subi c3968_i32_348 v534
  v535
def k0_mult57 (i : grid0.Coords) : BitVec 32 :=
  let c3968_i32_354 : BitVec 32 := 3968#32
  let arg2 : BitVec 32 := BitVec.ofNat 32 (i 2).val
  let c2048_i32_352 : BitVec 32 := 2048#32
  let v541 : BitVec 32 := Scalar.muli arg2 c2048_i32_352
  let c1024_i32_353 : BitVec 32 := 1024#32
  let v542 : BitVec 32 := Scalar.addi v541 c1024_i32_353
  let v543 : BitVec 32 := Scalar.subi c3968_i32_354 v542
  v543
def k0_mult58 (i : grid0.Coords) : BitVec 32 :=
  let c3968_i32_360 : BitVec 32 := 3968#32
  let arg2 : BitVec 32 := BitVec.ofNat 32 (i 2).val
  let c2048_i32_358 : BitVec 32 := 2048#32
  let v549 : BitVec 32 := Scalar.muli arg2 c2048_i32_358
  let c1152_i32_359 : BitVec 32 := 1152#32
  let v550 : BitVec 32 := Scalar.addi v549 c1152_i32_359
  let v551 : BitVec 32 := Scalar.subi c3968_i32_360 v550
  v551
def k0_mult59 (i : grid0.Coords) : BitVec 32 :=
  let c3968_i32_366 : BitVec 32 := 3968#32
  let arg2 : BitVec 32 := BitVec.ofNat 32 (i 2).val
  let c2048_i32_364 : BitVec 32 := 2048#32
  let v557 : BitVec 32 := Scalar.muli arg2 c2048_i32_364
  let c1280_i32_365 : BitVec 32 := 1280#32
  let v558 : BitVec 32 := Scalar.addi v557 c1280_i32_365
  let v559 : BitVec 32 := Scalar.subi c3968_i32_366 v558
  v559
def k0_mult60 (i : grid0.Coords) : BitVec 32 :=
  let c3968_i32_372 : BitVec 32 := 3968#32
  let arg2 : BitVec 32 := BitVec.ofNat 32 (i 2).val
  let c2048_i32_370 : BitVec 32 := 2048#32
  let v565 : BitVec 32 := Scalar.muli arg2 c2048_i32_370
  let c1408_i32_371 : BitVec 32 := 1408#32
  let v566 : BitVec 32 := Scalar.addi v565 c1408_i32_371
  let v567 : BitVec 32 := Scalar.subi c3968_i32_372 v566
  v567
def k0_mult61 (i : grid0.Coords) : BitVec 32 :=
  let c3968_i32_378 : BitVec 32 := 3968#32
  let arg2 : BitVec 32 := BitVec.ofNat 32 (i 2).val
  let c2048_i32_376 : BitVec 32 := 2048#32
  let v573 : BitVec 32 := Scalar.muli arg2 c2048_i32_376
  let c1536_i32_377 : BitVec 32 := 1536#32
  let v574 : BitVec 32 := Scalar.addi v573 c1536_i32_377
  let v575 : BitVec 32 := Scalar.subi c3968_i32_378 v574
  v575
def k0_mult62 (i : grid0.Coords) : BitVec 32 :=
  let c3968_i32_384 : BitVec 32 := 3968#32
  let arg2 : BitVec 32 := BitVec.ofNat 32 (i 2).val
  let c2048_i32_382 : BitVec 32 := 2048#32
  let v581 : BitVec 32 := Scalar.muli arg2 c2048_i32_382
  let c1664_i32_383 : BitVec 32 := 1664#32
  let v582 : BitVec 32 := Scalar.addi v581 c1664_i32_383
  let v583 : BitVec 32 := Scalar.subi c3968_i32_384 v582
  v583
def k0_mult63 (i : grid0.Coords) : BitVec 32 :=
  let c3968_i32_390 : BitVec 32 := 3968#32
  let arg2 : BitVec 32 := BitVec.ofNat 32 (i 2).val
  let c2048_i32_388 : BitVec 32 := 2048#32
  let v589 : BitVec 32 := Scalar.muli arg2 c2048_i32_388
  let c1792_i32_389 : BitVec 32 := 1792#32
  let v590 : BitVec 32 := Scalar.addi v589 c1792_i32_389
  let v591 : BitVec 32 := Scalar.subi c3968_i32_390 v590
  v591
def k0_mult64 (i : grid0.Coords) : BitVec 32 :=
  let c3968_i32_396 : BitVec 32 := 3968#32
  let arg2 : BitVec 32 := BitVec.ofNat 32 (i 2).val
  let c2048_i32_394 : BitVec 32 := 2048#32
  let v597 : BitVec 32 := Scalar.muli arg2 c2048_i32_394
  let c1920_i32_395 : BitVec 32 := 1920#32
  let v598 : BitVec 32 := Scalar.addi v597 c1920_i32_395
  let v599 : BitVec 32 := Scalar.subi c3968_i32_396 v598
  v599
def k0_mult65 (i : grid0.Coords) : BitVec 32 :=
  let c3968_i32_409 : BitVec 32 := 3968#32
  let arg2 : BitVec 32 := BitVec.ofNat 32 (i 2).val
  let c2048_i32_407 : BitVec 32 := 2048#32
  let v626 : BitVec 32 := Scalar.muli arg2 c2048_i32_407
  let c0_i32_408 : BitVec 32 := 0#32
  let v627 : BitVec 32 := Scalar.addi v626 c0_i32_408
  let v628 : BitVec 32 := Scalar.subi c3968_i32_409 v627
  v628
def k0_mult66 (i : grid0.Coords) : BitVec 32 :=
  let c3968_i32_415 : BitVec 32 := 3968#32
  let arg2 : BitVec 32 := BitVec.ofNat 32 (i 2).val
  let c2048_i32_413 : BitVec 32 := 2048#32
  let v634 : BitVec 32 := Scalar.muli arg2 c2048_i32_413
  let c128_i32_414 : BitVec 32 := 128#32
  let v635 : BitVec 32 := Scalar.addi v634 c128_i32_414
  let v636 : BitVec 32 := Scalar.subi c3968_i32_415 v635
  v636
def k0_mult67 (i : grid0.Coords) : BitVec 32 :=
  let c3968_i32_421 : BitVec 32 := 3968#32
  let arg2 : BitVec 32 := BitVec.ofNat 32 (i 2).val
  let c2048_i32_419 : BitVec 32 := 2048#32
  let v642 : BitVec 32 := Scalar.muli arg2 c2048_i32_419
  let c256_i32_420 : BitVec 32 := 256#32
  let v643 : BitVec 32 := Scalar.addi v642 c256_i32_420
  let v644 : BitVec 32 := Scalar.subi c3968_i32_421 v643
  v644
def k0_mult68 (i : grid0.Coords) : BitVec 32 :=
  let c3968_i32_427 : BitVec 32 := 3968#32
  let arg2 : BitVec 32 := BitVec.ofNat 32 (i 2).val
  let c2048_i32_425 : BitVec 32 := 2048#32
  let v650 : BitVec 32 := Scalar.muli arg2 c2048_i32_425
  let c384_i32_426 : BitVec 32 := 384#32
  let v651 : BitVec 32 := Scalar.addi v650 c384_i32_426
  let v652 : BitVec 32 := Scalar.subi c3968_i32_427 v651
  v652
def k0_mult69 (i : grid0.Coords) : BitVec 32 :=
  let c3968_i32_433 : BitVec 32 := 3968#32
  let arg2 : BitVec 32 := BitVec.ofNat 32 (i 2).val
  let c2048_i32_431 : BitVec 32 := 2048#32
  let v658 : BitVec 32 := Scalar.muli arg2 c2048_i32_431
  let c512_i32_432 : BitVec 32 := 512#32
  let v659 : BitVec 32 := Scalar.addi v658 c512_i32_432
  let v660 : BitVec 32 := Scalar.subi c3968_i32_433 v659
  v660
def k0_mult70 (i : grid0.Coords) : BitVec 32 :=
  let c3968_i32_439 : BitVec 32 := 3968#32
  let arg2 : BitVec 32 := BitVec.ofNat 32 (i 2).val
  let c2048_i32_437 : BitVec 32 := 2048#32
  let v666 : BitVec 32 := Scalar.muli arg2 c2048_i32_437
  let c640_i32_438 : BitVec 32 := 640#32
  let v667 : BitVec 32 := Scalar.addi v666 c640_i32_438
  let v668 : BitVec 32 := Scalar.subi c3968_i32_439 v667
  v668
def k0_mult71 (i : grid0.Coords) : BitVec 32 :=
  let c3968_i32_445 : BitVec 32 := 3968#32
  let arg2 : BitVec 32 := BitVec.ofNat 32 (i 2).val
  let c2048_i32_443 : BitVec 32 := 2048#32
  let v674 : BitVec 32 := Scalar.muli arg2 c2048_i32_443
  let c768_i32_444 : BitVec 32 := 768#32
  let v675 : BitVec 32 := Scalar.addi v674 c768_i32_444
  let v676 : BitVec 32 := Scalar.subi c3968_i32_445 v675
  v676
def k0_mult72 (i : grid0.Coords) : BitVec 32 :=
  let c3968_i32_451 : BitVec 32 := 3968#32
  let arg2 : BitVec 32 := BitVec.ofNat 32 (i 2).val
  let c2048_i32_449 : BitVec 32 := 2048#32
  let v682 : BitVec 32 := Scalar.muli arg2 c2048_i32_449
  let c896_i32_450 : BitVec 32 := 896#32
  let v683 : BitVec 32 := Scalar.addi v682 c896_i32_450
  let v684 : BitVec 32 := Scalar.subi c3968_i32_451 v683
  v684
def k0_mult73 (i : grid0.Coords) : BitVec 32 :=
  let c3968_i32_457 : BitVec 32 := 3968#32
  let arg2 : BitVec 32 := BitVec.ofNat 32 (i 2).val
  let c2048_i32_455 : BitVec 32 := 2048#32
  let v690 : BitVec 32 := Scalar.muli arg2 c2048_i32_455
  let c1024_i32_456 : BitVec 32 := 1024#32
  let v691 : BitVec 32 := Scalar.addi v690 c1024_i32_456
  let v692 : BitVec 32 := Scalar.subi c3968_i32_457 v691
  v692
def k0_mult74 (i : grid0.Coords) : BitVec 32 :=
  let c3968_i32_463 : BitVec 32 := 3968#32
  let arg2 : BitVec 32 := BitVec.ofNat 32 (i 2).val
  let c2048_i32_461 : BitVec 32 := 2048#32
  let v698 : BitVec 32 := Scalar.muli arg2 c2048_i32_461
  let c1152_i32_462 : BitVec 32 := 1152#32
  let v699 : BitVec 32 := Scalar.addi v698 c1152_i32_462
  let v700 : BitVec 32 := Scalar.subi c3968_i32_463 v699
  v700
def k0_mult75 (i : grid0.Coords) : BitVec 32 :=
  let c3968_i32_469 : BitVec 32 := 3968#32
  let arg2 : BitVec 32 := BitVec.ofNat 32 (i 2).val
  let c2048_i32_467 : BitVec 32 := 2048#32
  let v706 : BitVec 32 := Scalar.muli arg2 c2048_i32_467
  let c1280_i32_468 : BitVec 32 := 1280#32
  let v707 : BitVec 32 := Scalar.addi v706 c1280_i32_468
  let v708 : BitVec 32 := Scalar.subi c3968_i32_469 v707
  v708
def k0_mult76 (i : grid0.Coords) : BitVec 32 :=
  let c3968_i32_475 : BitVec 32 := 3968#32
  let arg2 : BitVec 32 := BitVec.ofNat 32 (i 2).val
  let c2048_i32_473 : BitVec 32 := 2048#32
  let v714 : BitVec 32 := Scalar.muli arg2 c2048_i32_473
  let c1408_i32_474 : BitVec 32 := 1408#32
  let v715 : BitVec 32 := Scalar.addi v714 c1408_i32_474
  let v716 : BitVec 32 := Scalar.subi c3968_i32_475 v715
  v716
def k0_mult77 (i : grid0.Coords) : BitVec 32 :=
  let c3968_i32_481 : BitVec 32 := 3968#32
  let arg2 : BitVec 32 := BitVec.ofNat 32 (i 2).val
  let c2048_i32_479 : BitVec 32 := 2048#32
  let v722 : BitVec 32 := Scalar.muli arg2 c2048_i32_479
  let c1536_i32_480 : BitVec 32 := 1536#32
  let v723 : BitVec 32 := Scalar.addi v722 c1536_i32_480
  let v724 : BitVec 32 := Scalar.subi c3968_i32_481 v723
  v724
def k0_mult78 (i : grid0.Coords) : BitVec 32 :=
  let c3968_i32_487 : BitVec 32 := 3968#32
  let arg2 : BitVec 32 := BitVec.ofNat 32 (i 2).val
  let c2048_i32_485 : BitVec 32 := 2048#32
  let v730 : BitVec 32 := Scalar.muli arg2 c2048_i32_485
  let c1664_i32_486 : BitVec 32 := 1664#32
  let v731 : BitVec 32 := Scalar.addi v730 c1664_i32_486
  let v732 : BitVec 32 := Scalar.subi c3968_i32_487 v731
  v732
def k0_mult79 (i : grid0.Coords) : BitVec 32 :=
  let c3968_i32_493 : BitVec 32 := 3968#32
  let arg2 : BitVec 32 := BitVec.ofNat 32 (i 2).val
  let c2048_i32_491 : BitVec 32 := 2048#32
  let v738 : BitVec 32 := Scalar.muli arg2 c2048_i32_491
  let c1792_i32_492 : BitVec 32 := 1792#32
  let v739 : BitVec 32 := Scalar.addi v738 c1792_i32_492
  let v740 : BitVec 32 := Scalar.subi c3968_i32_493 v739
  v740
def k0_mult80 (i : grid0.Coords) : BitVec 32 :=
  let c3968_i32_499 : BitVec 32 := 3968#32
  let arg2 : BitVec 32 := BitVec.ofNat 32 (i 2).val
  let c2048_i32_497 : BitVec 32 := 2048#32
  let v746 : BitVec 32 := Scalar.muli arg2 c2048_i32_497
  let c1920_i32_498 : BitVec 32 := 1920#32
  let v747 : BitVec 32 := Scalar.addi v746 c1920_i32_498
  let v748 : BitVec 32 := Scalar.subi c3968_i32_499 v747
  v748
def k0_mult81 (i : grid0.Coords) : BitVec 32 :=
  let c3968_i32_512 : BitVec 32 := 3968#32
  let arg2 : BitVec 32 := BitVec.ofNat 32 (i 2).val
  let c2048_i32_510 : BitVec 32 := 2048#32
  let v775 : BitVec 32 := Scalar.muli arg2 c2048_i32_510
  let c0_i32_511 : BitVec 32 := 0#32
  let v776 : BitVec 32 := Scalar.addi v775 c0_i32_511
  let v777 : BitVec 32 := Scalar.subi c3968_i32_512 v776
  v777
def k0_mult82 (i : grid0.Coords) : BitVec 32 :=
  let c3968_i32_518 : BitVec 32 := 3968#32
  let arg2 : BitVec 32 := BitVec.ofNat 32 (i 2).val
  let c2048_i32_516 : BitVec 32 := 2048#32
  let v783 : BitVec 32 := Scalar.muli arg2 c2048_i32_516
  let c128_i32_517 : BitVec 32 := 128#32
  let v784 : BitVec 32 := Scalar.addi v783 c128_i32_517
  let v785 : BitVec 32 := Scalar.subi c3968_i32_518 v784
  v785
def k0_mult83 (i : grid0.Coords) : BitVec 32 :=
  let c3968_i32_524 : BitVec 32 := 3968#32
  let arg2 : BitVec 32 := BitVec.ofNat 32 (i 2).val
  let c2048_i32_522 : BitVec 32 := 2048#32
  let v791 : BitVec 32 := Scalar.muli arg2 c2048_i32_522
  let c256_i32_523 : BitVec 32 := 256#32
  let v792 : BitVec 32 := Scalar.addi v791 c256_i32_523
  let v793 : BitVec 32 := Scalar.subi c3968_i32_524 v792
  v793
def k0_mult84 (i : grid0.Coords) : BitVec 32 :=
  let c3968_i32_530 : BitVec 32 := 3968#32
  let arg2 : BitVec 32 := BitVec.ofNat 32 (i 2).val
  let c2048_i32_528 : BitVec 32 := 2048#32
  let v799 : BitVec 32 := Scalar.muli arg2 c2048_i32_528
  let c384_i32_529 : BitVec 32 := 384#32
  let v800 : BitVec 32 := Scalar.addi v799 c384_i32_529
  let v801 : BitVec 32 := Scalar.subi c3968_i32_530 v800
  v801
def k0_mult85 (i : grid0.Coords) : BitVec 32 :=
  let c3968_i32_536 : BitVec 32 := 3968#32
  let arg2 : BitVec 32 := BitVec.ofNat 32 (i 2).val
  let c2048_i32_534 : BitVec 32 := 2048#32
  let v807 : BitVec 32 := Scalar.muli arg2 c2048_i32_534
  let c512_i32_535 : BitVec 32 := 512#32
  let v808 : BitVec 32 := Scalar.addi v807 c512_i32_535
  let v809 : BitVec 32 := Scalar.subi c3968_i32_536 v808
  v809
def k0_mult86 (i : grid0.Coords) : BitVec 32 :=
  let c3968_i32_542 : BitVec 32 := 3968#32
  let arg2 : BitVec 32 := BitVec.ofNat 32 (i 2).val
  let c2048_i32_540 : BitVec 32 := 2048#32
  let v815 : BitVec 32 := Scalar.muli arg2 c2048_i32_540
  let c640_i32_541 : BitVec 32 := 640#32
  let v816 : BitVec 32 := Scalar.addi v815 c640_i32_541
  let v817 : BitVec 32 := Scalar.subi c3968_i32_542 v816
  v817
def k0_mult87 (i : grid0.Coords) : BitVec 32 :=
  let c3968_i32_548 : BitVec 32 := 3968#32
  let arg2 : BitVec 32 := BitVec.ofNat 32 (i 2).val
  let c2048_i32_546 : BitVec 32 := 2048#32
  let v823 : BitVec 32 := Scalar.muli arg2 c2048_i32_546
  let c768_i32_547 : BitVec 32 := 768#32
  let v824 : BitVec 32 := Scalar.addi v823 c768_i32_547
  let v825 : BitVec 32 := Scalar.subi c3968_i32_548 v824
  v825
def k0_mult88 (i : grid0.Coords) : BitVec 32 :=
  let c3968_i32_554 : BitVec 32 := 3968#32
  let arg2 : BitVec 32 := BitVec.ofNat 32 (i 2).val
  let c2048_i32_552 : BitVec 32 := 2048#32
  let v831 : BitVec 32 := Scalar.muli arg2 c2048_i32_552
  let c896_i32_553 : BitVec 32 := 896#32
  let v832 : BitVec 32 := Scalar.addi v831 c896_i32_553
  let v833 : BitVec 32 := Scalar.subi c3968_i32_554 v832
  v833
def k0_mult89 (i : grid0.Coords) : BitVec 32 :=
  let c3968_i32_560 : BitVec 32 := 3968#32
  let arg2 : BitVec 32 := BitVec.ofNat 32 (i 2).val
  let c2048_i32_558 : BitVec 32 := 2048#32
  let v839 : BitVec 32 := Scalar.muli arg2 c2048_i32_558
  let c1024_i32_559 : BitVec 32 := 1024#32
  let v840 : BitVec 32 := Scalar.addi v839 c1024_i32_559
  let v841 : BitVec 32 := Scalar.subi c3968_i32_560 v840
  v841
def k0_mult90 (i : grid0.Coords) : BitVec 32 :=
  let c3968_i32_566 : BitVec 32 := 3968#32
  let arg2 : BitVec 32 := BitVec.ofNat 32 (i 2).val
  let c2048_i32_564 : BitVec 32 := 2048#32
  let v847 : BitVec 32 := Scalar.muli arg2 c2048_i32_564
  let c1152_i32_565 : BitVec 32 := 1152#32
  let v848 : BitVec 32 := Scalar.addi v847 c1152_i32_565
  let v849 : BitVec 32 := Scalar.subi c3968_i32_566 v848
  v849
def k0_mult91 (i : grid0.Coords) : BitVec 32 :=
  let c3968_i32_572 : BitVec 32 := 3968#32
  let arg2 : BitVec 32 := BitVec.ofNat 32 (i 2).val
  let c2048_i32_570 : BitVec 32 := 2048#32
  let v855 : BitVec 32 := Scalar.muli arg2 c2048_i32_570
  let c1280_i32_571 : BitVec 32 := 1280#32
  let v856 : BitVec 32 := Scalar.addi v855 c1280_i32_571
  let v857 : BitVec 32 := Scalar.subi c3968_i32_572 v856
  v857
def k0_mult92 (i : grid0.Coords) : BitVec 32 :=
  let c3968_i32_578 : BitVec 32 := 3968#32
  let arg2 : BitVec 32 := BitVec.ofNat 32 (i 2).val
  let c2048_i32_576 : BitVec 32 := 2048#32
  let v863 : BitVec 32 := Scalar.muli arg2 c2048_i32_576
  let c1408_i32_577 : BitVec 32 := 1408#32
  let v864 : BitVec 32 := Scalar.addi v863 c1408_i32_577
  let v865 : BitVec 32 := Scalar.subi c3968_i32_578 v864
  v865
def k0_mult93 (i : grid0.Coords) : BitVec 32 :=
  let c3968_i32_584 : BitVec 32 := 3968#32
  let arg2 : BitVec 32 := BitVec.ofNat 32 (i 2).val
  let c2048_i32_582 : BitVec 32 := 2048#32
  let v871 : BitVec 32 := Scalar.muli arg2 c2048_i32_582
  let c1536_i32_583 : BitVec 32 := 1536#32
  let v872 : BitVec 32 := Scalar.addi v871 c1536_i32_583
  let v873 : BitVec 32 := Scalar.subi c3968_i32_584 v872
  v873
def k0_mult94 (i : grid0.Coords) : BitVec 32 :=
  let c3968_i32_590 : BitVec 32 := 3968#32
  let arg2 : BitVec 32 := BitVec.ofNat 32 (i 2).val
  let c2048_i32_588 : BitVec 32 := 2048#32
  let v879 : BitVec 32 := Scalar.muli arg2 c2048_i32_588
  let c1664_i32_589 : BitVec 32 := 1664#32
  let v880 : BitVec 32 := Scalar.addi v879 c1664_i32_589
  let v881 : BitVec 32 := Scalar.subi c3968_i32_590 v880
  v881
def k0_mult95 (i : grid0.Coords) : BitVec 32 :=
  let c3968_i32_596 : BitVec 32 := 3968#32
  let arg2 : BitVec 32 := BitVec.ofNat 32 (i 2).val
  let c2048_i32_594 : BitVec 32 := 2048#32
  let v887 : BitVec 32 := Scalar.muli arg2 c2048_i32_594
  let c1792_i32_595 : BitVec 32 := 1792#32
  let v888 : BitVec 32 := Scalar.addi v887 c1792_i32_595
  let v889 : BitVec 32 := Scalar.subi c3968_i32_596 v888
  v889
def k0_mult96 (i : grid0.Coords) : BitVec 32 :=
  let c3968_i32_602 : BitVec 32 := 3968#32
  let arg2 : BitVec 32 := BitVec.ofNat 32 (i 2).val
  let c2048_i32_600 : BitVec 32 := 2048#32
  let v895 : BitVec 32 := Scalar.muli arg2 c2048_i32_600
  let c1920_i32_601 : BitVec 32 := 1920#32
  let v896 : BitVec 32 := Scalar.addi v895 c1920_i32_601
  let v897 : BitVec 32 := Scalar.subi c3968_i32_602 v896
  v897
def k0_mult97 (i : grid0.Coords) : BitVec 32 :=
  let c3968_i32_615 : BitVec 32 := 3968#32
  let arg2 : BitVec 32 := BitVec.ofNat 32 (i 2).val
  let c2048_i32_613 : BitVec 32 := 2048#32
  let v924 : BitVec 32 := Scalar.muli arg2 c2048_i32_613
  let c0_i32_614 : BitVec 32 := 0#32
  let v925 : BitVec 32 := Scalar.addi v924 c0_i32_614
  let v926 : BitVec 32 := Scalar.subi c3968_i32_615 v925
  v926
def k0_mult98 (i : grid0.Coords) : BitVec 32 :=
  let c3968_i32_621 : BitVec 32 := 3968#32
  let arg2 : BitVec 32 := BitVec.ofNat 32 (i 2).val
  let c2048_i32_619 : BitVec 32 := 2048#32
  let v932 : BitVec 32 := Scalar.muli arg2 c2048_i32_619
  let c128_i32_620 : BitVec 32 := 128#32
  let v933 : BitVec 32 := Scalar.addi v932 c128_i32_620
  let v934 : BitVec 32 := Scalar.subi c3968_i32_621 v933
  v934
def k0_mult99 (i : grid0.Coords) : BitVec 32 :=
  let c3968_i32_627 : BitVec 32 := 3968#32
  let arg2 : BitVec 32 := BitVec.ofNat 32 (i 2).val
  let c2048_i32_625 : BitVec 32 := 2048#32
  let v940 : BitVec 32 := Scalar.muli arg2 c2048_i32_625
  let c256_i32_626 : BitVec 32 := 256#32
  let v941 : BitVec 32 := Scalar.addi v940 c256_i32_626
  let v942 : BitVec 32 := Scalar.subi c3968_i32_627 v941
  v942
def k0_mult100 (i : grid0.Coords) : BitVec 32 :=
  let c3968_i32_633 : BitVec 32 := 3968#32
  let arg2 : BitVec 32 := BitVec.ofNat 32 (i 2).val
  let c2048_i32_631 : BitVec 32 := 2048#32
  let v948 : BitVec 32 := Scalar.muli arg2 c2048_i32_631
  let c384_i32_632 : BitVec 32 := 384#32
  let v949 : BitVec 32 := Scalar.addi v948 c384_i32_632
  let v950 : BitVec 32 := Scalar.subi c3968_i32_633 v949
  v950
def k0_mult101 (i : grid0.Coords) : BitVec 32 :=
  let c3968_i32_639 : BitVec 32 := 3968#32
  let arg2 : BitVec 32 := BitVec.ofNat 32 (i 2).val
  let c2048_i32_637 : BitVec 32 := 2048#32
  let v956 : BitVec 32 := Scalar.muli arg2 c2048_i32_637
  let c512_i32_638 : BitVec 32 := 512#32
  let v957 : BitVec 32 := Scalar.addi v956 c512_i32_638
  let v958 : BitVec 32 := Scalar.subi c3968_i32_639 v957
  v958
def k0_mult102 (i : grid0.Coords) : BitVec 32 :=
  let c3968_i32_645 : BitVec 32 := 3968#32
  let arg2 : BitVec 32 := BitVec.ofNat 32 (i 2).val
  let c2048_i32_643 : BitVec 32 := 2048#32
  let v964 : BitVec 32 := Scalar.muli arg2 c2048_i32_643
  let c640_i32_644 : BitVec 32 := 640#32
  let v965 : BitVec 32 := Scalar.addi v964 c640_i32_644
  let v966 : BitVec 32 := Scalar.subi c3968_i32_645 v965
  v966
def k0_mult103 (i : grid0.Coords) : BitVec 32 :=
  let c3968_i32_651 : BitVec 32 := 3968#32
  let arg2 : BitVec 32 := BitVec.ofNat 32 (i 2).val
  let c2048_i32_649 : BitVec 32 := 2048#32
  let v972 : BitVec 32 := Scalar.muli arg2 c2048_i32_649
  let c768_i32_650 : BitVec 32 := 768#32
  let v973 : BitVec 32 := Scalar.addi v972 c768_i32_650
  let v974 : BitVec 32 := Scalar.subi c3968_i32_651 v973
  v974
def k0_mult104 (i : grid0.Coords) : BitVec 32 :=
  let c3968_i32_657 : BitVec 32 := 3968#32
  let arg2 : BitVec 32 := BitVec.ofNat 32 (i 2).val
  let c2048_i32_655 : BitVec 32 := 2048#32
  let v980 : BitVec 32 := Scalar.muli arg2 c2048_i32_655
  let c896_i32_656 : BitVec 32 := 896#32
  let v981 : BitVec 32 := Scalar.addi v980 c896_i32_656
  let v982 : BitVec 32 := Scalar.subi c3968_i32_657 v981
  v982
def k0_mult105 (i : grid0.Coords) : BitVec 32 :=
  let c3968_i32_663 : BitVec 32 := 3968#32
  let arg2 : BitVec 32 := BitVec.ofNat 32 (i 2).val
  let c2048_i32_661 : BitVec 32 := 2048#32
  let v988 : BitVec 32 := Scalar.muli arg2 c2048_i32_661
  let c1024_i32_662 : BitVec 32 := 1024#32
  let v989 : BitVec 32 := Scalar.addi v988 c1024_i32_662
  let v990 : BitVec 32 := Scalar.subi c3968_i32_663 v989
  v990
def k0_mult106 (i : grid0.Coords) : BitVec 32 :=
  let c3968_i32_669 : BitVec 32 := 3968#32
  let arg2 : BitVec 32 := BitVec.ofNat 32 (i 2).val
  let c2048_i32_667 : BitVec 32 := 2048#32
  let v996 : BitVec 32 := Scalar.muli arg2 c2048_i32_667
  let c1152_i32_668 : BitVec 32 := 1152#32
  let v997 : BitVec 32 := Scalar.addi v996 c1152_i32_668
  let v998 : BitVec 32 := Scalar.subi c3968_i32_669 v997
  v998
def k0_mult107 (i : grid0.Coords) : BitVec 32 :=
  let c3968_i32_675 : BitVec 32 := 3968#32
  let arg2 : BitVec 32 := BitVec.ofNat 32 (i 2).val
  let c2048_i32_673 : BitVec 32 := 2048#32
  let v1004 : BitVec 32 := Scalar.muli arg2 c2048_i32_673
  let c1280_i32_674 : BitVec 32 := 1280#32
  let v1005 : BitVec 32 := Scalar.addi v1004 c1280_i32_674
  let v1006 : BitVec 32 := Scalar.subi c3968_i32_675 v1005
  v1006
def k0_mult108 (i : grid0.Coords) : BitVec 32 :=
  let c3968_i32_681 : BitVec 32 := 3968#32
  let arg2 : BitVec 32 := BitVec.ofNat 32 (i 2).val
  let c2048_i32_679 : BitVec 32 := 2048#32
  let v1012 : BitVec 32 := Scalar.muli arg2 c2048_i32_679
  let c1408_i32_680 : BitVec 32 := 1408#32
  let v1013 : BitVec 32 := Scalar.addi v1012 c1408_i32_680
  let v1014 : BitVec 32 := Scalar.subi c3968_i32_681 v1013
  v1014
def k0_mult109 (i : grid0.Coords) : BitVec 32 :=
  let c3968_i32_687 : BitVec 32 := 3968#32
  let arg2 : BitVec 32 := BitVec.ofNat 32 (i 2).val
  let c2048_i32_685 : BitVec 32 := 2048#32
  let v1020 : BitVec 32 := Scalar.muli arg2 c2048_i32_685
  let c1536_i32_686 : BitVec 32 := 1536#32
  let v1021 : BitVec 32 := Scalar.addi v1020 c1536_i32_686
  let v1022 : BitVec 32 := Scalar.subi c3968_i32_687 v1021
  v1022
def k0_mult110 (i : grid0.Coords) : BitVec 32 :=
  let c3968_i32_693 : BitVec 32 := 3968#32
  let arg2 : BitVec 32 := BitVec.ofNat 32 (i 2).val
  let c2048_i32_691 : BitVec 32 := 2048#32
  let v1028 : BitVec 32 := Scalar.muli arg2 c2048_i32_691
  let c1664_i32_692 : BitVec 32 := 1664#32
  let v1029 : BitVec 32 := Scalar.addi v1028 c1664_i32_692
  let v1030 : BitVec 32 := Scalar.subi c3968_i32_693 v1029
  v1030
def k0_mult111 (i : grid0.Coords) : BitVec 32 :=
  let c3968_i32_699 : BitVec 32 := 3968#32
  let arg2 : BitVec 32 := BitVec.ofNat 32 (i 2).val
  let c2048_i32_697 : BitVec 32 := 2048#32
  let v1036 : BitVec 32 := Scalar.muli arg2 c2048_i32_697
  let c1792_i32_698 : BitVec 32 := 1792#32
  let v1037 : BitVec 32 := Scalar.addi v1036 c1792_i32_698
  let v1038 : BitVec 32 := Scalar.subi c3968_i32_699 v1037
  v1038
def k0_mult112 (i : grid0.Coords) : BitVec 32 :=
  let c3968_i32_705 : BitVec 32 := 3968#32
  let arg2 : BitVec 32 := BitVec.ofNat 32 (i 2).val
  let c2048_i32_703 : BitVec 32 := 2048#32
  let v1044 : BitVec 32 := Scalar.muli arg2 c2048_i32_703
  let c1920_i32_704 : BitVec 32 := 1920#32
  let v1045 : BitVec 32 := Scalar.addi v1044 c1920_i32_704
  let v1046 : BitVec 32 := Scalar.subi c3968_i32_705 v1045
  v1046
def k0_mult113 (i : grid0.Coords) : BitVec 32 :=
  let c3968_i32_718 : BitVec 32 := 3968#32
  let arg2 : BitVec 32 := BitVec.ofNat 32 (i 2).val
  let c2048_i32_716 : BitVec 32 := 2048#32
  let v1073 : BitVec 32 := Scalar.muli arg2 c2048_i32_716
  let c0_i32_717 : BitVec 32 := 0#32
  let v1074 : BitVec 32 := Scalar.addi v1073 c0_i32_717
  let v1075 : BitVec 32 := Scalar.subi c3968_i32_718 v1074
  v1075
def k0_mult114 (i : grid0.Coords) : BitVec 32 :=
  let c3968_i32_724 : BitVec 32 := 3968#32
  let arg2 : BitVec 32 := BitVec.ofNat 32 (i 2).val
  let c2048_i32_722 : BitVec 32 := 2048#32
  let v1081 : BitVec 32 := Scalar.muli arg2 c2048_i32_722
  let c128_i32_723 : BitVec 32 := 128#32
  let v1082 : BitVec 32 := Scalar.addi v1081 c128_i32_723
  let v1083 : BitVec 32 := Scalar.subi c3968_i32_724 v1082
  v1083
def k0_mult115 (i : grid0.Coords) : BitVec 32 :=
  let c3968_i32_730 : BitVec 32 := 3968#32
  let arg2 : BitVec 32 := BitVec.ofNat 32 (i 2).val
  let c2048_i32_728 : BitVec 32 := 2048#32
  let v1089 : BitVec 32 := Scalar.muli arg2 c2048_i32_728
  let c256_i32_729 : BitVec 32 := 256#32
  let v1090 : BitVec 32 := Scalar.addi v1089 c256_i32_729
  let v1091 : BitVec 32 := Scalar.subi c3968_i32_730 v1090
  v1091
def k0_mult116 (i : grid0.Coords) : BitVec 32 :=
  let c3968_i32_736 : BitVec 32 := 3968#32
  let arg2 : BitVec 32 := BitVec.ofNat 32 (i 2).val
  let c2048_i32_734 : BitVec 32 := 2048#32
  let v1097 : BitVec 32 := Scalar.muli arg2 c2048_i32_734
  let c384_i32_735 : BitVec 32 := 384#32
  let v1098 : BitVec 32 := Scalar.addi v1097 c384_i32_735
  let v1099 : BitVec 32 := Scalar.subi c3968_i32_736 v1098
  v1099
def k0_mult117 (i : grid0.Coords) : BitVec 32 :=
  let c3968_i32_742 : BitVec 32 := 3968#32
  let arg2 : BitVec 32 := BitVec.ofNat 32 (i 2).val
  let c2048_i32_740 : BitVec 32 := 2048#32
  let v1105 : BitVec 32 := Scalar.muli arg2 c2048_i32_740
  let c512_i32_741 : BitVec 32 := 512#32
  let v1106 : BitVec 32 := Scalar.addi v1105 c512_i32_741
  let v1107 : BitVec 32 := Scalar.subi c3968_i32_742 v1106
  v1107
def k0_mult118 (i : grid0.Coords) : BitVec 32 :=
  let c3968_i32_748 : BitVec 32 := 3968#32
  let arg2 : BitVec 32 := BitVec.ofNat 32 (i 2).val
  let c2048_i32_746 : BitVec 32 := 2048#32
  let v1113 : BitVec 32 := Scalar.muli arg2 c2048_i32_746
  let c640_i32_747 : BitVec 32 := 640#32
  let v1114 : BitVec 32 := Scalar.addi v1113 c640_i32_747
  let v1115 : BitVec 32 := Scalar.subi c3968_i32_748 v1114
  v1115
def k0_mult119 (i : grid0.Coords) : BitVec 32 :=
  let c3968_i32_754 : BitVec 32 := 3968#32
  let arg2 : BitVec 32 := BitVec.ofNat 32 (i 2).val
  let c2048_i32_752 : BitVec 32 := 2048#32
  let v1121 : BitVec 32 := Scalar.muli arg2 c2048_i32_752
  let c768_i32_753 : BitVec 32 := 768#32
  let v1122 : BitVec 32 := Scalar.addi v1121 c768_i32_753
  let v1123 : BitVec 32 := Scalar.subi c3968_i32_754 v1122
  v1123
def k0_mult120 (i : grid0.Coords) : BitVec 32 :=
  let c3968_i32_760 : BitVec 32 := 3968#32
  let arg2 : BitVec 32 := BitVec.ofNat 32 (i 2).val
  let c2048_i32_758 : BitVec 32 := 2048#32
  let v1129 : BitVec 32 := Scalar.muli arg2 c2048_i32_758
  let c896_i32_759 : BitVec 32 := 896#32
  let v1130 : BitVec 32 := Scalar.addi v1129 c896_i32_759
  let v1131 : BitVec 32 := Scalar.subi c3968_i32_760 v1130
  v1131
def k0_mult121 (i : grid0.Coords) : BitVec 32 :=
  let c3968_i32_766 : BitVec 32 := 3968#32
  let arg2 : BitVec 32 := BitVec.ofNat 32 (i 2).val
  let c2048_i32_764 : BitVec 32 := 2048#32
  let v1137 : BitVec 32 := Scalar.muli arg2 c2048_i32_764
  let c1024_i32_765 : BitVec 32 := 1024#32
  let v1138 : BitVec 32 := Scalar.addi v1137 c1024_i32_765
  let v1139 : BitVec 32 := Scalar.subi c3968_i32_766 v1138
  v1139
def k0_mult122 (i : grid0.Coords) : BitVec 32 :=
  let c3968_i32_772 : BitVec 32 := 3968#32
  let arg2 : BitVec 32 := BitVec.ofNat 32 (i 2).val
  let c2048_i32_770 : BitVec 32 := 2048#32
  let v1145 : BitVec 32 := Scalar.muli arg2 c2048_i32_770
  let c1152_i32_771 : BitVec 32 := 1152#32
  let v1146 : BitVec 32 := Scalar.addi v1145 c1152_i32_771
  let v1147 : BitVec 32 := Scalar.subi c3968_i32_772 v1146
  v1147
def k0_mult123 (i : grid0.Coords) : BitVec 32 :=
  let c3968_i32_778 : BitVec 32 := 3968#32
  let arg2 : BitVec 32 := BitVec.ofNat 32 (i 2).val
  let c2048_i32_776 : BitVec 32 := 2048#32
  let v1153 : BitVec 32 := Scalar.muli arg2 c2048_i32_776
  let c1280_i32_777 : BitVec 32 := 1280#32
  let v1154 : BitVec 32 := Scalar.addi v1153 c1280_i32_777
  let v1155 : BitVec 32 := Scalar.subi c3968_i32_778 v1154
  v1155
def k0_mult124 (i : grid0.Coords) : BitVec 32 :=
  let c3968_i32_784 : BitVec 32 := 3968#32
  let arg2 : BitVec 32 := BitVec.ofNat 32 (i 2).val
  let c2048_i32_782 : BitVec 32 := 2048#32
  let v1161 : BitVec 32 := Scalar.muli arg2 c2048_i32_782
  let c1408_i32_783 : BitVec 32 := 1408#32
  let v1162 : BitVec 32 := Scalar.addi v1161 c1408_i32_783
  let v1163 : BitVec 32 := Scalar.subi c3968_i32_784 v1162
  v1163
def k0_mult125 (i : grid0.Coords) : BitVec 32 :=
  let c3968_i32_790 : BitVec 32 := 3968#32
  let arg2 : BitVec 32 := BitVec.ofNat 32 (i 2).val
  let c2048_i32_788 : BitVec 32 := 2048#32
  let v1169 : BitVec 32 := Scalar.muli arg2 c2048_i32_788
  let c1536_i32_789 : BitVec 32 := 1536#32
  let v1170 : BitVec 32 := Scalar.addi v1169 c1536_i32_789
  let v1171 : BitVec 32 := Scalar.subi c3968_i32_790 v1170
  v1171
def k0_mult126 (i : grid0.Coords) : BitVec 32 :=
  let c3968_i32_796 : BitVec 32 := 3968#32
  let arg2 : BitVec 32 := BitVec.ofNat 32 (i 2).val
  let c2048_i32_794 : BitVec 32 := 2048#32
  let v1177 : BitVec 32 := Scalar.muli arg2 c2048_i32_794
  let c1664_i32_795 : BitVec 32 := 1664#32
  let v1178 : BitVec 32 := Scalar.addi v1177 c1664_i32_795
  let v1179 : BitVec 32 := Scalar.subi c3968_i32_796 v1178
  v1179
def k0_mult127 (i : grid0.Coords) : BitVec 32 :=
  let c3968_i32_802 : BitVec 32 := 3968#32
  let arg2 : BitVec 32 := BitVec.ofNat 32 (i 2).val
  let c2048_i32_800 : BitVec 32 := 2048#32
  let v1185 : BitVec 32 := Scalar.muli arg2 c2048_i32_800
  let c1792_i32_801 : BitVec 32 := 1792#32
  let v1186 : BitVec 32 := Scalar.addi v1185 c1792_i32_801
  let v1187 : BitVec 32 := Scalar.subi c3968_i32_802 v1186
  v1187
def k0_mult128 (i : grid0.Coords) : BitVec 32 :=
  let c3968_i32_808 : BitVec 32 := 3968#32
  let arg2 : BitVec 32 := BitVec.ofNat 32 (i 2).val
  let c2048_i32_806 : BitVec 32 := 2048#32
  let v1193 : BitVec 32 := Scalar.muli arg2 c2048_i32_806
  let c1920_i32_807 : BitVec 32 := 1920#32
  let v1194 : BitVec 32 := Scalar.addi v1193 c1920_i32_807
  let v1195 : BitVec 32 := Scalar.subi c3968_i32_808 v1194
  v1195
def k0_mult129 (i : grid0.Coords) : BitVec 32 :=
  let c3968_i32_821 : BitVec 32 := 3968#32
  let arg2 : BitVec 32 := BitVec.ofNat 32 (i 2).val
  let c2048_i32_819 : BitVec 32 := 2048#32
  let v1222 : BitVec 32 := Scalar.muli arg2 c2048_i32_819
  let c0_i32_820 : BitVec 32 := 0#32
  let v1223 : BitVec 32 := Scalar.addi v1222 c0_i32_820
  let v1224 : BitVec 32 := Scalar.subi c3968_i32_821 v1223
  v1224
def k0_mult130 (i : grid0.Coords) : BitVec 32 :=
  let c3968_i32_827 : BitVec 32 := 3968#32
  let arg2 : BitVec 32 := BitVec.ofNat 32 (i 2).val
  let c2048_i32_825 : BitVec 32 := 2048#32
  let v1230 : BitVec 32 := Scalar.muli arg2 c2048_i32_825
  let c128_i32_826 : BitVec 32 := 128#32
  let v1231 : BitVec 32 := Scalar.addi v1230 c128_i32_826
  let v1232 : BitVec 32 := Scalar.subi c3968_i32_827 v1231
  v1232
def k0_mult131 (i : grid0.Coords) : BitVec 32 :=
  let c3968_i32_833 : BitVec 32 := 3968#32
  let arg2 : BitVec 32 := BitVec.ofNat 32 (i 2).val
  let c2048_i32_831 : BitVec 32 := 2048#32
  let v1238 : BitVec 32 := Scalar.muli arg2 c2048_i32_831
  let c256_i32_832 : BitVec 32 := 256#32
  let v1239 : BitVec 32 := Scalar.addi v1238 c256_i32_832
  let v1240 : BitVec 32 := Scalar.subi c3968_i32_833 v1239
  v1240
def k0_mult132 (i : grid0.Coords) : BitVec 32 :=
  let c3968_i32_839 : BitVec 32 := 3968#32
  let arg2 : BitVec 32 := BitVec.ofNat 32 (i 2).val
  let c2048_i32_837 : BitVec 32 := 2048#32
  let v1246 : BitVec 32 := Scalar.muli arg2 c2048_i32_837
  let c384_i32_838 : BitVec 32 := 384#32
  let v1247 : BitVec 32 := Scalar.addi v1246 c384_i32_838
  let v1248 : BitVec 32 := Scalar.subi c3968_i32_839 v1247
  v1248
def k0_mult133 (i : grid0.Coords) : BitVec 32 :=
  let c3968_i32_845 : BitVec 32 := 3968#32
  let arg2 : BitVec 32 := BitVec.ofNat 32 (i 2).val
  let c2048_i32_843 : BitVec 32 := 2048#32
  let v1254 : BitVec 32 := Scalar.muli arg2 c2048_i32_843
  let c512_i32_844 : BitVec 32 := 512#32
  let v1255 : BitVec 32 := Scalar.addi v1254 c512_i32_844
  let v1256 : BitVec 32 := Scalar.subi c3968_i32_845 v1255
  v1256
def k0_mult134 (i : grid0.Coords) : BitVec 32 :=
  let c3968_i32_851 : BitVec 32 := 3968#32
  let arg2 : BitVec 32 := BitVec.ofNat 32 (i 2).val
  let c2048_i32_849 : BitVec 32 := 2048#32
  let v1262 : BitVec 32 := Scalar.muli arg2 c2048_i32_849
  let c640_i32_850 : BitVec 32 := 640#32
  let v1263 : BitVec 32 := Scalar.addi v1262 c640_i32_850
  let v1264 : BitVec 32 := Scalar.subi c3968_i32_851 v1263
  v1264
def k0_mult135 (i : grid0.Coords) : BitVec 32 :=
  let c3968_i32_857 : BitVec 32 := 3968#32
  let arg2 : BitVec 32 := BitVec.ofNat 32 (i 2).val
  let c2048_i32_855 : BitVec 32 := 2048#32
  let v1270 : BitVec 32 := Scalar.muli arg2 c2048_i32_855
  let c768_i32_856 : BitVec 32 := 768#32
  let v1271 : BitVec 32 := Scalar.addi v1270 c768_i32_856
  let v1272 : BitVec 32 := Scalar.subi c3968_i32_857 v1271
  v1272
def k0_mult136 (i : grid0.Coords) : BitVec 32 :=
  let c3968_i32_863 : BitVec 32 := 3968#32
  let arg2 : BitVec 32 := BitVec.ofNat 32 (i 2).val
  let c2048_i32_861 : BitVec 32 := 2048#32
  let v1278 : BitVec 32 := Scalar.muli arg2 c2048_i32_861
  let c896_i32_862 : BitVec 32 := 896#32
  let v1279 : BitVec 32 := Scalar.addi v1278 c896_i32_862
  let v1280 : BitVec 32 := Scalar.subi c3968_i32_863 v1279
  v1280
def k0_mult137 (i : grid0.Coords) : BitVec 32 :=
  let c3968_i32_869 : BitVec 32 := 3968#32
  let arg2 : BitVec 32 := BitVec.ofNat 32 (i 2).val
  let c2048_i32_867 : BitVec 32 := 2048#32
  let v1286 : BitVec 32 := Scalar.muli arg2 c2048_i32_867
  let c1024_i32_868 : BitVec 32 := 1024#32
  let v1287 : BitVec 32 := Scalar.addi v1286 c1024_i32_868
  let v1288 : BitVec 32 := Scalar.subi c3968_i32_869 v1287
  v1288
def k0_mult138 (i : grid0.Coords) : BitVec 32 :=
  let c3968_i32_875 : BitVec 32 := 3968#32
  let arg2 : BitVec 32 := BitVec.ofNat 32 (i 2).val
  let c2048_i32_873 : BitVec 32 := 2048#32
  let v1294 : BitVec 32 := Scalar.muli arg2 c2048_i32_873
  let c1152_i32_874 : BitVec 32 := 1152#32
  let v1295 : BitVec 32 := Scalar.addi v1294 c1152_i32_874
  let v1296 : BitVec 32 := Scalar.subi c3968_i32_875 v1295
  v1296
def k0_mult139 (i : grid0.Coords) : BitVec 32 :=
  let c3968_i32_881 : BitVec 32 := 3968#32
  let arg2 : BitVec 32 := BitVec.ofNat 32 (i 2).val
  let c2048_i32_879 : BitVec 32 := 2048#32
  let v1302 : BitVec 32 := Scalar.muli arg2 c2048_i32_879
  let c1280_i32_880 : BitVec 32 := 1280#32
  let v1303 : BitVec 32 := Scalar.addi v1302 c1280_i32_880
  let v1304 : BitVec 32 := Scalar.subi c3968_i32_881 v1303
  v1304
def k0_mult140 (i : grid0.Coords) : BitVec 32 :=
  let c3968_i32_887 : BitVec 32 := 3968#32
  let arg2 : BitVec 32 := BitVec.ofNat 32 (i 2).val
  let c2048_i32_885 : BitVec 32 := 2048#32
  let v1310 : BitVec 32 := Scalar.muli arg2 c2048_i32_885
  let c1408_i32_886 : BitVec 32 := 1408#32
  let v1311 : BitVec 32 := Scalar.addi v1310 c1408_i32_886
  let v1312 : BitVec 32 := Scalar.subi c3968_i32_887 v1311
  v1312
def k0_mult141 (i : grid0.Coords) : BitVec 32 :=
  let c3968_i32_893 : BitVec 32 := 3968#32
  let arg2 : BitVec 32 := BitVec.ofNat 32 (i 2).val
  let c2048_i32_891 : BitVec 32 := 2048#32
  let v1318 : BitVec 32 := Scalar.muli arg2 c2048_i32_891
  let c1536_i32_892 : BitVec 32 := 1536#32
  let v1319 : BitVec 32 := Scalar.addi v1318 c1536_i32_892
  let v1320 : BitVec 32 := Scalar.subi c3968_i32_893 v1319
  v1320
def k0_mult142 (i : grid0.Coords) : BitVec 32 :=
  let c3968_i32_899 : BitVec 32 := 3968#32
  let arg2 : BitVec 32 := BitVec.ofNat 32 (i 2).val
  let c2048_i32_897 : BitVec 32 := 2048#32
  let v1326 : BitVec 32 := Scalar.muli arg2 c2048_i32_897
  let c1664_i32_898 : BitVec 32 := 1664#32
  let v1327 : BitVec 32 := Scalar.addi v1326 c1664_i32_898
  let v1328 : BitVec 32 := Scalar.subi c3968_i32_899 v1327
  v1328
def k0_mult143 (i : grid0.Coords) : BitVec 32 :=
  let c3968_i32_905 : BitVec 32 := 3968#32
  let arg2 : BitVec 32 := BitVec.ofNat 32 (i 2).val
  let c2048_i32_903 : BitVec 32 := 2048#32
  let v1334 : BitVec 32 := Scalar.muli arg2 c2048_i32_903
  let c1792_i32_904 : BitVec 32 := 1792#32
  let v1335 : BitVec 32 := Scalar.addi v1334 c1792_i32_904
  let v1336 : BitVec 32 := Scalar.subi c3968_i32_905 v1335
  v1336
def k0_mult144 (i : grid0.Coords) : BitVec 32 :=
  let c3968_i32_911 : BitVec 32 := 3968#32
  let arg2 : BitVec 32 := BitVec.ofNat 32 (i 2).val
  let c2048_i32_909 : BitVec 32 := 2048#32
  let v1342 : BitVec 32 := Scalar.muli arg2 c2048_i32_909
  let c1920_i32_910 : BitVec 32 := 1920#32
  let v1343 : BitVec 32 := Scalar.addi v1342 c1920_i32_910
  let v1344 : BitVec 32 := Scalar.subi c3968_i32_911 v1343
  v1344
def k0_mult145 (i : grid0.Coords) : BitVec 32 :=
  let c3968_i32_924 : BitVec 32 := 3968#32
  let arg2 : BitVec 32 := BitVec.ofNat 32 (i 2).val
  let c2048_i32_922 : BitVec 32 := 2048#32
  let v1371 : BitVec 32 := Scalar.muli arg2 c2048_i32_922
  let c0_i32_923 : BitVec 32 := 0#32
  let v1372 : BitVec 32 := Scalar.addi v1371 c0_i32_923
  let v1373 : BitVec 32 := Scalar.subi c3968_i32_924 v1372
  v1373
def k0_mult146 (i : grid0.Coords) : BitVec 32 :=
  let c3968_i32_929 : BitVec 32 := 3968#32
  let arg2 : BitVec 32 := BitVec.ofNat 32 (i 2).val
  let c2048_i32_927 : BitVec 32 := 2048#32
  let v1379 : BitVec 32 := Scalar.muli arg2 c2048_i32_927
  let c128_i32_928 : BitVec 32 := 128#32
  let v1380 : BitVec 32 := Scalar.addi v1379 c128_i32_928
  let v1381 : BitVec 32 := Scalar.subi c3968_i32_929 v1380
  v1381
def k0_mult147 (i : grid0.Coords) : BitVec 32 :=
  let c3968_i32_935 : BitVec 32 := 3968#32
  let arg2 : BitVec 32 := BitVec.ofNat 32 (i 2).val
  let c2048_i32_933 : BitVec 32 := 2048#32
  let v1387 : BitVec 32 := Scalar.muli arg2 c2048_i32_933
  let c256_i32_934 : BitVec 32 := 256#32
  let v1388 : BitVec 32 := Scalar.addi v1387 c256_i32_934
  let v1389 : BitVec 32 := Scalar.subi c3968_i32_935 v1388
  v1389
def k0_mult148 (i : grid0.Coords) : BitVec 32 :=
  let c3968_i32_941 : BitVec 32 := 3968#32
  let arg2 : BitVec 32 := BitVec.ofNat 32 (i 2).val
  let c2048_i32_939 : BitVec 32 := 2048#32
  let v1395 : BitVec 32 := Scalar.muli arg2 c2048_i32_939
  let c384_i32_940 : BitVec 32 := 384#32
  let v1396 : BitVec 32 := Scalar.addi v1395 c384_i32_940
  let v1397 : BitVec 32 := Scalar.subi c3968_i32_941 v1396
  v1397
def k0_mult149 (i : grid0.Coords) : BitVec 32 :=
  let c3968_i32_947 : BitVec 32 := 3968#32
  let arg2 : BitVec 32 := BitVec.ofNat 32 (i 2).val
  let c2048_i32_945 : BitVec 32 := 2048#32
  let v1403 : BitVec 32 := Scalar.muli arg2 c2048_i32_945
  let c512_i32_946 : BitVec 32 := 512#32
  let v1404 : BitVec 32 := Scalar.addi v1403 c512_i32_946
  let v1405 : BitVec 32 := Scalar.subi c3968_i32_947 v1404
  v1405
def k0_mult150 (i : grid0.Coords) : BitVec 32 :=
  let c3968_i32_953 : BitVec 32 := 3968#32
  let arg2 : BitVec 32 := BitVec.ofNat 32 (i 2).val
  let c2048_i32_951 : BitVec 32 := 2048#32
  let v1411 : BitVec 32 := Scalar.muli arg2 c2048_i32_951
  let c640_i32_952 : BitVec 32 := 640#32
  let v1412 : BitVec 32 := Scalar.addi v1411 c640_i32_952
  let v1413 : BitVec 32 := Scalar.subi c3968_i32_953 v1412
  v1413
def k0_mult151 (i : grid0.Coords) : BitVec 32 :=
  let c3968_i32_959 : BitVec 32 := 3968#32
  let arg2 : BitVec 32 := BitVec.ofNat 32 (i 2).val
  let c2048_i32_957 : BitVec 32 := 2048#32
  let v1419 : BitVec 32 := Scalar.muli arg2 c2048_i32_957
  let c768_i32_958 : BitVec 32 := 768#32
  let v1420 : BitVec 32 := Scalar.addi v1419 c768_i32_958
  let v1421 : BitVec 32 := Scalar.subi c3968_i32_959 v1420
  v1421
def k0_mult152 (i : grid0.Coords) : BitVec 32 :=
  let c3968_i32_965 : BitVec 32 := 3968#32
  let arg2 : BitVec 32 := BitVec.ofNat 32 (i 2).val
  let c2048_i32_963 : BitVec 32 := 2048#32
  let v1427 : BitVec 32 := Scalar.muli arg2 c2048_i32_963
  let c896_i32_964 : BitVec 32 := 896#32
  let v1428 : BitVec 32 := Scalar.addi v1427 c896_i32_964
  let v1429 : BitVec 32 := Scalar.subi c3968_i32_965 v1428
  v1429
def k0_mult153 (i : grid0.Coords) : BitVec 32 :=
  let c3968_i32_971 : BitVec 32 := 3968#32
  let arg2 : BitVec 32 := BitVec.ofNat 32 (i 2).val
  let c2048_i32_969 : BitVec 32 := 2048#32
  let v1435 : BitVec 32 := Scalar.muli arg2 c2048_i32_969
  let c1024_i32_970 : BitVec 32 := 1024#32
  let v1436 : BitVec 32 := Scalar.addi v1435 c1024_i32_970
  let v1437 : BitVec 32 := Scalar.subi c3968_i32_971 v1436
  v1437
def k0_mult154 (i : grid0.Coords) : BitVec 32 :=
  let c3968_i32_977 : BitVec 32 := 3968#32
  let arg2 : BitVec 32 := BitVec.ofNat 32 (i 2).val
  let c2048_i32_975 : BitVec 32 := 2048#32
  let v1443 : BitVec 32 := Scalar.muli arg2 c2048_i32_975
  let c1152_i32_976 : BitVec 32 := 1152#32
  let v1444 : BitVec 32 := Scalar.addi v1443 c1152_i32_976
  let v1445 : BitVec 32 := Scalar.subi c3968_i32_977 v1444
  v1445
def k0_mult155 (i : grid0.Coords) : BitVec 32 :=
  let c3968_i32_983 : BitVec 32 := 3968#32
  let arg2 : BitVec 32 := BitVec.ofNat 32 (i 2).val
  let c2048_i32_981 : BitVec 32 := 2048#32
  let v1451 : BitVec 32 := Scalar.muli arg2 c2048_i32_981
  let c1280_i32_982 : BitVec 32 := 1280#32
  let v1452 : BitVec 32 := Scalar.addi v1451 c1280_i32_982
  let v1453 : BitVec 32 := Scalar.subi c3968_i32_983 v1452
  v1453
def k0_mult156 (i : grid0.Coords) : BitVec 32 :=
  let c3968_i32_989 : BitVec 32 := 3968#32
  let arg2 : BitVec 32 := BitVec.ofNat 32 (i 2).val
  let c2048_i32_987 : BitVec 32 := 2048#32
  let v1459 : BitVec 32 := Scalar.muli arg2 c2048_i32_987
  let c1408_i32_988 : BitVec 32 := 1408#32
  let v1460 : BitVec 32 := Scalar.addi v1459 c1408_i32_988
  let v1461 : BitVec 32 := Scalar.subi c3968_i32_989 v1460
  v1461
def k0_mult157 (i : grid0.Coords) : BitVec 32 :=
  let c3968_i32_995 : BitVec 32 := 3968#32
  let arg2 : BitVec 32 := BitVec.ofNat 32 (i 2).val
  let c2048_i32_993 : BitVec 32 := 2048#32
  let v1467 : BitVec 32 := Scalar.muli arg2 c2048_i32_993
  let c1536_i32_994 : BitVec 32 := 1536#32
  let v1468 : BitVec 32 := Scalar.addi v1467 c1536_i32_994
  let v1469 : BitVec 32 := Scalar.subi c3968_i32_995 v1468
  v1469
def k0_mult158 (i : grid0.Coords) : BitVec 32 :=
  let c3968_i32_1001 : BitVec 32 := 3968#32
  let arg2 : BitVec 32 := BitVec.ofNat 32 (i 2).val
  let c2048_i32_999 : BitVec 32 := 2048#32
  let v1475 : BitVec 32 := Scalar.muli arg2 c2048_i32_999
  let c1664_i32_1000 : BitVec 32 := 1664#32
  let v1476 : BitVec 32 := Scalar.addi v1475 c1664_i32_1000
  let v1477 : BitVec 32 := Scalar.subi c3968_i32_1001 v1476
  v1477
def k0_mult159 (i : grid0.Coords) : BitVec 32 :=
  let c3968_i32_1007 : BitVec 32 := 3968#32
  let arg2 : BitVec 32 := BitVec.ofNat 32 (i 2).val
  let c2048_i32_1005 : BitVec 32 := 2048#32
  let v1483 : BitVec 32 := Scalar.muli arg2 c2048_i32_1005
  let c1792_i32_1006 : BitVec 32 := 1792#32
  let v1484 : BitVec 32 := Scalar.addi v1483 c1792_i32_1006
  let v1485 : BitVec 32 := Scalar.subi c3968_i32_1007 v1484
  v1485
def k0_mult160 (i : grid0.Coords) : BitVec 32 :=
  let c3968_i32_1013 : BitVec 32 := 3968#32
  let arg2 : BitVec 32 := BitVec.ofNat 32 (i 2).val
  let c2048_i32_1011 : BitVec 32 := 2048#32
  let v1491 : BitVec 32 := Scalar.muli arg2 c2048_i32_1011
  let c1920_i32_1012 : BitVec 32 := 1920#32
  let v1492 : BitVec 32 := Scalar.addi v1491 c1920_i32_1012
  let v1493 : BitVec 32 := Scalar.subi c3968_i32_1013 v1492
  v1493
def k0_mult161 (i : grid0.Coords) : BitVec 32 :=
  let c3968_i32_1026 : BitVec 32 := 3968#32
  let arg2 : BitVec 32 := BitVec.ofNat 32 (i 2).val
  let c2048_i32_1024 : BitVec 32 := 2048#32
  let v1520 : BitVec 32 := Scalar.muli arg2 c2048_i32_1024
  let c0_i32_1025 : BitVec 32 := 0#32
  let v1521 : BitVec 32 := Scalar.addi v1520 c0_i32_1025
  let v1522 : BitVec 32 := Scalar.subi c3968_i32_1026 v1521
  v1522
def k0_mult162 (i : grid0.Coords) : BitVec 32 :=
  let c3968_i32_1031 : BitVec 32 := 3968#32
  let arg2 : BitVec 32 := BitVec.ofNat 32 (i 2).val
  let c2048_i32_1029 : BitVec 32 := 2048#32
  let v1528 : BitVec 32 := Scalar.muli arg2 c2048_i32_1029
  let c128_i32_1030 : BitVec 32 := 128#32
  let v1529 : BitVec 32 := Scalar.addi v1528 c128_i32_1030
  let v1530 : BitVec 32 := Scalar.subi c3968_i32_1031 v1529
  v1530
def k0_mult163 (i : grid0.Coords) : BitVec 32 :=
  let c3968_i32_1037 : BitVec 32 := 3968#32
  let arg2 : BitVec 32 := BitVec.ofNat 32 (i 2).val
  let c2048_i32_1035 : BitVec 32 := 2048#32
  let v1536 : BitVec 32 := Scalar.muli arg2 c2048_i32_1035
  let c256_i32_1036 : BitVec 32 := 256#32
  let v1537 : BitVec 32 := Scalar.addi v1536 c256_i32_1036
  let v1538 : BitVec 32 := Scalar.subi c3968_i32_1037 v1537
  v1538
def k0_mult164 (i : grid0.Coords) : BitVec 32 :=
  let c3968_i32_1043 : BitVec 32 := 3968#32
  let arg2 : BitVec 32 := BitVec.ofNat 32 (i 2).val
  let c2048_i32_1041 : BitVec 32 := 2048#32
  let v1544 : BitVec 32 := Scalar.muli arg2 c2048_i32_1041
  let c384_i32_1042 : BitVec 32 := 384#32
  let v1545 : BitVec 32 := Scalar.addi v1544 c384_i32_1042
  let v1546 : BitVec 32 := Scalar.subi c3968_i32_1043 v1545
  v1546
def k0_mult165 (i : grid0.Coords) : BitVec 32 :=
  let c3968_i32_1049 : BitVec 32 := 3968#32
  let arg2 : BitVec 32 := BitVec.ofNat 32 (i 2).val
  let c2048_i32_1047 : BitVec 32 := 2048#32
  let v1552 : BitVec 32 := Scalar.muli arg2 c2048_i32_1047
  let c512_i32_1048 : BitVec 32 := 512#32
  let v1553 : BitVec 32 := Scalar.addi v1552 c512_i32_1048
  let v1554 : BitVec 32 := Scalar.subi c3968_i32_1049 v1553
  v1554
def k0_mult166 (i : grid0.Coords) : BitVec 32 :=
  let c3968_i32_1055 : BitVec 32 := 3968#32
  let arg2 : BitVec 32 := BitVec.ofNat 32 (i 2).val
  let c2048_i32_1053 : BitVec 32 := 2048#32
  let v1560 : BitVec 32 := Scalar.muli arg2 c2048_i32_1053
  let c640_i32_1054 : BitVec 32 := 640#32
  let v1561 : BitVec 32 := Scalar.addi v1560 c640_i32_1054
  let v1562 : BitVec 32 := Scalar.subi c3968_i32_1055 v1561
  v1562
def k0_mult167 (i : grid0.Coords) : BitVec 32 :=
  let c3968_i32_1061 : BitVec 32 := 3968#32
  let arg2 : BitVec 32 := BitVec.ofNat 32 (i 2).val
  let c2048_i32_1059 : BitVec 32 := 2048#32
  let v1568 : BitVec 32 := Scalar.muli arg2 c2048_i32_1059
  let c768_i32_1060 : BitVec 32 := 768#32
  let v1569 : BitVec 32 := Scalar.addi v1568 c768_i32_1060
  let v1570 : BitVec 32 := Scalar.subi c3968_i32_1061 v1569
  v1570
def k0_mult168 (i : grid0.Coords) : BitVec 32 :=
  let c3968_i32_1067 : BitVec 32 := 3968#32
  let arg2 : BitVec 32 := BitVec.ofNat 32 (i 2).val
  let c2048_i32_1065 : BitVec 32 := 2048#32
  let v1576 : BitVec 32 := Scalar.muli arg2 c2048_i32_1065
  let c896_i32_1066 : BitVec 32 := 896#32
  let v1577 : BitVec 32 := Scalar.addi v1576 c896_i32_1066
  let v1578 : BitVec 32 := Scalar.subi c3968_i32_1067 v1577
  v1578
def k0_mult169 (i : grid0.Coords) : BitVec 32 :=
  let c3968_i32_1073 : BitVec 32 := 3968#32
  let arg2 : BitVec 32 := BitVec.ofNat 32 (i 2).val
  let c2048_i32_1071 : BitVec 32 := 2048#32
  let v1584 : BitVec 32 := Scalar.muli arg2 c2048_i32_1071
  let c1024_i32_1072 : BitVec 32 := 1024#32
  let v1585 : BitVec 32 := Scalar.addi v1584 c1024_i32_1072
  let v1586 : BitVec 32 := Scalar.subi c3968_i32_1073 v1585
  v1586
def k0_mult170 (i : grid0.Coords) : BitVec 32 :=
  let c3968_i32_1079 : BitVec 32 := 3968#32
  let arg2 : BitVec 32 := BitVec.ofNat 32 (i 2).val
  let c2048_i32_1077 : BitVec 32 := 2048#32
  let v1592 : BitVec 32 := Scalar.muli arg2 c2048_i32_1077
  let c1152_i32_1078 : BitVec 32 := 1152#32
  let v1593 : BitVec 32 := Scalar.addi v1592 c1152_i32_1078
  let v1594 : BitVec 32 := Scalar.subi c3968_i32_1079 v1593
  v1594
def k0_mult171 (i : grid0.Coords) : BitVec 32 :=
  let c3968_i32_1085 : BitVec 32 := 3968#32
  let arg2 : BitVec 32 := BitVec.ofNat 32 (i 2).val
  let c2048_i32_1083 : BitVec 32 := 2048#32
  let v1600 : BitVec 32 := Scalar.muli arg2 c2048_i32_1083
  let c1280_i32_1084 : BitVec 32 := 1280#32
  let v1601 : BitVec 32 := Scalar.addi v1600 c1280_i32_1084
  let v1602 : BitVec 32 := Scalar.subi c3968_i32_1085 v1601
  v1602
def k0_mult172 (i : grid0.Coords) : BitVec 32 :=
  let c3968_i32_1091 : BitVec 32 := 3968#32
  let arg2 : BitVec 32 := BitVec.ofNat 32 (i 2).val
  let c2048_i32_1089 : BitVec 32 := 2048#32
  let v1608 : BitVec 32 := Scalar.muli arg2 c2048_i32_1089
  let c1408_i32_1090 : BitVec 32 := 1408#32
  let v1609 : BitVec 32 := Scalar.addi v1608 c1408_i32_1090
  let v1610 : BitVec 32 := Scalar.subi c3968_i32_1091 v1609
  v1610
def k0_mult173 (i : grid0.Coords) : BitVec 32 :=
  let c3968_i32_1097 : BitVec 32 := 3968#32
  let arg2 : BitVec 32 := BitVec.ofNat 32 (i 2).val
  let c2048_i32_1095 : BitVec 32 := 2048#32
  let v1616 : BitVec 32 := Scalar.muli arg2 c2048_i32_1095
  let c1536_i32_1096 : BitVec 32 := 1536#32
  let v1617 : BitVec 32 := Scalar.addi v1616 c1536_i32_1096
  let v1618 : BitVec 32 := Scalar.subi c3968_i32_1097 v1617
  v1618
def k0_mult174 (i : grid0.Coords) : BitVec 32 :=
  let c3968_i32_1103 : BitVec 32 := 3968#32
  let arg2 : BitVec 32 := BitVec.ofNat 32 (i 2).val
  let c2048_i32_1101 : BitVec 32 := 2048#32
  let v1624 : BitVec 32 := Scalar.muli arg2 c2048_i32_1101
  let c1664_i32_1102 : BitVec 32 := 1664#32
  let v1625 : BitVec 32 := Scalar.addi v1624 c1664_i32_1102
  let v1626 : BitVec 32 := Scalar.subi c3968_i32_1103 v1625
  v1626
def k0_mult175 (i : grid0.Coords) : BitVec 32 :=
  let c3968_i32_1109 : BitVec 32 := 3968#32
  let arg2 : BitVec 32 := BitVec.ofNat 32 (i 2).val
  let c2048_i32_1107 : BitVec 32 := 2048#32
  let v1632 : BitVec 32 := Scalar.muli arg2 c2048_i32_1107
  let c1792_i32_1108 : BitVec 32 := 1792#32
  let v1633 : BitVec 32 := Scalar.addi v1632 c1792_i32_1108
  let v1634 : BitVec 32 := Scalar.subi c3968_i32_1109 v1633
  v1634
def k0_mult176 (i : grid0.Coords) : BitVec 32 :=
  let c3968_i32_1115 : BitVec 32 := 3968#32
  let arg2 : BitVec 32 := BitVec.ofNat 32 (i 2).val
  let c2048_i32_1113 : BitVec 32 := 2048#32
  let v1640 : BitVec 32 := Scalar.muli arg2 c2048_i32_1113
  let c1920_i32_1114 : BitVec 32 := 1920#32
  let v1641 : BitVec 32 := Scalar.addi v1640 c1920_i32_1114
  let v1642 : BitVec 32 := Scalar.subi c3968_i32_1115 v1641
  v1642
def k0_mult177 (i : grid0.Coords) : BitVec 32 :=
  let c3968_i32_1128 : BitVec 32 := 3968#32
  let arg2 : BitVec 32 := BitVec.ofNat 32 (i 2).val
  let c2048_i32_1126 : BitVec 32 := 2048#32
  let v1669 : BitVec 32 := Scalar.muli arg2 c2048_i32_1126
  let c0_i32_1127 : BitVec 32 := 0#32
  let v1670 : BitVec 32 := Scalar.addi v1669 c0_i32_1127
  let v1671 : BitVec 32 := Scalar.subi c3968_i32_1128 v1670
  v1671
def k0_mult178 (i : grid0.Coords) : BitVec 32 :=
  let c3968_i32_1133 : BitVec 32 := 3968#32
  let arg2 : BitVec 32 := BitVec.ofNat 32 (i 2).val
  let c2048_i32_1131 : BitVec 32 := 2048#32
  let v1677 : BitVec 32 := Scalar.muli arg2 c2048_i32_1131
  let c128_i32_1132 : BitVec 32 := 128#32
  let v1678 : BitVec 32 := Scalar.addi v1677 c128_i32_1132
  let v1679 : BitVec 32 := Scalar.subi c3968_i32_1133 v1678
  v1679
def k0_mult179 (i : grid0.Coords) : BitVec 32 :=
  let c3968_i32_1139 : BitVec 32 := 3968#32
  let arg2 : BitVec 32 := BitVec.ofNat 32 (i 2).val
  let c2048_i32_1137 : BitVec 32 := 2048#32
  let v1685 : BitVec 32 := Scalar.muli arg2 c2048_i32_1137
  let c256_i32_1138 : BitVec 32 := 256#32
  let v1686 : BitVec 32 := Scalar.addi v1685 c256_i32_1138
  let v1687 : BitVec 32 := Scalar.subi c3968_i32_1139 v1686
  v1687
def k0_mult180 (i : grid0.Coords) : BitVec 32 :=
  let c3968_i32_1145 : BitVec 32 := 3968#32
  let arg2 : BitVec 32 := BitVec.ofNat 32 (i 2).val
  let c2048_i32_1143 : BitVec 32 := 2048#32
  let v1693 : BitVec 32 := Scalar.muli arg2 c2048_i32_1143
  let c384_i32_1144 : BitVec 32 := 384#32
  let v1694 : BitVec 32 := Scalar.addi v1693 c384_i32_1144
  let v1695 : BitVec 32 := Scalar.subi c3968_i32_1145 v1694
  v1695
def k0_mult181 (i : grid0.Coords) : BitVec 32 :=
  let c3968_i32_1151 : BitVec 32 := 3968#32
  let arg2 : BitVec 32 := BitVec.ofNat 32 (i 2).val
  let c2048_i32_1149 : BitVec 32 := 2048#32
  let v1701 : BitVec 32 := Scalar.muli arg2 c2048_i32_1149
  let c512_i32_1150 : BitVec 32 := 512#32
  let v1702 : BitVec 32 := Scalar.addi v1701 c512_i32_1150
  let v1703 : BitVec 32 := Scalar.subi c3968_i32_1151 v1702
  v1703
def k0_mult182 (i : grid0.Coords) : BitVec 32 :=
  let c3968_i32_1157 : BitVec 32 := 3968#32
  let arg2 : BitVec 32 := BitVec.ofNat 32 (i 2).val
  let c2048_i32_1155 : BitVec 32 := 2048#32
  let v1709 : BitVec 32 := Scalar.muli arg2 c2048_i32_1155
  let c640_i32_1156 : BitVec 32 := 640#32
  let v1710 : BitVec 32 := Scalar.addi v1709 c640_i32_1156
  let v1711 : BitVec 32 := Scalar.subi c3968_i32_1157 v1710
  v1711
def k0_mult183 (i : grid0.Coords) : BitVec 32 :=
  let c3968_i32_1163 : BitVec 32 := 3968#32
  let arg2 : BitVec 32 := BitVec.ofNat 32 (i 2).val
  let c2048_i32_1161 : BitVec 32 := 2048#32
  let v1717 : BitVec 32 := Scalar.muli arg2 c2048_i32_1161
  let c768_i32_1162 : BitVec 32 := 768#32
  let v1718 : BitVec 32 := Scalar.addi v1717 c768_i32_1162
  let v1719 : BitVec 32 := Scalar.subi c3968_i32_1163 v1718
  v1719
def k0_mult184 (i : grid0.Coords) : BitVec 32 :=
  let c3968_i32_1169 : BitVec 32 := 3968#32
  let arg2 : BitVec 32 := BitVec.ofNat 32 (i 2).val
  let c2048_i32_1167 : BitVec 32 := 2048#32
  let v1725 : BitVec 32 := Scalar.muli arg2 c2048_i32_1167
  let c896_i32_1168 : BitVec 32 := 896#32
  let v1726 : BitVec 32 := Scalar.addi v1725 c896_i32_1168
  let v1727 : BitVec 32 := Scalar.subi c3968_i32_1169 v1726
  v1727
def k0_mult185 (i : grid0.Coords) : BitVec 32 :=
  let c3968_i32_1175 : BitVec 32 := 3968#32
  let arg2 : BitVec 32 := BitVec.ofNat 32 (i 2).val
  let c2048_i32_1173 : BitVec 32 := 2048#32
  let v1733 : BitVec 32 := Scalar.muli arg2 c2048_i32_1173
  let c1024_i32_1174 : BitVec 32 := 1024#32
  let v1734 : BitVec 32 := Scalar.addi v1733 c1024_i32_1174
  let v1735 : BitVec 32 := Scalar.subi c3968_i32_1175 v1734
  v1735
def k0_mult186 (i : grid0.Coords) : BitVec 32 :=
  let c3968_i32_1181 : BitVec 32 := 3968#32
  let arg2 : BitVec 32 := BitVec.ofNat 32 (i 2).val
  let c2048_i32_1179 : BitVec 32 := 2048#32
  let v1741 : BitVec 32 := Scalar.muli arg2 c2048_i32_1179
  let c1152_i32_1180 : BitVec 32 := 1152#32
  let v1742 : BitVec 32 := Scalar.addi v1741 c1152_i32_1180
  let v1743 : BitVec 32 := Scalar.subi c3968_i32_1181 v1742
  v1743
def k0_mult187 (i : grid0.Coords) : BitVec 32 :=
  let c3968_i32_1187 : BitVec 32 := 3968#32
  let arg2 : BitVec 32 := BitVec.ofNat 32 (i 2).val
  let c2048_i32_1185 : BitVec 32 := 2048#32
  let v1749 : BitVec 32 := Scalar.muli arg2 c2048_i32_1185
  let c1280_i32_1186 : BitVec 32 := 1280#32
  let v1750 : BitVec 32 := Scalar.addi v1749 c1280_i32_1186
  let v1751 : BitVec 32 := Scalar.subi c3968_i32_1187 v1750
  v1751
def k0_mult188 (i : grid0.Coords) : BitVec 32 :=
  let c3968_i32_1193 : BitVec 32 := 3968#32
  let arg2 : BitVec 32 := BitVec.ofNat 32 (i 2).val
  let c2048_i32_1191 : BitVec 32 := 2048#32
  let v1757 : BitVec 32 := Scalar.muli arg2 c2048_i32_1191
  let c1408_i32_1192 : BitVec 32 := 1408#32
  let v1758 : BitVec 32 := Scalar.addi v1757 c1408_i32_1192
  let v1759 : BitVec 32 := Scalar.subi c3968_i32_1193 v1758
  v1759
def k0_mult189 (i : grid0.Coords) : BitVec 32 :=
  let c3968_i32_1199 : BitVec 32 := 3968#32
  let arg2 : BitVec 32 := BitVec.ofNat 32 (i 2).val
  let c2048_i32_1197 : BitVec 32 := 2048#32
  let v1765 : BitVec 32 := Scalar.muli arg2 c2048_i32_1197
  let c1536_i32_1198 : BitVec 32 := 1536#32
  let v1766 : BitVec 32 := Scalar.addi v1765 c1536_i32_1198
  let v1767 : BitVec 32 := Scalar.subi c3968_i32_1199 v1766
  v1767
def k0_mult190 (i : grid0.Coords) : BitVec 32 :=
  let c3968_i32_1205 : BitVec 32 := 3968#32
  let arg2 : BitVec 32 := BitVec.ofNat 32 (i 2).val
  let c2048_i32_1203 : BitVec 32 := 2048#32
  let v1773 : BitVec 32 := Scalar.muli arg2 c2048_i32_1203
  let c1664_i32_1204 : BitVec 32 := 1664#32
  let v1774 : BitVec 32 := Scalar.addi v1773 c1664_i32_1204
  let v1775 : BitVec 32 := Scalar.subi c3968_i32_1205 v1774
  v1775
def k0_mult191 (i : grid0.Coords) : BitVec 32 :=
  let c3968_i32_1211 : BitVec 32 := 3968#32
  let arg2 : BitVec 32 := BitVec.ofNat 32 (i 2).val
  let c2048_i32_1209 : BitVec 32 := 2048#32
  let v1781 : BitVec 32 := Scalar.muli arg2 c2048_i32_1209
  let c1792_i32_1210 : BitVec 32 := 1792#32
  let v1782 : BitVec 32 := Scalar.addi v1781 c1792_i32_1210
  let v1783 : BitVec 32 := Scalar.subi c3968_i32_1211 v1782
  v1783
def k0_mult192 (i : grid0.Coords) : BitVec 32 :=
  let c3968_i32_1217 : BitVec 32 := 3968#32
  let arg2 : BitVec 32 := BitVec.ofNat 32 (i 2).val
  let c2048_i32_1215 : BitVec 32 := 2048#32
  let v1789 : BitVec 32 := Scalar.muli arg2 c2048_i32_1215
  let c1920_i32_1216 : BitVec 32 := 1920#32
  let v1790 : BitVec 32 := Scalar.addi v1789 c1920_i32_1216
  let v1791 : BitVec 32 := Scalar.subi c3968_i32_1217 v1790
  v1791
def k0_mult193 (i : grid0.Coords) : BitVec 32 :=
  let c3968_i32_1230 : BitVec 32 := 3968#32
  let arg2 : BitVec 32 := BitVec.ofNat 32 (i 2).val
  let c2048_i32_1228 : BitVec 32 := 2048#32
  let v1818 : BitVec 32 := Scalar.muli arg2 c2048_i32_1228
  let c0_i32_1229 : BitVec 32 := 0#32
  let v1819 : BitVec 32 := Scalar.addi v1818 c0_i32_1229
  let v1820 : BitVec 32 := Scalar.subi c3968_i32_1230 v1819
  v1820
def k0_mult194 (i : grid0.Coords) : BitVec 32 :=
  let c3968_i32_1235 : BitVec 32 := 3968#32
  let arg2 : BitVec 32 := BitVec.ofNat 32 (i 2).val
  let c2048_i32_1233 : BitVec 32 := 2048#32
  let v1826 : BitVec 32 := Scalar.muli arg2 c2048_i32_1233
  let c128_i32_1234 : BitVec 32 := 128#32
  let v1827 : BitVec 32 := Scalar.addi v1826 c128_i32_1234
  let v1828 : BitVec 32 := Scalar.subi c3968_i32_1235 v1827
  v1828
def k0_mult195 (i : grid0.Coords) : BitVec 32 :=
  let c3968_i32_1241 : BitVec 32 := 3968#32
  let arg2 : BitVec 32 := BitVec.ofNat 32 (i 2).val
  let c2048_i32_1239 : BitVec 32 := 2048#32
  let v1834 : BitVec 32 := Scalar.muli arg2 c2048_i32_1239
  let c256_i32_1240 : BitVec 32 := 256#32
  let v1835 : BitVec 32 := Scalar.addi v1834 c256_i32_1240
  let v1836 : BitVec 32 := Scalar.subi c3968_i32_1241 v1835
  v1836
def k0_mult196 (i : grid0.Coords) : BitVec 32 :=
  let c3968_i32_1247 : BitVec 32 := 3968#32
  let arg2 : BitVec 32 := BitVec.ofNat 32 (i 2).val
  let c2048_i32_1245 : BitVec 32 := 2048#32
  let v1842 : BitVec 32 := Scalar.muli arg2 c2048_i32_1245
  let c384_i32_1246 : BitVec 32 := 384#32
  let v1843 : BitVec 32 := Scalar.addi v1842 c384_i32_1246
  let v1844 : BitVec 32 := Scalar.subi c3968_i32_1247 v1843
  v1844
def k0_mult197 (i : grid0.Coords) : BitVec 32 :=
  let c3968_i32_1253 : BitVec 32 := 3968#32
  let arg2 : BitVec 32 := BitVec.ofNat 32 (i 2).val
  let c2048_i32_1251 : BitVec 32 := 2048#32
  let v1850 : BitVec 32 := Scalar.muli arg2 c2048_i32_1251
  let c512_i32_1252 : BitVec 32 := 512#32
  let v1851 : BitVec 32 := Scalar.addi v1850 c512_i32_1252
  let v1852 : BitVec 32 := Scalar.subi c3968_i32_1253 v1851
  v1852
def k0_mult198 (i : grid0.Coords) : BitVec 32 :=
  let c3968_i32_1259 : BitVec 32 := 3968#32
  let arg2 : BitVec 32 := BitVec.ofNat 32 (i 2).val
  let c2048_i32_1257 : BitVec 32 := 2048#32
  let v1858 : BitVec 32 := Scalar.muli arg2 c2048_i32_1257
  let c640_i32_1258 : BitVec 32 := 640#32
  let v1859 : BitVec 32 := Scalar.addi v1858 c640_i32_1258
  let v1860 : BitVec 32 := Scalar.subi c3968_i32_1259 v1859
  v1860
def k0_mult199 (i : grid0.Coords) : BitVec 32 :=
  let c3968_i32_1265 : BitVec 32 := 3968#32
  let arg2 : BitVec 32 := BitVec.ofNat 32 (i 2).val
  let c2048_i32_1263 : BitVec 32 := 2048#32
  let v1866 : BitVec 32 := Scalar.muli arg2 c2048_i32_1263
  let c768_i32_1264 : BitVec 32 := 768#32
  let v1867 : BitVec 32 := Scalar.addi v1866 c768_i32_1264
  let v1868 : BitVec 32 := Scalar.subi c3968_i32_1265 v1867
  v1868
def k0_mult200 (i : grid0.Coords) : BitVec 32 :=
  let c3968_i32_1271 : BitVec 32 := 3968#32
  let arg2 : BitVec 32 := BitVec.ofNat 32 (i 2).val
  let c2048_i32_1269 : BitVec 32 := 2048#32
  let v1874 : BitVec 32 := Scalar.muli arg2 c2048_i32_1269
  let c896_i32_1270 : BitVec 32 := 896#32
  let v1875 : BitVec 32 := Scalar.addi v1874 c896_i32_1270
  let v1876 : BitVec 32 := Scalar.subi c3968_i32_1271 v1875
  v1876
def k0_mult201 (i : grid0.Coords) : BitVec 32 :=
  let c3968_i32_1277 : BitVec 32 := 3968#32
  let arg2 : BitVec 32 := BitVec.ofNat 32 (i 2).val
  let c2048_i32_1275 : BitVec 32 := 2048#32
  let v1882 : BitVec 32 := Scalar.muli arg2 c2048_i32_1275
  let c1024_i32_1276 : BitVec 32 := 1024#32
  let v1883 : BitVec 32 := Scalar.addi v1882 c1024_i32_1276
  let v1884 : BitVec 32 := Scalar.subi c3968_i32_1277 v1883
  v1884
def k0_mult202 (i : grid0.Coords) : BitVec 32 :=
  let c3968_i32_1283 : BitVec 32 := 3968#32
  let arg2 : BitVec 32 := BitVec.ofNat 32 (i 2).val
  let c2048_i32_1281 : BitVec 32 := 2048#32
  let v1890 : BitVec 32 := Scalar.muli arg2 c2048_i32_1281
  let c1152_i32_1282 : BitVec 32 := 1152#32
  let v1891 : BitVec 32 := Scalar.addi v1890 c1152_i32_1282
  let v1892 : BitVec 32 := Scalar.subi c3968_i32_1283 v1891
  v1892
def k0_mult203 (i : grid0.Coords) : BitVec 32 :=
  let c3968_i32_1289 : BitVec 32 := 3968#32
  let arg2 : BitVec 32 := BitVec.ofNat 32 (i 2).val
  let c2048_i32_1287 : BitVec 32 := 2048#32
  let v1898 : BitVec 32 := Scalar.muli arg2 c2048_i32_1287
  let c1280_i32_1288 : BitVec 32 := 1280#32
  let v1899 : BitVec 32 := Scalar.addi v1898 c1280_i32_1288
  let v1900 : BitVec 32 := Scalar.subi c3968_i32_1289 v1899
  v1900
def k0_mult204 (i : grid0.Coords) : BitVec 32 :=
  let c3968_i32_1295 : BitVec 32 := 3968#32
  let arg2 : BitVec 32 := BitVec.ofNat 32 (i 2).val
  let c2048_i32_1293 : BitVec 32 := 2048#32
  let v1906 : BitVec 32 := Scalar.muli arg2 c2048_i32_1293
  let c1408_i32_1294 : BitVec 32 := 1408#32
  let v1907 : BitVec 32 := Scalar.addi v1906 c1408_i32_1294
  let v1908 : BitVec 32 := Scalar.subi c3968_i32_1295 v1907
  v1908
def k0_mult205 (i : grid0.Coords) : BitVec 32 :=
  let c3968_i32_1301 : BitVec 32 := 3968#32
  let arg2 : BitVec 32 := BitVec.ofNat 32 (i 2).val
  let c2048_i32_1299 : BitVec 32 := 2048#32
  let v1914 : BitVec 32 := Scalar.muli arg2 c2048_i32_1299
  let c1536_i32_1300 : BitVec 32 := 1536#32
  let v1915 : BitVec 32 := Scalar.addi v1914 c1536_i32_1300
  let v1916 : BitVec 32 := Scalar.subi c3968_i32_1301 v1915
  v1916
def k0_mult206 (i : grid0.Coords) : BitVec 32 :=
  let c3968_i32_1307 : BitVec 32 := 3968#32
  let arg2 : BitVec 32 := BitVec.ofNat 32 (i 2).val
  let c2048_i32_1305 : BitVec 32 := 2048#32
  let v1922 : BitVec 32 := Scalar.muli arg2 c2048_i32_1305
  let c1664_i32_1306 : BitVec 32 := 1664#32
  let v1923 : BitVec 32 := Scalar.addi v1922 c1664_i32_1306
  let v1924 : BitVec 32 := Scalar.subi c3968_i32_1307 v1923
  v1924
def k0_mult207 (i : grid0.Coords) : BitVec 32 :=
  let c3968_i32_1313 : BitVec 32 := 3968#32
  let arg2 : BitVec 32 := BitVec.ofNat 32 (i 2).val
  let c2048_i32_1311 : BitVec 32 := 2048#32
  let v1930 : BitVec 32 := Scalar.muli arg2 c2048_i32_1311
  let c1792_i32_1312 : BitVec 32 := 1792#32
  let v1931 : BitVec 32 := Scalar.addi v1930 c1792_i32_1312
  let v1932 : BitVec 32 := Scalar.subi c3968_i32_1313 v1931
  v1932
def k0_mult208 (i : grid0.Coords) : BitVec 32 :=
  let c3968_i32_1319 : BitVec 32 := 3968#32
  let arg2 : BitVec 32 := BitVec.ofNat 32 (i 2).val
  let c2048_i32_1317 : BitVec 32 := 2048#32
  let v1938 : BitVec 32 := Scalar.muli arg2 c2048_i32_1317
  let c1920_i32_1318 : BitVec 32 := 1920#32
  let v1939 : BitVec 32 := Scalar.addi v1938 c1920_i32_1318
  let v1940 : BitVec 32 := Scalar.subi c3968_i32_1319 v1939
  v1940
def k0_mult209 (i : grid0.Coords) : BitVec 32 :=
  let c3968_i32_1332 : BitVec 32 := 3968#32
  let arg2 : BitVec 32 := BitVec.ofNat 32 (i 2).val
  let c2048_i32_1330 : BitVec 32 := 2048#32
  let v1967 : BitVec 32 := Scalar.muli arg2 c2048_i32_1330
  let c0_i32_1331 : BitVec 32 := 0#32
  let v1968 : BitVec 32 := Scalar.addi v1967 c0_i32_1331
  let v1969 : BitVec 32 := Scalar.subi c3968_i32_1332 v1968
  v1969
def k0_mult210 (i : grid0.Coords) : BitVec 32 :=
  let c3968_i32_1337 : BitVec 32 := 3968#32
  let arg2 : BitVec 32 := BitVec.ofNat 32 (i 2).val
  let c2048_i32_1335 : BitVec 32 := 2048#32
  let v1975 : BitVec 32 := Scalar.muli arg2 c2048_i32_1335
  let c128_i32_1336 : BitVec 32 := 128#32
  let v1976 : BitVec 32 := Scalar.addi v1975 c128_i32_1336
  let v1977 : BitVec 32 := Scalar.subi c3968_i32_1337 v1976
  v1977
def k0_mult211 (i : grid0.Coords) : BitVec 32 :=
  let c3968_i32_1343 : BitVec 32 := 3968#32
  let arg2 : BitVec 32 := BitVec.ofNat 32 (i 2).val
  let c2048_i32_1341 : BitVec 32 := 2048#32
  let v1983 : BitVec 32 := Scalar.muli arg2 c2048_i32_1341
  let c256_i32_1342 : BitVec 32 := 256#32
  let v1984 : BitVec 32 := Scalar.addi v1983 c256_i32_1342
  let v1985 : BitVec 32 := Scalar.subi c3968_i32_1343 v1984
  v1985
def k0_mult212 (i : grid0.Coords) : BitVec 32 :=
  let c3968_i32_1349 : BitVec 32 := 3968#32
  let arg2 : BitVec 32 := BitVec.ofNat 32 (i 2).val
  let c2048_i32_1347 : BitVec 32 := 2048#32
  let v1991 : BitVec 32 := Scalar.muli arg2 c2048_i32_1347
  let c384_i32_1348 : BitVec 32 := 384#32
  let v1992 : BitVec 32 := Scalar.addi v1991 c384_i32_1348
  let v1993 : BitVec 32 := Scalar.subi c3968_i32_1349 v1992
  v1993
def k0_mult213 (i : grid0.Coords) : BitVec 32 :=
  let c3968_i32_1355 : BitVec 32 := 3968#32
  let arg2 : BitVec 32 := BitVec.ofNat 32 (i 2).val
  let c2048_i32_1353 : BitVec 32 := 2048#32
  let v1999 : BitVec 32 := Scalar.muli arg2 c2048_i32_1353
  let c512_i32_1354 : BitVec 32 := 512#32
  let v2000 : BitVec 32 := Scalar.addi v1999 c512_i32_1354
  let v2001 : BitVec 32 := Scalar.subi c3968_i32_1355 v2000
  v2001
def k0_mult214 (i : grid0.Coords) : BitVec 32 :=
  let c3968_i32_1361 : BitVec 32 := 3968#32
  let arg2 : BitVec 32 := BitVec.ofNat 32 (i 2).val
  let c2048_i32_1359 : BitVec 32 := 2048#32
  let v2007 : BitVec 32 := Scalar.muli arg2 c2048_i32_1359
  let c640_i32_1360 : BitVec 32 := 640#32
  let v2008 : BitVec 32 := Scalar.addi v2007 c640_i32_1360
  let v2009 : BitVec 32 := Scalar.subi c3968_i32_1361 v2008
  v2009
def k0_mult215 (i : grid0.Coords) : BitVec 32 :=
  let c3968_i32_1367 : BitVec 32 := 3968#32
  let arg2 : BitVec 32 := BitVec.ofNat 32 (i 2).val
  let c2048_i32_1365 : BitVec 32 := 2048#32
  let v2015 : BitVec 32 := Scalar.muli arg2 c2048_i32_1365
  let c768_i32_1366 : BitVec 32 := 768#32
  let v2016 : BitVec 32 := Scalar.addi v2015 c768_i32_1366
  let v2017 : BitVec 32 := Scalar.subi c3968_i32_1367 v2016
  v2017
def k0_mult216 (i : grid0.Coords) : BitVec 32 :=
  let c3968_i32_1373 : BitVec 32 := 3968#32
  let arg2 : BitVec 32 := BitVec.ofNat 32 (i 2).val
  let c2048_i32_1371 : BitVec 32 := 2048#32
  let v2023 : BitVec 32 := Scalar.muli arg2 c2048_i32_1371
  let c896_i32_1372 : BitVec 32 := 896#32
  let v2024 : BitVec 32 := Scalar.addi v2023 c896_i32_1372
  let v2025 : BitVec 32 := Scalar.subi c3968_i32_1373 v2024
  v2025
def k0_mult217 (i : grid0.Coords) : BitVec 32 :=
  let c3968_i32_1379 : BitVec 32 := 3968#32
  let arg2 : BitVec 32 := BitVec.ofNat 32 (i 2).val
  let c2048_i32_1377 : BitVec 32 := 2048#32
  let v2031 : BitVec 32 := Scalar.muli arg2 c2048_i32_1377
  let c1024_i32_1378 : BitVec 32 := 1024#32
  let v2032 : BitVec 32 := Scalar.addi v2031 c1024_i32_1378
  let v2033 : BitVec 32 := Scalar.subi c3968_i32_1379 v2032
  v2033
def k0_mult218 (i : grid0.Coords) : BitVec 32 :=
  let c3968_i32_1385 : BitVec 32 := 3968#32
  let arg2 : BitVec 32 := BitVec.ofNat 32 (i 2).val
  let c2048_i32_1383 : BitVec 32 := 2048#32
  let v2039 : BitVec 32 := Scalar.muli arg2 c2048_i32_1383
  let c1152_i32_1384 : BitVec 32 := 1152#32
  let v2040 : BitVec 32 := Scalar.addi v2039 c1152_i32_1384
  let v2041 : BitVec 32 := Scalar.subi c3968_i32_1385 v2040
  v2041
def k0_mult219 (i : grid0.Coords) : BitVec 32 :=
  let c3968_i32_1391 : BitVec 32 := 3968#32
  let arg2 : BitVec 32 := BitVec.ofNat 32 (i 2).val
  let c2048_i32_1389 : BitVec 32 := 2048#32
  let v2047 : BitVec 32 := Scalar.muli arg2 c2048_i32_1389
  let c1280_i32_1390 : BitVec 32 := 1280#32
  let v2048 : BitVec 32 := Scalar.addi v2047 c1280_i32_1390
  let v2049 : BitVec 32 := Scalar.subi c3968_i32_1391 v2048
  v2049
def k0_mult220 (i : grid0.Coords) : BitVec 32 :=
  let c3968_i32_1397 : BitVec 32 := 3968#32
  let arg2 : BitVec 32 := BitVec.ofNat 32 (i 2).val
  let c2048_i32_1395 : BitVec 32 := 2048#32
  let v2055 : BitVec 32 := Scalar.muli arg2 c2048_i32_1395
  let c1408_i32_1396 : BitVec 32 := 1408#32
  let v2056 : BitVec 32 := Scalar.addi v2055 c1408_i32_1396
  let v2057 : BitVec 32 := Scalar.subi c3968_i32_1397 v2056
  v2057
def k0_mult221 (i : grid0.Coords) : BitVec 32 :=
  let c3968_i32_1403 : BitVec 32 := 3968#32
  let arg2 : BitVec 32 := BitVec.ofNat 32 (i 2).val
  let c2048_i32_1401 : BitVec 32 := 2048#32
  let v2063 : BitVec 32 := Scalar.muli arg2 c2048_i32_1401
  let c1536_i32_1402 : BitVec 32 := 1536#32
  let v2064 : BitVec 32 := Scalar.addi v2063 c1536_i32_1402
  let v2065 : BitVec 32 := Scalar.subi c3968_i32_1403 v2064
  v2065
def k0_mult222 (i : grid0.Coords) : BitVec 32 :=
  let c3968_i32_1409 : BitVec 32 := 3968#32
  let arg2 : BitVec 32 := BitVec.ofNat 32 (i 2).val
  let c2048_i32_1407 : BitVec 32 := 2048#32
  let v2071 : BitVec 32 := Scalar.muli arg2 c2048_i32_1407
  let c1664_i32_1408 : BitVec 32 := 1664#32
  let v2072 : BitVec 32 := Scalar.addi v2071 c1664_i32_1408
  let v2073 : BitVec 32 := Scalar.subi c3968_i32_1409 v2072
  v2073
def k0_mult223 (i : grid0.Coords) : BitVec 32 :=
  let c3968_i32_1415 : BitVec 32 := 3968#32
  let arg2 : BitVec 32 := BitVec.ofNat 32 (i 2).val
  let c2048_i32_1413 : BitVec 32 := 2048#32
  let v2079 : BitVec 32 := Scalar.muli arg2 c2048_i32_1413
  let c1792_i32_1414 : BitVec 32 := 1792#32
  let v2080 : BitVec 32 := Scalar.addi v2079 c1792_i32_1414
  let v2081 : BitVec 32 := Scalar.subi c3968_i32_1415 v2080
  v2081
def k0_mult224 (i : grid0.Coords) : BitVec 32 :=
  let c3968_i32_1421 : BitVec 32 := 3968#32
  let arg2 : BitVec 32 := BitVec.ofNat 32 (i 2).val
  let c2048_i32_1419 : BitVec 32 := 2048#32
  let v2087 : BitVec 32 := Scalar.muli arg2 c2048_i32_1419
  let c1920_i32_1420 : BitVec 32 := 1920#32
  let v2088 : BitVec 32 := Scalar.addi v2087 c1920_i32_1420
  let v2089 : BitVec 32 := Scalar.subi c3968_i32_1421 v2088
  v2089
def k0_mult225 (i : grid0.Coords) : BitVec 32 :=
  let c3968_i32_1434 : BitVec 32 := 3968#32
  let arg2 : BitVec 32 := BitVec.ofNat 32 (i 2).val
  let c2048_i32_1432 : BitVec 32 := 2048#32
  let v2116 : BitVec 32 := Scalar.muli arg2 c2048_i32_1432
  let c0_i32_1433 : BitVec 32 := 0#32
  let v2117 : BitVec 32 := Scalar.addi v2116 c0_i32_1433
  let v2118 : BitVec 32 := Scalar.subi c3968_i32_1434 v2117
  v2118
def k0_mult226 (i : grid0.Coords) : BitVec 32 :=
  let c3968_i32_1439 : BitVec 32 := 3968#32
  let arg2 : BitVec 32 := BitVec.ofNat 32 (i 2).val
  let c2048_i32_1437 : BitVec 32 := 2048#32
  let v2124 : BitVec 32 := Scalar.muli arg2 c2048_i32_1437
  let c128_i32_1438 : BitVec 32 := 128#32
  let v2125 : BitVec 32 := Scalar.addi v2124 c128_i32_1438
  let v2126 : BitVec 32 := Scalar.subi c3968_i32_1439 v2125
  v2126
def k0_mult227 (i : grid0.Coords) : BitVec 32 :=
  let c3968_i32_1445 : BitVec 32 := 3968#32
  let arg2 : BitVec 32 := BitVec.ofNat 32 (i 2).val
  let c2048_i32_1443 : BitVec 32 := 2048#32
  let v2132 : BitVec 32 := Scalar.muli arg2 c2048_i32_1443
  let c256_i32_1444 : BitVec 32 := 256#32
  let v2133 : BitVec 32 := Scalar.addi v2132 c256_i32_1444
  let v2134 : BitVec 32 := Scalar.subi c3968_i32_1445 v2133
  v2134
def k0_mult228 (i : grid0.Coords) : BitVec 32 :=
  let c3968_i32_1451 : BitVec 32 := 3968#32
  let arg2 : BitVec 32 := BitVec.ofNat 32 (i 2).val
  let c2048_i32_1449 : BitVec 32 := 2048#32
  let v2140 : BitVec 32 := Scalar.muli arg2 c2048_i32_1449
  let c384_i32_1450 : BitVec 32 := 384#32
  let v2141 : BitVec 32 := Scalar.addi v2140 c384_i32_1450
  let v2142 : BitVec 32 := Scalar.subi c3968_i32_1451 v2141
  v2142
def k0_mult229 (i : grid0.Coords) : BitVec 32 :=
  let c3968_i32_1457 : BitVec 32 := 3968#32
  let arg2 : BitVec 32 := BitVec.ofNat 32 (i 2).val
  let c2048_i32_1455 : BitVec 32 := 2048#32
  let v2148 : BitVec 32 := Scalar.muli arg2 c2048_i32_1455
  let c512_i32_1456 : BitVec 32 := 512#32
  let v2149 : BitVec 32 := Scalar.addi v2148 c512_i32_1456
  let v2150 : BitVec 32 := Scalar.subi c3968_i32_1457 v2149
  v2150
def k0_mult230 (i : grid0.Coords) : BitVec 32 :=
  let c3968_i32_1463 : BitVec 32 := 3968#32
  let arg2 : BitVec 32 := BitVec.ofNat 32 (i 2).val
  let c2048_i32_1461 : BitVec 32 := 2048#32
  let v2156 : BitVec 32 := Scalar.muli arg2 c2048_i32_1461
  let c640_i32_1462 : BitVec 32 := 640#32
  let v2157 : BitVec 32 := Scalar.addi v2156 c640_i32_1462
  let v2158 : BitVec 32 := Scalar.subi c3968_i32_1463 v2157
  v2158
def k0_mult231 (i : grid0.Coords) : BitVec 32 :=
  let c3968_i32_1469 : BitVec 32 := 3968#32
  let arg2 : BitVec 32 := BitVec.ofNat 32 (i 2).val
  let c2048_i32_1467 : BitVec 32 := 2048#32
  let v2164 : BitVec 32 := Scalar.muli arg2 c2048_i32_1467
  let c768_i32_1468 : BitVec 32 := 768#32
  let v2165 : BitVec 32 := Scalar.addi v2164 c768_i32_1468
  let v2166 : BitVec 32 := Scalar.subi c3968_i32_1469 v2165
  v2166
def k0_mult232 (i : grid0.Coords) : BitVec 32 :=
  let c3968_i32_1475 : BitVec 32 := 3968#32
  let arg2 : BitVec 32 := BitVec.ofNat 32 (i 2).val
  let c2048_i32_1473 : BitVec 32 := 2048#32
  let v2172 : BitVec 32 := Scalar.muli arg2 c2048_i32_1473
  let c896_i32_1474 : BitVec 32 := 896#32
  let v2173 : BitVec 32 := Scalar.addi v2172 c896_i32_1474
  let v2174 : BitVec 32 := Scalar.subi c3968_i32_1475 v2173
  v2174
def k0_mult233 (i : grid0.Coords) : BitVec 32 :=
  let c3968_i32_1481 : BitVec 32 := 3968#32
  let arg2 : BitVec 32 := BitVec.ofNat 32 (i 2).val
  let c2048_i32_1479 : BitVec 32 := 2048#32
  let v2180 : BitVec 32 := Scalar.muli arg2 c2048_i32_1479
  let c1024_i32_1480 : BitVec 32 := 1024#32
  let v2181 : BitVec 32 := Scalar.addi v2180 c1024_i32_1480
  let v2182 : BitVec 32 := Scalar.subi c3968_i32_1481 v2181
  v2182
def k0_mult234 (i : grid0.Coords) : BitVec 32 :=
  let c3968_i32_1487 : BitVec 32 := 3968#32
  let arg2 : BitVec 32 := BitVec.ofNat 32 (i 2).val
  let c2048_i32_1485 : BitVec 32 := 2048#32
  let v2188 : BitVec 32 := Scalar.muli arg2 c2048_i32_1485
  let c1152_i32_1486 : BitVec 32 := 1152#32
  let v2189 : BitVec 32 := Scalar.addi v2188 c1152_i32_1486
  let v2190 : BitVec 32 := Scalar.subi c3968_i32_1487 v2189
  v2190
def k0_mult235 (i : grid0.Coords) : BitVec 32 :=
  let c3968_i32_1493 : BitVec 32 := 3968#32
  let arg2 : BitVec 32 := BitVec.ofNat 32 (i 2).val
  let c2048_i32_1491 : BitVec 32 := 2048#32
  let v2196 : BitVec 32 := Scalar.muli arg2 c2048_i32_1491
  let c1280_i32_1492 : BitVec 32 := 1280#32
  let v2197 : BitVec 32 := Scalar.addi v2196 c1280_i32_1492
  let v2198 : BitVec 32 := Scalar.subi c3968_i32_1493 v2197
  v2198
def k0_mult236 (i : grid0.Coords) : BitVec 32 :=
  let c3968_i32_1499 : BitVec 32 := 3968#32
  let arg2 : BitVec 32 := BitVec.ofNat 32 (i 2).val
  let c2048_i32_1497 : BitVec 32 := 2048#32
  let v2204 : BitVec 32 := Scalar.muli arg2 c2048_i32_1497
  let c1408_i32_1498 : BitVec 32 := 1408#32
  let v2205 : BitVec 32 := Scalar.addi v2204 c1408_i32_1498
  let v2206 : BitVec 32 := Scalar.subi c3968_i32_1499 v2205
  v2206
def k0_mult237 (i : grid0.Coords) : BitVec 32 :=
  let c3968_i32_1505 : BitVec 32 := 3968#32
  let arg2 : BitVec 32 := BitVec.ofNat 32 (i 2).val
  let c2048_i32_1503 : BitVec 32 := 2048#32
  let v2212 : BitVec 32 := Scalar.muli arg2 c2048_i32_1503
  let c1536_i32_1504 : BitVec 32 := 1536#32
  let v2213 : BitVec 32 := Scalar.addi v2212 c1536_i32_1504
  let v2214 : BitVec 32 := Scalar.subi c3968_i32_1505 v2213
  v2214
def k0_mult238 (i : grid0.Coords) : BitVec 32 :=
  let c3968_i32_1511 : BitVec 32 := 3968#32
  let arg2 : BitVec 32 := BitVec.ofNat 32 (i 2).val
  let c2048_i32_1509 : BitVec 32 := 2048#32
  let v2220 : BitVec 32 := Scalar.muli arg2 c2048_i32_1509
  let c1664_i32_1510 : BitVec 32 := 1664#32
  let v2221 : BitVec 32 := Scalar.addi v2220 c1664_i32_1510
  let v2222 : BitVec 32 := Scalar.subi c3968_i32_1511 v2221
  v2222
def k0_mult239 (i : grid0.Coords) : BitVec 32 :=
  let c3968_i32_1517 : BitVec 32 := 3968#32
  let arg2 : BitVec 32 := BitVec.ofNat 32 (i 2).val
  let c2048_i32_1515 : BitVec 32 := 2048#32
  let v2228 : BitVec 32 := Scalar.muli arg2 c2048_i32_1515
  let c1792_i32_1516 : BitVec 32 := 1792#32
  let v2229 : BitVec 32 := Scalar.addi v2228 c1792_i32_1516
  let v2230 : BitVec 32 := Scalar.subi c3968_i32_1517 v2229
  v2230
def k0_mult240 (i : grid0.Coords) : BitVec 32 :=
  let c3968_i32_1523 : BitVec 32 := 3968#32
  let arg2 : BitVec 32 := BitVec.ofNat 32 (i 2).val
  let c2048_i32_1521 : BitVec 32 := 2048#32
  let v2236 : BitVec 32 := Scalar.muli arg2 c2048_i32_1521
  let c1920_i32_1522 : BitVec 32 := 1920#32
  let v2237 : BitVec 32 := Scalar.addi v2236 c1920_i32_1522
  let v2238 : BitVec 32 := Scalar.subi c3968_i32_1523 v2237
  v2238
def k0_mult241 (i : grid0.Coords) : BitVec 32 :=
  let c3968_i32_1536 : BitVec 32 := 3968#32
  let arg2 : BitVec 32 := BitVec.ofNat 32 (i 2).val
  let c2048_i32_1534 : BitVec 32 := 2048#32
  let v2265 : BitVec 32 := Scalar.muli arg2 c2048_i32_1534
  let c0_i32_1535 : BitVec 32 := 0#32
  let v2266 : BitVec 32 := Scalar.addi v2265 c0_i32_1535
  let v2267 : BitVec 32 := Scalar.subi c3968_i32_1536 v2266
  v2267
def k0_mult242 (i : grid0.Coords) : BitVec 32 :=
  let c3968_i32_1541 : BitVec 32 := 3968#32
  let arg2 : BitVec 32 := BitVec.ofNat 32 (i 2).val
  let c2048_i32_1539 : BitVec 32 := 2048#32
  let v2273 : BitVec 32 := Scalar.muli arg2 c2048_i32_1539
  let c128_i32_1540 : BitVec 32 := 128#32
  let v2274 : BitVec 32 := Scalar.addi v2273 c128_i32_1540
  let v2275 : BitVec 32 := Scalar.subi c3968_i32_1541 v2274
  v2275
def k0_mult243 (i : grid0.Coords) : BitVec 32 :=
  let c3968_i32_1547 : BitVec 32 := 3968#32
  let arg2 : BitVec 32 := BitVec.ofNat 32 (i 2).val
  let c2048_i32_1545 : BitVec 32 := 2048#32
  let v2281 : BitVec 32 := Scalar.muli arg2 c2048_i32_1545
  let c256_i32_1546 : BitVec 32 := 256#32
  let v2282 : BitVec 32 := Scalar.addi v2281 c256_i32_1546
  let v2283 : BitVec 32 := Scalar.subi c3968_i32_1547 v2282
  v2283
def k0_mult244 (i : grid0.Coords) : BitVec 32 :=
  let c3968_i32_1553 : BitVec 32 := 3968#32
  let arg2 : BitVec 32 := BitVec.ofNat 32 (i 2).val
  let c2048_i32_1551 : BitVec 32 := 2048#32
  let v2289 : BitVec 32 := Scalar.muli arg2 c2048_i32_1551
  let c384_i32_1552 : BitVec 32 := 384#32
  let v2290 : BitVec 32 := Scalar.addi v2289 c384_i32_1552
  let v2291 : BitVec 32 := Scalar.subi c3968_i32_1553 v2290
  v2291
def k0_mult245 (i : grid0.Coords) : BitVec 32 :=
  let c3968_i32_1559 : BitVec 32 := 3968#32
  let arg2 : BitVec 32 := BitVec.ofNat 32 (i 2).val
  let c2048_i32_1557 : BitVec 32 := 2048#32
  let v2297 : BitVec 32 := Scalar.muli arg2 c2048_i32_1557
  let c512_i32_1558 : BitVec 32 := 512#32
  let v2298 : BitVec 32 := Scalar.addi v2297 c512_i32_1558
  let v2299 : BitVec 32 := Scalar.subi c3968_i32_1559 v2298
  v2299
def k0_mult246 (i : grid0.Coords) : BitVec 32 :=
  let c3968_i32_1565 : BitVec 32 := 3968#32
  let arg2 : BitVec 32 := BitVec.ofNat 32 (i 2).val
  let c2048_i32_1563 : BitVec 32 := 2048#32
  let v2305 : BitVec 32 := Scalar.muli arg2 c2048_i32_1563
  let c640_i32_1564 : BitVec 32 := 640#32
  let v2306 : BitVec 32 := Scalar.addi v2305 c640_i32_1564
  let v2307 : BitVec 32 := Scalar.subi c3968_i32_1565 v2306
  v2307
def k0_mult247 (i : grid0.Coords) : BitVec 32 :=
  let c3968_i32_1571 : BitVec 32 := 3968#32
  let arg2 : BitVec 32 := BitVec.ofNat 32 (i 2).val
  let c2048_i32_1569 : BitVec 32 := 2048#32
  let v2313 : BitVec 32 := Scalar.muli arg2 c2048_i32_1569
  let c768_i32_1570 : BitVec 32 := 768#32
  let v2314 : BitVec 32 := Scalar.addi v2313 c768_i32_1570
  let v2315 : BitVec 32 := Scalar.subi c3968_i32_1571 v2314
  v2315
def k0_mult248 (i : grid0.Coords) : BitVec 32 :=
  let c3968_i32_1577 : BitVec 32 := 3968#32
  let arg2 : BitVec 32 := BitVec.ofNat 32 (i 2).val
  let c2048_i32_1575 : BitVec 32 := 2048#32
  let v2321 : BitVec 32 := Scalar.muli arg2 c2048_i32_1575
  let c896_i32_1576 : BitVec 32 := 896#32
  let v2322 : BitVec 32 := Scalar.addi v2321 c896_i32_1576
  let v2323 : BitVec 32 := Scalar.subi c3968_i32_1577 v2322
  v2323
def k0_mult249 (i : grid0.Coords) : BitVec 32 :=
  let c3968_i32_1583 : BitVec 32 := 3968#32
  let arg2 : BitVec 32 := BitVec.ofNat 32 (i 2).val
  let c2048_i32_1581 : BitVec 32 := 2048#32
  let v2329 : BitVec 32 := Scalar.muli arg2 c2048_i32_1581
  let c1024_i32_1582 : BitVec 32 := 1024#32
  let v2330 : BitVec 32 := Scalar.addi v2329 c1024_i32_1582
  let v2331 : BitVec 32 := Scalar.subi c3968_i32_1583 v2330
  v2331
def k0_mult250 (i : grid0.Coords) : BitVec 32 :=
  let c3968_i32_1589 : BitVec 32 := 3968#32
  let arg2 : BitVec 32 := BitVec.ofNat 32 (i 2).val
  let c2048_i32_1587 : BitVec 32 := 2048#32
  let v2337 : BitVec 32 := Scalar.muli arg2 c2048_i32_1587
  let c1152_i32_1588 : BitVec 32 := 1152#32
  let v2338 : BitVec 32 := Scalar.addi v2337 c1152_i32_1588
  let v2339 : BitVec 32 := Scalar.subi c3968_i32_1589 v2338
  v2339
def k0_mult251 (i : grid0.Coords) : BitVec 32 :=
  let c3968_i32_1595 : BitVec 32 := 3968#32
  let arg2 : BitVec 32 := BitVec.ofNat 32 (i 2).val
  let c2048_i32_1593 : BitVec 32 := 2048#32
  let v2345 : BitVec 32 := Scalar.muli arg2 c2048_i32_1593
  let c1280_i32_1594 : BitVec 32 := 1280#32
  let v2346 : BitVec 32 := Scalar.addi v2345 c1280_i32_1594
  let v2347 : BitVec 32 := Scalar.subi c3968_i32_1595 v2346
  v2347
def k0_mult252 (i : grid0.Coords) : BitVec 32 :=
  let c3968_i32_1601 : BitVec 32 := 3968#32
  let arg2 : BitVec 32 := BitVec.ofNat 32 (i 2).val
  let c2048_i32_1599 : BitVec 32 := 2048#32
  let v2353 : BitVec 32 := Scalar.muli arg2 c2048_i32_1599
  let c1408_i32_1600 : BitVec 32 := 1408#32
  let v2354 : BitVec 32 := Scalar.addi v2353 c1408_i32_1600
  let v2355 : BitVec 32 := Scalar.subi c3968_i32_1601 v2354
  v2355
def k0_mult253 (i : grid0.Coords) : BitVec 32 :=
  let c3968_i32_1607 : BitVec 32 := 3968#32
  let arg2 : BitVec 32 := BitVec.ofNat 32 (i 2).val
  let c2048_i32_1605 : BitVec 32 := 2048#32
  let v2361 : BitVec 32 := Scalar.muli arg2 c2048_i32_1605
  let c1536_i32_1606 : BitVec 32 := 1536#32
  let v2362 : BitVec 32 := Scalar.addi v2361 c1536_i32_1606
  let v2363 : BitVec 32 := Scalar.subi c3968_i32_1607 v2362
  v2363
def k0_mult254 (i : grid0.Coords) : BitVec 32 :=
  let c3968_i32_1613 : BitVec 32 := 3968#32
  let arg2 : BitVec 32 := BitVec.ofNat 32 (i 2).val
  let c2048_i32_1611 : BitVec 32 := 2048#32
  let v2369 : BitVec 32 := Scalar.muli arg2 c2048_i32_1611
  let c1664_i32_1612 : BitVec 32 := 1664#32
  let v2370 : BitVec 32 := Scalar.addi v2369 c1664_i32_1612
  let v2371 : BitVec 32 := Scalar.subi c3968_i32_1613 v2370
  v2371
def k0_mult255 (i : grid0.Coords) : BitVec 32 :=
  let c3968_i32_1619 : BitVec 32 := 3968#32
  let arg2 : BitVec 32 := BitVec.ofNat 32 (i 2).val
  let c2048_i32_1617 : BitVec 32 := 2048#32
  let v2377 : BitVec 32 := Scalar.muli arg2 c2048_i32_1617
  let c1792_i32_1618 : BitVec 32 := 1792#32
  let v2378 : BitVec 32 := Scalar.addi v2377 c1792_i32_1618
  let v2379 : BitVec 32 := Scalar.subi c3968_i32_1619 v2378
  v2379
def k0_mult256 (i : grid0.Coords) : BitVec 32 :=
  let c3968_i32_1625 : BitVec 32 := 3968#32
  let arg2 : BitVec 32 := BitVec.ofNat 32 (i 2).val
  let c2048_i32_1623 : BitVec 32 := 2048#32
  let v2385 : BitVec 32 := Scalar.muli arg2 c2048_i32_1623
  let c1920_i32_1624 : BitVec 32 := 1920#32
  let v2386 : BitVec 32 := Scalar.addi v2385 c1920_i32_1624
  let v2387 : BitVec 32 := Scalar.subi c3968_i32_1625 v2386
  v2387
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x8064 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffIdeal.lean ====
variable {F : FTy → Type} [FloatOps F] [Named F]
def κ : String → Option EReal := fun
  | "dscale" => some (((Real.sqrt 64)⁻¹ * (Real.log 2)⁻¹ : ℝ) : EReal)
  | "log2e" => some (((Real.log 2)⁻¹ : ℝ) : EReal)
  | _ => none
-- ==== DiffReferenceIdeal.lean ====
abbrev S2x4096x3072 : Shape := ⟨3, ![2, 4096, 3072]⟩
abbrev S4x64 : Shape := ⟨2, ![4, 64]⟩
abbrev S128 : Shape := ⟨1, ![128]⟩
abbrev S2x4096x1024 : Shape := ⟨3, ![2, 4096, 1024]⟩
abbrev S2x4096x8x2x64 : Shape := ⟨5, ![2, 4096, 8, 2, 64]⟩
abbrev S2x4096x8x128 : Shape := ⟨4, ![2, 4096, 8, 128]⟩
abbrev S2x4096x8x1x64 : Shape := ⟨5, ![2, 4096, 8, 1, 64]⟩
abbrev S2x4096x8x64 : Shape := ⟨4, ![2, 4096, 8, 64]⟩
abbrev S1x64 : Shape := ⟨2, ![1, 64]⟩
abbrev S64 : Shape := ⟨1, ![64]⟩
abbrev S_ : Shape := ⟨0, ![]⟩
abbrev S8 : Shape := ⟨1, ![8]⟩
abbrev S4096 : Shape := ⟨1, ![4096]⟩
abbrev S8x1x1 : Shape := ⟨3, ![8, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096x4096 : Shape := ⟨3, ![8, 4096, 4096]⟩
abbrev S2x8x4096x4096 : Shape := ⟨4, ![2, 8, 4096, 4096]⟩
abbrev S1x8x4096x4096 : Shape := ⟨4, ![1, 8, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S8192x1024 : Shape := ⟨2, ![8192, 1024]⟩

abbrev nBuf : Space → Nat
  | .hbm => 130
  | .vmem => 0
  | .smem => 0
  | _ => 0

abbrev hbmTy0_0 (i : Nat) : BufTy := match i % 128 with
  | 0 => ⟨S2x4096x3072, .f32⟩
  | 1 => ⟨S4x64, .f32⟩
  | 2 => ⟨S128, .f32⟩
  | 3 => ⟨S2x4096x1024, .f32⟩
  | 4 => ⟨S2x4096x1024, .f32⟩
  | 5 => ⟨S2x4096x1024, .f32⟩
  | 6 => ⟨S2x4096x8x2x64, .f32⟩
  | 7 => ⟨S2x4096x8x2x64, .f32⟩
  | 8 => ⟨S2x4096x8x128, .f32⟩
  | 9 => ⟨S2x4096x8x1x64, .f32⟩
  | 10 => ⟨S2x4096x8x64, .f32⟩
  | 11 => ⟨S2x4096x8x1x64, .f32⟩
  | 12 => ⟨S2x4096x8x64, .f32⟩
  | 13 => ⟨S2x4096x8x1x64, .f32⟩
  | 14 => ⟨S2x4096x8x64, .f32⟩
  | 15 => ⟨S2x4096x8x1x64, .f32⟩
  | 16 => ⟨S2x4096x8x64, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S1x64, .f32⟩
  | 26 => ⟨S64, .f32⟩
  | 27 => ⟨S1x64, .f32⟩
  | 28 => ⟨S64, .f32⟩
  | 29 => ⟨S64, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S4096, .i32⟩
  | 50 => ⟨S8x1x1, .f32⟩
  | 51 => ⟨S8x1x1, .f32⟩
  | 52 => ⟨S4096x1, .i32⟩
  | 53 => ⟨S1x4096, .i32⟩
  | 54 => ⟨S4096x4096, .i32⟩
  | 55 => ⟨S4096x4096, .i32⟩
  | 56 => ⟨S4096x4096, .i32⟩
  | 57 => ⟨S4096x4096, .i32⟩
  | 58 => ⟨S4096x4096, .f32⟩
  | 59 => ⟨S1x4096x4096, .f32⟩
  | 60 => ⟨S8x4096x4096, .f32⟩
  | 61 => ⟨S8x4096x4096, .f32⟩
  | 62 => ⟨S8x4096x4096, .f32⟩
  | 63 => ⟨S2x8x4096x4096, .f32⟩
  | 64 => ⟨S_, .f32⟩
  | 65 => ⟨S2x8x4096x4096, .f32⟩
  | 66 => ⟨S2x8x4096x4096, .f32⟩
  | 67 => ⟨S1x8x4096x4096, .f32⟩
  | 68 => ⟨S2x8x4096x4096, .f32⟩
  | 69 => ⟨S2x8x4096x4096, .f32⟩
  | 70 => ⟨S2x8x4096x4096, .f32⟩
  | 71 => ⟨S_, .f32⟩
  | 72 => ⟨S2x8x4096x4096, .f32⟩
  | 73 => ⟨S2x8x4096x4096, .f32⟩
  | 74 => ⟨S1x8x4096x4096, .f32⟩
  | 75 => ⟨S2x8x4096x4096, .f32⟩
  | 76 => ⟨S2x8x4096x4096, .f32⟩
  | 77 => ⟨S_, .f32⟩
  | 78 => ⟨S2x8x4096, .f32⟩
  | 79 => ⟨S_, .f32⟩
  | 80 => ⟨S2x8x4096, .f32⟩
  | 81 => ⟨S2x8x4096, .f32⟩
  | 82 => ⟨S2x8x4096x1, .f32⟩
  | 83 => ⟨S2x8x4096x4096, .f32⟩
  | 84 => ⟨S2x8x4096x4096, .f32⟩
  | 85 => ⟨S2x8x4096x4096, .f32⟩
  | 86 => ⟨S_, .f32⟩
  | 87 => ⟨S2x8x4096, .f32⟩
  | 88 => ⟨S2x8x4096x1, .f32⟩
  | 89 => ⟨S2x8x4096x4096, .f32⟩
  | 90 => ⟨S2x8x4096x4096, .f32⟩
  | 91 => ⟨S_, .f32⟩
  | 92 => ⟨S2x8x4096, .f32⟩
  | 93 => ⟨S_, .f32⟩
  | 94 => ⟨S2x8x4096, .f32⟩
  | 95 => ⟨S2x8x4096, .f32⟩
  | 96 => ⟨S2x8x4096x1, .f32⟩
  | 97 => ⟨S2x8x4096x4096, .f32⟩
  | 98 => ⟨S2x8x4096x4096, .f32⟩
  | 99 => ⟨S2x8x4096x4096, .f32⟩
  | 100 => ⟨S_, .f32⟩
  | 101 => ⟨S2x8x4096, .f32⟩
  | 102 => ⟨S2x8x4096x1, .f32⟩
  | 103 => ⟨S2x8x4096x4096, .f32⟩
  | 104 => ⟨S2x8x4096x4096, .f32⟩
  | 105 => ⟨S2x8x4096x4096, .f32⟩
  | 106 => ⟨S2x8x4096x4096, .f32⟩
  | 107 => ⟨S2x8x4096x4096, .f32⟩
  | 108 => ⟨S2x8x128x4096, .f32⟩
  | 109 => ⟨S2x4096x8x128, .f32⟩
  | 110 => ⟨S2x4096x8x128, .f32⟩
  | 111 => ⟨S_, .f32⟩
  | 112 => ⟨S2x4096x8, .f32⟩
  | 113 => ⟨S2x4096x8x1, .f32⟩
  | 114 => ⟨S_, .f32⟩
  | 115 => ⟨S2x4096x8x1, .f32⟩
  | 116 => ⟨S2x4096x8x1, .f32⟩
  | 117 => ⟨S_, .f32⟩
  | 118 => ⟨S2x4096x8x1, .f32⟩
  | 119 => ⟨S2x4096x8x1, .f32⟩
  | 120 => ⟨S2x4096x8x1, .f32⟩
  | 121 => ⟨S2x4096x8x128, .f32⟩
  | 122 => ⟨S2x4096x8x128, .f32⟩
  | 123 => ⟨S1x1x1x128, .f32⟩
  | 124 => ⟨S2x4096x8x128, .f32⟩
  | 125 => ⟨S2x4096x8x128, .f32⟩
  | 126 => ⟨S_, .f32⟩
  | 127 => ⟨S2x4096x8x128, .f32⟩
  | _ => ⟨S2x4096x3072, .f32⟩

abbrev hbmTy0_1 (i : Nat) : BufTy := match i % 128 with
  | 0 => ⟨S2x4096x8x128, .f32⟩
  | 1 => ⟨S8192x1024, .f32⟩
  | _ => ⟨S2x4096x3072, .f32⟩

abbrev hbmTy (i : Nat) : BufTy := match i / 128 with
  | 0 => hbmTy0_0 i
  | 1 => hbmTy0_1 i
  | _ => ⟨S2x4096x3072, .f32⟩

abbrev bufTy : (tb : Table) → Fin (tcTables nBuf tb) → BufTy
  | .hbm, ⟨i, _⟩ => hbmTy i
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_8 : Ref sig .tc := ⟨.hbm, 77, rfl⟩
abbrev main_v65 : Ref sig .tc := ⟨.hbm, 78, rfl⟩
abbrev main_cst_9 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_10 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_11 : Ref sig .tc := ⟨.hbm, 91, rfl⟩
abbrev main_v76 : Ref sig .tc := ⟨.hbm, 92, rfl⟩
abbrev main_cst_12 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_13 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_14 : Ref sig .tc := ⟨.hbm, 111, rfl⟩
abbrev main_v93 : Ref sig .tc := ⟨.hbm, 112, rfl⟩
abbrev main_v94 : Ref sig .tc := ⟨.hbm, 113, rfl⟩
abbrev main_cst_15 : Ref sig .tc := ⟨.hbm, 114, rfl⟩
abbrev main_v95 : Ref sig .tc := ⟨.hbm, 115, rfl⟩
abbrev main_v96 : Ref sig .tc := ⟨.hbm, 116, rfl⟩
abbrev main_cst_16 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_17 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩

abbrev nD : Nat := 1
abbrev τ : Topo := Topo.v7x

variable {F : FTy → Type} [FloatOps F]
-- ==== First.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstReferenceIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Group.lean ====
abbrev S8192x1024 : Shape := ⟨2, ![8192, 1024]⟩
abbrev S4096 : Shape := ⟨1, ![4096]⟩
abbrev S1x4096 : Shape := ⟨2, ![1, 4096]⟩
abbrev S8192x4096 : Shape := ⟨2, ![8192, 4096]⟩
abbrev S512x1024 : Shape := ⟨2, ![512, 1024]⟩
abbrev S512x4096 : Shape := ⟨2, ![512, 4096]⟩
abbrev S1x1024 : Shape := ⟨2, ![1, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4096, .f32⟩
  | .hbm, ⟨5, _⟩ => ⟨S1x4096, .f32⟩
  | .hbm, ⟨6, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x4096, .f32⟩
  | .local _ .vmem, ⟨9, _⟩ => ⟨S512x4096, .bf16⟩
  | .local _ .vmem, ⟨10, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GroupReferenceIdeal.lean ====
abbrev S8192x1024 : Shape := ⟨2, ![8192, 1024]⟩
abbrev S4096 : Shape := ⟨1, ![4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4096, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x4096, .f32⟩
  | .hbm, ⟨74, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Proof.Mla.Block.lean ====
module

public import proofs.«01_k».proof.Proof.Gen.KernelIdeal.Value
public import Idealize.ShloMosaic.Lib.ValueIdx

@[expose] public section

set_option maxRecDepth 16384

noncomputable section

/-! What one grid point of the attention call leaves in its block of the output: sixteen key chunks folded one
    after another, each with its row maximum, its weights and its rescaled weighted sums. -/

namespace Cert.KernelIdeal.Block

open Cert.KernelIdeal Cert.KernelIdeal.Gen Idealize.ShloMosaic Idealize.ShloMosaic.TcCoe Idealize.ShloMosaic.Tactic Idealize.SL.Sem
open Idealize.ShloMosaic.ValueIdx

variable {F : FTy → Type} [FloatOps F] [Named F]

/-- The `n`-th chunk of 256 keys. -/
def keys (x1 : Vec F S1x1x4096x192 .bf16) (n : ℕ) : Vec F S1x1x256x192 .bf16 :=
  fun j => x1 (ix4 0 0 ⟨(256 * n + (j 2).val) % 4096, Nat.mod_lt _ (by decide)⟩ (j 3))

/-- The `n`-th chunk of 256 rows of the values beside 128 columns of ones. -/
def vals (x2 : Vec F S1x1x4096x128 .bf16) (n : ℕ) : Vec F S256x256 .bf16 :=
  fun j => if h : (j 1).val < 128 then x2 (ix4 0 0 ⟨(256 * n + (j 0).val) % 4096, Nat.mod_lt _ (by decide)⟩ ⟨(j 1).val, h⟩)
    else Scalar.ofBits .bf16 0x3F80#16

/-- The scores of one chunk. -/
def scores (q : FVec F S4096x192 .bf16) (kc : Vec F S1x1x256x192 .bf16) : FVec F S4096x256 .f32 :=
  matmul dot_S4096x192_S256x192_S4096x256_1_1_0_0_n_n none q (shapeCast S256x192 kc shapeCasts_S1x1x256x192_S256x192)
    (constant S4096x256 .f32 0x00000000#32)

/-- The row maxima of one chunk's scores. -/
def tops (s : FVec F S4096x256 .f32) : FVec F S4096x1 .f32 :=
  shapeCast S4096x1 (multiReduction .maximumf [1] S4096 s 0xFF800000#32 reduces_S4096x256_S4096 (.inl rfl) rfl) shapeCasts_S4096_S4096x1

/-- One chunk's weights at a base times its values. -/
def weighted (s : FVec F S4096x256 .f32) (mx : FVec F S4096x1 .f32) (v : Vec F S256x256 .bf16) : FVec F S4096x256 .f32 :=
  matmul dot_S4096x256_S256x256_S4096x256_1_0_0_1_n_n none
    (truncf .bf16 (exp2 (subf s (broadcastTo S4096x256 mx broadcasts_S4096x1_S4096x256))) bitsLt_bf16_f32) v
    (constant S4096x256 .f32 0x00000000#32)

/-- The running maximum after chunk `n`. -/
def runMax (q : FVec F S4096x192 .bf16) (x1 : Vec F S1x1x4096x192 .bf16) : ℕ → FVec F S4096x1 .f32
  | 0 => tops (scores q (keys x1 0))
  | n + 1 => maximumf (runMax q x1 n) (tops (scores q (keys x1 (n + 1))))

/-- The running weighted sums after chunk `n`. -/
def runAcc (q : FVec F S4096x192 .bf16) (x1 : Vec F S1x1x4096x192 .bf16) (x2 : Vec F S1x1x4096x128 .bf16) : ℕ → FVec F S4096x256 .f32
  | 0 => weighted (scores q (keys x1 0)) (runMax q x1 0) (vals x2 0)
  | n + 1 => addf (mulf (runAcc q x1 x2 n) (broadcastTo S4096x256 (exp2 (subf (runMax q x1 n) (runMax q x1 (n + 1)))) broadcasts_S4096x1_S4096x256))
      (weighted (scores q (keys x1 (n + 1))) (runMax q x1 (n + 1)) (vals x2 (n + 1)))

/-- The block: the weighted sums of the values over the sums of the weights. -/
def block (x0 : Vec F S1x1x4096x192 .f32) (x1 : Vec F S1x1x4096x192 .bf16) (x2 : Vec F S1x1x4096x128 .bf16) : FVec F S4096x128 .f32 :=
  divf (extractStridedSlice S4096x128 ![0, 0] (runAcc (k0_pay4 x0) x1 x2 15) slices_S4096x256_o0_0_S4096x128)
    (extractStridedSlice S4096x128 ![0, 128] (runAcc (k0_pay4 x0) x1 x2 15) slices_S4096x256_o0_128_S4096x128)

/-- A load of 256 keys from row `256 n` is the `n`-th chunk. -/
theorem ld_keys (x1 : Vec F S1x1x4096x192 .bf16) (n o : ℕ) (hn : n < 16) (ho : o = 256 * n)
    (h : ∀ a, (![0, 0, o, 0] : Fin 4 → ℕ) a + (![1, 1, 256, 192] : Fin 4 → ℕ) a ≤ S1x1x4096x192.size a) :
    View.ld x1 (Rect.unit (s := S1x1x4096x192) ![0, 0, o, 0] ![1, 1, 256, 192] h) = keys x1 n := by
  funext j
  have h0 : (j 0).val < 1 := (j 0).isLt
  have h1 : (j 1).val < 1 := (j 1).isLt
  have h2 : (j 2).val < 256 := (j 2).isLt
  show x1 _ = x1 _
  congr 1
  funext a; apply Fin.ext
  match a with
  | ⟨0, _⟩ => show 0 + 1 * (j 0).val = 0; omega
  | ⟨1, _⟩ => show 0 + 1 * (j 1).val = 0; omega
  | ⟨2, _⟩ => show o + 1 * (j 2).val = (256 * n + (j 2).val) % 4096; omega
  | ⟨3, _⟩ => show 0 + 1 * (j 3).val = (j 3).val; omega

/-- The whole of the queries, loaded. -/
theorem ld_queries (x0 : Vec F S1x1x4096x192 .f32)
    (h : ∀ a, (![0, 0, 0, 0] : Fin 4 → ℕ) a + (![1, 1, 4096, 192] : Fin 4 → ℕ) a ≤ S1x1x4096x192.size a) :
    View.ld x0 (Rect.unit (s := S1x1x4096x192) ![0, 0, 0, 0] ![1, 1, 4096, 192] h) = x0 := by
  funext j
  show x0 _ = x0 _
  congr 1
  funext a; apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 0 + 1 * (j 3).val = (j 3).val; omega

/-- The whole of the values, loaded. -/
theorem ld_values (x2 : Vec F S1x1x4096x128 .bf16)
    (h : ∀ a, (![0, 0, 0, 0] : Fin 4 → ℕ) a + (![1, 1, 4096, 128] : Fin 4 → ℕ) a ≤ S1x1x4096x128.size a) :
    View.ld x2 (Rect.unit (s := S1x1x4096x128) ![0, 0, 0, 0] ![1, 1, 4096, 128] h) = x2 := by
  funext j
  show x2 _ = x2 _
  congr 1
  funext a; apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 0 + 1 * (j 3).val = (j 3).val; omega

/-- The values as they are stored: the leading unit axes dropped. -/
theorem pay2_apply (x2 : Vec F S1x1x4096x128 .bf16) (r : Fin 4096) (d : Fin 128) :
    k0_pay2 x2 (ix2 r d) = x2 (ix4 0 0 r d) := by
  unfold k0_pay2
  rw [shapeCast_apply _ _ (ix2 r d) (ix2 r d) rfl, shapeCast_apply _ _ (ix2 r d) (ix4 0 0 r d) (by
    rw [Shape.rowMajor_val_four, Shape.rowMajor_val_two]
    show ((0 * _ + 0) * 4096 + r.val) * 128 + d.val = r.val * 128 + d.val
    omega)]

/-- The scratch read back: the values left, ones right. -/
theorem readCov_vals (v : View sig .tc .vmem S4096x256 .bf16) (x2 : Vec F S1x1x4096x128 .bf16) (n o : ℕ) (hn : n < 16) (ho : o = 256 * n)
    (h1 : ∀ a, (![0, 128] : Fin 2 → ℕ) a + (![4096, 128] : Fin 2 → ℕ) a ≤ S4096x256.size a)
    (h2 : ∀ a, (![0, 0] : Fin 2 → ℕ) a + (![4096, 128] : Fin 2 → ℕ) a ≤ S4096x256.size a)
    (h3 : ∀ a, (![o, 0] : Fin 2 → ℕ) a + (![256, 256] : Fin 2 → ℕ) a ≤ S4096x256.size a) :
    v.readCov (Val := Elt F) [⟨Rect.unit (s := S4096x256) ![0, 128] ![4096, 128] h1, k0_pay3⟩, ⟨Rect.unit (s := S4096x256) ![0, 0] ![4096, 128] h2, k0_pay2 x2⟩]
      (Rect.unit (s := S4096x256) ![o, 0] ![256, 256] h3).toLoadRect = vals x2 n := by
  rw [View.readCov_eq_canon']
  funext j
  have hj0 : (j 0).val < 256 := (j 0).isLt
  have hj1 : (j 1).val < 256 := (j 1).isLt
  unfold vals
  by_cases hd : (j 1).val < 128
  · rw [dif_pos hd, View.canon_cons_of_not_mem _ _ (by
      intro hm
      have := ((Rect.mem_set_unit (inb := h1)).1 hm 1).1
      have e : ((Rect.unit (s := S4096x256) ![o, 0] ![256, 256] h3).toLoadRect.idx j 1).val = 0 + 1 * (j 1).val := rfl
      have e2 : (![0, 128] : Fin 2 → ℕ) 1 = 128 := rfl
      omega)]
    have e : (Rect.unit (s := S4096x256) ![o, 0] ![256, 256] h3).toLoadRect.idx j
        = (Rect.unit (s := S4096x256) ![0, 0] ![4096, 128] h2).emb (ix2 (n0 := 4096) (n1 := 128) ⟨o + (j 0).val, by omega⟩ ⟨(j 1).val, hd⟩) := by
      funext a; apply Fin.ext
      match a with
      | ⟨0, _⟩ => show o + 1 * (j 0).val = 0 + 1 * (o + (j 0).val); omega
      | ⟨1, _⟩ => show 0 + 1 * (j 1).val = 0 + 1 * (j 1).val; omega
    rw [e, View.canon_cons_emb]
    rw [pay2_apply]
    congr 2
    apply Fin.ext; show o + (j 0).val = (256 * n + (j 0).val) % 4096; omega
  · rw [dif_neg hd]
    have e : (Rect.unit (s := S4096x256) ![o, 0] ![256, 256] h3).toLoadRect.idx j
        = (Rect.unit (s := S4096x256) ![0, 128] ![4096, 128] h1).emb (ix2 (n0 := 4096) (n1 := 128) ⟨o + (j 0).val, by omega⟩ ⟨(j 1).val - 128, by omega⟩) := by
      funext a; apply Fin.ext
      match a with
      | ⟨0, _⟩ => show o + 1 * (j 0).val = 0 + 1 * (o + (j 0).val); omega
      | ⟨1, _⟩ => show 0 + 1 * (j 1).val = 128 + 1 * ((j 1).val - 128); omega
    rw [e, View.canon_cons_emb]
    rfl

set_option maxHeartbeats 4000000 in
/-- What a grid point leaves in its block of the output. -/
theorem out_eq (c : Dev nD) (i : grid0.Coords) (arg3 : Memref sig .tc .vmem S1x1x4096x192 .f32) (harg3 : arg3.IsWhole) (arg4 : Memref sig .tc .vmem S1x1x4096x192 .bf16) (harg4 : arg4.IsWhole) (arg5 : Memref sig .tc .vmem S1x1x4096x128 .bf16) (harg5 : arg5.IsWhole) (arg6 : Memref sig .tc .vmem S4096x128 .f32) (harg6 : arg6.IsWhole) (arg7 : Memref sig .tc .vmem S4096x256 .bf16) (harg7 : arg7.IsWhole) (hc0 : cond0_0 i)
    (x0 : Vec F S1x1x4096x192 .f32) (x1 : Vec F S1x1x4096x192 .bf16) (x2 : Vec F S1x1x4096x128 .bf16) :
    out0_A_3 c i arg3 harg3 arg4 harg4 arg5 harg5 arg6 harg6 arg7 harg7 hc0 x0 x1 x2 = block x0 x1 x2 := by
  unfold out0_A_3
  rw [View.read_writes_eq_canon _ _ _ (cover0_A_3 c i arg3 harg3 arg4 harg4 arg5 harg5 arg6 harg6 arg7 harg7 hc0 x0 x1 x2)]
  unfold kernelRun0_A
  dsimp only
  sl_unfold_words
  simp only [View.readAt_eq_ld, harg3.read_unread, harg4.read_unread, harg5.read_unread]
  have hk0 := fun h => ld_keys x1 0 0 (by decide) rfl h
  have hv0 := fun h1 h2 h3 => readCov_vals arg7.view x2 0 0 (by decide) rfl h1 h2 h3
  have hk1 := fun h => ld_keys x1 1 256 (by decide) rfl h
  have hv1 := fun h1 h2 h3 => readCov_vals arg7.view x2 1 256 (by decide) rfl h1 h2 h3
  have hk2 := fun h => ld_keys x1 2 512 (by decide) rfl h
  have hv2 := fun h1 h2 h3 => readCov_vals arg7.view x2 2 512 (by decide) rfl h1 h2 h3
  have hk3 := fun h => ld_keys x1 3 768 (by decide) rfl h
  have hv3 := fun h1 h2 h3 => readCov_vals arg7.view x2 3 768 (by decide) rfl h1 h2 h3
  have hk4 := fun h => ld_keys x1 4 1024 (by decide) rfl h
  have hv4 := fun h1 h2 h3 => readCov_vals arg7.view x2 4 1024 (by decide) rfl h1 h2 h3
  have hk5 := fun h => ld_keys x1 5 1280 (by decide) rfl h
  have hv5 := fun h1 h2 h3 => readCov_vals arg7.view x2 5 1280 (by decide) rfl h1 h2 h3
  have hk6 := fun h => ld_keys x1 6 1536 (by decide) rfl h
  have hv6 := fun h1 h2 h3 => readCov_vals arg7.view x2 6 1536 (by decide) rfl h1 h2 h3
  have hk7 := fun h => ld_keys x1 7 1792 (by decide) rfl h
  have hv7 := fun h1 h2 h3 => readCov_vals arg7.view x2 7 1792 (by decide) rfl h1 h2 h3
  have hk8 := fun h => ld_keys x1 8 2048 (by decide) rfl h
  have hv8 := fun h1 h2 h3 => readCov_vals arg7.view x2 8 2048 (by decide) rfl h1 h2 h3
  have hk9 := fun h => ld_keys x1 9 2304 (by decide) rfl h
  have hv9 := fun h1 h2 h3 => readCov_vals arg7.view x2 9 2304 (by decide) rfl h1 h2 h3
  have hk10 := fun h => ld_keys x1 10 2560 (by decide) rfl h
  have hv10 := fun h1 h2 h3 => readCov_vals arg7.view x2 10 2560 (by decide) rfl h1 h2 h3
  have hk11 := fun h => ld_keys x1 11 2816 (by decide) rfl h
  have hv11 := fun h1 h2 h3 => readCov_vals arg7.view x2 11 2816 (by decide) rfl h1 h2 h3
  have hk12 := fun h => ld_keys x1 12 3072 (by decide) rfl h
  have hv12 := fun h1 h2 h3 => readCov_vals arg7.view x2 12 3072 (by decide) rfl h1 h2 h3
  have hk13 := fun h => ld_keys x1 13 3328 (by decide) rfl h
  have hv13 := fun h1 h2 h3 => readCov_vals arg7.view x2 13 3328 (by decide) rfl h1 h2 h3
  have hk14 := fun h => ld_keys x1 14 3584 (by decide) rfl h
  have hv14 := fun h1 h2 h3 => readCov_vals arg7.view x2 14 3584 (by decide) rfl h1 h2 h3
  have hk15 := fun h => ld_keys x1 15 3840 (by decide) rfl h
  have hv15 := fun h1 h2 h3 => readCov_vals arg7.view x2 15 3840 (by decide) rfl h1 h2 h3
  refine (View.canon_unit_zero (S := S4096x128) (by funext a; fin_cases a <;> rfl) _ _).trans ?_
  simp only [ld_queries, ld_values, hk0, hv0, hk1, hv1, hk2, hv2, hk3, hv3, hk4, hv4, hk5, hv5, hk6, hv6, hk7, hv7, hk8, hv8, hk9, hv9, hk10, hv10, hk11, hv11, hk12, hv12, hk13, hv13, hk14, hv14, hk15, hv15]
  rfl

end Cert.KernelIdeal.Block

end
-- ==== Proof.Online.lean ====
module

public import Idealize.ShloMosaic.PureOps.Ideal.Laws
public import Idealize.ShloMosaic.Lib.ValueIdx

@[expose] public section

/-! A softmax taken chunk by chunk, with a base that moves from chunk to chunk, is the softmax: the arithmetic of
    extended reals that the attention calls share. Scores are real numbers; values may be infinite. -/

namespace Cert.Online

open Idealize.ShloMosaic
open scoped BigOperators

/-- A sum times a real number that is not negative is the sum of the products. -/
theorem sum_mul_coe {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A sum of real numbers, taken as extended reals, is the real sum. -/
theorem sum_coe {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The maximum of finitely many, at least one, real numbers is a real number. -/
theorem fold_max_real {ι : Type*} (s : Finset ι) (hs : s.Nonempty) (f : ι → EReal) (hf : ∀ k, ∃ r : ℝ, f k = r) :
    ∃ r : ℝ, s.fold max ⊥ f = r := by
  obtain ⟨a, ha⟩ := hs
  have h1 : s.fold max ⊥ f < ⊤ := by
    rw [Finset.fold_max_lt]
    refine ⟨bot_lt_top, fun x _ => ?_⟩
    obtain ⟨r, hr⟩ := hf x
    rw [hr]; exact EReal.coe_lt_top r
  have h2 : ⊥ < s.fold max ⊥ f := by
    rw [Finset.lt_fold_max]
    obtain ⟨r, hr⟩ := hf a
    exact Or.inr ⟨a, ha, by rw [hr]; exact EReal.bot_lt_coe r⟩
  exact ⟨(s.fold max ⊥ f).toReal, (EReal.coe_toReal h1.ne h2.ne').symm⟩

/-- A weight: two to the score above the base. -/
noncomputable def wt (s μ : ℝ) : ℝ := Real.rpow 2 (s - μ)

theorem wt_nonneg (s μ : ℝ) : 0 ≤ wt s μ := Real.rpow_nonneg (by norm_num) _

theorem wt_pos (s μ : ℝ) : 0 < wt s μ := Real.rpow_pos_of_pos (by norm_num) _

theorem wt_move (s μ ν : ℝ) : wt s μ * wt μ ν = wt s ν := by
  unfold wt
  show (2:ℝ) ^ (s - μ) * (2:ℝ) ^ (μ - ν) = (2:ℝ) ^ (s - ν)
  rw [← Real.rpow_add (by norm_num)]; congr 1; ring

/-- CHUNK BY CHUNK: sums of weighted values, moved from base to base, are the weighted sums at the last base. -/
theorem online (L : ℕ) (s : ℕ → ℝ) (v : ℕ → EReal) (μ : ℕ → ℝ) (A : ℕ → EReal)
    (h0 : A 0 = ∑ l ∈ Finset.range L, (wt (s l) (μ 0) : EReal) * v l)
    (hs : ∀ n, A (n + 1) = A n * (wt (μ n) (μ (n + 1)) : EReal)
      + ∑ l ∈ Finset.range L, (wt (s (L * (n + 1) + l)) (μ (n + 1)) : EReal) * v (L * (n + 1) + l)) (n : ℕ) :
    A n = ∑ k ∈ Finset.range (L * (n + 1)), (wt (s k) (μ n) : EReal) * v k := by
  induction n with
  | zero => simpa using h0
  | succ n ih =>
    rw [hs, ih, sum_mul_coe _ _ _ (wt_nonneg _ _), Nat.mul_add L (n + 1) 1, Nat.mul_one, Finset.sum_range_add]
    congr 1
    refine Finset.sum_congr rfl fun k _ => ?_
    rw [mul_assoc, mul_comm (v k), ← mul_assoc, ← EReal.coe_mul, wt_move]

/-- The softmax weight of one score. -/
noncomputable def soft {ι : Type*} [Fintype ι] (t : ι → ℝ) (k : ι) : ℝ := Real.exp (t k) / ∑ k', Real.exp (t k')

/-- Weights at ANY base, divided by their sum, are the softmax of the scores in the natural exponential's units. -/
theorem wt_div {ι : Type*} [Fintype ι] (s t : ι → ℝ) (h : ∀ k, s k * Real.log 2 = t k) (μ : ℝ) (k : ι) :
    wt (s k) μ * (1 / ∑ k', wt (s k') μ) = soft t k := by
  have e : ∀ k, wt (s k) μ = Real.exp (t k) * Real.exp (-(μ * Real.log 2)) := fun k => by
    unfold wt
    show (2:ℝ) ^ (s k - μ) = _
    rw [Real.rpow_def_of_pos (by norm_num), ← Real.exp_add, ← h k]; congr 1; ring
  simp only [e]
  rw [← Finset.sum_mul]
  unfold soft
  have hz : Real.exp (-(μ * Real.log 2)) ≠ 0 := (Real.exp_pos _).ne'
  rw [mul_one_div, mul_div_mul_right _ _ hz]

/-- The kernel's quotient: weighted values over the weights' sum. -/
theorem quotient {ι : Type*} [Fintype ι] [Nonempty ι] (s t : ι → ℝ) (h : ∀ k, s k * Real.log 2 = t k) (μ : ℝ) (v : ι → EReal) :
    Ideal.div (∑ k, (wt (s k) μ : EReal) * v k) (∑ k, (wt (s k) μ : EReal) * 1) = ∑ k, v k * (soft t k : EReal) := by
  have hW : 0 < ∑ k, wt (s k) μ := Finset.sum_pos (fun k _ => wt_pos _ _) Finset.univ_nonempty
  have e : (∑ k, (wt (s k) μ : EReal) * 1) = ((∑ k, wt (s k) μ : ℝ) : EReal) := by
    rw [← sum_coe]; exact Finset.sum_congr rfl fun k _ => mul_one _
  rw [e, Ideal.div_coe hW.ne', sum_mul_coe _ _ _ (by positivity)]
  refine Finset.sum_congr rfl fun k _ => ?_
  rw [mul_right_comm, ← EReal.coe_mul, wt_div s t h μ k, mul_comm]

/-- The reference's weight: the exponential above a base over the exponentials' sum. -/
theorem ref_weight {ι : Type*} [Fintype ι] [Nonempty ι] (t : ι → ℝ) (τ : ℝ) (k : ι) :
    Ideal.div (Ideal.exp ((t k : EReal) - (τ : EReal))) (0 + ∑ k', Ideal.exp ((t k' : EReal) - (τ : EReal))) = (soft t k : EReal) := by
  have e : ∀ k, Ideal.exp ((t k : EReal) - (τ : EReal)) = ((Real.exp (t k) * Real.exp (-τ) : ℝ) : EReal) := fun k => by
    rw [← EReal.coe_sub, Ideal.exp_coe, sub_eq_add_neg, Real.exp_add]
  simp only [e]
  rw [sum_coe, zero_add, ← Finset.sum_mul]
  have hE : 0 < ∑ k, Real.exp (t k) := Finset.sum_pos (fun k _ => Real.exp_pos _) Finset.univ_nonempty
  have hz : Real.exp (-τ) ≠ 0 := (Real.exp_pos _).ne'
  rw [Ideal.div_coe (mul_ne_zero hE.ne' hz), ← EReal.coe_mul]
  unfold soft
  rw [mul_one_div, mul_div_mul_right _ _ hz]

/-- The base-two exponential of a difference of real numbers is a weight. -/
theorem exp2_sub (s μ : ℝ) : Ideal.exp2 ((s : EReal) - (μ : EReal)) = (wt s μ : EReal) := by
  rw [← EReal.coe_sub, Ideal.exp2_coe]; rfl

end Cert.Online

end
-- ==== Proof.Mla.BlockVal.lean ====
module

public import proofs.«01_k».proof.Proof.Mla.Block
public import proofs.«01_k».proof.Proof.Online
public import Idealize.ShloMosaic.Lib.MatmulPlain
public import Idealize.ShloMosaic.PureOps.IdealRules

@[expose] public section

set_option maxRecDepth 16384

noncomputable section

/-! The block of the attention call, read at an index as extended reals. -/

namespace Cert.KernelIdeal.Block

open Cert.KernelIdeal Cert.KernelIdeal.Gen Idealize.ShloMosaic Idealize.ShloMosaic.TcCoe Idealize.SL.Sem
open Idealize.ShloMosaic.ValueIdx Cert.Online
open scoped BigOperators

/-- A product with the scores' dimension numbers, read at an index. -/
theorem scores_apply (q : FVec Ideal S4096x192 .bf16) (kc : Vec Ideal S1x1x256x192 .bf16) (r : Fin 4096) (l : Fin 256) :
    scores q kc (ix2 r l) = ∑ d : Fin 192, q (ix2 r d) * kc (ix4 0 0 l d) := by
  unfold scores
  refine (Ideal.matmul_transposedRhs_apply (M := 4096) (K := 192) (N := 256) none q _ _ r l).trans ?_
  rw [constant_apply, Ideal.ofBits_zero_f32, zero_add]
  refine Finset.sum_congr rfl fun d _ => ?_
  rw [shapeCast_apply _ _ (ix2 l d) (ix4 0 0 l d) (by
    rw [Shape.rowMajor_val_four, Shape.rowMajor_val_two]
    show ((0 * _ + 0) * 256 + l.val) * 192 + d.val = l.val * 192 + d.val
    omega)]

/-- The row maxima, read at an index. -/
theorem tops_apply (s : FVec Ideal S4096x256 .f32) (r : Fin 4096) :
    tops s (ix2 r 0) = (Finset.univ : Finset (Fin 256)).fold max ⊥ fun l => s (ix2 r l) := by
  unfold tops
  rw [shapeCast_apply _ _ (ix2 r 0) (ix1 r) (by
    rw [Shape.rowMajor_val_one, Shape.rowMajor_val_two]
    show r.val = r.val * 1 + 0
    omega)]
  refine (Ideal.multiReduction_maximumf_single s _ reduces_S4096x256_S4096 (.inl rfl) rfl (ix1 r)).trans ?_
  have hb : (FloatOps.ofBits FTy.f32 (FKind.maximumf.neutral FTy.f32 (.inl rfl)) : Ideal .f32) = (⊥ : EReal) := by
    show Ideal.ofBits .f32 0xFF800000#32 = ⊥
    simp [Ideal.ofBits, Ideal.ieee]
  rw [hb]
  congr 1
  funext l
  show s _ = s _
  congr 1
  funext a; apply Fin.ext
  match a with
  | ⟨0, _⟩ => rfl
  | ⟨1, _⟩ => rfl

/-- One column spread over a block's columns. -/
theorem spread_apply (mx : FVec Ideal S4096x1 .f32) (r : Fin 4096) (l : Fin 256) :
    broadcastTo S4096x256 mx broadcasts_S4096x1_S4096x256 (ix2 r l) = mx (ix2 r 0) := by
  rw [broadcastTo_apply _ _ _ (ix2 r 0)]
  intro a
  match a with
  | ⟨0, _⟩ => rfl
  | ⟨1, _⟩ => rfl

/-- A chunk's weighted sums, read at an index. -/
theorem weighted_apply (s : FVec Ideal S4096x256 .f32) (mx : FVec Ideal S4096x1 .f32) (v : Vec Ideal S256x256 .bf16) (r : Fin 4096) (j : Fin 256) :
    weighted s mx v (ix2 r j) = ∑ l : Fin 256, Ideal.exp2 (s (ix2 r l) - mx (ix2 r 0)) * v (ix2 l j) := by
  unfold weighted
  refine (Ideal.matmul_plain_apply (M := 4096) (K := 256) (N := 256) none _ v _ r j).trans ?_
  rw [constant_apply, Ideal.ofBits_zero_f32, zero_add]
  refine Finset.sum_congr rfl fun l _ => ?_
  rw [truncf_apply]
  show Ideal.exp2 (s (ix2 r l) - broadcastTo S4096x256 mx broadcasts_S4096x1_S4096x256 (ix2 r l)) * _ = _
  rw [spread_apply]

/-- The scale's name denotes the real number it names. -/
theorem qscale_eq : (Named.named (F := Ideal) κ "qscale" 0x3DD53B95#32 : Ideal .f32) = (((Real.sqrt 192)⁻¹ * (Real.log 2)⁻¹ : ℝ) : EReal) :=
  IdealRules.named_const.ideal_named_scalar _ _ _ _ rfl

/-- The scaled queries, read at an index. -/
theorem scaled_apply (x0 : Vec Ideal S1x1x4096x192 .f32) (r : Fin 4096) (d : Fin 192) :
    k0_pay4 x0 (ix2 r d) = x0 (ix4 0 0 r d) * (((Real.sqrt 192)⁻¹ * (Real.log 2)⁻¹ : ℝ) : EReal) := by
  unfold k0_pay4
  show shapeCast S4096x192 x0 shapeCasts_S1x1x4096x192_S4096x192 (ix2 r d) * (Named.named (F := Ideal) κ "qscale" 0x3DD53B95#32 : Ideal .f32) = _
  rw [qscale_eq, shapeCast_apply _ _ (ix2 r d) (ix4 0 0 r d) (by
    rw [Shape.rowMajor_val_four, Shape.rowMajor_val_two]
    show ((0 * _ + 0) * 4096 + r.val) * 192 + d.val = r.val * 192 + d.val
    omega)]

section
variable (x0 : Vec Ideal S1x1x4096x192 .f32) (x1 : Vec Ideal S1x1x4096x192 .bf16) (x2 : Vec Ideal S1x1x4096x128 .bf16)
variable (Q : Fin 4096 → Fin 192 → ℝ) (K : Fin 4096 → Fin 192 → ℝ)

/-- The score of a row against key `k`, in the base-two exponential's units. -/
def sc (r : Fin 4096) (k : ℕ) : ℝ :=
  ∑ d : Fin 192, Q r d * ((Real.sqrt 192)⁻¹ * (Real.log 2)⁻¹) * K ⟨k % 4096, Nat.mod_lt _ (by decide)⟩ d

variable (hQ : ∀ r d, x0 (ix4 0 0 r d) = (Q r d : EReal)) (hK : ∀ k d, x1 (ix4 0 0 k d) = (K k d : EReal))
include hQ hK

/-- A chunk's scores are the real scores. -/
theorem scores_eq (r : Fin 4096) (n : ℕ) (l : Fin 256) :
    scores (k0_pay4 x0) (keys x1 n) (ix2 r l) = (sc Q K r (256 * n + l.val) : EReal) := by
  rw [scores_apply]
  unfold sc
  rw [← sum_coe]
  refine Finset.sum_congr rfl fun d _ => ?_
  rw [scaled_apply, hQ]
  show _ * x1 (ix4 0 0 ⟨(256 * n + l.val) % 4096, _⟩ d) = _
  rw [hK, ← EReal.coe_mul, ← EReal.coe_mul]

/-- The running maximum is a real number. -/
theorem runMax_real (r : Fin 4096) (n : ℕ) : ∃ μ : ℝ, runMax (k0_pay4 x0) x1 n (ix2 r 0) = (μ : EReal) := by
  have ht : ∀ n, ∃ μ : ℝ, tops (scores (k0_pay4 x0) (keys x1 n)) (ix2 r 0) = (μ : EReal) := fun n => by
    rw [tops_apply]
    exact fold_max_real _ Finset.univ_nonempty _ fun l => ⟨_, scores_eq x0 x1 Q K hQ hK r n l⟩
  induction n with
  | zero =>
    rw [runMax]
    exact ht 0
  | succ n ih =>
    obtain ⟨a, ha⟩ := ih
    obtain ⟨b, hb⟩ := ht (n + 1)
    refine ⟨max a b, ?_⟩
    rw [runMax, maximumf_apply, ha, hb]
    exact (EReal.coe_strictMono.monotone.map_max).symm

/-- The sixteen chunks together. -/
theorem runAcc_eq (r : Fin 4096) (j : Fin 256) : ∃ μ : ℝ, ∀ j : Fin 256,
    runAcc (k0_pay4 x0) x1 x2 15 (ix2 r j) = ∑ k : Fin 4096, (wt (sc Q K r k.val) μ : EReal) *
      (if h : j.val < 128 then x2 (ix4 0 0 k ⟨j.val, h⟩) else 1) := by
  choose μ hμ using runMax_real x0 x1 Q K hQ hK r
  refine ⟨μ 15, fun j => ?_⟩
  have hone : (Scalar.ofBits .bf16 0x3F80#16 : Ideal .bf16) = (1 : EReal) := by
    show Ideal.ofBits .bf16 0x3F80#16 = 1
    simp [Ideal.ofBits, Ideal.ieee, -EReal.coe_mul]; norm_num
  let v : ℕ → EReal := fun k => if h : j.val < 128 then x2 (ix4 0 0 ⟨k % 4096, Nat.mod_lt _ (by decide)⟩ ⟨j.val, h⟩) else 1
  have hv : ∀ n (l : Fin 256), vals x2 n (ix2 l j) = v (256 * n + l.val) := fun n l => by
    show (if h : j.val < 128 then _ else _) = (if h : j.val < 128 then _ else _)
    rw [hone]
  have hw : ∀ n, weighted (scores (k0_pay4 x0) (keys x1 n)) (runMax (k0_pay4 x0) x1 n) (vals x2 n) (ix2 r j)
      = ∑ l ∈ Finset.range 256, (wt (sc Q K r (256 * n + l)) (μ n) : EReal) * v (256 * n + l) := fun n => by
    rw [weighted_apply, Finset.sum_range]
    refine Finset.sum_congr rfl fun l _ => ?_
    rw [scores_eq x0 x1 Q K hQ hK, hμ, exp2_sub, hv]
  have := online 256 (sc Q K r) v μ (fun n => runAcc (k0_pay4 x0) x1 x2 n (ix2 r j)) (by
      have h0 := hw 0
      simp only [Nat.mul_zero, Nat.zero_add] at h0
      exact h0)
    (fun n => by
      show runAcc (k0_pay4 x0) x1 x2 n (ix2 r j) * broadcastTo S4096x256 (exp2 (subf (runMax (k0_pay4 x0) x1 n) (runMax (k0_pay4 x0) x1 (n + 1)))) broadcasts_S4096x1_S4096x256 (ix2 r j)
        + weighted (scores (k0_pay4 x0) (keys x1 (n + 1))) (runMax (k0_pay4 x0) x1 (n + 1)) (vals x2 (n + 1)) (ix2 r j) = _
      rw [hw, spread_apply]
      show _ * Ideal.exp2 (runMax (k0_pay4 x0) x1 n (ix2 r 0) - runMax (k0_pay4 x0) x1 (n + 1) (ix2 r 0)) + _ = _
      rw [hμ, hμ, exp2_sub]) 15
  refine this.trans ?_
  rw [Finset.sum_range]
  refine Finset.sum_congr rfl fun k _ => ?_
  show _ * v k.val = _
  have hk : (⟨k.val % 4096, Nat.mod_lt _ (by decide)⟩ : Fin 4096) = k := Fin.ext (Nat.mod_eq_of_lt k.isLt)
  show _ * (if h : j.val < 128 then x2 (ix4 0 0 ⟨k.val % 4096, _⟩ ⟨j.val, h⟩) else 1) = _
  rw [hk]

/-- THE BLOCK: the softmax of the scaled scores times the values. -/
theorem block_eq (r : Fin 4096) (e : Fin 128) :
    block x0 x1 x2 (ix2 r e) = ∑ k : Fin 4096, x2 (ix4 0 0 k e)
      * (soft (fun k => (∑ d : Fin 192, Q r d * K k d) * (Real.sqrt 192)⁻¹) k : EReal) := by
  obtain ⟨μ, hA⟩ := runAcc_eq x0 x1 x2 Q K hQ hK r 0
  have e1 : extractStridedSlice S4096x128 ![0, 0] (runAcc (k0_pay4 x0) x1 x2 15) slices_S4096x256_o0_0_S4096x128 (ix2 r e)
      = runAcc (k0_pay4 x0) x1 x2 15 (ix2 r ⟨e.val, by omega⟩) := by
    show runAcc (k0_pay4 x0) x1 x2 15 _ = runAcc (k0_pay4 x0) x1 x2 15 _
    congr 1; funext a; apply Fin.ext
    match a with
    | ⟨0, _⟩ => show 0 + r.val = r.val; omega
    | ⟨1, _⟩ => show 0 + e.val = e.val; omega
  have e2 : extractStridedSlice S4096x128 ![0, 128] (runAcc (k0_pay4 x0) x1 x2 15) slices_S4096x256_o0_128_S4096x128 (ix2 r e)
      = runAcc (k0_pay4 x0) x1 x2 15 (ix2 r ⟨128 + e.val, by omega⟩) := by
    show runAcc (k0_pay4 x0) x1 x2 15 _ = runAcc (k0_pay4 x0) x1 x2 15 _
    congr 1; funext a; apply Fin.ext
    match a with
    | ⟨0, _⟩ => show 0 + r.val = r.val; omega
    | ⟨1, _⟩ => rfl
  unfold block
  rw [divf_apply, e1, e2, hA, hA]
  have hlt : ¬ (128 + e.val < 128) := by omega
  simp only [dif_pos e.isLt, dif_neg hlt]
  refine (quotient (fun k : Fin 4096 => sc Q K r k.val) (fun k => (∑ d : Fin 192, Q r d * K k d) * (Real.sqrt 192)⁻¹) (fun k => ?_) μ _)
  have hk : (⟨k.val % 4096, Nat.mod_lt _ (by decide)⟩ : Fin 4096) = k := Fin.ext (Nat.mod_eq_of_lt k.isLt)
  show (∑ d : Fin 192, Q r d * ((Real.sqrt 192)⁻¹ * (Real.log 2)⁻¹) * K ⟨k.val % 4096, _⟩ d) * Real.log 2 = _
  have hl : Real.log 2 ≠ 0 := (Real.log_pos (by norm_num)).ne'
  rw [hk, Finset.sum_mul, Finset.sum_mul]
  refine Finset.sum_congr rfl fun d _ => ?_
  field_simp

end

end Cert.KernelIdeal.Block

end
-- ==== Proof.Mla.Spec.lean ====
module

public import proofs.«01_k».proof.Proof.Online
public import Idealize.ShloMosaic.Lib.ValueIdx
public import Idealize.ShloMosaic.Lib.Pipeline.Value

@[expose] public section

noncomputable section

/-! What the attention computes, said once for both programs. -/

namespace Cert.Attention

open Idealize.ShloMosaic Idealize.ShloMosaic.ValueIdx Cert.Online
open scoped BigOperators

/-- The scaled score of query `r` against key `k` in head `h` of batch `b`. -/
def score (q k : (⟨4, ![2, 4096, 8, 192]⟩ : Shape).Idx → EReal) (b : Fin 2) (h : Fin 8) (r j : Fin 4096) : ℝ :=
  (∑ d : Fin 192, (q (ix4 b r h d)).toReal * (k (ix4 b j h d)).toReal) * (Real.sqrt 192)⁻¹

/-- Softmax attention, read at a batch, a head, a query and a column. -/
def att (q k : (⟨4, ![2, 4096, 8, 192]⟩ : Shape).Idx → EReal) (v : (⟨4, ![2, 4096, 8, 128]⟩ : Shape).Idx → EReal)
    (b : Fin 2) (h : Fin 8) (r : Fin 4096) (e : Fin 128) : EReal :=
  ∑ j : Fin 4096, v (ix4 b j h e) * (soft (score q k b h r) j : EReal)

/-- Every element of the array is a real number. -/
def IsReal {s : Shape} (x : s.Idx → EReal) : Prop := ∀ i, ∃ r : ℝ, x i = r

theorem IsReal.toReal {s : Shape} {x : s.Idx → EReal} (h : IsReal x) (i : s.Idx) : x i = ((x i).toReal : EReal) := by
  obtain ⟨r, hr⟩ := h i
  rw [hr, EReal.toReal_coe]

/-- The result array of [token, head and column]. -/
def out (q k : (⟨4, ![2, 4096, 8, 192]⟩ : Shape).Idx → EReal) (v : (⟨4, ![2, 4096, 8, 128]⟩ : Shape).Idx → EReal) :
    (⟨2, ![8192, 1024]⟩ : Shape).Idx → EReal := fun i =>
  att q k v ⟨(i 0).val / 4096, by have h : (i 0).val < 8192 := (i 0).isLt; omega⟩ ⟨(i 1).val / 128, by have h : (i 1).val < 1024 := (i 1).isLt; omega⟩
    ⟨(i 0).val % 4096, Nat.mod_lt _ (by omega)⟩ ⟨(i 1).val % 128, Nat.mod_lt _ (by omega)⟩

end Cert.Attention

end
-- ==== Proof.Mla.Array.lean ====
module

public import proofs.«01_k».proof.Proof.Mla.BlockVal
public import proofs.«01_k».proof.Proof.Mla.Spec
public import proofs.«01_k».proof.Proof.Gen.KernelIdeal.Value

@[expose] public section

set_option maxRecDepth 16384

noncomputable section

/-! The result array of the attention call, from the arguments. -/

namespace Cert.KernelIdeal.Array

open Cert.KernelIdeal Cert.KernelIdeal.Gen Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (c : Dev nD)

/-- The queries as launched. -/
abbrev q : (⟨4, ![2, 4096, 8, 192]⟩ : Shape).Idx → EReal := m ((c : Thread nD τ).loc main_arg0)
/-- The keys as launched. -/
abbrev k : (⟨4, ![2, 4096, 8, 192]⟩ : Shape).Idx → EReal := m ((c : Thread nD τ).loc main_arg1)
/-- The values as launched. -/
abbrev v : (⟨4, ![2, 4096, 8, 128]⟩ : Shape).Idx → EReal := m ((c : Thread nD τ).loc main_arg2)

theorem V_q : V m c main_v0 = transpose S2x8x4096x192 [0, 2, 1, 3] (q m c) transposes_S2x4096x8x192_S2x8x4096x192_0_2_1_3 := by
  unfold V; after_results
theorem V_k : V m c main_v2 = truncf (F := Ideal) .bf16 (transpose S2x8x4096x192 [0, 2, 1, 3] (k m c) transposes_S2x4096x8x192_S2x8x4096x192_0_2_1_3) bitsLt_bf16_f32 := by
  unfold V; after_results
theorem V_v : V m c main_v4 = truncf (F := Ideal) .bf16 (transpose S2x8x4096x128 [0, 2, 1, 3] (v m c) transposes_S2x4096x8x128_S2x8x4096x128_0_2_1_3) bitsLt_bf16_f32 := by
  unfold V; after_results

theorem V_q_apply (b : Fin 2) (h : Fin 8) (r : Fin 4096) (d : Fin 192) : V m c main_v0 (ix4 b h r d) = q m c (ix4 b r h d) := by
  rw [V_q]
  exact transpose_apply [0, 2, 1, 3] _ transposes_S2x4096x8x192_S2x8x4096x192_0_2_1_3 _ _ (fun a => match a with
    | ⟨0, _⟩ => rfl | ⟨1, _⟩ => rfl | ⟨2, _⟩ => rfl | ⟨3, _⟩ => rfl)
theorem V_k_apply (b : Fin 2) (h : Fin 8) (r : Fin 4096) (d : Fin 192) : V m c main_v2 (ix4 b h r d) = k m c (ix4 b r h d) := by
  rw [V_k]
  refine (truncf_apply (ψ := .bf16) _ bitsLt_bf16_f32 _).trans ?_
  exact transpose_apply [0, 2, 1, 3] _ transposes_S2x4096x8x192_S2x8x4096x192_0_2_1_3 _ _ (fun a => match a with
    | ⟨0, _⟩ => rfl | ⟨1, _⟩ => rfl | ⟨2, _⟩ => rfl | ⟨3, _⟩ => rfl)
theorem V_v_apply (b : Fin 2) (h : Fin 8) (r : Fin 4096) (d : Fin 128) : V m c main_v4 (ix4 b h r d) = v m c (ix4 b r h d) := by
  rw [V_v]
  refine (truncf_apply (ψ := .bf16) _ bitsLt_bf16_f32 _).trans ?_
  exact transpose_apply [0, 2, 1, 3] _ transposes_S2x4096x8x128_S2x8x4096x128_0_2_1_3 _ _ (fun a => match a with
    | ⟨0, _⟩ => rfl | ⟨1, _⟩ => rfl | ⟨2, _⟩ => rfl | ⟨3, _⟩ => rfl)

/-- Grid point `t` works on batch `t / 8` and head `t % 8`. -/
theorem idx_facts : ∀ t : Fin cfg0.N, t.val / 8 < 2
    ∧ win0_0.index t (0 : Fin 4) = t.val / 8 ∧ win0_0.index t (1 : Fin 4) = t.val % 8 ∧ win0_0.index t (2 : Fin 4) = 0 ∧ win0_0.index t (3 : Fin 4) = 0
    ∧ win0_1.index t (0 : Fin 4) = t.val / 8 ∧ win0_1.index t (1 : Fin 4) = t.val % 8 ∧ win0_1.index t (2 : Fin 4) = 0 ∧ win0_1.index t (3 : Fin 4) = 0
    ∧ win0_2.index t (0 : Fin 4) = t.val / 8 ∧ win0_2.index t (1 : Fin 4) = t.val % 8 ∧ win0_2.index t (2 : Fin 4) = 0 ∧ win0_2.index t (3 : Fin 4) = 0
    ∧ win0_3.index t (0 : Fin 2) = t.val / 8 ∧ win0_3.index t (1 : Fin 2) = t.val % 8 :=
  (by decide +kernel : ∀ t : Fin grid0.N, _)

/-- The batch of a grid point. -/
def bat (t : Fin cfg0.N) : Fin 2 := ⟨t.val / 8, (idx_facts t).1⟩
/-- The head of a grid point. -/
def hd (t : Fin cfg0.N) : Fin 8 := ⟨t.val % 8, Nat.mod_lt _ (by omega)⟩

theorem q_block (t : Fin cfg0.N) (r : Fin 4096) (d : Fin 192) :
    (iblk m c 0 t : Vec Ideal S1x1x4096x192 .f32) (ix4 0 0 r d) = q m c (ix4 (bat t) r (hd t) d) := by
  rw [← V_q_apply]
  obtain ⟨_, e0, e1, e2, e3, _⟩ := idx_facts t
  show V m c main_v0 (((cfg0.win 0).blk t).view.emb (ix4 0 0 r d)) = _
  refine congrArg (V m c main_v0) (funext fun a => Fin.ext ?_)
  match a with
  | ⟨0, _⟩ => show win0_0.index t (0 : Fin 4) * 1 + 1 * 0 = t.val / 8; omega
  | ⟨1, _⟩ => show win0_0.index t (1 : Fin 4) * 1 + 1 * 0 = t.val % 8; omega
  | ⟨2, _⟩ => show win0_0.index t (2 : Fin 4) * 4096 + 1 * r.val = r.val; omega
  | ⟨3, _⟩ => show win0_0.index t (3 : Fin 4) * 192 + 1 * d.val = d.val; omega

theorem k_block (t : Fin cfg0.N) (r : Fin 4096) (d : Fin 192) :
    (iblk m c 1 t : Vec Ideal S1x1x4096x192 .bf16) (ix4 0 0 r d) = k m c (ix4 (bat t) r (hd t) d) := by
  rw [← V_k_apply]
  obtain ⟨_, _, _, _, _, e0, e1, e2, e3, _⟩ := idx_facts t
  show V m c main_v2 (((cfg0.win 1).blk t).view.emb (ix4 0 0 r d)) = _
  refine congrArg (V m c main_v2) (funext fun a => Fin.ext ?_)
  match a with
  | ⟨0, _⟩ => show win0_1.index t (0 : Fin 4) * 1 + 1 * 0 = t.val / 8; omega
  | ⟨1, _⟩ => show win0_1.index t (1 : Fin 4) * 1 + 1 * 0 = t.val % 8; omega
  | ⟨2, _⟩ => show win0_1.index t (2 : Fin 4) * 4096 + 1 * r.val = r.val; omega
  | ⟨3, _⟩ => show win0_1.index t (3 : Fin 4) * 192 + 1 * d.val = d.val; omega

theorem v_block (t : Fin cfg0.N) (r : Fin 4096) (e : Fin 128) :
    (iblk m c 2 t : Vec Ideal S1x1x4096x128 .bf16) (ix4 0 0 r e) = v m c (ix4 (bat t) r (hd t) e) := by
  rw [← V_v_apply]
  obtain ⟨_, _, _, _, _, _, _, _, _, e0, e1, e2, e3, _⟩ := idx_facts t
  show V m c main_v4 (((cfg0.win 2).blk t).view.emb (ix4 0 0 r e)) = _
  refine congrArg (V m c main_v4) (funext fun a => Fin.ext ?_)
  match a with
  | ⟨0, _⟩ => show win0_2.index t (0 : Fin 4) * 1 + 1 * 0 = t.val / 8; omega
  | ⟨1, _⟩ => show win0_2.index t (1 : Fin 4) * 1 + 1 * 0 = t.val % 8; omega
  | ⟨2, _⟩ => show win0_2.index t (2 : Fin 4) * 4096 + 1 * r.val = r.val; omega
  | ⟨3, _⟩ => show win0_2.index t (3 : Fin 4) * 128 + 1 * e.val = e.val; omega

/-- What a point writes back is its block of the attention's result. -/
theorem flushed_eq (hq : IsReal (q m c)) (hk : IsReal (k m c)) (t : Fin cfg0.N) :
    (dats m 0 c).flushed 3 t = ((cfg0.win 3).blk t).view.read (Elt Ideal) (out (q m c) (k m c) (v m c)) := by
  rw [Value.flushed3_A, Block.out_eq]
  obtain ⟨h2, _, _, _, _, _, _, _, _, _, _, _, _, f0, f1⟩ := idx_facts t
  funext y
  have hy0 : (y 0).val < 4096 := (y 0).isLt
  have hy1 : (y 1).val < 128 := (y 1).isLt
  have hb0 : (((cfg0.win 3).blk t).view.emb y 0).val = win0_3.index t (0 : Fin 2) * 4096 + 1 * (y 0).val := rfl
  have hb1 : (((cfg0.win 3).blk t).view.emb y 1).val = win0_3.index t (1 : Fin 2) * 128 + 1 * (y 1).val := rfl
  have hx : (cfg0.win 3).xinj (grid0.coords t) y = ix2 (⟨(y 0).val, hy0⟩ : Fin 4096) (⟨(y 1).val, hy1⟩ : Fin 128) := by
    funext a; apply Fin.ext
    match a with
    | ⟨0, _⟩ => rfl
    | ⟨1, _⟩ => rfl
  show Block.block (iblk m c 0 t) (iblk m c 1 t) (iblk m c 2 t) ((cfg0.win 3).xinj (grid0.coords t) y)
    = out (q m c) (k m c) (v m c) (((cfg0.win 3).blk t).view.emb y)
  rw [hx, Block.block_eq (iblk m c 0 t) (iblk m c 1 t) (iblk m c 2 t)
    (fun r d => (q m c (ix4 (bat t) r (hd t) d)).toReal) (fun r d => (k m c (ix4 (bat t) r (hd t) d)).toReal)
    (fun r d => (q_block m c t r d).trans (hq.toReal _)) (fun r d => (k_block m c t r d).trans (hk.toReal _))]
  have g0 : (⟨(((cfg0.win 3).blk t).view.emb y 0).val / 4096, by rw [hb0]; omega⟩ : Fin 2) = bat t :=
    Fin.ext (by show (((cfg0.win 3).blk t).view.emb y 0).val / 4096 = t.val / 8; rw [hb0]; omega)
  have g1 : (⟨(((cfg0.win 3).blk t).view.emb y 1).val / 128, by rw [hb1]; omega⟩ : Fin 8) = hd t :=
    Fin.ext (by show (((cfg0.win 3).blk t).view.emb y 1).val / 128 = t.val % 8; rw [hb1]; omega)
  have g2 : (⟨(((cfg0.win 3).blk t).view.emb y 0).val % 4096, Nat.mod_lt _ (by omega)⟩ : Fin 4096) = ⟨(y 0).val, hy0⟩ :=
    Fin.ext (by show (((cfg0.win 3).blk t).view.emb y 0).val % 4096 = (y 0).val; rw [hb0]; omega)
  have g3 : (⟨(((cfg0.win 3).blk t).view.emb y 1).val % 128, Nat.mod_lt _ (by omega)⟩ : Fin 128) = ⟨(y 1).val, hy1⟩ :=
    Fin.ext (by show (((cfg0.win 3).blk t).view.emb y 1).val % 128 = (y 1).val; rw [hb1]; omega)
  unfold out
  rw [g0, g1, g2, g3]
  unfold att
  refine Finset.sum_congr rfl fun j _ => ?_
  rw [v_block]
  rfl

/-- An index of the array is in point `t`'s block iff each coordinate is in the block's range on its axis. -/
theorem mem_block (t : Fin cfg0.N) (i : S8192x1024.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v5).slice (win0_3.rect t)).set ↔ _
  rw [View.set_slice_whole, Rect.mem_set_unit]
  exact Iff.rfl

theorem flushes : ∀ t : Fin cfg0.N, (cfg0.win 3).flush t = true :=
  (by decide +kernel : ∀ t : Fin grid0.N, win0_3.flush t = true)

/-- The result array after the run. -/
theorem final (hq : IsReal (q m c)) (hk : IsReal (k m c)) :
    (dats m 0 c).arrAt 3 cfg0.N = out (q m c) (k m c) (v m c) :=
  (dats m 0 c).arrAt_eq_of_cover 3 _ (fun t _ => flushed_eq m c hq hk t) (fun i => by
    have h0 : (i 0).val < 8192 := (i 0).isLt
    have h1 : (i 1).val < 1024 := (i 1).isLt
    have hN : cfg0.N = 16 := N_0
    refine ⟨⟨8 * ((i 0).val / 4096) + (i 1).val / 128, by omega⟩, flushes _, ?_⟩
    generalize ht : (⟨8 * ((i 0).val / 4096) + (i 1).val / 128, by omega⟩ : Fin cfg0.N) = t
    have hv : t.val = 8 * ((i 0).val / 4096) + (i 1).val / 128 := by rw [← ht]
    obtain ⟨_, _, _, _, _, _, _, _, _, _, _, _, _, f0, f1⟩ := idx_facts t
    rw [mem_block]
    intro a
    match a with
    | ⟨0, _⟩ => show win0_3.index t (0 : Fin 2) * 4096 ≤ (i 0).val ∧ (i 0).val < win0_3.index t (0 : Fin 2) * 4096 + 4096; omega
    | ⟨1, _⟩ => show win0_3.index t (1 : Fin 2) * 128 ≤ (i 1).val ∧ (i 1).val < win0_3.index t (1 : Fin 2) * 128 + 128; omega)

end Cert.KernelIdeal.Array

end
-- ==== Proof.Mla.Ref.lean ====
module

public import proofs.«01_k».proof.Proof.Mla.Spec
public import proofs.«01_k».proof.Proof.Gen.ReferenceIdeal.Read
public import Idealize.ShloMosaic.Lib.KernelVsHost

@[expose] public section

set_option maxRecDepth 16384

noncomputable section

/-! The reference's result, read at an index. -/

namespace Cert.ReferenceIdeal.Ref

open Cert.ReferenceIdeal Cert.ReferenceIdeal.Gen Cert.ReferenceIdeal.Read Idealize.ShloMosaic Idealize.ShloMosaic.ValueIdx
open Cert.Attention Cert.Online
open scoped BigOperators

/-- The scale is the reciprocal square root of the head width. -/
theorem scale_apply (i : S2x8x4096x4096.Idx) : val_main_v2 (F := Ideal) i = (((Real.sqrt 192)⁻¹ : ℝ) : EReal) := by
  rw [val_main_v2_apply, val_main_v0_apply, val_main_cst_apply]
  have h : (FloatOps.ofBits .f32 0x43400000#32 : Ideal .f32) = ((192 : ℝ) : EReal) := by
    show Ideal.ofBits .f32 0x43400000#32 = _
    simp [Ideal.ofBits, Ideal.ieee, -EReal.coe_mul]; norm_num
  rw [h]
  show Ideal.rsqrt ((192 : ℝ) : EReal) = _
  rw [Ideal.rsqrt_coe, if_neg (by norm_num), if_neg (by norm_num)]

variable (q k : S2x4096x8x192.Idx → EReal) (hq : IsReal q) (hk : IsReal k)
include hq hk

theorem score_apply (b : Fin 2) (h : Fin 8) (r j : Fin 4096) :
    val_main_v3 (F := Ideal) q k (ix4 b h r j) = (score q k b h r j : EReal) := by
  rw [val_main_v3_apply, scale_apply, val_main_v1_apply]
  show (∑ d : Fin 192, _) * _ = _
  unfold score
  rw [EReal.coe_mul, ← sum_coe]
  congr 1
  refine Finset.sum_congr rfl fun d _ => ?_
  rw [EReal.coe_mul, ← hq.toReal, ← hk.toReal]
  congr 1
  · congr 1; rw [eq_ix4 (lidx_main_v1 _ _)]; rfl
  · congr 1; rw [eq_ix4 (ridx_main_v1 _ _)]; rfl

/-- The row maximum is a real number. -/
theorem max_real (b : Fin 2) (h : Fin 8) (r : Fin 4096) : ∃ τ : ℝ, val_main_v6 (F := Ideal) q k (ix3 b h r) = (τ : EReal) := by
  have hb : (FloatOps.ofBits FTy.f32 0xFF800000#32 : Ideal .f32) = (⊥ : EReal) := by
    show Ideal.ofBits .f32 0xFF800000#32 = ⊥
    simp [Ideal.ofBits, Ideal.ieee]
  obtain ⟨τ, hτ⟩ := fold_max_real (Finset.univ : Finset (Fin 4096)) Finset.univ_nonempty (fun j => val_main_v3 (F := Ideal) q k (ix4 b h r j))
    (fun j => ⟨_, score_apply q k hq hk b h r j⟩)
  refine ⟨τ, ?_⟩
  rw [val_main_v6_apply, val_main_v5_apply, val_main_cst_1_apply, hb]
  have hv : val_main_v4 (F := Ideal) q k (ix3 b h r) = (Finset.univ : Finset (Fin 4096)).fold max ⊥ (fun j => val_main_v3 (F := Ideal) q k (ix4 b h r j)) := by
    unfold val_main_v4
    generalize val_main_v3 (F := Ideal) q k = y
    unfold val_main_cst_0
    refine (congrFun (hostReduce_maximumf_eq_multiReduction (F := Ideal) (φ := .f32) y 0xFF800000#32 reducesTo_S2x8x4096x4096_S2x8x4096_d3 h_S_
      (by decide : S2x8x4096x4096.Reduces [3] S2x8x4096) (.inl rfl) rfl) (ix3 b h r)).trans ?_
    refine (Ideal.multiReduction_maximumf_single y _ (by decide) (.inl rfl) rfl (ix3 b h r)).trans ?_
    have hb' : (FloatOps.ofBits FTy.f32 (FKind.maximumf.neutral FTy.f32 (.inl rfl)) : Ideal .f32) = (⊥ : EReal) := hb
    rw [hb']
    congr 1
    funext j
    show y _ = y _
    congr 1
    funext a; apply Fin.ext
    match a with
    | ⟨0, _⟩ => rfl
    | ⟨1, _⟩ => rfl
    | ⟨2, _⟩ => rfl
    | ⟨3, _⟩ => rfl
  rw [hv, hτ]
  exact max_eq_right bot_le

theorem weight_apply (b : Fin 2) (h : Fin 8) (r j : Fin 4096) :
    val_main_v14 (F := Ideal) q k (ix4 b h r j) = (soft (score q k b h r) j : EReal) := by
  obtain ⟨τ, hτ⟩ := max_real q k hq hk b h r
  have he : ∀ j, val_main_v10 (F := Ideal) q k (ix4 b h r j) = Ideal.exp ((score q k b h r j : EReal) - (τ : EReal)) := fun j => by
    rw [val_main_v10_apply, val_main_v9_apply, val_main_v8_apply, val_main_v7_apply, score_apply q k hq hk]
    have hi : idx_main_v7 (idx_main_v8 (ix4 b h r j)) = ix3 b h r := by
      funext a; match a with | ⟨0, _⟩ => rfl | ⟨1, _⟩ => rfl | ⟨2, _⟩ => rfl
    rw [hi, hτ]; rfl
  rw [val_main_v14_apply, val_main_v13_apply, val_main_v12_apply, val_main_v11_apply, he, val_main_cst_2_apply]
  rw [← ref_weight _ τ]
  have hz : (FloatOps.ofBits FTy.f32 0x00000000#32 : Ideal .f32) = (0 : EReal) := Ideal.ofBits_zero_f32
  rw [hz]
  refine congrArg (fun z : EReal => Ideal.div (Ideal.exp ((score q k b h r j : EReal) - (τ : EReal))) (0 + z)) ?_
  refine Finset.sum_congr rfl fun j' _ => ?_
  rw [← he]
  refine congrArg (val_main_v10 (F := Ideal) q k) ?_
  funext a; match a with | ⟨0, _⟩ => rfl | ⟨1, _⟩ => rfl | ⟨2, _⟩ => rfl | ⟨3, _⟩ => rfl

/-- The reference computes the attention. -/
theorem out_eq (v : S2x4096x8x128.Idx → EReal) : val_main_v17 (F := Ideal) q k v = out q k v := by
  funext i
  rw [val_main_v17_apply, val_main_v16_apply, val_main_v15_apply]
  unfold out att
  have h0 : (i 0).val < 8192 := (i 0).isLt
  have h1 : (i 1).val < 1024 := (i 1).isLt
  refine Finset.sum_congr rfl fun j _ => ?_
  rw [← weight_apply q k hq hk]
  congr 1
  · congr 1
    funext a; apply Fin.ext
    match a with
    | ⟨0, _⟩ => show ((i 0).val * 1024 + (i 1).val) / 4194304 = (i 0).val / 4096; omega
    | ⟨1, _⟩ => rfl
    | ⟨2, _⟩ => show ((i 0).val * 1024 + (i 1).val) / 128 % 8 = (i 1).val / 128; omega
    | ⟨3, _⟩ => show ((i 0).val * 1024 + (i 1).val) % 128 = (i 1).val % 128; omega
  · congr 1
    funext a; apply Fin.ext
    match a with
    | ⟨0, _⟩ => show ((i 0).val * 1024 + (i 1).val) / 4194304 = (i 0).val / 4096; omega
    | ⟨1, _⟩ => show ((i 0).val * 1024 + (i 1).val) / 128 % 8 = (i 1).val / 128; omega
    | ⟨2, _⟩ => show ((i 0).val * 1024 + (i 1).val) / 1024 % 4096 = (i 0).val % 4096; omega
    | ⟨3, _⟩ => rfl

end Cert.ReferenceIdeal.Ref

end
-- ==== Proof.Mla.Pre.lean ====
module

public import proofs.«01_k».proof.Defs
public import proofs.«01_k».proof.Proof.Mla.Spec
public import Idealize.ShloMosaic.Lib.ReduceAll

@[expose] public section

set_option maxRecDepth 16384

noncomputable section

/-! The stated condition says that the queries and the keys are real numbers. -/

namespace Cert.Pre_finite_scores.Hand

open Idealize.ShloMosaic Cert.Pre_finite_scores Cert.Attention

/-- An extended real whose absolute value is below infinity is a real number. -/
theorem real_of_abs_lt (x : EReal) (h : max x (-x) < ⊤) : ∃ r : ℝ, x = r := by
  induction x with
  | bot => simp at h
  | coe r => exact ⟨r, rfl⟩
  | top => simp at h

/-- The test of one element. -/
theorem real_of_test (x : Ideal .f32)
    (h : FloatOps.cmpf .olt (FloatOps.hostAbsf x) (FloatOps.ofBits (F := Ideal) .f32 0x7F800000#32) = 1#1) : ∃ r : ℝ, (x : EReal) = r := by
  have hi : (FloatOps.ofBits (F := Ideal) .f32 0x7F800000#32 : Ideal .f32) = (⊤ : EReal) := by
    show Ideal.ofBits .f32 0x7F800000#32 = ⊤
    simp [Ideal.ofBits, Ideal.ieee]
  rw [hi] at h
  apply real_of_abs_lt
  by_contra hn
  have : FloatOps.cmpf .olt (FloatOps.hostAbsf x) (⊤ : Ideal .f32) = 0#1 := by
    show Ideal.cmp .olt (max (x : EReal) (-(x : EReal))) ⊤ = 0#1
    unfold Ideal.cmp
    simp [hn]
  rw [this] at h
  exact absurd h (by decide)

variable [Cert.Pre_finite_scores.Facts]
open Facts

theorem reals (q k : S2x4096x8x192.Idx → EReal) (v : S2x4096x8x128.Idx → EReal)
    (h : Cert.Pre_finite_scores.fn (F := Ideal) q k v = fun _ => 1#1) : IsReal q ∧ IsReal k := by
  have h1 := congrFun h (fun a => a.elim0)
  unfold Cert.Pre_finite_scores.fn at h1
  dsimp only at h1
  have key : ∀ a b : BitVec 1, IntOp.andi a b = 1#1 → a = 1#1 ∧ b = 1#1 := by decide
  obtain ⟨ha, hb⟩ := key _ _ h1
  haveI : Subsingleton S_.Idx := ⟨fun a b => funext fun i => i.elim0⟩
  exact ⟨fun i => real_of_test _ (Host.reduce_andi_all _ _ _ _ _ ha i), fun i => real_of_test _ (Host.reduce_andi_all _ _ _ _ _ hb i)⟩

end Cert.Pre_finite_scores.Hand

end
-- ==== Proof.Mla.Claims.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Mla.Array
public import proofs.«01_k».proof.Proof.Mla.Ref
public import proofs.«01_k».proof.Proof.Mla.Pre
public import Idealize.ShloMosaic.Adequacy
public import Idealize.ShloMosaic.Init

@[expose] public section

set_option maxRecDepth 16384

noncomputable section

/-! The claims about the attention call. -/

namespace Cert.Proof.Mla

open Idealize.ShloMosaic Idealize.SL.Sem Cert.Attention

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_scores := fun m ρ _ => Cert.KernelIdeal.Gen.frame m ρ

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_pre : Cert.quiescent_ReferenceIdeal_pre_finite_scores := fun m ρ _ => frame_ref m ρ trivial

/-- The named scale is the reciprocal of `√192 · ln 2`. -/
theorem preserves : Cert.preserves_Kernel_KernelIdeal :=
  IdealRules.named_const.statement Cert.KernelIdeal.κ "qscale" .f32 0x3DD53B95#32 _ rfl

/-- The kernel and the reference both end at the attention of the launched arrays. -/
theorem algebraic : Cert.algebraic_KernelIdeal_ReferenceIdeal_pre_finite_scores := by
  intro m ρ m' ρ' hpre hagree
  refine ⟨fun c => out (Cert.KernelIdeal.Array.q m c) (Cert.KernelIdeal.Array.k m c) (Cert.KernelIdeal.Array.v m c), ?_, ?_⟩
  · refine (θ_run Cert.KernelIdeal.defs _ _).mono (fun r h c => ?_) (Cert.KernelIdeal.Value.run_blocks m ρ)
    obtain ⟨hq, hk⟩ := Cert.Pre_finite_scores.Hand.reals _ _ _ (hpre c)
    exact ⟨(h c).1.trans (Cert.KernelIdeal.Array.final m c hq hk), (h c).2⟩
  · refine (θ_run Cert.ReferenceIdeal.defs _ _).mono (fun r h c => ?_) (Cert.ReferenceIdeal.Value.run (F := Ideal) m' ρ')
    obtain ⟨hq, hk⟩ := Cert.Pre_finite_scores.Hand.reals _ _ _ (hpre c)
    refine ⟨(h c).1.trans ?_, (h c).2⟩
    rw [Cert.ReferenceIdeal.Read.val_main_v17_eq, (hagree c).1, (hagree c).2.1, (hagree c).2.2]
    exact Cert.ReferenceIdeal.Ref.out_eq _ _ hq hk _

end Cert.Proof.Mla

end
-- ==== Proof.Up.Block.lean ====
module

public import proofs.«01_k».proof.Proof.Gen.UpIdeal.Value
public import Idealize.ShloMosaic.Lib.ValueIdx

@[expose] public section

set_option maxRecDepth 16384

noncomputable section

/-! What a grid point of the feed-forward call leaves: its block of the output, from a tile of rows and two tiles of weights. -/

namespace Cert.UpIdeal.Block

open Cert.UpIdeal Cert.UpIdeal.Gen Idealize.ShloMosaic Idealize.ShloMosaic.TcCoe Idealize.ShloMosaic.ValueIdx

variable {F : FTy → Type} [FloatOps F]

/-- A tile of the weights as it is kept: the leading unit axis dropped, in the narrow format. -/
def kept (w : Vec F S1x4096x256 .f32) : Vec F S4096x256 .bf16 :=
  truncf .bf16 (shapeCast S4096x256 w shapeCasts_S1x4096x256_S4096x256) bitsLt_bf16_f32

/-- The `n`-th half of a tile of rows. -/
def rows (x0 : Vec F S2048x4096 .bf16) (n : ℕ) : FVec F S1024x4096 .bf16 :=
  fun j => x0 (ix2 ⟨(1024 * n + (j 0).val) % 2048, Nat.mod_lt _ (by decide)⟩ ⟨(j 1).val, (j 1).isLt⟩)

/-- Rows times a tile of weights. -/
def prod (a : FVec F S1024x4096 .bf16) (w : Vec F S4096x256 .bf16) : FVec F S1024x256 .f32 :=
  matmul dot_S1024x4096_S4096x256_S1024x256_1_0_0_1_n_n none a w (constant S1024x256 .f32 0x00000000#32)

/-- The gated products of half a tile of rows. -/
def gated (a : FVec F S1024x4096 .bf16) (wg wu : Vec F S4096x256 .bf16) : FVec F S1024x256 .bf16 :=
  truncf .bf16 (mulf (mulf (prod a wg)
    (divf (broadcast S1024x256 (Scalar.ofBits .f32 0x3F800000#32))
      (addf (broadcast S1024x256 (Scalar.ofBits .f32 0x3F800000#32)) (exp (subf (broadcast S1024x256 (Scalar.ofBits .f32 0x00000000#32)) (prod a wg))))))
    (prod a wu)) bitsLt_bf16_f32

/-- The block: both halves. -/
def block (x0 : Vec F S2048x4096 .bf16) (wg wu : Vec F S4096x256 .bf16) : Vec F S2048x256 .bf16 :=
  fun j => gated (rows x0 ((j 0).val / 1024)) wg wu (ix2 ⟨(j 0).val % 1024, Nat.mod_lt _ (by decide)⟩ ⟨(j 1).val, (j 1).isLt⟩)

theorem pay2_eq (w : Vec F S1x4096x256 .f32) : k0_pay2 w = kept w := by
  unfold k0_pay2 kept
  exact shapeCast_self _ _

theorem pay3_eq (w : Vec F S1x4096x256 .f32) : k0_pay3 w = kept w := by
  unfold k0_pay3 kept
  exact shapeCast_self _ _

theorem pay5_eq (a : Vec F S1024x4096 .bf16) : k0_pay5 a = a := by
  unfold k0_pay5
  exact shapeCast_self _ _

theorem pay4_eq (a : Vec F S1024x4096 .bf16) (wg wu : Vec F S4096x256 .bf16) : k0_pay4 a wg wu = gated a wg wu := by
  unfold k0_pay4 gated prod
  rw [shapeCast_self]

theorem pay6_eq (a : Vec F S1024x4096 .bf16) (w : Vec F S4096x256 .bf16) : k0_pay6 a w = prod a w := by
  unfold k0_pay6 prod
  rw [pay5_eq]

theorem pay7_eq (a : Vec F S1024x4096 .bf16) (w : Vec F S4096x256 .bf16) : k0_pay7 a w = prod a w := by
  unfold k0_pay7 prod
  rw [pay5_eq]

theorem pay1_eq (a : Vec F S1024x4096 .bf16) (wg wu : Vec F S4096x256 .bf16) :
    k0_pay1 (k0_pay6 a wg) (k0_pay7 a wu) (k0_pay8 a wg) = gated a wg wu := by
  unfold k0_pay1 k0_pay8 gated
  rw [pay6_eq, pay7_eq]

theorem ld_rows (x0 : Vec F S2048x4096 .bf16) (n o : ℕ) (hn : n < 2) (ho : o = 1024 * n)
    (h : ∀ a, (![o, 0] : Fin 2 → ℕ) a + (![1024, 4096] : Fin 2 → ℕ) a ≤ S2048x4096.size a) :
    View.ld x0 (Rect.unit (s := S2048x4096) ![o, 0] ![1024, 4096] h) = rows x0 n := by
  funext j
  have h0 : (j 0).val < 1024 := (j 0).isLt
  show x0 _ = x0 _
  congr 1
  funext a; apply Fin.ext
  match a with
  | ⟨0, _⟩ => show o + 1 * (j 0).val = (1024 * n + (j 0).val) % 2048; omega
  | ⟨1, _⟩ => show 0 + 1 * (j 1).val = (j 1).val; omega

theorem ld_tile (w : Vec F S1x4096x256 .f32)
    (h : ∀ a, (![0, 0, 0] : Fin 3 → ℕ) a + (![1, 4096, 256] : Fin 3 → ℕ) a ≤ S1x4096x256.size a) :
    View.ld w (Rect.unit (s := S1x4096x256) ![0, 0, 0] ![1, 4096, 256] h) = w := by
  funext j
  show w _ = w _
  congr 1
  funext a; apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

theorem ld_kept (w : Vec F S4096x256 .bf16)
    (h : ∀ a, (![0, 0] : Fin 2 → ℕ) a + (![4096, 256] : Fin 2 → ℕ) a ≤ S4096x256.size a) :
    View.ld w (Rect.unit (s := S4096x256) ![0, 0] ![4096, 256] h) = w := by
  funext j
  show w _ = w _
  congr 1
  funext a; apply Fin.ext
  match a with
  | ⟨0, _⟩ => show 0 + 1 * (j 0).val = (j 0).val; omega
  | ⟨1, _⟩ => show 0 + 1 * (j 1).val = (j 1).val; omega

/-- A tile stored whole, loaded whole. -/
theorem readCov_kept (v : View sig .tc .vmem S4096x256 .bf16) (w : Vec F S4096x256 .bf16)
    (h1 h2 : ∀ a, (![0, 0] : Fin 2 → ℕ) a + (![4096, 256] : Fin 2 → ℕ) a ≤ S4096x256.size a) :
    v.readCov (Val := Elt F) [⟨Rect.unit (s := S4096x256) ![0, 0] ![4096, 256] h1, w⟩]
      (Rect.unit (s := S4096x256) ![0, 0] ![4096, 256] h2).toLoadRect = w := by
  have hc : View.canon (Val := Elt F) [⟨Rect.unit (s := S4096x256) ![0, 0] ![4096, 256] h1, w⟩] = w :=
    View.canon_unit_zero (S := S4096x256) (by funext a; fin_cases a <;> rfl) _ _
  rw [View.readCov_eq_canon', hc]
  exact ld_kept w h2

/-- Two halves stored, read together. -/
theorem canon_halves (p0 p1 : Vec F S1024x256 .bf16)
    (h1 : ∀ a, (![1024, 0] : Fin 2 → ℕ) a + (![1024, 256] : Fin 2 → ℕ) a ≤ S2048x256.size a)
    (h0 : ∀ a, (![0, 0] : Fin 2 → ℕ) a + (![1024, 256] : Fin 2 → ℕ) a ≤ S2048x256.size a)
    (G : Vec F S2048x256 .bf16)
    (e0 : ∀ (r : Fin 1024) (d : Fin 256), p0 (ix2 r d) = G (ix2 ⟨r.val, by omega⟩ d))
    (e1 : ∀ (r : Fin 1024) (d : Fin 256), p1 (ix2 r d) = G (ix2 ⟨1024 + r.val, by omega⟩ d)) :
    View.canon (Val := Elt F) [⟨Rect.unit (s := S2048x256) ![1024, 0] ![1024, 256] h1, p1⟩, ⟨Rect.unit (s := S2048x256) ![0, 0] ![1024, 256] h0, p0⟩] = G := by
  funext j
  have hj0 : (j 0).val < 2048 := (j 0).isLt
  have hj1 : (j 1).val < 256 := (j 1).isLt
  by_cases hd : (j 0).val < 1024
  · rw [View.canon_cons_of_not_mem _ _ (by
      intro hm
      have := ((Rect.mem_set_unit (inb := h1)).1 hm 0).1
      have e2 : (![1024, 0] : Fin 2 → ℕ) 0 = 1024 := rfl
      omega)]
    have e : j = (Rect.unit (s := S2048x256) ![0, 0] ![1024, 256] h0).emb (ix2 (n0 := 1024) (n1 := 256) ⟨(j 0).val, hd⟩ ⟨(j 1).val, hj1⟩) := by
      funext a; apply Fin.ext
      match a with
      | ⟨0, _⟩ => show (j 0).val = 0 + 1 * (j 0).val; omega
      | ⟨1, _⟩ => show (j 1).val = 0 + 1 * (j 1).val; omega
    conv_lhs => rw [e]
    rw [View.canon_cons_emb]
    refine (e0 ⟨(j 0).val, hd⟩ ⟨(j 1).val, hj1⟩).trans (congrArg G ?_)
    funext a; apply Fin.ext
    match a with
    | ⟨0, _⟩ => rfl
    | ⟨1, _⟩ => rfl
  · have e : j = (Rect.unit (s := S2048x256) ![1024, 0] ![1024, 256] h1).emb (ix2 (n0 := 1024) (n1 := 256) ⟨(j 0).val - 1024, by omega⟩ ⟨(j 1).val, hj1⟩) := by
      funext a; apply Fin.ext
      match a with
      | ⟨0, _⟩ => show (j 0).val = 1024 + 1 * ((j 0).val - 1024); omega
      | ⟨1, _⟩ => show (j 1).val = 0 + 1 * (j 1).val; omega
    conv_lhs => rw [e]
    rw [View.canon_cons_emb]
    refine (e1 ⟨(j 0).val - 1024, by omega⟩ ⟨(j 1).val, hj1⟩).trans (congrArg G ?_)
    funext a; apply Fin.ext
    match a with
    | ⟨0, _⟩ => show 1024 + ((j 0).val - 1024) = (j 0).val; omega
    | ⟨1, _⟩ => rfl

theorem block_low (x0 : Vec F S2048x4096 .bf16) (wg wu : Vec F S4096x256 .bf16) (r : Fin 1024) (d : Fin 256) :
    gated (rows x0 0) wg wu (ix2 r d) = block x0 wg wu (ix2 ⟨r.val, by omega⟩ d) := by
  unfold block
  show _ = gated (rows x0 (r.val / 1024)) wg wu (ix2 ⟨r.val % 1024, _⟩ ⟨d.val, _⟩)
  rw [show r.val / 1024 = 0 from by omega]
  congr 2
  apply Fin.ext; show r.val = r.val % 1024; omega

theorem block_high (x0 : Vec F S2048x4096 .bf16) (wg wu : Vec F S4096x256 .bf16) (r : Fin 1024) (d : Fin 256) :
    gated (rows x0 1) wg wu (ix2 r d) = block x0 wg wu (ix2 ⟨1024 + r.val, by omega⟩ d) := by
  unfold block
  show _ = gated (rows x0 ((1024 + r.val) / 1024)) wg wu (ix2 ⟨(1024 + r.val) % 1024, _⟩ ⟨d.val, _⟩)
  rw [show (1024 + r.val) / 1024 = 1 from by omega]
  congr 2
  apply Fin.ext; show r.val = (1024 + r.val) % 1024; omega

set_option maxHeartbeats 1000000 in
/-- At the first row tile of a weight tile: the block, of the weights just cast. -/
theorem out_A (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S2048x256 .bf16) (harg5 : arg5.IsWhole) (arg6 : Memref sig .tc .vmem S4096x256 .bf16) (harg6 : arg6.IsWhole) (arg7 : Memref sig .tc .vmem S4096x256 .bf16) (harg7 : arg7.IsWhole) (hc0 : cond0_0 i)
    (x0 : Vec F S2048x4096 .bf16) (x1 : Vec F S1x4096x256 .f32) (x2 : Vec F S1x4096x256 .f32) :
    out0_A_3 c i arg2 harg2 arg3 harg3 arg4 harg4 arg5 harg5 arg6 harg6 arg7 harg7 hc0 x0 x1 x2 = block x0 (kept x1) (kept x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  simp only [View.readAt_eq_ld, harg2.read_unread, harg3.read_unread, harg4.read_unread]
  have hr0 := fun h => ld_rows x0 0 0 (by decide) rfl h
  have hr1 := fun h => ld_rows x0 1 1024 (by decide) rfl h
  simp only [ld_tile, readCov_kept, hr0, hr1, pay1_eq, pay2_eq, pay3_eq, pay4_eq]
  exact canon_halves _ _ _ _ _ (fun r d => block_low x0 (kept x1) (kept x2) r d) (fun r d => block_high x0 (kept x1) (kept x2) r d)

set_option maxHeartbeats 1000000 in
/-- At the first row tile the kept gate weights are the tile's. -/
theorem sout_A_0 (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S2048x256 .bf16) (harg5 : arg5.IsWhole) (arg6 : Memref sig .tc .vmem S4096x256 .bf16) (harg6 : arg6.IsWhole) (arg7 : Memref sig .tc .vmem S4096x256 .bf16) (harg7 : arg7.IsWhole) (hc0 : cond0_0 i)
    (x0 : Vec F S2048x4096 .bf16) (x1 : Vec F S1x4096x256 .f32) (x2 : Vec F S1x4096x256 .f32) :
    sout0_A_0 c i arg2 harg2 arg3 harg3 arg4 harg4 arg5 harg5 arg6 harg6 arg7 harg7 hc0 x0 x1 x2 = kept x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  simp only [View.readAt_eq_ld, harg2.read_unread, harg3.read_unread, harg4.read_unread]
  refine (View.canon_unit_zero (S := S4096x256) (by funext a; fin_cases a <;> rfl) _ _).trans ?_
  simp only [ld_tile]
  exact pay2_eq x1

set_option maxHeartbeats 1000000 in
/-- At the first row tile the kept up weights are the tile's. -/
theorem sout_A_1 (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S2048x256 .bf16) (harg5 : arg5.IsWhole) (arg6 : Memref sig .tc .vmem S4096x256 .bf16) (harg6 : arg6.IsWhole) (arg7 : Memref sig .tc .vmem S4096x256 .bf16) (harg7 : arg7.IsWhole) (hc0 : cond0_0 i)
    (x0 : Vec F S2048x4096 .bf16) (x1 : Vec F S1x4096x256 .f32) (x2 : Vec F S1x4096x256 .f32) :
    sout0_A_1 c i arg2 harg2 arg3 harg3 arg4 harg4 arg5 harg5 arg6 harg6 arg7 harg7 hc0 x0 x1 x2 = kept x2 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  simp only [View.readAt_eq_ld, harg2.read_unread, harg3.read_unread, harg4.read_unread]
  refine (View.canon_unit_zero (S := S4096x256) (by funext a; fin_cases a <;> rfl) _ _).trans ?_
  simp only [ld_tile]
  exact pay3_eq x2

set_option maxHeartbeats 1000000 in
/-- At a later row tile: the block, of the weights kept. -/
theorem out_B (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S2048x256 .bf16) (harg5 : arg5.IsWhole) (arg6 : Memref sig .tc .vmem S4096x256 .bf16) (harg6 : arg6.IsWhole) (arg7 : Memref sig .tc .vmem S4096x256 .bf16) (harg7 : arg7.IsWhole) (hc0 : ¬cond0_0 i)
    (x0 : Vec F S2048x4096 .bf16) (x1 : Vec F S1x4096x256 .f32) (x2 : Vec F S1x4096x256 .f32) (xs0 : Vec F S4096x256 .bf16) (xs1 : Vec F S4096x256 .bf16) :
    out0_B_3 c i arg2 harg2 arg3 harg3 arg4 harg4 arg5 harg5 arg6 harg6 arg7 harg7 hc0 x0 x1 x2 xs0 xs1 = block x0 xs0 xs1 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  simp only [View.readAt_eq_ld, harg2.read_unread, harg6.read_unread, harg7.read_unread]
  have hr0 := fun h => ld_rows x0 0 0 (by decide) rfl h
  have hr1 := fun h => ld_rows x0 1 1024 (by decide) rfl h
  simp only [ld_kept, hr0, hr1, pay1_eq, pay4_eq]
  exact canon_halves _ _ _ _ _ (fun r d => block_low x0 xs0 xs1 r d) (fun r d => block_high x0 xs0 xs1 r d)

end Cert.UpIdeal.Block

end
-- ==== Proof.Up.Spec.lean ====
module

public import Idealize.ShloMosaic.PureOps.Ideal
public import Idealize.ShloMosaic.Lib.ValueIdx

@[expose] public section

noncomputable section

/-! The gated hidden activation of the feed-forward part, as a function of the rows and the weights. -/

namespace Cert.FeedForward

open Idealize.ShloMosaic Idealize.ShloMosaic.ValueIdx
open scoped BigOperators

/-- One column of the product of the rows with the last layer's weights. -/
def proj (h : (⟨2, ![8192, 4096]⟩ : Shape).Idx → EReal) (w : (⟨3, ![4, 4096, 12288]⟩ : Shape).Idx → EReal) (r : Fin 8192) (d : Fin 12288) : EReal :=
  ∑ k : Fin 4096, h (ix2 r k) * w (ix3 3 k d)

/-- A gate value times its logistic, times the value gated. -/
def gate (g u : EReal) : EReal := g * Ideal.div 1 (1 + Ideal.exp (-g)) * u

/-- The gated hidden activation: the columns `6144` onwards of the product, gated by those before. -/
def act (h : (⟨2, ![8192, 4096]⟩ : Shape).Idx → EReal) (w : (⟨3, ![4, 4096, 12288]⟩ : Shape).Idx → EReal) : (⟨2, ![8192, 6144]⟩ : Shape).Idx → EReal :=
  fun i => gate (proj h w ⟨(i 0).val, (i 0).isLt⟩ ⟨(i 1).val, Nat.lt_of_lt_of_le (i 1).isLt (by decide)⟩)
    (proj h w ⟨(i 0).val, (i 0).isLt⟩ ⟨6144 + (i 1).val, Nat.lt_of_lt_of_le (Nat.add_lt_add_left (i 1).isLt 6144) (by decide)⟩)

end Cert.FeedForward

end
-- ==== Proof.Up.Array.lean ====
module

public import proofs.«01_k».proof.Proof.Up.Block
public import proofs.«01_k».proof.Proof.Up.Spec
public import Idealize.ShloMosaic.Lib.MatmulPlain
public import Idealize.ShloMosaic.PureOps.IdealRules

@[expose] public section

set_option maxRecDepth 16384

noncomputable section

/-! The result array of the feed-forward call, from the arguments. -/

namespace Cert.UpIdeal.Array

open Cert.UpIdeal Cert.UpIdeal.Gen Idealize.ShloMosaic Idealize.ShloMosaic.TcCoe Idealize.SL.Sem
open Idealize.ShloMosaic.ValueIdx Cert.FeedForward
open Idealize.ShloMosaic.Pipeline (Dat)
open scoped BigOperators

variable (m : (ℓ : Loc nD τ sig) → Buf (Elt Ideal) ℓ) (c : Dev nD)

/-- The rows as launched. -/
abbrev h : (⟨2, ![8192, 4096]⟩ : Shape).Idx → EReal := m ((c : Thread nD τ).loc main_arg0)
/-- The weights as launched. -/
abbrev w : (⟨3, ![4, 4096, 12288]⟩ : Shape).Idx → EReal := m ((c : Thread nD τ).loc main_arg1)

theorem V_h : V m c main_v0 = truncf (F := Ideal) .bf16 (h m c) bitsLt_bf16_f32 := by
  unfold V; after_results
theorem V_w : V m c main_arg1 = w m c := by
  unfold V; after_results

theorem V_h_apply (i : S8192x4096.Idx) : V m c main_v0 i = h m c i := by
  rw [V_h]
  exact truncf_apply (ψ := .bf16) _ bitsLt_bf16_f32 _

/-- Grid point `t` works on row tile `t % 4` and on weight tile `t / 4`. -/
theorem idx_facts : ∀ t : Fin cfg0.N, t.val < 96
    ∧ win0_0.index t (0 : Fin 2) = t.val % 4 ∧ win0_0.index t (1 : Fin 2) = 0
    ∧ win0_1.index t (0 : Fin 3) = 3 ∧ win0_1.index t (1 : Fin 3) = 0 ∧ win0_1.index t (2 : Fin 3) = t.val / 4
    ∧ win0_2.index t (0 : Fin 3) = 3 ∧ win0_2.index t (1 : Fin 3) = 0 ∧ win0_2.index t (2 : Fin 3) = t.val / 4 + 24
    ∧ win0_3.index t (0 : Fin 2) = t.val % 4 ∧ win0_3.index t (1 : Fin 2) = t.val / 4 :=
  (by decide +kernel : ∀ t : Fin grid0.N, _)

theorem h_block (t : Fin cfg0.N) (r : Fin 2048) (k : Fin 4096) :
    (iblk m c 0 t : Vec Ideal S2048x4096 .bf16) (ix2 r k) = h m c (ix2 ⟨2048 * (t.val % 4) + r.val, by omega⟩ k) := by
  rw [← V_h_apply]
  obtain ⟨_, e0, e1, _⟩ := idx_facts t
  show V m c main_v0 (((cfg0.win 0).blk t).view.emb (ix2 r k)) = _
  refine congrArg (V m c main_v0) (funext fun a => Fin.ext ?_)
  match a with
  | ⟨0, _⟩ => show win0_0.index t (0 : Fin 2) * 2048 + 1 * r.val = 2048 * (t.val % 4) + r.val; omega
  | ⟨1, _⟩ => show win0_0.index t (1 : Fin 2) * 4096 + 1 * k.val = k.val; omega

theorem g_block (t : Fin cfg0.N) (k : Fin 4096) (d : Fin 256) (e : Fin 12288) (he : e.val = 256 * (t.val / 4) + d.val) :
    (iblk m c 1 t : Vec Ideal S1x4096x256 .f32) (ix3 0 k d) = w m c (ix3 3 k e) := by
  rw [← V_w]
  obtain ⟨_, _, _, e0, e1, e2, _⟩ := idx_facts t
  show V m c main_arg1 (((cfg0.win 1).blk t).view.emb (ix3 0 k d)) = _
  refine congrArg (V m c main_arg1) (funext fun a => Fin.ext ?_)
  match a with
  | ⟨0, _⟩ => show win0_1.index t (0 : Fin 3) * 1 + 1 * 0 = 3; omega
  | ⟨1, _⟩ => show win0_1.index t (1 : Fin 3) * 4096 + 1 * k.val = k.val; omega
  | ⟨2, _⟩ => show win0_1.index t (2 : Fin 3) * 256 + 1 * d.val = e.val; omega

theorem u_block (t : Fin cfg0.N) (k : Fin 4096) (d : Fin 256) (e : Fin 12288) (he : e.val = 6144 + (256 * (t.val / 4) + d.val)) :
    (iblk m c 2 t : Vec Ideal S1x4096x256 .f32) (ix3 0 k d) = w m c (ix3 3 k e) := by
  rw [← V_w]
  obtain ⟨_, _, _, _, _, _, e0, e1, e2, _⟩ := idx_facts t
  show V m c main_arg1 (((cfg0.win 2).blk t).view.emb (ix3 0 k d)) = _
  refine congrArg (V m c main_arg1) (funext fun a => Fin.ext ?_)
  match a with
  | ⟨0, _⟩ => show win0_2.index t (0 : Fin 3) * 1 + 1 * 0 = 3; omega
  | ⟨1, _⟩ => show win0_2.index t (1 : Fin 3) * 4096 + 1 * k.val = k.val; omega
  | ⟨2, _⟩ => show win0_2.index t (2 : Fin 3) * 256 + 1 * d.val = e.val; omega

/-- A kept tile at an index. -/
theorem kept_apply (x : Vec Ideal S1x4096x256 .f32) (k : Fin 4096) (d : Fin 256) : Block.kept x (ix2 k d) = x (ix3 0 k d) := by
  unfold Block.kept
  rw [truncf_apply]
  exact shapeCast_apply _ _ (ix2 k d) (ix3 0 k d) (by
    rw [Shape.rowMajor_val_three, Shape.rowMajor_val_two]
    show (0 * 4096 + k.val) * 256 + d.val = k.val * 256 + d.val
    omega)

/-- What the two scratches hold after point `n`: the gate and up weights of the point's weight tile. -/
theorem scratch : ∀ (n : ℕ) (hn : n < cfg0.N) (k : Fin 4096) (d : Fin 256) (e e' : Fin 12288),
    e.val = 256 * (n / 4) + d.val → e'.val = 6144 + (256 * (n / 4) + d.val) →
    (outsAt0 m c n hn).2.1 (ix2 k d) = w m c (ix3 3 k e) ∧ (outsAt0 m c n hn).2.2 (ix2 k d) = w m c (ix3 3 k e') := by
  intro n
  induction n with
  | zero =>
    intro hn k d e e' he he'
    have h0 := outsAt0_A m c ⟨0, hn⟩ (Nat.zero_mod 4)
    rw [show outsAt0 m c 0 hn = _ from h0]
    dsimp only
    rw [Block.sout_A_0, Block.sout_A_1, kept_apply, kept_apply]
    exact ⟨g_block m c ⟨0, hn⟩ k d e he, u_block m c ⟨0, hn⟩ k d e' he'⟩
  | succ n ih =>
    intro hn k d e e' he he'
    by_cases hc : (n + 1) % 4 = 0
    · have h0 := outsAt0_A m c ⟨n + 1, hn⟩ hc
      rw [show outsAt0 m c (n + 1) hn = _ from h0]
      dsimp only
      rw [Block.sout_A_0, Block.sout_A_1, kept_apply, kept_apply]
      exact ⟨g_block m c ⟨n + 1, hn⟩ k d e he, u_block m c ⟨n + 1, hn⟩ k d e' he'⟩
    · have h0 := outsAt0_B m c ⟨n + 1, hn⟩ hc
      rw [show outsAt0 m c (n + 1) hn = _ from h0]
      have hd : (n + 1) / 4 = n / 4 := by omega
      exact ih (Nat.lt_of_succ_lt hn) k d e e' (by rw [he, hd]) (by rw [he', hd])

/-- A product of rows and a tile at an index. -/
theorem prod_apply (a : FVec Ideal S1024x4096 .bf16) (x : Vec Ideal S4096x256 .bf16) (r : Fin 1024) (d : Fin 256) :
    Block.prod a x (ix2 r d) = ∑ k : Fin 4096, a (ix2 r k) * x (ix2 k d) := by
  unfold Block.prod
  refine (Ideal.matmul_plain_apply (M := 1024) (K := 4096) (N := 256) none a x _ r d).trans ?_
  rw [constant_apply, Ideal.ofBits_zero_f32, zero_add]

theorem one_eq : (Scalar.ofBits .f32 0x3F800000#32 : Ideal .f32) = (1 : EReal) := by
  show Ideal.ofBits .f32 0x3F800000#32 = _
  simp [Ideal.ofBits, Ideal.ieee, -EReal.coe_mul]
  norm_num

theorem zero_eq : (Scalar.ofBits .f32 0x00000000#32 : Ideal .f32) = (0 : EReal) := Ideal.ofBits_zero_f32

/-- The gated products at an index. -/
theorem gated_apply (a : FVec Ideal S1024x4096 .bf16) (x y : Vec Ideal S4096x256 .bf16) (j : S1024x256.Idx) :
    Block.gated a x y j = gate (Block.prod a x j) (Block.prod a y j) := by
  unfold Block.gated gate
  rw [truncf_apply]
  show Block.prod a x j * Ideal.div (Scalar.ofBits (F := Ideal) .f32 0x3F800000#32) (Scalar.ofBits (F := Ideal) .f32 0x3F800000#32
    + Ideal.exp (Scalar.ofBits (F := Ideal) .f32 0x00000000#32 - Block.prod a x j)) * Block.prod a y j = _
  rw [one_eq, zero_eq]
  have hz : (0 : EReal) - Block.prod a x j = -Block.prod a x j := zero_sub _
  exact congrArg (fun z : EReal => (Block.prod a x j : EReal) * Ideal.div 1 (1 + Ideal.exp z) * Block.prod a y j) hz

/-- A block of the activation, from tiles that hold the rows and the weights. -/
theorem block_apply (x0 : Vec Ideal S2048x4096 .bf16) (x y : Vec Ideal S4096x256 .bf16) (i j : ℕ) (hi : i < 4) (hj : j < 24)
    (h0 : ∀ (r : Fin 2048) (k : Fin 4096), x0 (ix2 r k) = h m c (ix2 ⟨2048 * i + r.val, by omega⟩ k))
    (hx : ∀ (k : Fin 4096) (d : Fin 256), x (ix2 k d) = w m c (ix3 3 k ⟨256 * j + d.val, by omega⟩))
    (hy : ∀ (k : Fin 4096) (d : Fin 256), y (ix2 k d) = w m c (ix3 3 k ⟨6144 + (256 * j + d.val), by omega⟩))
    (r : Fin 2048) (d : Fin 256) :
    Block.block x0 x y (ix2 r d) = act (h m c) (w m c) (ix2 ⟨2048 * i + r.val, by omega⟩ ⟨256 * j + d.val, by omega⟩) := by
  unfold Block.block act
  rw [gated_apply]
  have hp : ∀ (z : Vec Ideal S4096x256 .bf16) (e : Fin 12288), (∀ (k : Fin 4096), z (ix2 k d) = w m c (ix3 3 k e)) →
      Block.prod (Block.rows x0 (r.val / 1024)) z (ix2 ⟨r.val % 1024, Nat.mod_lt _ (by decide)⟩ d) = proj (h m c) (w m c) ⟨2048 * i + r.val, by omega⟩ e := by
    intro z e hz
    rw [prod_apply]
    unfold proj
    refine Finset.sum_congr rfl fun k _ => ?_
    rw [hz]
    congr 1
    show x0 (ix2 ⟨(1024 * (r.val / 1024) + r.val % 1024) % 2048, _⟩ ⟨k.val, _⟩) = _
    rw [h0]
    refine congrArg (fun q => h m c (ix2 q k)) (Fin.ext ?_)
    show 2048 * i + (1024 * (r.val / 1024) + r.val % 1024) % 2048 = 2048 * i + r.val
    omega
  exact congrArg₂ gate (hp x _ fun k => hx k d) (hp y _ fun k => hy k d)

/-- What a point writes back is its block of the activation. -/
theorem flushed_eq (t : Fin cfg0.N) :
    (dats m 0 c).flushed 3 t = ((cfg0.win 3).blk t).view.read (Elt Ideal) (act (h m c) (w m c)) := by
  obtain ⟨hN, _, _, _, _, _, _, _, _, f0, f1⟩ := idx_facts t
  have key : ∀ (r : Fin 2048) (d : Fin 256), (outsAt0 m c t.val t.isLt).1 (ix2 r d)
      = act (h m c) (w m c) (ix2 ⟨2048 * (t.val % 4) + r.val, by omega⟩ ⟨256 * (t.val / 4) + d.val, by omega⟩) := by
    intro r d
    by_cases hc : t.val % 4 = 0
    · rw [outsAt0_A m c t hc]
      dsimp only
      rw [Block.out_A]
      exact block_apply m c _ _ _ _ _ (by omega) (by omega) (h_block m c t)
        (fun k d => (kept_apply _ k d).trans (g_block m c t k d _ rfl)) (fun k d => (kept_apply _ k d).trans (u_block m c t k d _ rfl)) r d
    · rw [outsAt0_B m c t hc]
      dsimp only
      rw [Block.out_B]
      have hd : (t.val - 1) / 4 = t.val / 4 := by omega
      exact block_apply m c _ _ _ _ _ (by omega) (by omega) (h_block m c t)
        (fun k d => (scratch m c (t.val - 1) _ k d ⟨256 * (t.val / 4) + d.val, by omega⟩ ⟨6144 + (256 * (t.val / 4) + d.val), by omega⟩ (by rw [hd]) (by rw [hd])).1)
        (fun k d => (scratch m c (t.val - 1) _ k d ⟨256 * (t.val / 4) + d.val, by omega⟩ ⟨6144 + (256 * (t.val / 4) + d.val), by omega⟩ (by rw [hd]) (by rw [hd])).2) r d
  rw [Value.flushed3]
  funext y
  have hy0 : (y 0).val < 2048 := (y 0).isLt
  have hy1 : (y 1).val < 256 := (y 1).isLt
  have hb0 : (((cfg0.win 3).blk t).view.emb y 0).val = win0_3.index t (0 : Fin 2) * 2048 + 1 * (y 0).val := rfl
  have hb1 : (((cfg0.win 3).blk t).view.emb y 1).val = win0_3.index t (1 : Fin 2) * 256 + 1 * (y 1).val := rfl
  have hx : (cfg0.win 3).xinj (grid0.coords t) y = ix2 (⟨(y 0).val, hy0⟩ : Fin 2048) (⟨(y 1).val, hy1⟩ : Fin 256) := by
    funext a; apply Fin.ext
    match a with
    | ⟨0, _⟩ => rfl
    | ⟨1, _⟩ => rfl
  show (outsAt0 m c t.val t.isLt).1 ((cfg0.win 3).xinj (grid0.coords t) y) = act (h m c) (w m c) (((cfg0.win 3).blk t).view.emb y)
  rw [hx, key]
  refine congrArg (act (h m c) (w m c)) (funext fun a => Fin.ext ?_)
  match a with
  | ⟨0, _⟩ => show 2048 * (t.val % 4) + (y 0).val = (((cfg0.win 3).blk t).view.emb y 0).val; rw [hb0]; omega
  | ⟨1, _⟩ => show 256 * (t.val / 4) + (y 1).val = (((cfg0.win 3).blk t).view.emb y 1).val; rw [hb1]; omega

/-- The result array after the run. -/
theorem final : (dats m 0 c).arrAt 3 cfg0.N = act (h m c) (w m c) :=
  (dats m 0 c).arrAt_eq_of_cover 3 _ (fun t _ => flushed_eq m c t) (fun i => (Value.covered_iff3 i).2 (by
    have h0 : (i 0).val < 8192 := (i 0).isLt
    have h1 : (i 1).val < 6144 := (i 1).isLt
    omega))

end Cert.UpIdeal.Array

end
-- ==== Proof.Up.Ref.lean ====
module

public import proofs.«01_k».proof.Proof.Up.Spec
public import proofs.«01_k».proof.Proof.Gen.UpReferenceIdeal.Read

@[expose] public section

set_option maxRecDepth 16384

noncomputable section

/-! The feed-forward reference's result, read at an index. -/

namespace Cert.UpReferenceIdeal.Ref

open Cert.UpReferenceIdeal Cert.UpReferenceIdeal.Gen Cert.UpReferenceIdeal.Read Idealize.ShloMosaic Idealize.ShloMosaic.ValueIdx
open Cert.FeedForward
open scoped BigOperators

theorem product_apply (h : S8192x4096.Idx → EReal) (w : S4x4096x12288.Idx → EReal) (i : S8192x12288.Idx) :
    val_main_v2 (F := Ideal) h w i = proj h w ⟨(i 0).val, (i 0).isLt⟩ ⟨(i 1).val, (i 1).isLt⟩ := by
  rw [val_main_v2_apply]
  unfold proj
  refine Finset.sum_congr rfl fun k _ => ?_
  rw [val_main_v1_apply, val_main_v0_apply]
  have h1 : (i 1).val < 12288 := (i 1).isLt
  have hk : k.val < 4096 := k.isLt
  refine congrArg₂ (fun a b : EReal => a * b) (congrArg h ?_) (congrArg w ?_)
  · funext a; apply Fin.ext
    match a with
    | ⟨0, _⟩ => rfl
    | ⟨1, _⟩ => rfl
  · funext a; apply Fin.ext
    match a with
    | ⟨0, _⟩ => rfl
    | ⟨1, _⟩ => show (k.val * 12288 + (i 1).val) / 12288 % 4096 = k.val; omega
    | ⟨2, _⟩ => show (k.val * 12288 + (i 1).val) % 12288 = (i 1).val; omega

theorem one_eq : (FloatOps.ofBits .f32 0x3F800000#32 : Ideal .f32) = (1 : EReal) := by
  show Ideal.ofBits .f32 0x3F800000#32 = _
  simp [Ideal.ofBits, Ideal.ieee, -EReal.coe_mul]
  norm_num

/-- The reference's result is the activation. -/
theorem out_eq (h : S8192x4096.Idx → EReal) (w : S4x4096x12288.Idx → EReal) : val_main_v7 (F := Ideal) h w = act h w := by
  funext i
  have h3 : val_main_v3 (F := Ideal) h w i = proj h w ⟨(i 0).val, (i 0).isLt⟩ ⟨(i 1).val, Nat.lt_of_lt_of_le (i 1).isLt (by decide)⟩ := by
    rw [val_main_v3_apply, product_apply]
  have h4 : val_main_v4 (F := Ideal) h w i = proj h w ⟨(i 0).val, (i 0).isLt⟩ ⟨6144 + (i 1).val, Nat.lt_of_lt_of_le (Nat.add_lt_add_left (i 1).isLt 6144) (by decide)⟩ := by
    rw [val_main_v4_apply, product_apply]
  rw [val_main_v7_apply, val_main_v6_apply, val_main_v5_apply, val_main_call0_v5_apply, val_main_call0_v3_apply, val_main_call0_v4_apply,
    val_main_call0_v2_apply, val_main_call0_v1_apply, val_main_call0_v0_apply, val_main_call0_cst_apply, val_main_call0_cst_0_apply, one_eq, h3, h4]
  rfl

end Cert.UpReferenceIdeal.Ref

end
-- ==== Proof.Up.Claims.lean ====
module

public import proofs.«01_k».proof.Defs
public import proofs.«01_k».proof.Proof.Gen.Up.Frame
public import proofs.«01_k».proof.Proof.Gen.UpIdeal.Value
public import proofs.«01_k».proof.Proof.Gen.UpReferenceIdeal.Run
public import proofs.«01_k».proof.Proof.Gen.UpReferenceIdeal.Read
public import proofs.«01_k».proof.Proof.Up.Array
public import proofs.«01_k».proof.Proof.Up.Ref
public import Idealize.ShloMosaic.Adequacy
public import Idealize.ShloMosaic.Init

@[expose] public section

set_option maxRecDepth 16384

noncomputable section

/-! The claims about the gated feed-forward call. -/

namespace Cert.Proof.Up

open Idealize.ShloMosaic Idealize.SL.Sem Cert.FeedForward

theorem frame_kernel : Cert.quiescent_Up := fun m ρ _ => Cert.Up.Gen.frame m ρ

theorem frame_ideal : Cert.quiescent_UpIdeal := fun m ρ _ => Cert.UpIdeal.Gen.frame m ρ

theorem frame_ref : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run (F := Ideal) m ρ)

theorem preserves : Cert.preserves_Up_UpIdeal := trivial

/-- The kernel and the reference both end at the gated activation of the launched arrays. -/
theorem algebraic : Cert.algebraic_UpIdeal_UpReferenceIdeal := by
  intro m ρ m' ρ' _ hagree
  refine ⟨fun c => act (Cert.UpIdeal.Array.h m c) (Cert.UpIdeal.Array.w m c), ?_, ?_⟩
  · refine (θ_run Cert.UpIdeal.defs _ _).mono (fun r h c => ?_) (Cert.UpIdeal.Value.run_blocks m ρ)
    exact ⟨(h c).1.trans (Cert.UpIdeal.Array.final m c), (h c).2⟩
  · refine (θ_run Cert.UpReferenceIdeal.defs _ _).mono (fun r h c => ?_) (Cert.UpReferenceIdeal.Value.run (F := Ideal) m' ρ')
    refine ⟨(h c).1.trans ?_, (h c).2⟩
    rw [Cert.UpReferenceIdeal.Read.val_main_v7_eq, (hagree c).1, (hagree c).2]
    exact Cert.UpReferenceIdeal.Ref.out_eq _ _

end Cert.Proof.Up

end
-- ==== Proof.Down.Body.lean ====
module

public import proofs.«01_k».proof.Proof.Gen.DownIdeal.Launch
public import proofs.«01_k».proof.Proof.Gen.DownIdeal.Skeleton
public import proofs.«01_k».proof.Proof.Gen.DownIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

/-! What one grid point of the residual update does, from any contents of its buffers. -/

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem inb_rows (k : ℕ) (hk : k < 8) : ∀ a, (![128 * k, 0] : Fin 2 → ℕ) a + S128x4096.size a ≤ S1024x4096.size a := by
  intro a
  match a with
  | ⟨0, _⟩ => show 128 * k + 128 ≤ 1024; omega
  | ⟨1, _⟩ => show 0 + 4096 ≤ 4096; omega

/-- Eight consecutive groups of 128 rows: the `k`-th. -/
def rows (k : Fin 8) (x : Vec F S1024x4096 .f32) : Vec F S128x4096 .f32 :=
  VecWindow.window (s := S1024x4096) x ![128 * k.val, 0] S128x4096.size (inb_rows k.val k.isLt)

/-- The same with these rows set to zero. -/
def cleared (k : Fin 8) (x : Vec F S1024x4096 .f32) : Vec F S1024x4096 .f32 :=
  VecWindow.put (s := S1024x4096) x ![128 * k.val, 0] S128x4096.size (k0_pay15 (F := F))

/-- The second coordinate of a grid point. -/
abbrev col (i : grid0.Coords) : Fin 8 := ⟨(i 1).val, (i 1).isLt⟩

/-- The condition under which both accumulators are set to zero. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

theorem read_full {S : Shape} {e : EltTy} (v : View sig .tc .vmem S e) (f : v.ty.Contents (Elt F)) {off : Fin S.rank → ℕ}
    (inb : ∀ a, off a + S.size a ≤ S.size a) (w : Vec F S e) (L : List (View.Piece (Elt F) S e)) :
    v.read (Elt F) (v.writes (Elt F) f (⟨Rect.unit off S.size inb, w⟩ :: L)) = w := View.read_writes_full v f inb w L

theorem ld_full {S : Shape} {e : EltTy} (v : View sig .tc .vmem S e) (f : v.ty.Contents (Elt F)) {off : Fin S.rank → ℕ}
    (inb : ∀ a, off a + S.size a ≤ S.size a) {x : Vec F S e} (h : v.read (Elt F) f = x) :
    v.readAt (Elt F) (Rect.unit off S.size inb).toLoadRect f = x := (View.readAt_full v f inb).trans h

theorem ld_rows (v : View sig .tc .vmem S1024x4096 .f32) (f : v.ty.Contents (Elt F)) {off : Fin 2 → ℕ}
    (inb : ∀ a : Fin 2, off a + S128x4096.size a ≤ S1024x4096.size a) {x : Vec F S1024x4096 .f32} (k : Fin 8) (ho : off = ![128 * k.val, 0])
    (h : v.read (Elt F) f = x) :
    v.readAt (Elt F) (Rect.unit (s := S1024x4096) off S128x4096.size inb).toLoadRect f = rows k x := by
  subst h
  exact View.readAt_unit v f inb ho (inb_rows k.val k.isLt)

theorem st_rows (v : View sig .tc .vmem S1024x4096 .f32) (f : v.ty.Contents (Elt F)) {off : Fin 2 → ℕ}
    (inb : ∀ a : Fin 2, off a + S128x4096.size a ≤ S1024x4096.size a) (L : List (View.Piece (Elt F) S1024x4096 .f32))
    {x : Vec F S1024x4096 .f32} (k : Fin 8) (ho : off = ![128 * k.val, 0])
    (h : v.read (Elt F) (v.writes (Elt F) f L) = x) :
    v.read (Elt F) (v.writes (Elt F) f (⟨Rect.unit (s := S1024x4096) off S128x4096.size inb, k0_pay15 (F := F)⟩ :: L)) = cleared k x := by
  subst h
  exact View.read_writes_cons_put v f inb _ L ho

theorem pay7_eq : k0_pay7 (F := F) = k0_pay5 := rfl
theorem pay8_eq : k0_pay8 (F := F) = k0_pay6 := rfl
theorem pay9_eq : k0_pay9 (F := F) = k0_pay5 := rfl
theorem pay10_eq : k0_pay10 (F := F) = k0_pay6 := rfl
theorem pay1_eq : k0_pay1 (F := F) = k0_pay15 := rfl
theorem pay2_eq : k0_pay2 (F := F) = k0_pay15 := rfl
theorem pay3_eq : k0_pay3 (F := F) = k0_pay16 := rfl

/-- The first point: both accumulators are set to zero first. -/
theorem runA (c : Dev nD) (i : grid0.Coords) (arg2 : Memref sig .tc .vmem S1024x768 .bf16) (harg2 : arg2.IsWhole) (arg3 : Memref sig .tc .vmem S1x768x4096 .bf16) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S1024x4096 .f32) (harg9 : arg9.IsWhole) (arg10 : Memref sig .tc .vmem S1024x4096 .f32) (harg10 : arg10.IsWhole)
    (hc1 : cond1 i) (hc2 : k0_cond2 i = 1#1) (hc3 : ¬k0_cond3 i = 1#1) (hc4 : ¬k0_cond4 i = 1#1) (hc5 : ¬k0_cond5 i = 1#1)
    (x0 : Vec F S1024x768 .bf16) (x1 : Vec F S1x768x4096 .bf16) (x2 : Vec F S128x4096 .f32) (x3 x4 : Vec F S1x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x2 (rows (col i) k0_pay14) x3) ∗ owns (c : Thread nD τ) arg8 fullShare (k0_pay6 x2 (rows (col i) k0_pay14) x3 x4) ∗ owns (c : Thread nD τ) arg9 fullShare (k0_pay16 k0_pay13 x0 x1) ∗ owns (c : Thread nD τ) arg10 fullShare (cleared (col i) k0_pay14)) -∗ K ⟨⟩))
      ⊢ wp frame (wpE (defs₀ (F := F)) Variants.none c none) E (cc0_resid_update i arg2 harg2 arg3 harg3 arg4 harg4 arg5 harg5 arg6 harg6 arg7 harg7 arg8 harg8 arg9 harg9 arg10 harg10) K := by
  simp only [cc0_resid_update_eq_skeleton]; unfold cc0_resid_update_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_full]; exact congr (congr (congrArg (k0_pay5 (F := F)) (ld_full _ _ _ hf2)) (ld_rows _ _ _ (col i) (k0_off1_eq i) (read_full _ _ _ _ _))) (ld_full _ _ _ hf3)
  isplitl [H6]
  · iexists _; isplitr; swap; · iexact H6
    ipureintro
    rw [read_full]; exact congr (congr (congr (congrArg (k0_pay6 (F := F)) (ld_full _ _ _ hf2)) (ld_rows _ _ _ (col i) (k0_off1_eq i) (read_full _ _ _ _ _))) (ld_full _ _ _ hf3)) (ld_full _ _ _ hf4)
  isplitl [HS0]
  · iexists _; isplitr; swap; · iexact HS0
    ipureintro
    rw [read_full]; exact congr (congr (congrArg (k0_pay16 (F := F)) (ld_full _ _ _ (read_full _ _ _ _ _))) (ld_full _ _ _ hf0)) (ld_full _ _ _ hf1)
  iexists _; isplitr; swap; · iexact HS1
  ipureintro
  exact st_rows _ _ _ _ (col i) (k0_off1_eq i) (read_full _ _ _ _ _)

/-- A point of an even row tile: the output rows are computed from the second accumulator, the first one grows. -/
theorem runB (c : Dev nD) (i : grid0.Coords) (arg2 : Memref sig .tc .vmem S1024x768 .bf16) (harg2 : arg2.IsWhole) (arg3 : Memref sig .tc .vmem S1x768x4096 .bf16) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S1024x4096 .f32) (harg9 : arg9.IsWhole) (arg10 : Memref sig .tc .vmem S1024x4096 .f32) (harg10 : arg10.IsWhole)
    (hc1 : ¬cond1 i) (hc2 : k0_cond2 i = 1#1) (hc3 : ¬k0_cond3 i = 1#1) (hc4 : ¬k0_cond4 i = 1#1) (hc5 : ¬k0_cond5 i = 1#1)
    (x0 : Vec F S1024x768 .bf16) (x1 : Vec F S1x768x4096 .bf16) (x2 : Vec F S128x4096 .f32) (x3 x4 : Vec F S1x4096 .f32) (a0 a1 : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare a0 ∗ owns (c : Thread nD τ) arg10 fullShare a1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x2 (rows (col i) a1) x3) ∗ owns (c : Thread nD τ) arg8 fullShare (k0_pay6 x2 (rows (col i) a1) x3 x4) ∗ owns (c : Thread nD τ) arg9 fullShare (k0_pay16 a0 x0 x1) ∗ owns (c : Thread nD τ) arg10 fullShare (cleared (col i) a1)) -∗ K ⟨⟩))
      ⊢ wp frame (wpE (defs₀ (F := F)) Variants.none c none) E (cc0_resid_update i arg2 harg2 arg3 harg3 arg4 harg4 arg5 harg5 arg6 harg6 arg7 harg7 arg8 harg8 arg9 harg9 arg10 harg10) K := by
  simp only [cc0_resid_update_eq_skeleton]; unfold cc0_resid_update_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0; obtain rfl := harg10.eq_unread hfs1
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_full]; exact congr (congr (congrArg (k0_pay5 (F := F)) (ld_full _ _ _ hf2)) (ld_rows _ _ _ (col i) (k0_off1_eq i) hfs1)) (ld_full _ _ _ hf3)
  isplitl [H6]
  · iexists _; isplitr; swap; · iexact H6
    ipureintro
    rw [read_full]; exact congr (congr (congr (congrArg (k0_pay6 (F := F)) (ld_full _ _ _ hf2)) (ld_rows _ _ _ (col i) (k0_off1_eq i) hfs1)) (ld_full _ _ _ hf3)) (ld_full _ _ _ hf4)
  isplitl [HS0]
  · iexists _; isplitr; swap; · iexact HS0
    ipureintro
    rw [read_full]; exact congr (congr (congrArg (k0_pay16 (F := F)) (ld_full _ _ _ hfs0)) (ld_full _ _ _ hf0)) (ld_full _ _ _ hf1)
  iexists _; isplitr; swap; · iexact HS1
  ipureintro
  exact st_rows _ _ _ _ (col i) (k0_off1_eq i) hfs1

/-- A point of an odd row tile: the output rows are computed from the first accumulator, the second one grows. -/
theorem runC (c : Dev nD) (i : grid0.Coords) (arg2 : Memref sig .tc .vmem S1024x768 .bf16) (harg2 : arg2.IsWhole) (arg3 : Memref sig .tc .vmem S1x768x4096 .bf16) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S1024x4096 .f32) (harg9 : arg9.IsWhole) (arg10 : Memref sig .tc .vmem S1024x4096 .f32) (harg10 : arg10.IsWhole)
    (hc1 : ¬cond1 i) (hc2 : ¬k0_cond2 i = 1#1) (hc3 : ¬k0_cond3 i = 1#1) (hc4 : k0_cond4 i = 1#1) (hc5 : ¬k0_cond5 i = 1#1)
    (x0 : Vec F S1024x768 .bf16) (x1 : Vec F S1x768x4096 .bf16) (x2 : Vec F S128x4096 .f32) (x3 x4 : Vec F S1x4096 .f32) (a0 a1 : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare a0 ∗ owns (c : Thread nD τ) arg10 fullShare a1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x2 (rows (col i) a0) x3) ∗ owns (c : Thread nD τ) arg8 fullShare (k0_pay6 x2 (rows (col i) a0) x3 x4) ∗ owns (c : Thread nD τ) arg9 fullShare (cleared (col i) a0) ∗ owns (c : Thread nD τ) arg10 fullShare (k0_pay16 a1 x0 x1)) -∗ K ⟨⟩))
      ⊢ wp frame (wpE (defs₀ (F := F)) Variants.none c none) E (cc0_resid_update i arg2 harg2 arg3 harg3 arg4 harg4 arg5 harg5 arg6 harg6 arg7 harg7 arg8 harg8 arg9 harg9 arg10 harg10) K := by
  simp only [cc0_resid_update_eq_skeleton]; unfold cc0_resid_update_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0; obtain rfl := harg10.eq_unread hfs1
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_full, pay9_eq]; exact congr (congr (congrArg (k0_pay5 (F := F)) (ld_full _ _ _ hf2)) (ld_rows _ _ _ (col i) (k0_off3_eq i) hfs0)) (ld_full _ _ _ hf3)
  isplitl [H6]
  · iexists _; isplitr; swap; · iexact H6
    ipureintro
    rw [read_full, pay10_eq]; exact congr (congr (congr (congrArg (k0_pay6 (F := F)) (ld_full _ _ _ hf2)) (ld_rows _ _ _ (col i) (k0_off3_eq i) hfs0)) (ld_full _ _ _ hf3)) (ld_full _ _ _ hf4)
  isplitl [HS0]
  · iexists _; isplitr; swap; · iexact HS0
    ipureintro
    rw [pay2_eq]; exact st_rows _ _ _ _ (col i) (k0_off3_eq i) hfs0
  iexists _; isplitr; swap; · iexact HS1
  ipureintro
  rw [read_full, pay3_eq]; exact congr (congr (congrArg (k0_pay16 (F := F)) (ld_full _ _ _ hfs1)) (ld_full _ _ _ hf0)) (ld_full _ _ _ hf1)

/-- A point after the last row tile: the output rows are computed from the second accumulator. -/
theorem runD (c : Dev nD) (i : grid0.Coords) (arg2 : Memref sig .tc .vmem S1024x768 .bf16) (harg2 : arg2.IsWhole) (arg3 : Memref sig .tc .vmem S1x768x4096 .bf16) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S1024x4096 .f32) (harg9 : arg9.IsWhole) (arg10 : Memref sig .tc .vmem S1024x4096 .f32) (harg10 : arg10.IsWhole)
    (hc1 : ¬cond1 i) (hc2 : ¬k0_cond2 i = 1#1) (hc3 : k0_cond3 i = 1#1) (hc4 : ¬k0_cond4 i = 1#1) (hc5 : ¬k0_cond5 i = 1#1)
    (x0 : Vec F S1024x768 .bf16) (x1 : Vec F S1x768x4096 .bf16) (x2 : Vec F S128x4096 .f32) (x3 x4 : Vec F S1x4096 .f32) (a0 a1 : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare a0 ∗ owns (c : Thread nD τ) arg10 fullShare a1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x2 (rows (col i) a1) x3) ∗ owns (c : Thread nD τ) arg8 fullShare (k0_pay6 x2 (rows (col i) a1) x3 x4) ∗ owns (c : Thread nD τ) arg9 fullShare a0 ∗ owns (c : Thread nD τ) arg10 fullShare (cleared (col i) a1)) -∗ K ⟨⟩))
      ⊢ wp frame (wpE (defs₀ (F := F)) Variants.none c none) E (cc0_resid_update i arg2 harg2 arg3 harg3 arg4 harg4 arg5 harg5 arg6 harg6 arg7 harg7 arg8 harg8 arg9 harg9 arg10 harg10) K := by
  simp only [cc0_resid_update_eq_skeleton]; unfold cc0_resid_update_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0; obtain rfl := harg10.eq_unread hfs1
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_full, pay7_eq]; exact congr (congr (congrArg (k0_pay5 (F := F)) (ld_full _ _ _ hf2)) (ld_rows _ _ _ (col i) (k0_off2_eq i) hfs1)) (ld_full _ _ _ hf3)
  isplitl [H6]
  · iexists _; isplitr; swap; · iexact H6
    ipureintro
    rw [read_full, pay8_eq]; exact congr (congr (congr (congrArg (k0_pay6 (F := F)) (ld_full _ _ _ hf2)) (ld_rows _ _ _ (col i) (k0_off2_eq i) hfs1)) (ld_full _ _ _ hf3)) (ld_full _ _ _ hf4)
  isplitl [HS0]
  · iexists _; isplitr; swap; · iexact HS0
    ipureintro
    exact harg9.read_unread _
  iexists _; isplitr; swap; · iexact HS1
  ipureintro
  rw [pay1_eq]; exact st_rows _ _ _ _ (col i) (k0_off2_eq i) hfs1

end Cert.DownIdeal.Body

end
-- ==== Proof.Down.Run.lean ====
module

public import proofs.«01_k».proof.Proof.Gen.DownIdeal.Frame
public import proofs.«01_k».proof.Proof.Down.Body
public import Idealize.ShloMosaic.Lib.Claim

@[expose] public section

set_option maxRecDepth 16384

noncomputable section

/-! The residual update over its whole grid: the contents of the accumulators from point to point, and the run. -/

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev buf0 (t : Fin cfg0.N) : Memref sig .tc .vmem S1024x768 .bf16 := win0_0.stage (cfg0.slots t 0)
abbrev buf1 (t : Fin cfg0.N) : Memref sig .tc .vmem S1x768x4096 .bf16 := win0_1.stage (cfg0.slots t 1)
abbrev buf2 (t : Fin cfg0.N) : Memref sig .tc .vmem S128x4096 .f32 := win0_2.stage (cfg0.slots t 2)
abbrev buf3 (t : Fin cfg0.N) : Memref sig .tc .vmem S1x4096 .f32 := win0_3.stage (cfg0.slots t 3)
abbrev buf4 (t : Fin cfg0.N) : Memref sig .tc .vmem S1x4096 .f32 := win0_4.stage (cfg0.slots t 4)
abbrev buf5 (t : Fin cfg0.N) : Memref sig .tc .vmem S128x4096 .f32 := win0_5.stage (cfg0.slots t 5)
abbrev buf6 (t : Fin cfg0.N) : Memref sig .tc .vmem S128x4096 .bf16 := win0_6.stage (cfg0.slots t 6)
abbrev accM0 : Memref sig .tc .vmem S1024x4096 .f32 := Memref.whole cc0_scratch0
abbrev accM1 : Memref sig .tc .vmem S1024x4096 .f32 := Memref.whole cc0_scratch1

/-- Which of the five branches a point takes. -/
theorem branch : ∀ t : Fin cfg0.N, (cond1 (grid0.coords t) ↔ t.val = 0)
    ∧ (k0_cond2 (grid0.coords t) = 1#1 ↔ t.val < 64 ∧ t.val / 8 % 2 = 0) ∧ (k0_cond3 (grid0.coords t) = 1#1 ↔ 64 ≤ t.val)
    ∧ (k0_cond4 (grid0.coords t) = 1#1 ↔ t.val < 64 ∧ t.val / 8 % 2 = 1) ∧ ¬k0_cond5 (grid0.coords t) = 1#1 ∧ t.val < 72 :=
  (by decide +kernel : ∀ t : Fin grid0.N, _)

/-- Every point writes both output blocks. -/
theorem busy5 : ∀ t : Fin cfg0.N, cfg0.idle 5 (cfg0.grid.coords t) = false :=
  (by decide +kernel : ∀ t : Fin grid0.N, idle0 5 (grid0.coords t) = false)
theorem busy6 : ∀ t : Fin cfg0.N, cfg0.idle 6 (cfg0.grid.coords t) = false :=
  (by decide +kernel : ∀ t : Fin grid0.N, idle0 6 (grid0.coords t) = false)

abbrev Accs (F : FTy → Type) [FloatOps F] := Vec F S1024x4096 .f32 × Vec F S1024x4096 .f32

/-- The accumulators after a point, from those before. -/
def step (c : Dev nD) (t : Fin cfg0.N) (s : Accs F) : Accs F :=
  if 64 ≤ t.val then (s.1, cleared (col (grid0.coords t)) s.2)
  else if t.val / 8 % 2 = 0 then (k0_pay16 s.1 (iblk m c 0 t) (iblk m c 1 t), cleared (col (grid0.coords t)) s.2)
  else (cleared (col (grid0.coords t)) s.1, k0_pay16 s.2 (iblk m c 0 t) (iblk m c 1 t))

/-- The accumulators before point `n`, taken as zero before the first. -/
def accs (c : Dev nD) : (n : ℕ) → n ≤ cfg0.N → Accs F
  | 0, _ => (k0_pay13, k0_pay14)
  | n + 1, h => step m c ⟨n, h⟩ (accs c n (Nat.le_of_succ_le h))

/-- The accumulator a point computes its output rows from. -/
def done (t : Fin cfg0.N) (s : Accs F) : Vec F S1024x4096 .f32 :=
  if 64 ≤ t.val then s.2 else if t.val / 8 % 2 = 0 then s.2 else s.1

/-- The rows of the first result a point writes. -/
def out5 (c : Dev nD) (t : Fin cfg0.N) : Vec F S128x4096 .f32 :=
  k0_pay5 (iblk m c 2 t) (rows (col (grid0.coords t)) (done t (accs m c t.val (Nat.le_of_lt t.isLt)))) (iblk m c 3 t)
/-- The rows of the second result a point writes. -/
def out6 (c : Dev nD) (t : Fin cfg0.N) : Vec F S128x4096 .bf16 :=
  k0_pay6 (iblk m c 2 t) (rows (col (grid0.coords t)) (done t (accs m c t.val (Nat.le_of_lt t.isLt)))) (iblk m c 3 t) (iblk m c 4 t)

theorem launched (c : Dev nD) :
    (Pipeline.ΦA spec0 c : sProp 𝕄)
      = iprop(iprop((∃ d, owns (c : Thread nD τ) accM0 fullShare d) ∗ (∃ d, owns (c : Thread nD τ) accM1 fullShare d)) ∗ (∃ r, prngReg c r)) := by
  unfold Pipeline.ΦA; rw [scopedRest0_eq]; simp only [accM0, accM1, owns_whole]; try rfl

/-- What is held between points: the accumulators at their contents, at anything before the first point. -/
def held (c : Dev nD) : (n : ℕ) → n ≤ cfg0.N → sProp 𝕄
  | 0, _ => Pipeline.ΦA spec0 c
  | n + 1, hn => iprop(iprop(owns (c : Thread nD τ) accM0 fullShare (accs m c (n + 1) hn).1 ∗ owns (c : Thread nD τ) accM1 fullShare (accs m c (n + 1) hn).2) ∗ (∃ r, prngReg c r))

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) :
    held m c n h = iprop(iprop(owns (c : Thread nD τ) accM0 fullShare (accs m c n h).1 ∗ owns (c : Thread nD τ) accM1 fullShare (accs m c n h).2) ∗ (∃ r, prngReg c r)) := by
  cases n with
  | zero => exact absurd rfl hz
  | succ n => rfl

/-- The run's data: the arrays at entry, what each point leaves in each window's buffer, what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c t := by dsimp only [dats]
theorem after6 (c : Dev nD) (t : Fin cfg0.N) : (dats m 0 c).after 6 t = out6 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5, after6]
  rw [show (dats m 0 c).Φ t.succ = held m c (t.val + 1) t.isLt from rfl, held_pos m c _ _ (Nat.succ_ne_zero _), held_castSucc m c t]
  rw [show accs m c (t.val + 1) t.isLt = step m c t (accs m c t.val (Nat.le_of_lt t.isLt)) from rfl]
  unfold out5 out6
  obtain ⟨b1, b2, b3, b4, b5, hN⟩ := branch t
  by_cases hz : t.val = 0
  · rw [held_zero m c _ _ hz, launched]
    have hs : ∀ s : Accs F, step m c t s = (k0_pay16 s.1 (iblk m c 0 t) (iblk m c 1 t), cleared (col (grid0.coords t)) s.2) := fun s => by
      unfold step; rw [if_neg (by omega), if_pos (by omega)]
    have ha : accs m c t.val (Nat.le_of_lt t.isLt) = (k0_pay13, k0_pay14) := by
      have : ∀ (n : ℕ) (h : n ≤ cfg0.N), n = 0 → accs m c n h = (k0_pay13, k0_pay14) := fun n h e => by subst e; rfl
      exact this _ _ hz
    have hd : ∀ s : Accs F, done t s = s.2 := fun s => by unfold done; rw [if_neg (by omega), if_pos (by omega)]
    rw [hs, hd, ha]
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ _ _ (b1.mpr hz) (b2.mpr ⟨by omega, by omega⟩) (fun h => by have := b3.mp h; omega) (fun h => by have := b4.mp h; omega) b5 (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  rw [held_pos m c _ _ hz]
  generalize accs m c t.val (Nat.le_of_lt t.isLt) = s
  by_cases h64 : 64 ≤ t.val
  · have hs : step m c t s = (s.1, cleared (col (grid0.coords t)) s.2) := by unfold step; rw [if_pos h64]
    have hd : done t s = s.2 := by unfold done; rw [if_pos h64]
    rw [hs, hd]
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runD c (grid0.coords t) _ _ _ _ _ _ _ _ _ _ _ _ _ _ _ _ _ _ (fun h => by have := b1.mp h; omega) (fun h => by have := b2.mp h; omega) (b3.mpr h64) (fun h => by have := b4.mp h; omega) b5 (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases hp : t.val / 8 % 2 = 0
  · have hs : step m c t s = (k0_pay16 s.1 (iblk m c 0 t) (iblk m c 1 t), cleared (col (grid0.coords t)) s.2) := by
      unfold step; rw [if_neg h64, if_pos hp]
    have hd : done t s = s.2 := by unfold done; rw [if_neg h64, if_pos hp]
    rw [hs, hd]
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ _ _ (fun h => by have := b1.mp h; omega) (b2.mpr ⟨by omega, by omega⟩) (fun h => by have := b3.mp h; omega) (fun h => by have := b4.mp h; omega) b5 (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hs : step m c t s = (cleared (col (grid0.coords t)) s.1, k0_pay16 s.2 (iblk m c 0 t) (iblk m c 1 t)) := by
      unfold step; rw [if_neg h64, if_neg hp]
    have hd : done t s = s.1 := by unfold done; rw [if_neg h64, if_neg hp]
    rw [hs, hd]
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runC c (grid0.coords t) _ _ _ _ _ _ _ _ _ _ _ _ _ _ _ _ _ _ (fun h => by have := b1.mp h; omega) (fun h => by have := b2.mp h; omega) (fun h => by have := b3.mp h; omega) (b4.mpr ⟨by omega, by omega⟩) b5 (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  have h5 : idle0 5 (grid0.coords t) = false := busy5 t
  show bodyPost m c t ⊢ iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ (match idle0 5 (grid0.coords t) with
        | true => match (cfg0.win 5).flush t with
          | false => iprop(∃ d, owns (c : Thread nD τ) (buf5 t) fullShare ((dats m 0 c).before 5 t d))
          | true => owns (c : Thread nD τ) (buf5 t) fullShare ((dats m 0 c).after 5 t)
        | false => owns (c : Thread nD τ) (buf5 t) fullShare ((dats m 0 c).after 5 t))
    ∗ (match idle0 6 (grid0.coords t) with
        | true => match (cfg0.win 6).flush t with
          | false => iprop(∃ d, owns (c : Thread nD τ) (buf6 t) fullShare ((dats m 0 c).before 6 t d))
          | true => owns (c : Thread nD τ) (buf6 t) fullShare ((dats m 0 c).after 6 t)
        | false => owns (c : Thread nD τ) (buf6 t) fullShare ((dats m 0 c).after 6 t)))
  rw [h5]
  exact .rfl

theorem hin (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem hout (c : Dev nD) : (dats m 0 c).Φ (Fin.last cfg0.N) ⊢ Pipeline.ΦA spec0 c := by
  have hN : cfg0.N = 72 := N_0
  rw [show (dats m 0 c).Φ (Fin.last cfg0.N) = held m c cfg0.N (Nat.le_refl _) from rfl, held_pos m c _ _ (by omega), launched]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the arrays at what the points wrote. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends quiescent with the arguments as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

/-- Every run ends with the two result arrays at what the points wrote and the arguments as launched. -/
theorem run_results : θ_run defs (onTc (τ := τ) (main (F := F))) ⟨m, fun _ => 0, ρ⟩ (fun r => ∀ c : Dev nD,
      r.2.mem ((c.tc : Thread nD τ).loc main_v4_0) = (dats m 0 c).arrAt 5 cfg0.N
      ∧ r.2.mem ((c.tc : Thread nD τ).loc main_v4_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 5, (h.1 c).1 6, h.2 c⟩)
    (θ_run_and (run_main m ρ) (frame_of m ρ (dats m) (A_eq m) (run_main m ρ)))

end Cert.DownIdeal.Body

end
-- ==== Proof.Down.Spec.lean ====
module

public import Idealize.ShloMosaic.PureOps.Ideal
public import Idealize.ShloMosaic.Lib.ValueIdx

@[expose] public section

noncomputable section

/-! The residual stream after the feed-forward part and its normalised rows, as functions of the hidden activation, the
weights, the residual stream before and the gains. -/

namespace Cert.Residual

open Idealize.ShloMosaic Idealize.ShloMosaic.ValueIdx
open scoped BigOperators

/-- The factor that normalises a row: one over the root of its mean square and a small constant. -/
def scale (v : Fin 4096 → EReal) : EReal :=
  Ideal.rsqrt (Ideal.div (∑ d : Fin 4096, v d * v d) (Ideal.ofBits .f32 0x45800000#32) + Ideal.ofBits .f32 0x358637BD#32)

/-- One element of the hidden activation's product with the last layer's weights. -/
def proj (a : (⟨2, ![8192, 6144]⟩ : Shape).Idx → EReal) (w : (⟨3, ![4, 6144, 4096]⟩ : Shape).Idx → EReal) (r : Fin 8192) (d : Fin 4096) : EReal :=
  ∑ k : Fin 6144, a (ix2 r k) * w (ix3 3 k d)

/-- A row with half of its normalised, gained update added. -/
def upd (y x g : Fin 4096 → EReal) (d : Fin 4096) : EReal :=
  x d + Ideal.ofBits .f32 0x3F000000#32 * (y d * scale y * g d)

/-- One row of the residual stream after the update. -/
def row (a : (⟨2, ![8192, 6144]⟩ : Shape).Idx → EReal) (w : (⟨3, ![4, 6144, 4096]⟩ : Shape).Idx → EReal)
    (x : (⟨2, ![8192, 4096]⟩ : Shape).Idx → EReal) (g : (⟨1, ![4096]⟩ : Shape).Idx → EReal) (r : Fin 8192) : Fin 4096 → EReal :=
  upd (proj a w r) (fun d => x (ix2 r d)) (fun d => g (ix1 d))

/-- The residual stream after the update. -/
def stream (a : (⟨2, ![8192, 6144]⟩ : Shape).Idx → EReal) (w : (⟨3, ![4, 6144, 4096]⟩ : Shape).Idx → EReal)
    (x : (⟨2, ![8192, 4096]⟩ : Shape).Idx → EReal) (g : (⟨1, ![4096]⟩ : Shape).Idx → EReal) : (⟨2, ![8192, 4096]⟩ : Shape).Idx → EReal :=
  fun i => row a w x g ⟨(i 0).val, (i 0).isLt⟩ ⟨(i 1).val, (i 1).isLt⟩

/-- Its normalised rows, gained. -/
def normed (a : (⟨2, ![8192, 6144]⟩ : Shape).Idx → EReal) (w : (⟨3, ![4, 6144, 4096]⟩ : Shape).Idx → EReal)
    (x : (⟨2, ![8192, 4096]⟩ : Shape).Idx → EReal) (g h : (⟨1, ![4096]⟩ : Shape).Idx → EReal) : (⟨2, ![8192, 4096]⟩ : Shape).Idx → EReal :=
  fun i => row a w x g ⟨(i 0).val, (i 0).isLt⟩ ⟨(i 1).val, (i 1).isLt⟩ * scale (row a w x g ⟨(i 0).val, (i 0).isLt⟩) * h (ix1 ⟨(i 1).val, (i 1).isLt⟩)

end Cert.Residual

end
-- ==== Proof.Down.Block.lean ====
module

public import proofs.«01_k».proof.Proof.Down.Run
public import proofs.«01_k».proof.Proof.Down.Spec
public import Idealize.ShloMosaic.Lib.MatmulPlain
public import Idealize.ShloMosaic.Lib.ValueLayout
public import Idealize.ShloMosaic.Lib.IdealHost
public import Idealize.ShloMosaic.PureOps.IdealRules

@[expose] public section

set_option maxRecDepth 16384

noncomputable section

/-! What one point of the residual update computes, read at an index. -/

namespace Cert.DownIdeal.Block

open Cert.DownIdeal Cert.DownIdeal.Gen Cert.DownIdeal.Body Idealize.ShloMosaic Idealize.ShloMosaic.TcCoe Idealize.SL.Sem
open Idealize.ShloMosaic.ValueIdx Cert.Residual
open scoped BigOperators

theorem zero_apply {S : Shape} (h : S.ShapeCasts S) (y : S.Idx) :
    shapeCast S (broadcast S (Scalar.ofBits (F := Ideal) .f32 0x00000000#32)) h y = (0 : EReal) := by
  rw [shapeCast_self]
  exact Ideal.ofBits_zero_f32

theorem pay13_apply (y : S1024x4096.Idx) : k0_pay13 (F := Ideal) y = (0 : EReal) := zero_apply shapeCasts_S1024x4096_S1024x4096 y
theorem pay14_apply (y : S1024x4096.Idx) : k0_pay14 (F := Ideal) y = (0 : EReal) := zero_apply shapeCasts_S1024x4096_S1024x4096 y
theorem pay15_apply (y : S128x4096.Idx) : k0_pay15 (F := Ideal) y = (0 : EReal) := zero_apply shapeCasts_S128x4096_S128x4096 y

/-- An accumulator with a point's product added. -/
theorem pay16_apply (s : Vec Ideal S1024x4096 .f32) (a : Vec Ideal S1024x768 .bf16) (w : Vec Ideal S1x768x4096 .bf16) (r : Fin 1024) (d : Fin 4096) :
    k0_pay16 s a w (ix2 r d) = s (ix2 r d) + ∑ q : Fin 768, a (ix2 r q) * w (ix3 0 q d) := by
  unfold k0_pay16
  rw [shapeCast_self, shapeCast_self]
  rw [addf_apply]
  refine congrArg (fun z : EReal => s (ix2 r d) + z) ?_
  refine (Ideal.matmul_plain_apply (M := 1024) (K := 768) (N := 4096) none a _ _ r d).trans ?_
  rw [constant_apply, Ideal.ofBits_zero_f32, zero_add]
  refine Finset.sum_congr rfl fun q _ => ?_
  rw [shapeCast_apply _ _ (ix2 q d) (ix3 0 q d) (by
    rw [Shape.rowMajor_val_three, Shape.rowMajor_val_two]
    show (0 * 768 + q.val) * 4096 + d.val = q.val * 4096 + d.val
    omega)]

/-- Rows set to zero, read at an index. -/
theorem cleared_apply (k : Fin 8) (x : Vec Ideal S1024x4096 .f32) (r : Fin 1024) (d : Fin 4096) :
    cleared k x (ix2 r d) = if 128 * k.val ≤ r.val ∧ r.val < 128 * k.val + 128 then (0 : EReal) else x (ix2 r d) := by
  unfold cleared VecWindow.put
  have hd : d.val < 4096 := d.isLt
  by_cases h : 128 * k.val ≤ r.val ∧ r.val < 128 * k.val + 128
  · rw [if_pos h, dif_pos (fun a => by
      match a with
      | ⟨0, _⟩ => exact h
      | ⟨1, _⟩ => exact ⟨Nat.zero_le _, by show d.val < 0 + 4096; omega⟩)]
    exact pay15_apply _
  · rw [if_neg h, dif_neg (fun h' => h (h' 0))]

/-- A group of rows, read at an index. -/
theorem rows_apply (k : Fin 8) (x : Vec Ideal S1024x4096 .f32) (r : Fin 128) (d : Fin 4096) (i : Fin 1024) (hi : i.val = 128 * k.val + r.val) :
    rows k x (ix2 r d) = x (ix2 i d) := by
  unfold rows VecWindow.window
  refine congrArg x (funext fun a => Fin.ext ?_)
  match a with
  | ⟨0, _⟩ => show 128 * k.val + 1 * r.val = i.val; omega
  | ⟨1, _⟩ => show 0 + 1 * d.val = d.val; omega

/-- The normalising factor of every row of a block, spread over its columns. -/
theorem factor_apply (v : FVec Ideal S128x4096 .f32) (r : Fin 128) (d : Fin 4096) :
    broadcastTo S128x4096 (rsqrt (addf (divf (shapeCast S128x1 (multiReduction .add [1] S128 (mulf v v) 0x00000000#32 reduces_S128x4096_S128 (.inl rfl) rfl) shapeCasts_S128_S128x1)
      (broadcast S128x1 (Scalar.ofBits (F := Ideal) .f32 0x45800000#32))) (broadcast S128x1 (Scalar.ofBits (F := Ideal) .f32 0x358637BD#32)))) broadcasts_S128x1_S128x4096 (ix2 r d)
      = scale fun d => v (ix2 r d) := by
  rw [broadcastTo_apply _ _ _ (ix2 r 0) (fun a => by
    match a with
    | ⟨0, _⟩ => rfl
    | ⟨1, _⟩ => rfl)]
  unfold scale
  refine congrArg Ideal.rsqrt (congrArg (fun z : EReal => Ideal.div z (Ideal.ofBits .f32 0x45800000#32) + Ideal.ofBits .f32 0x358637BD#32) ?_)
  rw [shapeCast_apply _ _ (ix2 r 0) (ix1 r) (by
    rw [Shape.rowMajor_val_one, Shape.rowMajor_val_two]
    show r.val = r.val * 1 + 0
    omega)]
  refine (Ideal.multiReduction_add_single (mulf v v) _ reduces_S128x4096_S128 (.inl rfl) rfl (ix1 r)).trans ?_
  refine Finset.sum_congr rfl fun l _ => ?_
  have e : reduces_S128x4096_S128.lift (ix1 r) l = (ix2 r l : S128x4096.Idx) := by
    funext a; apply Fin.ext
    match a with
    | ⟨0, _⟩ => rfl
    | ⟨1, _⟩ => rfl
  rw [e]
  rfl

theorem gain_apply (g : Vec Ideal S1x4096 .f32) (r : Fin 128) (d : Fin 4096) :
    broadcastTo S128x4096 (shapeCast S1x4096 g shapeCasts_S1x4096_S1x4096) broadcasts_S1x4096_S128x4096 (ix2 r d) = g (ix2 0 d) := by
  rw [shapeCast_self]
  exact broadcastTo_1b_ab_apply _ _ r d

/-- The rows of the stream a point writes. -/
theorem pay5_apply (x y : Vec Ideal S128x4096 .f32) (g : Vec Ideal S1x4096 .f32) (r : Fin 128) (d : Fin 4096) :
    k0_pay5 x y g (ix2 r d) = upd (fun d => y (ix2 r d)) (fun d => x (ix2 r d)) (fun d => g (ix2 0 d)) d := by
  unfold k0_pay5
  dsimp only
  rw [addf_apply, mulf_apply, mulf_apply, mulf_apply, factor_apply, gain_apply]
  rfl

/-- The normalised rows a point writes. -/
theorem pay6_apply (x y : Vec Ideal S128x4096 .f32) (g h : Vec Ideal S1x4096 .f32) (r : Fin 128) (d : Fin 4096) :
    k0_pay6 x y g h (ix2 r d)
      = upd (fun d => y (ix2 r d)) (fun d => x (ix2 r d)) (fun d => g (ix2 0 d)) d
        * scale (upd (fun d => y (ix2 r d)) (fun d => x (ix2 r d)) (fun d => g (ix2 0 d))) * h (ix2 0 d) := by
  unfold k0_pay6
  dsimp only
  rw [truncf_apply (ψ := .bf16) _ bitsLt_bf16_f32, mulf_apply, mulf_apply, factor_apply, gain_apply, pay5_apply]
  simp only [pay5_apply]

end Cert.DownIdeal.Block

end
-- ==== Proof.Down.Array.lean ====
module

public import proofs.«01_k».proof.Proof.Down.Block
public import Idealize.ShloMosaic.Lib.Pipeline.ValueKit.Geometry

@[expose] public section

set_option maxRecDepth 16384

noncomputable section

/-! The two result arrays of the residual update, from the arguments. -/

namespace Cert.DownIdeal.Array

open Cert.DownIdeal Cert.DownIdeal.Gen Cert.DownIdeal.Body Cert.DownIdeal.Block
open Idealize.ShloMosaic Idealize.ShloMosaic.TcCoe Idealize.SL.Sem
open Idealize.ShloMosaic.ValueIdx Cert.Residual
open Idealize.ShloMosaic.Pipeline (Dat)
open scoped BigOperators

variable (m : (ℓ : Loc nD τ sig) → Buf (Elt Ideal) ℓ) (ρ : Dev nD → PrngReg) (c : Dev nD)

/-- The hidden activation as launched. -/
abbrev a : (⟨2, ![8192, 6144]⟩ : Shape).Idx → EReal := m ((c : Thread nD τ).loc main_arg0)
/-- The weights as launched. -/
abbrev w : (⟨3, ![4, 6144, 4096]⟩ : Shape).Idx → EReal := m ((c : Thread nD τ).loc main_arg1)
/-- The residual stream as launched. -/
abbrev x : (⟨2, ![8192, 4096]⟩ : Shape).Idx → EReal := m ((c : Thread nD τ).loc main_arg2)
/-- The gain of the update as launched. -/
abbrev g : (⟨1, ![4096]⟩ : Shape).Idx → EReal := m ((c : Thread nD τ).loc main_arg3)
/-- The gain of the normalised rows as launched. -/
abbrev h : (⟨1, ![4096]⟩ : Shape).Idx → EReal := m ((c : Thread nD τ).loc main_arg4)

theorem V_a_apply (i : S8192x6144.Idx) : V m c main_v0 i = a m c i := by
  have e : V m c main_v0 = truncf (F := Ideal) .bf16 (a m c) bitsLt_bf16_f32 := by
    unfold V; after_results
  rw [e]
  exact truncf_apply (ψ := .bf16) _ bitsLt_bf16_f32 _

theorem V_w_apply (i : S4x6144x4096.Idx) : V m c main_v1 i = w m c i := by
  have e : V m c main_v1 = truncf (F := Ideal) .bf16 (w m c) bitsLt_bf16_f32 := by
    unfold V; after_results
  rw [e]
  exact truncf_apply (ψ := .bf16) _ bitsLt_bf16_f32 _

theorem V_g_apply (d : Fin 4096) : V m c main_v2 (ix2 (0 : Fin 1) d : S1x4096.Idx) = g m c (ix1 d) := by
  have e : (V m c main_v2 : S1x4096.Idx → EReal) = shapeCast S1x4096 (g m c) shapeCasts_S4096_S1x4096 := by
    unfold V; after_results; rfl
  rw [e]
  exact shapeCast_apply _ _ _ (ix1 d) (by
    rw [Shape.rowMajor_val_one, Shape.rowMajor_val_two]
    show d.val = 0 * 4096 + d.val
    omega)

theorem V_h_apply (d : Fin 4096) : V m c main_v3 (ix2 (0 : Fin 1) d : S1x4096.Idx) = h m c (ix1 d) := by
  have e : (V m c main_v3 : S1x4096.Idx → EReal) = shapeCast S1x4096 (h m c) shapeCasts_S4096_S1x4096 := by
    unfold V; after_results; rfl
  rw [e]
  exact shapeCast_apply _ _ _ (ix1 d) (by
    rw [Shape.rowMajor_val_one, Shape.rowMajor_val_two]
    show d.val = 0 * 4096 + d.val
    omega)

/-- Grid point `t` multiplies in row tile `t / 8` and chunk `t % 8`; the rows it reads of the stream and writes are the group `t - 8`. -/
theorem idx_facts : ∀ t : Fin cfg0.N, t.val < 72
    ∧ (t.val < 64 → win0_0.index t (0 : Fin 2) = t.val / 8 ∧ win0_0.index t (1 : Fin 2) = t.val % 8)
    ∧ (t.val < 64 → win0_1.index t (0 : Fin 3) = 3 ∧ win0_1.index t (1 : Fin 3) = t.val % 8 ∧ win0_1.index t (2 : Fin 3) = 0)
    ∧ (win0_2.index t (0 : Fin 2) = t.val - 8 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val - 8 ∧ win0_5.index t (1 : Fin 2) = 0)
    ∧ (win0_6.index t (0 : Fin 2) = t.val - 8 ∧ win0_6.index t (1 : Fin 2) = 0)
    ∧ (col (grid0.coords t)).val = t.val % 8 :=
  (by decide +kernel : ∀ t : Fin grid0.N, _)

/-- Only the points from the eighth on write back. -/
theorem late5 : ∀ t : Fin cfg0.N, (cfg0.win 5).flush t = true → 8 ≤ t.val :=
  (by decide +kernel : ∀ t : Fin grid0.N, (cfg0.win 5).flush t = true → 8 ≤ t.val)
theorem late6 : ∀ t : Fin cfg0.N, (cfg0.win 6).flush t = true → 8 ≤ t.val :=
  (by decide +kernel : ∀ t : Fin grid0.N, (cfg0.win 6).flush t = true → 8 ≤ t.val)

theorem a_block (t : Fin cfg0.N) (ht : t.val < 64) (r : Fin 1024) (q : Fin 768) (i : Fin 8192) (k : Fin 6144)
    (hi : i.val = 1024 * (t.val / 8) + r.val) (hk : k.val = 768 * (t.val % 8) + q.val) :
    (iblk m c 0 t : Vec Ideal S1024x768 .bf16) (ix2 r q) = a m c (ix2 i k) := by
  rw [← V_a_apply]
  obtain ⟨_, e, _⟩ := idx_facts t
  obtain ⟨e0, e1⟩ := e ht
  show V m c main_v0 (((cfg0.win 0).blk t).view.emb (ix2 r q)) = _
  refine congrArg (V m c main_v0) (funext fun b => Fin.ext ?_)
  match b with
  | ⟨0, _⟩ => show win0_0.index t (0 : Fin 2) * 1024 + 1 * r.val = i.val; omega
  | ⟨1, _⟩ => show win0_0.index t (1 : Fin 2) * 768 + 1 * q.val = k.val; omega

theorem w_block (t : Fin cfg0.N) (ht : t.val < 64) (q : Fin 768) (d : Fin 4096) (k : Fin 6144) (hk : k.val = 768 * (t.val % 8) + q.val) :
    (iblk m c 1 t : Vec Ideal S1x768x4096 .bf16) (ix3 0 q d) = w m c (ix3 3 k d) := by
  rw [← V_w_apply]
  obtain ⟨_, _, e, _⟩ := idx_facts t
  obtain ⟨e0, e1, e2⟩ := e ht
  show V m c main_v1 (((cfg0.win 1).blk t).view.emb (ix3 0 q d)) = _
  refine congrArg (V m c main_v1) (funext fun b => Fin.ext ?_)
  match b with
  | ⟨0, _⟩ => show win0_1.index t (0 : Fin 3) * 1 + 1 * 0 = 3; omega
  | ⟨1, _⟩ => show win0_1.index t (1 : Fin 3) * 768 + 1 * q.val = k.val; omega
  | ⟨2, _⟩ => show win0_1.index t (2 : Fin 3) * 4096 + 1 * d.val = d.val; omega

theorem x_block (t : Fin cfg0.N) (r : Fin 128) (d : Fin 4096) (i : Fin 8192) (hi : i.val = 128 * (t.val - 8) + r.val) :
    (iblk m c 2 t : Vec Ideal S128x4096 .f32) (ix2 r d) = x m c (ix2 i d) := by
  obtain ⟨_, _, _, ⟨e0, e1⟩, _⟩ := idx_facts t
  rw [show x m c = V m c main_arg2 from (V_main_arg2 m c).symm]
  show V m c main_arg2 (((cfg0.win 2).blk t).view.emb (ix2 r d)) = _
  refine congrArg (V m c main_arg2) (funext fun b => Fin.ext ?_)
  match b with
  | ⟨0, _⟩ => show win0_2.index t (0 : Fin 2) * 128 + 1 * r.val = i.val; omega
  | ⟨1, _⟩ => show win0_2.index t (1 : Fin 2) * 4096 + 1 * d.val = d.val; omega

theorem g_block (t : Fin cfg0.N) (d : Fin 4096) : (iblk m c 3 t : Vec Ideal S1x4096 .f32) (ix2 0 d) = g m c (ix1 d) := by
  rw [← V_g_apply]
  obtain ⟨_, _, _, _, ⟨e0, e1⟩, _⟩ := idx_facts t
  show V m c main_v2 (((cfg0.win 3).blk t).view.emb (ix2 0 d)) = _
  refine congrArg (V m c main_v2) (funext fun b => Fin.ext ?_)
  match b with
  | ⟨0, _⟩ => show win0_3.index t (0 : Fin 2) * 1 + 1 * 0 = 0; omega
  | ⟨1, _⟩ => show win0_3.index t (1 : Fin 2) * 4096 + 1 * d.val = d.val; omega

theorem h_block (t : Fin cfg0.N) (d : Fin 4096) : (iblk m c 4 t : Vec Ideal S1x4096 .f32) (ix2 0 d) = h m c (ix1 d) := by
  rw [← V_h_apply]
  obtain ⟨_, _, _, _, _, ⟨e0, e1⟩, _⟩ := idx_facts t
  show V m c main_v3 (((cfg0.win 4).blk t).view.emb (ix2 0 d)) = _
  refine congrArg (V m c main_v3) (funext fun b => Fin.ext ?_)
  match b with
  | ⟨0, _⟩ => show win0_4.index t (0 : Fin 2) * 1 + 1 * 0 = 0; omega
  | ⟨1, _⟩ => show win0_4.index t (1 : Fin 2) * 4096 + 1 * d.val = d.val; omega

/-! ## The accumulators -/

/-- One summand of the product, zero outside the arrays. -/
def term (R : ℕ) (d : Fin 4096) (n : ℕ) : EReal :=
  if hb : R < 8192 ∧ n < 6144 then a m c (ix2 (⟨R, hb.1⟩ : Fin 8192) (⟨n, hb.2⟩ : Fin 6144)) * w m c (ix3 (3 : Fin 4) (⟨n, hb.2⟩ : Fin 6144) d) else 0

/-- The first `k` chunks of the product at a row. -/
def part (R k : ℕ) (d : Fin 4096) : EReal := ∑ n ∈ Finset.range (768 * k), term m c R d n

theorem part_zero (R : ℕ) (d : Fin 4096) : part m c R 0 d = 0 := by unfold part; rfl

theorem part_succ (R k : ℕ) (d : Fin 4096) : part m c R (k + 1) d = part m c R k d + ∑ q : Fin 768, term m c R d (768 * k + q.val) := by
  unfold part
  rw [Nat.mul_succ, Finset.sum_range_add, Finset.sum_range (fun q => term m c R d (768 * k + q))]

/-- All eight chunks are the whole product. -/
theorem part_full (R : Fin 8192) (d : Fin 4096) : part m c R.val 8 d = proj (a m c) (w m c) R d := by
  unfold part proj
  rw [show 768 * 8 = 6144 from rfl, Finset.sum_range]
  refine Finset.sum_congr rfl fun k _ => ?_
  unfold term
  rw [dif_pos ⟨R.isLt, k.isLt⟩]

/-- The accumulator in use holds the first `k` chunks of row tile `i`; the other holds the whole product of the tile before,
    its first `k` groups of rows set to zero. -/
def Holds (i k : ℕ) (cur prv : Vec Ideal S1024x4096 .f32) : Prop :=
  (i < 8 → ∀ (r : Fin 1024) (d : Fin 4096), cur (ix2 r d) = part m c (1024 * i + r.val) k d)
    ∧ ∀ (r : Fin 1024) (d : Fin 4096), prv (ix2 r d) = if i = 0 ∨ r.val < 128 * k then (0 : EReal) else part m c (1024 * (i - 1) + r.val) 8 d

theorem cleared_holds {i k : ℕ} (prv : Vec Ideal S1024x4096 .f32) (p : Fin 8) (hp : p.val = k)
    (hv : ∀ (r : Fin 1024) (d : Fin 4096), prv (ix2 r d) = if i = 0 ∨ r.val < 128 * k then (0 : EReal) else part m c (1024 * (i - 1) + r.val) 8 d)
    (r : Fin 1024) (d : Fin 4096) :
    cleared p prv (ix2 r d) = if i = 0 ∨ r.val < 128 * (k + 1) then (0 : EReal) else part m c (1024 * (i - 1) + r.val) 8 d := by
  rw [cleared_apply, hv r d, hp]
  by_cases h0 : i = 0 ∨ r.val < 128 * k
  · rw [if_pos h0, if_pos (h0.imp id fun hr => by omega), ite_self]
  · by_cases h1 : r.val < 128 * k + 128
    · rw [if_pos ⟨by omega, h1⟩, if_pos (Or.inr (by omega))]
    · rw [if_neg (fun hh => h1 hh.2), if_neg h0, if_neg (fun hh => hh.elim (fun e => h0 (Or.inl e)) fun e => h1 (by omega))]

theorem Holds.add {i k : ℕ} {cur prv : Vec Ideal S1024x4096 .f32} (H : Holds m c i k cur prv) (t : Fin cfg0.N) (ht : t.val < 64)
    (hi : t.val / 8 = i) (hk : t.val % 8 = k) :
    Holds m c i (k + 1) (k0_pay16 cur (iblk m c 0 t) (iblk m c 1 t)) (cleared (col (grid0.coords t)) prv) := by
  obtain ⟨_, _, _, _, _, _, _, _, hcol⟩ := idx_facts t
  refine ⟨fun h8 r d => ?_, cleared_holds m c prv _ (by omega) H.2⟩
  rw [pay16_apply, H.1 h8 r d, part_succ]
  refine congrArg (fun z : EReal => part m c (1024 * i + r.val) k d + z) (Finset.sum_congr rfl fun q _ => ?_)
  have hr : r.val < 1024 := r.isLt
  have hq : q.val < 768 := q.isLt
  unfold term
  rw [dif_pos ⟨by omega, by omega⟩]
  rw [a_block m c t ht r q ⟨1024 * i + r.val, by omega⟩ ⟨768 * k + q.val, by omega⟩ (by show 1024 * i + r.val = _; omega) (by show 768 * k + q.val = _; omega),
    w_block m c t ht q d ⟨768 * k + q.val, by omega⟩ (by show 768 * k + q.val = _; omega)]

theorem Holds.keep {k : ℕ} {cur prv : Vec Ideal S1024x4096 .f32} (H : Holds m c 8 k cur prv) (p : Fin 8) (hp : p.val = k) :
    Holds m c 8 (k + 1) cur (cleared p prv) :=
  ⟨fun h8 => absurd h8 (Nat.lt_irrefl _), cleared_holds m c prv p hp H.2⟩

/-- After eight points the two accumulators change places. -/
theorem Holds.swap {i : ℕ} {cur prv : Vec Ideal S1024x4096 .f32} (h8 : i < 8) (H : Holds m c i 8 cur prv) : Holds m c (i + 1) 0 prv cur := by
  refine ⟨fun _ r d => ?_, fun r d => ?_⟩
  · have hr : r.val < 1024 := r.isLt
    rw [H.2 r d, if_pos (Or.inr (by omega)), part_zero]
  · rw [H.1 h8 r d, if_neg (by omega), Nat.add_sub_cancel]

/-- The accumulator a point adds to, and the other. -/
def cur (n : ℕ) (s : Accs Ideal) : Vec Ideal S1024x4096 .f32 := if n / 8 % 2 = 0 then s.1 else s.2
def prv (n : ℕ) (s : Accs Ideal) : Vec Ideal S1024x4096 .f32 := if n / 8 % 2 = 0 then s.2 else s.1

/-- Before every point. -/
theorem holds : ∀ (n : ℕ) (hn : n < 72) (hle : n ≤ cfg0.N), Holds m c (n / 8) (n % 8) (cur n (accs m c n hle)) (prv n (accs m c n hle)) := by
  intro n
  induction n with
  | zero =>
    intro _ hle
    refine ⟨fun _ r d => ?_, fun r d => ?_⟩
    · rw [show (0 % 8 : ℕ) = 0 from rfl, part_zero]
      exact pay13_apply (ix2 r d)
    · rw [if_pos (Or.inl rfl)]
      exact pay14_apply (ix2 r d)
  | succ n ih =>
    intro hn hle
    have H := ih (by omega) (Nat.le_of_succ_le hle)
    rw [show accs m c (n + 1) hle = step m c ⟨n, hle⟩ (accs m c n (Nat.le_of_succ_le hle)) from rfl]
    revert H
    generalize accs m c n (Nat.le_of_succ_le hle) = s
    intro H
    have hcol : (col (grid0.coords (⟨n, hle⟩ : Fin cfg0.N))).val = n % 8 := (idx_facts ⟨n, hle⟩).2.2.2.2.2.2.2.2
    have hstep : Holds m c (n / 8) (n % 8 + 1) (cur n (step m c ⟨n, hle⟩ s)) (prv n (step m c ⟨n, hle⟩ s)) := by
      unfold step
      by_cases h64 : 64 ≤ n
      · have e8 : n / 8 = 8 := by omega
        rw [if_pos h64]
        unfold cur prv at H ⊢
        rw [e8] at H ⊢
        exact H.keep m c _ hcol
      · rw [if_neg h64]
        unfold cur prv at H ⊢
        by_cases hp : n / 8 % 2 = 0
        · rw [if_pos hp, if_pos hp] at H
          rw [if_pos hp, if_pos hp, if_pos hp]
          exact H.add m c ⟨n, hle⟩ (by show n < 64; omega) rfl rfl
        · rw [if_neg hp, if_neg hp] at H
          rw [if_neg hp, if_neg hp, if_neg hp]
          exact H.add m c ⟨n, hle⟩ (by show n < 64; omega) rfl rfl
    revert hstep
    generalize step m c ⟨n, hle⟩ s = s'
    intro hstep
    by_cases hk : n % 8 = 7
    · have e1 : (n + 1) / 8 = n / 8 + 1 := by omega
      have e2 : (n + 1) % 8 = 0 := by omega
      rw [hk] at hstep
      have h' := hstep.swap m c (by omega)
      unfold cur prv at h' ⊢
      rw [e1, e2]
      by_cases hp : n / 8 % 2 = 0
      · rw [if_pos hp, if_pos hp] at h'
        rw [if_neg (by omega), if_neg (by omega)]
        exact h'
      · rw [if_neg hp, if_neg hp] at h'
        rw [if_pos (by omega), if_pos (by omega)]
        exact h'
    · have e1 : (n + 1) / 8 = n / 8 := by omega
      have e2 : (n + 1) % 8 = n % 8 + 1 := by omega
      unfold cur prv at hstep ⊢
      rw [e1, e2]
      exact hstep

/-- The rows of the whole product a point computes its output from. -/
theorem done_rows (t : Fin cfg0.N) (ht : 8 ≤ t.val) (r : Fin 128) (d : Fin 4096) (i : Fin 8192) (hi : i.val = 128 * (t.val - 8) + r.val) :
    rows (col (grid0.coords t)) (done t (accs m c t.val (Nat.le_of_lt t.isLt))) (ix2 r d) = proj (a m c) (w m c) i d := by
  obtain ⟨hN, _, _, _, _, _, _, _, hcol⟩ := idx_facts t
  have hr : r.val < 128 := r.isLt
  have H := (holds m c t.val hN (Nat.le_of_lt t.isLt)).2
  have e : done t (accs m c t.val (Nat.le_of_lt t.isLt)) = prv t.val (accs m c t.val (Nat.le_of_lt t.isLt)) := by
    unfold done prv
    by_cases h64 : 64 ≤ t.val
    · rw [if_pos h64, if_pos (by omega)]
    · rw [if_neg h64]
  rw [e, rows_apply _ _ r d ⟨128 * (t.val % 8) + r.val, by omega⟩ (by show 128 * (t.val % 8) + r.val = _; omega), H,
    if_neg (by show ¬(t.val / 8 = 0 ∨ 128 * (t.val % 8) + r.val < 128 * (t.val % 8)); omega)]
  rw [show 1024 * (t.val / 8 - 1) + (128 * (t.val % 8) + r.val) = i.val from by omega]
  exact part_full m c i d

/-- The row a point computes is a row of the updated stream. -/
theorem row_eq (t : Fin cfg0.N) (ht : 8 ≤ t.val) (r : Fin 128) (i : Fin 8192) (hi : i.val = 128 * (t.val - 8) + r.val) :
    upd (fun d => rows (col (grid0.coords t)) (done t (accs m c t.val (Nat.le_of_lt t.isLt))) (ix2 r d)) (fun d => (iblk m c 2 t : Vec Ideal S128x4096 .f32) (ix2 r d))
      (fun d => (iblk m c 3 t : Vec Ideal S1x4096 .f32) (ix2 0 d)) = row (a m c) (w m c) (x m c) (g m c) i := by
  unfold row
  have e1 : (fun d => rows (col (grid0.coords t)) (done t (accs m c t.val (Nat.le_of_lt t.isLt))) (ix2 r d)) = proj (a m c) (w m c) i :=
    funext fun d => done_rows m c t ht r d i hi
  have e2 : (fun d => (iblk m c 2 t : Vec Ideal S128x4096 .f32) (ix2 r d)) = fun d => x m c (ix2 i d) := funext fun d => x_block m c t r d i hi
  have e3 : (fun d => (iblk m c 3 t : Vec Ideal S1x4096 .f32) (ix2 0 d)) = fun d => g m c (ix1 d) := funext fun d => g_block m c t d
  rw [e1, e2, e3]

/-- What a point writes back of the stream. -/
theorem flushed5 (t : Fin cfg0.N) (hf : (cfg0.win 5).flush t = true) :
    (dats m 0 c).flushed 5 t = ((cfg0.win 5).blk t).view.read (Elt Ideal) (stream (a m c) (w m c) (x m c) (g m c)) := by
  have ht := late5 t hf
  obtain ⟨hN, _, _, _, _, _, ⟨f0, f1⟩, _, _⟩ := idx_facts t
  show (cfg0.win 5).cut (grid0.coords t) ((dats m 0 c).after 5 t) = _
  rw [after5]
  funext y
  have hy0 : (y 0).val < 128 := (y 0).isLt
  have hy1 : (y 1).val < 4096 := (y 1).isLt
  have hb0 : (((cfg0.win 5).blk t).view.emb y 0).val = win0_5.index t (0 : Fin 2) * 128 + 1 * (y 0).val := rfl
  have hb1 : (((cfg0.win 5).blk t).view.emb y 1).val = win0_5.index t (1 : Fin 2) * 4096 + 1 * (y 1).val := rfl
  have hx : (cfg0.win 5).xinj (grid0.coords t) y = ix2 (⟨(y 0).val, hy0⟩ : Fin 128) (⟨(y 1).val, hy1⟩ : Fin 4096) := by
    funext b; apply Fin.ext
    match b with
    | ⟨0, _⟩ => rfl
    | ⟨1, _⟩ => rfl
  show out5 m c t ((cfg0.win 5).xinj (grid0.coords t) y) = stream (a m c) (w m c) (x m c) (g m c) (((cfg0.win 5).blk t).view.emb y)
  rw [hx]
  unfold out5
  rw [pay5_apply, row_eq m c t ht ⟨(y 0).val, hy0⟩ ⟨(((cfg0.win 5).blk t).view.emb y 0).val, (((cfg0.win 5).blk t).view.emb y 0).isLt⟩ (by
    show (((cfg0.win 5).blk t).view.emb y 0).val = 128 * (t.val - 8) + (y 0).val
    rw [hb0]; omega)]
  unfold stream
  refine congrArg _ (Fin.ext ?_)
  show (y 1).val = (((cfg0.win 5).blk t).view.emb y 1).val
  rw [hb1]; omega

/-- What a point writes back of the normalised rows. -/
theorem flushed6 (t : Fin cfg0.N) (hf : (cfg0.win 6).flush t = true) :
    (dats m 0 c).flushed 6 t = ((cfg0.win 6).blk t).view.read (Elt Ideal) (normed (a m c) (w m c) (x m c) (g m c) (h m c)) := by
  have ht := late6 t hf
  obtain ⟨hN, _, _, _, _, _, _, ⟨f0, f1⟩, _⟩ := idx_facts t
  show (cfg0.win 6).cut (grid0.coords t) ((dats m 0 c).after 6 t) = _
  rw [after6]
  funext y
  have hy0 : (y 0).val < 128 := (y 0).isLt
  have hy1 : (y 1).val < 4096 := (y 1).isLt
  have hb0 : (((cfg0.win 6).blk t).view.emb y 0).val = win0_6.index t (0 : Fin 2) * 128 + 1 * (y 0).val := rfl
  have hb1 : (((cfg0.win 6).blk t).view.emb y 1).val = win0_6.index t (1 : Fin 2) * 4096 + 1 * (y 1).val := rfl
  have hx : (cfg0.win 6).xinj (grid0.coords t) y = ix2 (⟨(y 0).val, hy0⟩ : Fin 128) (⟨(y 1).val, hy1⟩ : Fin 4096) := by
    funext b; apply Fin.ext
    match b with
    | ⟨0, _⟩ => rfl
    | ⟨1, _⟩ => rfl
  show out6 m c t ((cfg0.win 6).xinj (grid0.coords t) y) = normed (a m c) (w m c) (x m c) (g m c) (h m c) (((cfg0.win 6).blk t).view.emb y)
  rw [hx]
  unfold out6
  rw [pay6_apply, row_eq m c t ht ⟨(y 0).val, hy0⟩ ⟨(((cfg0.win 6).blk t).view.emb y 0).val, (((cfg0.win 6).blk t).view.emb y 0).isLt⟩ (by
    show (((cfg0.win 6).blk t).view.emb y 0).val = 128 * (t.val - 8) + (y 0).val
    rw [hb0]; omega), h_block]
  unfold normed
  have e1 : (⟨(y 1).val, hy1⟩ : Fin 4096) = ⟨(((cfg0.win 6).blk t).view.emb y 1).val, (((cfg0.win 6).blk t).view.emb y 1).isLt⟩ := by
    apply Fin.ext
    show (y 1).val = (((cfg0.win 6).blk t).view.emb y 1).val
    rw [hb1]; omega
  rw [e1]

theorem covers5 : (cfg0.win 5).Covers := by decide +kernel
theorem covers6 : (cfg0.win 6).Covers := by decide +kernel

/-- The first result array after the run. -/
theorem final5 : (dats m 0 c).arrAt 5 cfg0.N = stream (a m c) (w m c) (x m c) (g m c) :=
  (dats m 0 c).arrAt_eq_of_cover 5 _ (fun t hf => flushed5 m c t hf) (covers5.cover _ (Memref.isWhole_whole _))

/-- The second result array after the run. -/
theorem final6 : (dats m 0 c).arrAt 6 cfg0.N = normed (a m c) (w m c) (x m c) (g m c) (h m c) :=
  (dats m 0 c).arrAt_eq_of_cover 6 _ (fun t hf => flushed6 m c t hf) (covers6.cover _ (Memref.isWhole_whole _))

end Cert.DownIdeal.Array

end
-- ==== Proof.Down.Ref.lean ====
module

public import proofs.«01_k».proof.Proof.Down.Spec
public import proofs.«01_k».proof.Proof.Gen.DownReferenceIdeal.Read
public import Idealize.ShloMosaic.Lib.IdealHost

@[expose] public section

set_option maxRecDepth 16384

noncomputable section

/-! The residual update's reference, its two results read at an index. -/

namespace Cert.DownReferenceIdeal.Ref

open Cert.DownReferenceIdeal Cert.DownReferenceIdeal.Gen Cert.DownReferenceIdeal.Read Idealize.ShloMosaic Idealize.ShloMosaic.ValueIdx
open Cert.Residual
open scoped BigOperators

variable (a : S8192x6144.Idx → EReal) (w : S4x6144x4096.Idx → EReal) (x : S8192x4096.Idx → EReal) (g h : S4096.Idx → EReal)

theorem product_apply (r : Fin 8192) (d : Fin 4096) : val_main_v2 (F := Ideal) a w (ix2 r d) = proj a w r d := by
  rw [val_main_v2_apply]
  unfold proj
  refine Finset.sum_congr rfl fun k _ => ?_
  rw [val_main_v1_apply, val_main_v0_apply]
  have hd : d.val < 4096 := d.isLt
  have hk : k.val < 6144 := k.isLt
  refine congrArg₂ (fun a b : EReal => a * b) (congrArg a ?_) (congrArg w ?_)
  · funext b; apply Fin.ext
    match b with
    | ⟨0, _⟩ => rfl
    | ⟨1, _⟩ => rfl
  · funext b; apply Fin.ext
    match b with
    | ⟨0, _⟩ => rfl
    | ⟨1, _⟩ => show (k.val * 4096 + d.val) / 4096 % 6144 = k.val; omega
    | ⟨2, _⟩ => show (k.val * 4096 + d.val) % 4096 = d.val; omega

/-- The normalising factor of the product's row. -/
theorem scale_product (r : Fin 8192) (d : Fin 4096) : val_main_v11 (F := Ideal) a w (ix2 r d) = scale (proj a w r) := by
  rw [val_main_v11_apply, val_main_v10_apply, val_main_v9_apply, val_main_v7_apply, val_main_v8_apply, val_main_v6_apply, val_main_v5_apply, val_main_v4_apply,
    val_main_cst_apply, val_main_cst_0_apply, val_main_cst_1_apply]
  unfold scale
  refine congrArg Ideal.rsqrt (congrArg (fun z : EReal => Ideal.div z (Ideal.ofBits .f32 0x45800000#32) + Ideal.ofBits .f32 0x358637BD#32) ?_)
  refine (congrArg₂ (fun a b : EReal => a + b) Ideal.ofBits_zero_f32 (Finset.sum_congr rfl fun k _ => ?_)).trans (zero_add _)
  have e : idx_main_v4 (idx_main_v5 (idx_main_v11 (ix2 r d))) k = ix2 r k := by
    funext b; apply Fin.ext
    match b with
    | ⟨0, _⟩ => rfl
    | ⟨1, _⟩ => rfl
  rw [val_main_v3_apply, e, product_apply]
  rfl

/-- The updated stream at an index. -/
theorem stream_apply (r : Fin 8192) (d : Fin 4096) : val_main_v18 (F := Ideal) a w x g (ix2 r d) = row a w x g r d := by
  rw [val_main_v18_apply, val_main_v17_apply, val_main_v16_apply, val_main_cst_2_apply, val_main_v15_apply, val_main_v12_apply, val_main_v14_apply, val_main_v13_apply,
    scale_product, product_apply]
  have e : idx_main_v13 (idx_main_v14 (ix2 r d)) = ix1 d := by
    funext b; apply Fin.ext
    match b with
    | ⟨0, _⟩ => rfl
  rw [e]
  rfl

/-- The normalising factor of the updated stream's row. -/
theorem scale_stream (r : Fin 8192) (d : Fin 4096) : val_main_v27 (F := Ideal) a w x g (ix2 r d) = scale (row a w x g r) := by
  rw [val_main_v27_apply, val_main_v26_apply, val_main_v25_apply, val_main_v23_apply, val_main_v24_apply, val_main_v22_apply, val_main_v21_apply, val_main_v20_apply,
    val_main_cst_3_apply, val_main_cst_4_apply, val_main_cst_5_apply]
  unfold scale
  refine congrArg Ideal.rsqrt (congrArg (fun z : EReal => Ideal.div z (Ideal.ofBits .f32 0x45800000#32) + Ideal.ofBits .f32 0x358637BD#32) ?_)
  refine (congrArg₂ (fun a b : EReal => a + b) Ideal.ofBits_zero_f32 (Finset.sum_congr rfl fun k _ => ?_)).trans (zero_add _)
  have e : idx_main_v20 (idx_main_v21 (idx_main_v27 (ix2 r d))) k = ix2 r k := by
    funext b; apply Fin.ext
    match b with
    | ⟨0, _⟩ => rfl
    | ⟨1, _⟩ => rfl
  rw [val_main_v19_apply, e, stream_apply]
  rfl

theorem split_idx (i : S8192x4096.Idx) : i = ix2 (⟨(i 0).val, (i 0).isLt⟩ : Fin 8192) (⟨(i 1).val, (i 1).isLt⟩ : Fin 4096) := by
  funext b; apply Fin.ext
  match b with
  | ⟨0, _⟩ => rfl
  | ⟨1, _⟩ => rfl

/-- The reference's first result is the updated stream. -/
theorem stream_eq : val_main_v18 (F := Ideal) a w x g = stream a w x g := by
  funext i
  conv_lhs => rw [split_idx i]
  rw [stream_apply]
  rfl

/-- The reference's second result is its normalised rows. -/
theorem normed_eq : val_main_v32 (F := Ideal) a w x g h = normed a w x g h := by
  funext i
  conv_lhs => rw [split_idx i]
  rw [val_main_v32_apply, val_main_v31_apply, val_main_v28_apply, val_main_v30_apply, val_main_v29_apply, stream_apply, scale_stream]
  have e : idx_main_v29 (idx_main_v30 (ix2 (⟨(i 0).val, (i 0).isLt⟩ : Fin 8192) (⟨(i 1).val, (i 1).isLt⟩ : Fin 4096))) = ix1 (⟨(i 1).val, (i 1).isLt⟩ : Fin 4096) := by
    funext b; apply Fin.ext
    match b with
    | ⟨0, _⟩ => rfl
  rw [e]
  rfl

end Cert.DownReferenceIdeal.Ref

end
-- ==== Proof.Down.Claims.lean ====
module

public import proofs.«01_k».proof.Defs
public import proofs.«01_k».proof.Proof.Gen.Down.Frame
public import proofs.«01_k».proof.Proof.Gen.DownReferenceIdeal.Run
public import proofs.«01_k».proof.Proof.Gen.DownReferenceIdeal.Read
public import proofs.«01_k».proof.Proof.Down.Array
public import proofs.«01_k».proof.Proof.Down.Ref
public import Idealize.ShloMosaic.Adequacy
public import Idealize.ShloMosaic.Init

@[expose] public section

set_option maxRecDepth 16384

noncomputable section

/-! The claims about the residual update. -/

namespace Cert.Proof.Down

open Idealize.ShloMosaic Idealize.SL.Sem Cert.Residual

/-- The program's body table is the idealized program's: the two have the same text. -/
theorem bodies_eq : Cert.Down.defs₀ (F := Bits) = Cert.DownIdeal.defs₀ (F := Bits) := by
  unfold Cert.Down.defs₀ Cert.DownIdeal.defs₀
  refine congrArg (Defs.onTc (nD := Cert.Down.nD) (τ := Cert.Down.τ) (sig := Cert.Down.sig) (Val := Elt Bits) (Λ := Cert.Down.Λ₀)) ?_
  funext l a
  match l, a with
  | 0, (t, s) => rfl
  | ⟨_ + 1, h⟩, _ => exact absurd h (Nat.not_lt.2 (Nat.le_add_left _ _))

theorem tables_eq : Cert.Down.defs (F := Bits) = Cert.DownIdeal.defs (F := Bits) := by
  unfold Cert.Down.defs Cert.DownIdeal.defs
  rw [bodies_eq]
  rfl

theorem frame_kernel : Cert.quiescent_Down := fun m ρ _ => by
  rw [tables_eq]
  exact (θ_run Cert.DownIdeal.defs _ _).mono (fun _ h => h) (Cert.DownIdeal.Body.frame (F := Bits) m ρ)

theorem frame_ideal : Cert.quiescent_DownIdeal := fun m ρ _ => Cert.DownIdeal.Body.frame (F := Ideal) m ρ

theorem frame_ref : Cert.quiescent_DownReferenceIdeal := fun m ρ _ =>
  (θ_run Cert.DownReferenceIdeal.defs _ _).mono (fun r h => ⟨fun c => (h c).2.2, sem_eq_zero_of_no_sems (by decide) r.2⟩)
    (Cert.DownReferenceIdeal.Value.run (F := Ideal) m ρ)

theorem preserves : Cert.preserves_Down_DownIdeal := trivial

/-- The kernel and the reference both end at the updated stream and its normalised rows. -/
theorem algebraic : Cert.algebraic_DownIdeal_DownReferenceIdeal := by
  intro m ρ m' ρ' _ hagree
  refine ⟨fun c => stream (Cert.DownIdeal.Array.a m c) (Cert.DownIdeal.Array.w m c) (Cert.DownIdeal.Array.x m c) (Cert.DownIdeal.Array.g m c),
    fun c => normed (Cert.DownIdeal.Array.a m c) (Cert.DownIdeal.Array.w m c) (Cert.DownIdeal.Array.x m c) (Cert.DownIdeal.Array.g m c) (Cert.DownIdeal.Array.h m c), ?_, ?_⟩
  · refine (θ_run Cert.DownIdeal.defs _ _).mono (fun r h c => ?_) (Cert.DownIdeal.Body.run_results m ρ)
    exact ⟨(h c).1.trans (Cert.DownIdeal.Array.final5 m c), (h c).2.1.trans (Cert.DownIdeal.Array.final6 m c), (h c).2.2⟩
  · refine (θ_run Cert.DownReferenceIdeal.defs _ _).mono (fun r h c => ?_) (Cert.DownReferenceIdeal.Value.run (F := Ideal) m' ρ')
    obtain ⟨e0, e1, e2, e3, e4⟩ := hagree c
    refine ⟨(h c).1.trans ?_, (h c).2.1.trans ?_, (h c).2.2⟩
    · rw [Cert.DownReferenceIdeal.Read.val_main_v18_eq, e0, e1, e2, e3]
      exact Cert.DownReferenceIdeal.Ref.stream_eq _ _ _ _
    · rw [Cert.DownReferenceIdeal.Read.val_main_v32_eq, e0, e1, e2, e3, e4]
      exact Cert.DownReferenceIdeal.Ref.normed_eq _ _ _ _ _

end Cert.Proof.Down

end
-- ==== Proof.ProjF.Spec.lean ====
module

public import Idealize.ShloMosaic.PureOps.Ideal
public import Idealize.ShloMosaic.Lib.ValueIdx

@[expose] public section

noncomputable section

/-! A projection of the rows, as a function of the rows and the weights. -/

namespace Cert.Projection

open Idealize.ShloMosaic Idealize.ShloMosaic.ValueIdx
open scoped BigOperators

/-- Each row times each row of the weights. -/
def proj {n : ℕ} (x : (⟨2, ![8192, 4096]⟩ : Shape).Idx → EReal) (w : (⟨2, ![n, 4096]⟩ : Shape).Idx → EReal) :
    (⟨2, ![8192, n]⟩ : Shape).Idx → EReal :=
  fun i => ∑ k : Fin 4096, x (ix2 ⟨(i 0).val, (i 0).isLt⟩ k) * w (ix2 ⟨(i 1).val, (i 1).isLt⟩ k)

end Cert.Projection

end
-- ==== Proof.ProjF.Array.lean ====
module

public import proofs.«01_k».proof.Proof.Gen.ProjFIdeal.Value
public import proofs.«01_k».proof.Proof.ProjF.Spec
public import Idealize.ShloMosaic.Lib.MatmulPlain
public import Idealize.ShloMosaic.PureOps.IdealRules
public import Idealize.ShloMosaic.Lib.Pipeline.ValueKit.Geometry

@[expose] public section

set_option maxRecDepth 16384

noncomputable section

/-! The result array of the projection call ProjF, from the arguments. -/

namespace Cert.ProjFIdeal.Array

open Cert.ProjFIdeal Cert.ProjFIdeal.Gen Idealize.ShloMosaic Idealize.ShloMosaic.TcCoe Idealize.SL.Sem
open Idealize.ShloMosaic.ValueIdx Cert.Projection
open Idealize.ShloMosaic.Pipeline (Dat)
open scoped BigOperators

variable (m : (ℓ : Loc nD τ sig) → Buf (Elt Ideal) ℓ) (c : Dev nD)

/-- The rows as launched. -/
abbrev x : (⟨2, ![8192, 4096]⟩ : Shape).Idx → EReal := m ((c : Thread nD τ).loc main_arg0)
/-- The weights as launched. -/
abbrev w : (⟨2, ![3840, 4096]⟩ : Shape).Idx → EReal := m ((c : Thread nD τ).loc main_arg1)

theorem V_x_apply (i : S8192x4096.Idx) : V m c main_v0 i = x m c i := by
  have h : V m c main_v0 = truncf (F := Ideal) .bf16 (x m c) bitsLt_bf16_f32 := by
    unfold V; after_results
  rw [h]
  exact truncf_apply (ψ := .bf16) _ bitsLt_bf16_f32 _

theorem V_w_apply (i : S3840x4096.Idx) : V m c main_v1 i = w m c i := by
  have h : V m c main_v1 = truncf (F := Ideal) .bf16 (w m c) bitsLt_bf16_f32 := by
    unfold V; after_results
  rw [h]
  exact truncf_apply (ψ := .bf16) _ bitsLt_bf16_f32 _

/-- Grid point `t` works on row tile `t / 5` and on weight tile `t % 5`. -/
theorem idx_facts : ∀ t : Fin cfg0.N, t.val < 40
    ∧ win0_0.index t (0 : Fin 2) = t.val / 5 ∧ win0_0.index t (1 : Fin 2) = 0
    ∧ win0_1.index t (0 : Fin 2) = t.val % 5 ∧ win0_1.index t (1 : Fin 2) = 0
    ∧ win0_2.index t (0 : Fin 2) = t.val / 5 ∧ win0_2.index t (1 : Fin 2) = t.val % 5 :=
  (by decide +kernel : ∀ t : Fin grid0.N, _)

theorem x_block (t : Fin cfg0.N) (r : Fin 1024) (k : Fin 4096) (i : Fin 8192) (hi : i.val = 1024 * (t.val / 5) + r.val) :
    (iblk m c 0 t : Vec Ideal S1024x4096 .bf16) (ix2 r k) = x m c (ix2 i k) := by
  rw [← V_x_apply]
  obtain ⟨_, e0, e1, _⟩ := idx_facts t
  show V m c main_v0 (((cfg0.win 0).blk t).view.emb (ix2 r k)) = _
  refine congrArg (V m c main_v0) (funext fun a => Fin.ext ?_)
  match a with
  | ⟨0, _⟩ => show win0_0.index t (0 : Fin 2) * 1024 + 1 * r.val = i.val; omega
  | ⟨1, _⟩ => show win0_0.index t (1 : Fin 2) * 4096 + 1 * k.val = k.val; omega

theorem w_block (t : Fin cfg0.N) (d : Fin 768) (k : Fin 4096) (j : Fin 3840) (hj : j.val = 768 * (t.val % 5) + d.val) :
    (iblk m c 1 t : Vec Ideal S768x4096 .bf16) (ix2 d k) = w m c (ix2 j k) := by
  rw [← V_w_apply]
  obtain ⟨_, _, _, e0, e1, _⟩ := idx_facts t
  show V m c main_v1 (((cfg0.win 1).blk t).view.emb (ix2 d k)) = _
  refine congrArg (V m c main_v1) (funext fun a => Fin.ext ?_)
  match a with
  | ⟨0, _⟩ => show win0_1.index t (0 : Fin 2) * 768 + 1 * d.val = j.val; omega
  | ⟨1, _⟩ => show win0_1.index t (1 : Fin 2) * 4096 + 1 * k.val = k.val; omega

/-- The body's product of a tile of rows with a tile of weights, at an index. -/
theorem out_apply (a : Vec Ideal S1024x4096 .bf16) (b : Vec Ideal S768x4096 .bf16) (r : Fin 1024) (d : Fin 768) :
    out0_2 a b (ix2 r d) = ∑ k : Fin 4096, a (ix2 r k) * b (ix2 d k) := by
  unfold out0_2
  rw [View.canon_unit_zero (S := S1024x768) (by funext a; fin_cases a <;> rfl) _ _]
  unfold k0_pay1
  rw [View.ld_unit_zero (S := S1024x4096) (by funext a; fin_cases a <;> rfl), View.ld_unit_zero (S := S768x4096) (by funext a; fin_cases a <;> rfl),
    shapeCast_self, shapeCast_self]
  refine (Ideal.matmul_transposedRhs_apply (M := 1024) (K := 4096) (N := 768) none a b _ r d).trans ?_
  rw [constant_apply, Ideal.ofBits_zero_f32, zero_add]

/-- What a point writes back is its block of the projection. -/
theorem flushed_eq (t : Fin cfg0.N) :
    (dats m 0 c).flushed 2 t = ((cfg0.win 2).blk t).view.read (Elt Ideal) (proj (x m c) (w m c)) := by
  obtain ⟨hN, _, _, _, _, f0, f1⟩ := idx_facts t
  rw [Value.flushed2]
  funext y
  have hy0 : (y 0).val < 1024 := (y 0).isLt
  have hy1 : (y 1).val < 768 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 768 + 1 * (y 1).val := rfl
  have hx : (cfg0.win 2).xinj (grid0.coords t) y = ix2 (⟨(y 0).val, hy0⟩ : Fin 1024) (⟨(y 1).val, hy1⟩ : Fin 768) := by
    funext a; apply Fin.ext
    match a with
    | ⟨0, _⟩ => rfl
    | ⟨1, _⟩ => rfl
  show out0_2 (iblk m c 0 t) (iblk m c 1 t) ((cfg0.win 2).xinj (grid0.coords t) y) = proj (x m c) (w m c) (((cfg0.win 2).blk t).view.emb y)
  rw [hx, out_apply]
  unfold proj
  refine Finset.sum_congr rfl fun k _ => ?_
  rw [x_block m c t ⟨(y 0).val, hy0⟩ k ⟨(((cfg0.win 2).blk t).view.emb y 0).val, (((cfg0.win 2).blk t).view.emb y 0).isLt⟩ (by
      show (((cfg0.win 2).blk t).view.emb y 0).val = 1024 * (t.val / 5) + (y 0).val
      rw [hb0]; omega),
    w_block m c t ⟨(y 1).val, hy1⟩ k ⟨(((cfg0.win 2).blk t).view.emb y 1).val, (((cfg0.win 2).blk t).view.emb y 1).isLt⟩ (by
      show (((cfg0.win 2).blk t).view.emb y 1).val = 768 * (t.val % 5) + (y 1).val
      rw [hb1]; omega)]

theorem covers : (cfg0.win 2).Covers := by decide +kernel

/-- The result array after the run. -/
theorem final : (dats m 0 c).arrAt 2 cfg0.N = proj (x m c) (w m c) :=
  (dats m 0 c).arrAt_eq_of_cover 2 _ (fun t _ => flushed_eq m c t) (covers.cover _ (Memref.isWhole_whole _))

end Cert.ProjFIdeal.Array

end
-- ==== Proof.ProjF.Ref.lean ====
module

public import proofs.«01_k».proof.Proof.ProjF.Spec
public import proofs.«01_k».proof.Proof.Gen.ProjFReferenceIdeal.Read

@[expose] public section

set_option maxRecDepth 16384

noncomputable section

/-! The result of the reference of ProjF, read at an index. -/

namespace Cert.ProjFReferenceIdeal.Ref

open Cert.ProjFReferenceIdeal Cert.ProjFReferenceIdeal.Gen Cert.ProjFReferenceIdeal.Read Idealize.ShloMosaic Idealize.ShloMosaic.ValueIdx
open Cert.Projection
open scoped BigOperators

theorem out_eq (x : S8192x4096.Idx → EReal) (w : S3840x4096.Idx → EReal) : val_main_v1 (F := Ideal) x w = proj x w := by
  funext i
  rw [val_main_v1_apply]
  unfold proj
  refine Finset.sum_congr rfl fun k _ => ?_
  rw [val_main_v0_apply]
  refine congrArg₂ (fun a b : EReal => a * b) (congrArg x ?_) (congrArg w ?_)
  · funext a; apply Fin.ext
    match a with
    | ⟨0, _⟩ => rfl
    | ⟨1, _⟩ => rfl
  · funext a; apply Fin.ext
    match a with
    | ⟨0, _⟩ => rfl
    | ⟨1, _⟩ => rfl

end Cert.ProjFReferenceIdeal.Ref

end
-- ==== Proof.ProjF.Claims.lean ====
module

public import proofs.«01_k».proof.Defs
public import proofs.«01_k».proof.Proof.Gen.ProjF.Frame
public import proofs.«01_k».proof.Proof.Gen.ProjFIdeal.Value
public import proofs.«01_k».proof.Proof.Gen.ProjFReferenceIdeal.Run
public import proofs.«01_k».proof.Proof.Gen.ProjFReferenceIdeal.Read
public import proofs.«01_k».proof.Proof.ProjF.Array
public import proofs.«01_k».proof.Proof.ProjF.Ref
public import Idealize.ShloMosaic.Adequacy
public import Idealize.ShloMosaic.Init

@[expose] public section

set_option maxRecDepth 16384

noncomputable section

/-! The claims about the projection call ProjF. -/

namespace Cert.Proof.ProjF

open Idealize.ShloMosaic Idealize.SL.Sem Cert.Projection

theorem frame_kernel : Cert.quiescent_ProjF := fun m ρ _ => Cert.ProjF.Gen.frame m ρ

theorem frame_ideal : Cert.quiescent_ProjFIdeal := fun m ρ _ => Cert.ProjFIdeal.Gen.frame m ρ

theorem frame_ref : Cert.quiescent_ProjFReferenceIdeal := fun m ρ _ =>
  (θ_run Cert.ProjFReferenceIdeal.defs _ _).mono (fun r h => ⟨fun c => (h c).2, sem_eq_zero_of_no_sems (by decide) r.2⟩)
    (Cert.ProjFReferenceIdeal.Value.run (F := Ideal) m ρ)

theorem preserves : Cert.preserves_ProjF_ProjFIdeal := trivial

/-- The kernel and the reference both end at the projection of the launched rows. -/
theorem algebraic : Cert.algebraic_ProjFIdeal_ProjFReferenceIdeal := by
  intro m ρ m' ρ' _ hagree
  refine ⟨fun c => proj (Cert.ProjFIdeal.Array.x m c) (Cert.ProjFIdeal.Array.w m c), ?_, ?_⟩
  · refine (θ_run Cert.ProjFIdeal.defs _ _).mono (fun r h c => ?_) (Cert.ProjFIdeal.Value.run_blocks m ρ)
    exact ⟨(h c).1.trans (Cert.ProjFIdeal.Array.final m c), (h c).2⟩
  · refine (θ_run Cert.ProjFReferenceIdeal.defs _ _).mono (fun r h c => ?_) (Cert.ProjFReferenceIdeal.Value.run (F := Ideal) m' ρ')
    refine ⟨(h c).1.trans ?_, (h c).2⟩
    rw [Cert.ProjFReferenceIdeal.Read.val_main_v1_eq, (hagree c).1, (hagree c).2]
    exact Cert.ProjFReferenceIdeal.Ref.out_eq _ _

end Cert.Proof.ProjF

end
-- ==== Proof.ProjB.Array.lean ====
module

public import proofs.«01_k».proof.Proof.Gen.ProjBIdeal.Value
public import proofs.«01_k».proof.Proof.ProjF.Spec
public import Idealize.ShloMosaic.Lib.MatmulPlain
public import Idealize.ShloMosaic.PureOps.IdealRules
public import Idealize.ShloMosaic.Lib.Pipeline.ValueKit.Geometry

@[expose] public section

set_option maxRecDepth 16384

noncomputable section

/-! The result array of the projection call ProjB, from the arguments. -/

namespace Cert.ProjBIdeal.Array

open Cert.ProjBIdeal Cert.ProjBIdeal.Gen Idealize.ShloMosaic Idealize.ShloMosaic.TcCoe Idealize.SL.Sem
open Idealize.ShloMosaic.ValueIdx Cert.Projection
open Idealize.ShloMosaic.Pipeline (Dat)
open scoped BigOperators

variable (m : (ℓ : Loc nD τ sig) → Buf (Elt Ideal) ℓ) (c : Dev nD)

/-- The rows as launched. -/
abbrev x : (⟨2, ![8192, 4096]⟩ : Shape).Idx → EReal := m ((c : Thread nD τ).loc main_arg0)
/-- The weights as launched. -/
abbrev w : (⟨2, ![5632, 4096]⟩ : Shape).Idx → EReal := m ((c : Thread nD τ).loc main_arg1)

theorem V_x_apply (i : S8192x4096.Idx) : V m c main_v0 i = x m c i := by
  have h : V m c main_v0 = truncf (F := Ideal) .bf16 (x m c) bitsLt_bf16_f32 := by
    unfold V; after_results
  rw [h]
  exact truncf_apply (ψ := .bf16) _ bitsLt_bf16_f32 _

theorem V_w_apply (i : S5632x4096.Idx) : V m c main_v1 i = w m c i := by
  have h : V m c main_v1 = truncf (F := Ideal) .bf16 (w m c) bitsLt_bf16_f32 := by
    unfold V; after_results
  rw [h]
  exact truncf_apply (ψ := .bf16) _ bitsLt_bf16_f32 _

/-- Grid point `t` works on row tile `t / 11` and on weight tile `t % 11`. -/
theorem idx_facts : ∀ t : Fin cfg0.N, t.val < 88
    ∧ win0_0.index t (0 : Fin 2) = t.val / 11 ∧ win0_0.index t (1 : Fin 2) = 0
    ∧ win0_1.index t (0 : Fin 2) = t.val % 11 ∧ win0_1.index t (1 : Fin 2) = 0
    ∧ win0_2.index t (0 : Fin 2) = t.val / 11 ∧ win0_2.index t (1 : Fin 2) = t.val % 11 :=
  (by decide +kernel : ∀ t : Fin grid0.N, _)

theorem x_block (t : Fin cfg0.N) (r : Fin 1024) (k : Fin 4096) (i : Fin 8192) (hi : i.val = 1024 * (t.val / 11) + r.val) :
    (iblk m c 0 t : Vec Ideal S1024x4096 .bf16) (ix2 r k) = x m c (ix2 i k) := by
  rw [← V_x_apply]
  obtain ⟨_, e0, e1, _⟩ := idx_facts t
  show V m c main_v0 (((cfg0.win 0).blk t).view.emb (ix2 r k)) = _
  refine congrArg (V m c main_v0) (funext fun a => Fin.ext ?_)
  match a with
  | ⟨0, _⟩ => show win0_0.index t (0 : Fin 2) * 1024 + 1 * r.val = i.val; omega
  | ⟨1, _⟩ => show win0_0.index t (1 : Fin 2) * 4096 + 1 * k.val = k.val; omega

theorem w_block (t : Fin cfg0.N) (d : Fin 512) (k : Fin 4096) (j : Fin 5632) (hj : j.val = 512 * (t.val % 11) + d.val) :
    (iblk m c 1 t : Vec Ideal S512x4096 .bf16) (ix2 d k) = w m c (ix2 j k) := by
  rw [← V_w_apply]
  obtain ⟨_, _, _, e0, e1, _⟩ := idx_facts t
  show V m c main_v1 (((cfg0.win 1).blk t).view.emb (ix2 d k)) = _
  refine congrArg (V m c main_v1) (funext fun a => Fin.ext ?_)
  match a with
  | ⟨0, _⟩ => show win0_1.index t (0 : Fin 2) * 512 + 1 * d.val = j.val; omega
  | ⟨1, _⟩ => show win0_1.index t (1 : Fin 2) * 4096 + 1 * k.val = k.val; omega

/-- The body's product of a tile of rows with a tile of weights, at an index. -/
theorem out_apply (a : Vec Ideal S1024x4096 .bf16) (b : Vec Ideal S512x4096 .bf16) (r : Fin 1024) (d : Fin 512) :
    out0_2 a b (ix2 r d) = ∑ k : Fin 4096, a (ix2 r k) * b (ix2 d k) := by
  unfold out0_2
  rw [View.canon_unit_zero (S := S1024x512) (by funext a; fin_cases a <;> rfl) _ _]
  unfold k0_pay1
  rw [View.ld_unit_zero (S := S1024x4096) (by funext a; fin_cases a <;> rfl), View.ld_unit_zero (S := S512x4096) (by funext a; fin_cases a <;> rfl),
    shapeCast_self, shapeCast_self]
  rw [truncf_apply]
  refine (Ideal.matmul_transposedRhs_apply (M := 1024) (K := 4096) (N := 512) none a b _ r d).trans ?_
  rw [constant_apply, Ideal.ofBits_zero_f32, zero_add]

/-- What a point writes back is its block of the projection. -/
theorem flushed_eq (t : Fin cfg0.N) :
    (dats m 0 c).flushed 2 t = ((cfg0.win 2).blk t).view.read (Elt Ideal) (proj (x m c) (w m c)) := by
  obtain ⟨hN, _, _, _, _, f0, f1⟩ := idx_facts t
  rw [Value.flushed2]
  funext y
  have hy0 : (y 0).val < 1024 := (y 0).isLt
  have hy1 : (y 1).val < 512 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 512 + 1 * (y 1).val := rfl
  have hx : (cfg0.win 2).xinj (grid0.coords t) y = ix2 (⟨(y 0).val, hy0⟩ : Fin 1024) (⟨(y 1).val, hy1⟩ : Fin 512) := by
    funext a; apply Fin.ext
    match a with
    | ⟨0, _⟩ => rfl
    | ⟨1, _⟩ => rfl
  show out0_2 (iblk m c 0 t) (iblk m c 1 t) ((cfg0.win 2).xinj (grid0.coords t) y) = proj (x m c) (w m c) (((cfg0.win 2).blk t).view.emb y)
  rw [hx, out_apply]
  unfold proj
  refine Finset.sum_congr rfl fun k _ => ?_
  rw [x_block m c t ⟨(y 0).val, hy0⟩ k ⟨(((cfg0.win 2).blk t).view.emb y 0).val, (((cfg0.win 2).blk t).view.emb y 0).isLt⟩ (by
      show (((cfg0.win 2).blk t).view.emb y 0).val = 1024 * (t.val / 11) + (y 0).val
      rw [hb0]; omega),
    w_block m c t ⟨(y 1).val, hy1⟩ k ⟨(((cfg0.win 2).blk t).view.emb y 1).val, (((cfg0.win 2).blk t).view.emb y 1).isLt⟩ (by
      show (((cfg0.win 2).blk t).view.emb y 1).val = 512 * (t.val % 11) + (y 1).val
      rw [hb1]; omega)]

theorem covers : (cfg0.win 2).Covers := by decide +kernel

/-- The result array after the run. -/
theorem final : (dats m 0 c).arrAt 2 cfg0.N = proj (x m c) (w m c) :=
  (dats m 0 c).arrAt_eq_of_cover 2 _ (fun t _ => flushed_eq m c t) (covers.cover _ (Memref.isWhole_whole _))

end Cert.ProjBIdeal.Array

end
-- ==== Proof.ProjB.Ref.lean ====
module

public import proofs.«01_k».proof.Proof.ProjF.Spec
public import proofs.«01_k».proof.Proof.Gen.ProjBReferenceIdeal.Read

@[expose] public section

set_option maxRecDepth 16384

noncomputable section

/-! The result of the reference of ProjB, read at an index. -/

namespace Cert.ProjBReferenceIdeal.Ref

open Cert.ProjBReferenceIdeal Cert.ProjBReferenceIdeal.Gen Cert.ProjBReferenceIdeal.Read Idealize.ShloMosaic Idealize.ShloMosaic.ValueIdx
open Cert.Projection
open scoped BigOperators

theorem out_eq (x : S8192x4096.Idx → EReal) (w : S5632x4096.Idx → EReal) : val_main_v2 (F := Ideal) x w = proj x w := by
  funext i
  rw [val_main_v2_apply, val_main_v1_apply]
  unfold proj
  refine Finset.sum_congr rfl fun k _ => ?_
  rw [val_main_v0_apply]
  refine congrArg₂ (fun a b : EReal => a * b) (congrArg x ?_) (congrArg w ?_)
  · funext a; apply Fin.ext
    match a with
    | ⟨0, _⟩ => rfl
    | ⟨1, _⟩ => rfl
  · funext a; apply Fin.ext
    match a with
    | ⟨0, _⟩ => rfl
    | ⟨1, _⟩ => rfl

end Cert.ProjBReferenceIdeal.Ref

end
-- ==== Proof.ProjB.Claims.lean ====
module

public import proofs.«01_k».proof.Defs
public import proofs.«01_k».proof.Proof.Gen.ProjB.Frame
public import proofs.«01_k».proof.Proof.Gen.ProjBIdeal.Value
public import proofs.«01_k».proof.Proof.Gen.ProjBReferenceIdeal.Run
public import proofs.«01_k».proof.Proof.Gen.ProjBReferenceIdeal.Read
public import proofs.«01_k».proof.Proof.ProjB.Array
public import proofs.«01_k».proof.Proof.ProjB.Ref
public import Idealize.ShloMosaic.Adequacy
public import Idealize.ShloMosaic.Init

@[expose] public section

set_option maxRecDepth 16384

noncomputable section

/-! The claims about the projection call ProjB. -/

namespace Cert.Proof.ProjB

open Idealize.ShloMosaic Idealize.SL.Sem Cert.Projection

theorem frame_kernel : Cert.quiescent_ProjB := fun m ρ _ => Cert.ProjB.Gen.frame m ρ

theorem frame_ideal : Cert.quiescent_ProjBIdeal := fun m ρ _ => Cert.ProjBIdeal.Gen.frame m ρ

theorem frame_ref : Cert.quiescent_ProjBReferenceIdeal := fun m ρ _ =>
  (θ_run Cert.ProjBReferenceIdeal.defs _ _).mono (fun r h => ⟨fun c => (h c).2, sem_eq_zero_of_no_sems (by decide) r.2⟩)
    (Cert.ProjBReferenceIdeal.Value.run (F := Ideal) m ρ)

theorem preserves : Cert.preserves_ProjB_ProjBIdeal := trivial

/-- The kernel and the reference both end at the projection of the launched rows. -/
theorem algebraic : Cert.algebraic_ProjBIdeal_ProjBReferenceIdeal := by
  intro m ρ m' ρ' _ hagree
  refine ⟨fun c => proj (Cert.ProjBIdeal.Array.x m c) (Cert.ProjBIdeal.Array.w m c), ?_, ?_⟩
  · refine (θ_run Cert.ProjBIdeal.defs _ _).mono (fun r h c => ?_) (Cert.ProjBIdeal.Value.run_blocks m ρ)
    exact ⟨(h c).1.trans (Cert.ProjBIdeal.Array.final m c), (h c).2⟩
  · refine (θ_run Cert.ProjBReferenceIdeal.defs _ _).mono (fun r h c => ?_) (Cert.ProjBReferenceIdeal.Value.run (F := Ideal) m' ρ')
    refine ⟨(h c).1.trans ?_, (h c).2⟩
    rw [Cert.ProjBReferenceIdeal.Read.val_main_v2_eq, (hagree c).1, (hagree c).2]
    exact Cert.ProjBReferenceIdeal.Ref.out_eq _ _

end Cert.Proof.ProjB

end
-- ==== Proof.Out.Body.lean ====
module

public import proofs.«01_k».proof.Proof.Gen.OutIdeal.Launch
public import proofs.«01_k».proof.Proof.Gen.OutIdeal.Skeleton
public import proofs.«01_k».proof.Proof.Gen.OutIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

/-! What one grid point of the output projection does, from any contents of its buffers. -/

namespace Cert.OutIdeal.Body

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem inb_rows (k : ℕ) (hk : k < 8) : ∀ a, (![128 * k, 0] : Fin 2 → ℕ) a + S128x4096.size a ≤ S1024x4096.size a := by
  intro a
  match a with
  | ⟨0, _⟩ => show 128 * k + 128 ≤ 1024; omega
  | ⟨1, _⟩ => show 0 + 4096 ≤ 4096; omega

/-- Eight consecutive groups of 128 rows: the `k`-th. -/
def rows (k : Fin 8) (x : Vec F S1024x4096 .f32) : Vec F S128x4096 .f32 :=
  VecWindow.window (s := S1024x4096) x ![128 * k.val, 0] S128x4096.size (inb_rows k.val k.isLt)

/-- The same with these rows set to zero. -/
def cleared (k : Fin 8) (x : Vec F S1024x4096 .f32) : Vec F S1024x4096 .f32 :=
  VecWindow.put (s := S1024x4096) x ![128 * k.val, 0] S128x4096.size (k0_pay15 (F := F))

/-- The second coordinate of a grid point. -/
abbrev col (i : grid0.Coords) : Fin 8 := ⟨(i 1).val, (i 1).isLt⟩

/-- The condition under which both accumulators are set to zero. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

theorem read_full {S : Shape} {e : EltTy} (v : View sig .tc .vmem S e) (f : v.ty.Contents (Elt F)) {off : Fin S.rank → ℕ}
    (inb : ∀ a, off a + S.size a ≤ S.size a) (w : Vec F S e) (L : List (View.Piece (Elt F) S e)) :
    v.read (Elt F) (v.writes (Elt F) f (⟨Rect.unit off S.size inb, w⟩ :: L)) = w := View.read_writes_full v f inb w L

theorem ld_full {S : Shape} {e : EltTy} (v : View sig .tc .vmem S e) (f : v.ty.Contents (Elt F)) {off : Fin S.rank → ℕ}
    (inb : ∀ a, off a + S.size a ≤ S.size a) {x : Vec F S e} (h : v.read (Elt F) f = x) :
    v.readAt (Elt F) (Rect.unit off S.size inb).toLoadRect f = x := (View.readAt_full v f inb).trans h

theorem ld_rows (v : View sig .tc .vmem S1024x4096 .f32) (f : v.ty.Contents (Elt F)) {off : Fin 2 → ℕ}
    (inb : ∀ a : Fin 2, off a + S128x4096.size a ≤ S1024x4096.size a) {x : Vec F S1024x4096 .f32} (k : Fin 8) (ho : off = ![128 * k.val, 0])
    (h : v.read (Elt F) f = x) :
    v.readAt (Elt F) (Rect.unit (s := S1024x4096) off S128x4096.size inb).toLoadRect f = rows k x := by
  subst h
  exact View.readAt_unit v f inb ho (inb_rows k.val k.isLt)

theorem st_rows (v : View sig .tc .vmem S1024x4096 .f32) (f : v.ty.Contents (Elt F)) {off : Fin 2 → ℕ}
    (inb : ∀ a : Fin 2, off a + S128x4096.size a ≤ S1024x4096.size a) (L : List (View.Piece (Elt F) S1024x4096 .f32))
    {x : Vec F S1024x4096 .f32} (k : Fin 8) (ho : off = ![128 * k.val, 0])
    (h : v.read (Elt F) (v.writes (Elt F) f L) = x) :
    v.read (Elt F) (v.writes (Elt F) f (⟨Rect.unit (s := S1024x4096) off S128x4096.size inb, k0_pay15 (F := F)⟩ :: L)) = cleared k x := by
  subst h
  exact View.read_writes_cons_put v f inb _ L ho

theorem pay7_eq : k0_pay7 (F := F) = k0_pay5 := rfl
theorem pay8_eq : k0_pay8 (F := F) = k0_pay6 := rfl
theorem pay9_eq : k0_pay9 (F := F) = k0_pay5 := rfl
theorem pay10_eq : k0_pay10 (F := F) = k0_pay6 := rfl
theorem pay1_eq : k0_pay1 (F := F) = k0_pay15 := rfl
theorem pay2_eq : k0_pay2 (F := F) = k0_pay15 := rfl
theorem pay3_eq : k0_pay3 (F := F) = k0_pay16 := rfl

/-- The first point: both accumulators are set to zero first. -/
theorem runA (c : Dev nD) (i : grid0.Coords) (arg2 : Memref sig .tc .vmem S1024x512 .bf16) (harg2 : arg2.IsWhole) (arg3 : Memref sig .tc .vmem S1x512x4096 .bf16) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S1024x4096 .f32) (harg9 : arg9.IsWhole) (arg10 : Memref sig .tc .vmem S1024x4096 .f32) (harg10 : arg10.IsWhole)
    (hc1 : cond1 i) (hc2 : k0_cond2 i = 1#1) (hc3 : ¬k0_cond3 i = 1#1) (hc4 : ¬k0_cond4 i = 1#1) (hc5 : ¬k0_cond5 i = 1#1)
    (x0 : Vec F S1024x512 .bf16) (x1 : Vec F S1x512x4096 .bf16) (x2 : Vec F S128x4096 .f32) (x3 x4 : Vec F S1x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x2 (rows (col i) k0_pay14) x3) ∗ owns (c : Thread nD τ) arg8 fullShare (k0_pay6 x2 (rows (col i) k0_pay14) x3 x4) ∗ owns (c : Thread nD τ) arg9 fullShare (k0_pay16 k0_pay13 x0 x1) ∗ owns (c : Thread nD τ) arg10 fullShare (cleared (col i) k0_pay14)) -∗ K ⟨⟩))
      ⊢ wp frame (wpE (defs₀ (F := F)) Variants.none c none) E (cc0_resid_update i arg2 harg2 arg3 harg3 arg4 harg4 arg5 harg5 arg6 harg6 arg7 harg7 arg8 harg8 arg9 harg9 arg10 harg10) K := by
  simp only [cc0_resid_update_eq_skeleton]; unfold cc0_resid_update_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_full]; exact congr (congr (congrArg (k0_pay5 (F := F)) (ld_full _ _ _ hf2)) (ld_rows _ _ _ (col i) (k0_off1_eq i) (read_full _ _ _ _ _))) (ld_full _ _ _ hf3)
  isplitl [H6]
  · iexists _; isplitr; swap; · iexact H6
    ipureintro
    rw [read_full]; exact congr (congr (congr (congrArg (k0_pay6 (F := F)) (ld_full _ _ _ hf2)) (ld_rows _ _ _ (col i) (k0_off1_eq i) (read_full _ _ _ _ _))) (ld_full _ _ _ hf3)) (ld_full _ _ _ hf4)
  isplitl [HS0]
  · iexists _; isplitr; swap; · iexact HS0
    ipureintro
    rw [read_full]; exact congr (congr (congrArg (k0_pay16 (F := F)) (ld_full _ _ _ (read_full _ _ _ _ _))) (ld_full _ _ _ hf0)) (ld_full _ _ _ hf1)
  iexists _; isplitr; swap; · iexact HS1
  ipureintro
  exact st_rows _ _ _ _ (col i) (k0_off1_eq i) (read_full _ _ _ _ _)

/-- A point of an even row tile: the output rows are computed from the second accumulator, the first one grows. -/
theorem runB (c : Dev nD) (i : grid0.Coords) (arg2 : Memref sig .tc .vmem S1024x512 .bf16) (harg2 : arg2.IsWhole) (arg3 : Memref sig .tc .vmem S1x512x4096 .bf16) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S1024x4096 .f32) (harg9 : arg9.IsWhole) (arg10 : Memref sig .tc .vmem S1024x4096 .f32) (harg10 : arg10.IsWhole)
    (hc1 : ¬cond1 i) (hc2 : k0_cond2 i = 1#1) (hc3 : ¬k0_cond3 i = 1#1) (hc4 : ¬k0_cond4 i = 1#1) (hc5 : ¬k0_cond5 i = 1#1)
    (x0 : Vec F S1024x512 .bf16) (x1 : Vec F S1x512x4096 .bf16) (x2 : Vec F S128x4096 .f32) (x3 x4 : Vec F S1x4096 .f32) (a0 a1 : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare a0 ∗ owns (c : Thread nD τ) arg10 fullShare a1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x2 (rows (col i) a1) x3) ∗ owns (c : Thread nD τ) arg8 fullShare (k0_pay6 x2 (rows (col i) a1) x3 x4) ∗ owns (c : Thread nD τ) arg9 fullShare (k0_pay16 a0 x0 x1) ∗ owns (c : Thread nD τ) arg10 fullShare (cleared (col i) a1)) -∗ K ⟨⟩))
      ⊢ wp frame (wpE (defs₀ (F := F)) Variants.none c none) E (cc0_resid_update i arg2 harg2 arg3 harg3 arg4 harg4 arg5 harg5 arg6 harg6 arg7 harg7 arg8 harg8 arg9 harg9 arg10 harg10) K := by
  simp only [cc0_resid_update_eq_skeleton]; unfold cc0_resid_update_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0; obtain rfl := harg10.eq_unread hfs1
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_full]; exact congr (congr (congrArg (k0_pay5 (F := F)) (ld_full _ _ _ hf2)) (ld_rows _ _ _ (col i) (k0_off1_eq i) hfs1)) (ld_full _ _ _ hf3)
  isplitl [H6]
  · iexists _; isplitr; swap; · iexact H6
    ipureintro
    rw [read_full]; exact congr (congr (congr (congrArg (k0_pay6 (F := F)) (ld_full _ _ _ hf2)) (ld_rows _ _ _ (col i) (k0_off1_eq i) hfs1)) (ld_full _ _ _ hf3)) (ld_full _ _ _ hf4)
  isplitl [HS0]
  · iexists _; isplitr; swap; · iexact HS0
    ipureintro
    rw [read_full]; exact congr (congr (congrArg (k0_pay16 (F := F)) (ld_full _ _ _ hfs0)) (ld_full _ _ _ hf0)) (ld_full _ _ _ hf1)
  iexists _; isplitr; swap; · iexact HS1
  ipureintro
  exact st_rows _ _ _ _ (col i) (k0_off1_eq i) hfs1

/-- A point of an odd row tile: the output rows are computed from the first accumulator, the second one grows. -/
theorem runC (c : Dev nD) (i : grid0.Coords) (arg2 : Memref sig .tc .vmem S1024x512 .bf16) (harg2 : arg2.IsWhole) (arg3 : Memref sig .tc .vmem S1x512x4096 .bf16) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S1024x4096 .f32) (harg9 : arg9.IsWhole) (arg10 : Memref sig .tc .vmem S1024x4096 .f32) (harg10 : arg10.IsWhole)
    (hc1 : ¬cond1 i) (hc2 : ¬k0_cond2 i = 1#1) (hc3 : ¬k0_cond3 i = 1#1) (hc4 : k0_cond4 i = 1#1) (hc5 : ¬k0_cond5 i = 1#1)
    (x0 : Vec F S1024x512 .bf16) (x1 : Vec F S1x512x4096 .bf16) (x2 : Vec F S128x4096 .f32) (x3 x4 : Vec F S1x4096 .f32) (a0 a1 : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare a0 ∗ owns (c : Thread nD τ) arg10 fullShare a1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x2 (rows (col i) a0) x3) ∗ owns (c : Thread nD τ) arg8 fullShare (k0_pay6 x2 (rows (col i) a0) x3 x4) ∗ owns (c : Thread nD τ) arg9 fullShare (cleared (col i) a0) ∗ owns (c : Thread nD τ) arg10 fullShare (k0_pay16 a1 x0 x1)) -∗ K ⟨⟩))
      ⊢ wp frame (wpE (defs₀ (F := F)) Variants.none c none) E (cc0_resid_update i arg2 harg2 arg3 harg3 arg4 harg4 arg5 harg5 arg6 harg6 arg7 harg7 arg8 harg8 arg9 harg9 arg10 harg10) K := by
  simp only [cc0_resid_update_eq_skeleton]; unfold cc0_resid_update_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0; obtain rfl := harg10.eq_unread hfs1
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_full, pay9_eq]; exact congr (congr (congrArg (k0_pay5 (F := F)) (ld_full _ _ _ hf2)) (ld_rows _ _ _ (col i) (k0_off3_eq i) hfs0)) (ld_full _ _ _ hf3)
  isplitl [H6]
  · iexists _; isplitr; swap; · iexact H6
    ipureintro
    rw [read_full, pay10_eq]; exact congr (congr (congr (congrArg (k0_pay6 (F := F)) (ld_full _ _ _ hf2)) (ld_rows _ _ _ (col i) (k0_off3_eq i) hfs0)) (ld_full _ _ _ hf3)) (ld_full _ _ _ hf4)
  isplitl [HS0]
  · iexists _; isplitr; swap; · iexact HS0
    ipureintro
    rw [pay2_eq]; exact st_rows _ _ _ _ (col i) (k0_off3_eq i) hfs0
  iexists _; isplitr; swap; · iexact HS1
  ipureintro
  rw [read_full, pay3_eq]; exact congr (congr (congrArg (k0_pay16 (F := F)) (ld_full _ _ _ hfs1)) (ld_full _ _ _ hf0)) (ld_full _ _ _ hf1)

/-- A point after the last row tile: the output rows are computed from the second accumulator. -/
theorem runD (c : Dev nD) (i : grid0.Coords) (arg2 : Memref sig .tc .vmem S1024x512 .bf16) (harg2 : arg2.IsWhole) (arg3 : Memref sig .tc .vmem S1x512x4096 .bf16) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S1024x4096 .f32) (harg9 : arg9.IsWhole) (arg10 : Memref sig .tc .vmem S1024x4096 .f32) (harg10 : arg10.IsWhole)
    (hc1 : ¬cond1 i) (hc2 : ¬k0_cond2 i = 1#1) (hc3 : k0_cond3 i = 1#1) (hc4 : ¬k0_cond4 i = 1#1) (hc5 : ¬k0_cond5 i = 1#1)
    (x0 : Vec F S1024x512 .bf16) (x1 : Vec F S1x512x4096 .bf16) (x2 : Vec F S128x4096 .f32) (x3 x4 : Vec F S1x4096 .f32) (a0 a1 : Vec F S1024x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare a0 ∗ owns (c : Thread nD τ) arg10 fullShare a1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x2 (rows (col i) a1) x3) ∗ owns (c : Thread nD τ) arg8 fullShare (k0_pay6 x2 (rows (col i) a1) x3 x4) ∗ owns (c : Thread nD τ) arg9 fullShare a0 ∗ owns (c : Thread nD τ) arg10 fullShare (cleared (col i) a1)) -∗ K ⟨⟩))
      ⊢ wp frame (wpE (defs₀ (F := F)) Variants.none c none) E (cc0_resid_update i arg2 harg2 arg3 harg3 arg4 harg4 arg5 harg5 arg6 harg6 arg7 harg7 arg8 harg8 arg9 harg9 arg10 harg10) K := by
  simp only [cc0_resid_update_eq_skeleton]; unfold cc0_resid_update_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0; obtain rfl := harg10.eq_unread hfs1
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_full, pay7_eq]; exact congr (congr (congrArg (k0_pay5 (F := F)) (ld_full _ _ _ hf2)) (ld_rows _ _ _ (col i) (k0_off2_eq i) hfs1)) (ld_full _ _ _ hf3)
  isplitl [H6]
  · iexists _; isplitr; swap; · iexact H6
    ipureintro
    rw [read_full, pay8_eq]; exact congr (congr (congr (congrArg (k0_pay6 (F := F)) (ld_full _ _ _ hf2)) (ld_rows _ _ _ (col i) (k0_off2_eq i) hfs1)) (ld_full _ _ _ hf3)) (ld_full _ _ _ hf4)
  isplitl [HS0]
  · iexists _; isplitr; swap; · iexact HS0
    ipureintro
    exact harg9.read_unread _
  iexists _; isplitr; swap; · iexact HS1
  ipureintro
  rw [pay1_eq]; exact st_rows _ _ _ _ (col i) (k0_off2_eq i) hfs1

end Cert.OutIdeal.Body

end
-- ==== Proof.Out.Run.lean ====
module

public import proofs.«01_k».proof.Proof.Gen.OutIdeal.Frame
public import proofs.«01_k».proof.Proof.Out.Body
public import Idealize.ShloMosaic.Lib.Claim

@[expose] public section

set_option maxRecDepth 16384

noncomputable section

/-! The output projection over its whole grid: the contents of the accumulators from point to point, and the run. -/

namespace Cert.OutIdeal.Body

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev buf0 (t : Fin cfg0.N) : Memref sig .tc .vmem S1024x512 .bf16 := win0_0.stage (cfg0.slots t 0)
abbrev buf1 (t : Fin cfg0.N) : Memref sig .tc .vmem S1x512x4096 .bf16 := win0_1.stage (cfg0.slots t 1)
abbrev buf2 (t : Fin cfg0.N) : Memref sig .tc .vmem S128x4096 .f32 := win0_2.stage (cfg0.slots t 2)
abbrev buf3 (t : Fin cfg0.N) : Memref sig .tc .vmem S1x4096 .f32 := win0_3.stage (cfg0.slots t 3)
abbrev buf4 (t : Fin cfg0.N) : Memref sig .tc .vmem S1x4096 .f32 := win0_4.stage (cfg0.slots t 4)
abbrev buf5 (t : Fin cfg0.N) : Memref sig .tc .vmem S128x4096 .f32 := win0_5.stage (cfg0.slots t 5)
abbrev buf6 (t : Fin cfg0.N) : Memref sig .tc .vmem S128x4096 .bf16 := win0_6.stage (cfg0.slots t 6)
abbrev accM0 : Memref sig .tc .vmem S1024x4096 .f32 := Memref.whole cc0_scratch0
abbrev accM1 : Memref sig .tc .vmem S1024x4096 .f32 := Memref.whole cc0_scratch1

/-- Which of the five branches a point takes. -/
theorem branch : ∀ t : Fin cfg0.N, (cond1 (grid0.coords t) ↔ t.val = 0)
    ∧ (k0_cond2 (grid0.coords t) = 1#1 ↔ t.val < 64 ∧ t.val / 8 % 2 = 0) ∧ (k0_cond3 (grid0.coords t) = 1#1 ↔ 64 ≤ t.val)
    ∧ (k0_cond4 (grid0.coords t) = 1#1 ↔ t.val < 64 ∧ t.val / 8 % 2 = 1) ∧ ¬k0_cond5 (grid0.coords t) = 1#1 ∧ t.val < 72 :=
  (by decide +kernel : ∀ t : Fin grid0.N, _)

/-- Every point writes both output blocks. -/
theorem busy5 : ∀ t : Fin cfg0.N, cfg0.idle 5 (cfg0.grid.coords t) = false :=
  (by decide +kernel : ∀ t : Fin grid0.N, idle0 5 (grid0.coords t) = false)
theorem busy6 : ∀ t : Fin cfg0.N, cfg0.idle 6 (cfg0.grid.coords t) = false :=
  (by decide +kernel : ∀ t : Fin grid0.N, idle0 6 (grid0.coords t) = false)

abbrev Accs (F : FTy → Type) [FloatOps F] := Vec F S1024x4096 .f32 × Vec F S1024x4096 .f32

/-- The accumulators after a point, from those before. -/
def step (c : Dev nD) (t : Fin cfg0.N) (s : Accs F) : Accs F :=
  if 64 ≤ t.val then (s.1, cleared (col (grid0.coords t)) s.2)
  else if t.val / 8 % 2 = 0 then (k0_pay16 s.1 (iblk m c 0 t) (iblk m c 1 t), cleared (col (grid0.coords t)) s.2)
  else (cleared (col (grid0.coords t)) s.1, k0_pay16 s.2 (iblk m c 0 t) (iblk m c 1 t))

/-- The accumulators before point `n`, taken as zero before the first. -/
def accs (c : Dev nD) : (n : ℕ) → n ≤ cfg0.N → Accs F
  | 0, _ => (k0_pay13, k0_pay14)
  | n + 1, h => step m c ⟨n, h⟩ (accs c n (Nat.le_of_succ_le h))

/-- The accumulator a point computes its output rows from. -/
def done (t : Fin cfg0.N) (s : Accs F) : Vec F S1024x4096 .f32 :=
  if 64 ≤ t.val then s.2 else if t.val / 8 % 2 = 0 then s.2 else s.1

/-- The rows of the first result a point writes. -/
def out5 (c : Dev nD) (t : Fin cfg0.N) : Vec F S128x4096 .f32 :=
  k0_pay5 (iblk m c 2 t) (rows (col (grid0.coords t)) (done t (accs m c t.val (Nat.le_of_lt t.isLt)))) (iblk m c 3 t)
/-- The rows of the second result a point writes. -/
def out6 (c : Dev nD) (t : Fin cfg0.N) : Vec F S128x4096 .bf16 :=
  k0_pay6 (iblk m c 2 t) (rows (col (grid0.coords t)) (done t (accs m c t.val (Nat.le_of_lt t.isLt)))) (iblk m c 3 t) (iblk m c 4 t)

theorem launched (c : Dev nD) :
    (Pipeline.ΦA spec0 c : sProp 𝕄)
      = iprop(iprop((∃ d, owns (c : Thread nD τ) accM0 fullShare d) ∗ (∃ d, owns (c : Thread nD τ) accM1 fullShare d)) ∗ (∃ r, prngReg c r)) := by
  unfold Pipeline.ΦA; rw [scopedRest0_eq]; simp only [accM0, accM1, owns_whole]; try rfl

/-- What is held between points: the accumulators at their contents, at anything before the first point. -/
def held (c : Dev nD) : (n : ℕ) → n ≤ cfg0.N → sProp 𝕄
  | 0, _ => Pipeline.ΦA spec0 c
  | n + 1, hn => iprop(iprop(owns (c : Thread nD τ) accM0 fullShare (accs m c (n + 1) hn).1 ∗ owns (c : Thread nD τ) accM1 fullShare (accs m c (n + 1) hn).2) ∗ (∃ r, prngReg c r))

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) :
    held m c n h = iprop(iprop(owns (c : Thread nD τ) accM0 fullShare (accs m c n h).1 ∗ owns (c : Thread nD τ) accM1 fullShare (accs m c n h).2) ∗ (∃ r, prngReg c r)) := by
  cases n with
  | zero => exact absurd rfl hz
  | succ n => rfl

/-- The run's data: the arrays at entry, what each point leaves in each window's buffer, what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c t := by dsimp only [dats]
theorem after6 (c : Dev nD) (t : Fin cfg0.N) : (dats m 0 c).after 6 t = out6 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5, after6]
  rw [show (dats m 0 c).Φ t.succ = held m c (t.val + 1) t.isLt from rfl, held_pos m c _ _ (Nat.succ_ne_zero _), held_castSucc m c t]
  rw [show accs m c (t.val + 1) t.isLt = step m c t (accs m c t.val (Nat.le_of_lt t.isLt)) from rfl]
  unfold out5 out6
  obtain ⟨b1, b2, b3, b4, b5, hN⟩ := branch t
  by_cases hz : t.val = 0
  · rw [held_zero m c _ _ hz, launched]
    have hs : ∀ s : Accs F, step m c t s = (k0_pay16 s.1 (iblk m c 0 t) (iblk m c 1 t), cleared (col (grid0.coords t)) s.2) := fun s => by
      unfold step; rw [if_neg (by omega), if_pos (by omega)]
    have ha : accs m c t.val (Nat.le_of_lt t.isLt) = (k0_pay13, k0_pay14) := by
      have : ∀ (n : ℕ) (h : n ≤ cfg0.N), n = 0 → accs m c n h = (k0_pay13, k0_pay14) := fun n h e => by subst e; rfl
      exact this _ _ hz
    have hd : ∀ s : Accs F, done t s = s.2 := fun s => by unfold done; rw [if_neg (by omega), if_pos (by omega)]
    rw [hs, hd, ha]
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ _ _ (b1.mpr hz) (b2.mpr ⟨by omega, by omega⟩) (fun h => by have := b3.mp h; omega) (fun h => by have := b4.mp h; omega) b5 (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  rw [held_pos m c _ _ hz]
  generalize accs m c t.val (Nat.le_of_lt t.isLt) = s
  by_cases h64 : 64 ≤ t.val
  · have hs : step m c t s = (s.1, cleared (col (grid0.coords t)) s.2) := by unfold step; rw [if_pos h64]
    have hd : done t s = s.2 := by unfold done; rw [if_pos h64]
    rw [hs, hd]
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runD c (grid0.coords t) _ _ _ _ _ _ _ _ _ _ _ _ _ _ _ _ _ _ (fun h => by have := b1.mp h; omega) (fun h => by have := b2.mp h; omega) (b3.mpr h64) (fun h => by have := b4.mp h; omega) b5 (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases hp : t.val / 8 % 2 = 0
  · have hs : step m c t s = (k0_pay16 s.1 (iblk m c 0 t) (iblk m c 1 t), cleared (col (grid0.coords t)) s.2) := by
      unfold step; rw [if_neg h64, if_pos hp]
    have hd : done t s = s.2 := by unfold done; rw [if_neg h64, if_pos hp]
    rw [hs, hd]
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ _ _ (fun h => by have := b1.mp h; omega) (b2.mpr ⟨by omega, by omega⟩) (fun h => by have := b3.mp h; omega) (fun h => by have := b4.mp h; omega) b5 (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hs : step m c t s = (cleared (col (grid0.coords t)) s.1, k0_pay16 s.2 (iblk m c 0 t) (iblk m c 1 t)) := by
      unfold step; rw [if_neg h64, if_neg hp]
    have hd : done t s = s.1 := by unfold done; rw [if_neg h64, if_neg hp]
    rw [hs, hd]
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runC c (grid0.coords t) _ _ _ _ _ _ _ _ _ _ _ _ _ _ _ _ _ _ (fun h => by have := b1.mp h; omega) (fun h => by have := b2.mp h; omega) (fun h => by have := b3.mp h; omega) (b4.mpr ⟨by omega, by omega⟩) b5 (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  have h5 : idle0 5 (grid0.coords t) = false := busy5 t
  show bodyPost m c t ⊢ iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ (match idle0 5 (grid0.coords t) with
        | true => match (cfg0.win 5).flush t with
          | false => iprop(∃ d, owns (c : Thread nD τ) (buf5 t) fullShare ((dats m 0 c).before 5 t d))
          | true => owns (c : Thread nD τ) (buf5 t) fullShare ((dats m 0 c).after 5 t)
        | false => owns (c : Thread nD τ) (buf5 t) fullShare ((dats m 0 c).after 5 t))
    ∗ (match idle0 6 (grid0.coords t) with
        | true => match (cfg0.win 6).flush t with
          | false => iprop(∃ d, owns (c : Thread nD τ) (buf6 t) fullShare ((dats m 0 c).before 6 t d))
          | true => owns (c : Thread nD τ) (buf6 t) fullShare ((dats m 0 c).after 6 t)
        | false => owns (c : Thread nD τ) (buf6 t) fullShare ((dats m 0 c).after 6 t)))
  rw [h5]
  exact .rfl

theorem hin (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem hout (c : Dev nD) : (dats m 0 c).Φ (Fin.last cfg0.N) ⊢ Pipeline.ΦA spec0 c := by
  have hN : cfg0.N = 72 := N_0
  rw [show (dats m 0 c).Φ (Fin.last cfg0.N) = held m c cfg0.N (Nat.le_refl _) from rfl, held_pos m c _ _ (by omega), launched]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the arrays at what the points wrote. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends quiescent with the arguments as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

/-- Every run ends with the two result arrays at what the points wrote and the arguments as launched. -/
theorem run_results : θ_run defs (onTc (τ := τ) (main (F := F))) ⟨m, fun _ => 0, ρ⟩ (fun r => ∀ c : Dev nD,
      r.2.mem ((c.tc : Thread nD τ).loc main_v4_0) = (dats m 0 c).arrAt 5 cfg0.N
      ∧ r.2.mem ((c.tc : Thread nD τ).loc main_v4_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 5, (h.1 c).1 6, h.2 c⟩)
    (θ_run_and (run_main m ρ) (frame_of m ρ (dats m) (A_eq m) (run_main m ρ)))

end Cert.OutIdeal.Body

end
-- ==== Proof.Out.Spec.lean ====
module

public import proofs.«01_k».proof.Proof.Down.Spec

@[expose] public section

noncomputable section

/-! The residual stream after the mixers and its normalised rows, as functions of the mixers' normalised outputs, the
weights, the residual stream before and the gains. -/

namespace Cert.OutResidual

open Idealize.ShloMosaic Idealize.ShloMosaic.ValueIdx
open Cert.Residual (scale)
open scoped BigOperators

/-- One element of the product of the mixers' normalised outputs with the last layer's weights. -/
def proj (a : (⟨2, ![8192, 4096]⟩ : Shape).Idx → EReal) (w : (⟨3, ![4, 4096, 4096]⟩ : Shape).Idx → EReal) (r : Fin 8192) (d : Fin 4096) : EReal :=
  ∑ k : Fin 4096, a (ix2 r k) * w (ix3 3 k d)

/-- A row with its normalised, gained update added. -/
def upd (y x g : Fin 4096 → EReal) (d : Fin 4096) : EReal :=
  x d + y d * scale y * g d

/-- One row of the residual stream after the update. -/
def row (a : (⟨2, ![8192, 4096]⟩ : Shape).Idx → EReal) (w : (⟨3, ![4, 4096, 4096]⟩ : Shape).Idx → EReal)
    (x : (⟨2, ![8192, 4096]⟩ : Shape).Idx → EReal) (g : (⟨1, ![4096]⟩ : Shape).Idx → EReal) (r : Fin 8192) : Fin 4096 → EReal :=
  upd (proj a w r) (fun d => x (ix2 r d)) (fun d => g (ix1 d))

/-- The residual stream after the update. -/
def stream (a : (⟨2, ![8192, 4096]⟩ : Shape).Idx → EReal) (w : (⟨3, ![4, 4096, 4096]⟩ : Shape).Idx → EReal)
    (x : (⟨2, ![8192, 4096]⟩ : Shape).Idx → EReal) (g : (⟨1, ![4096]⟩ : Shape).Idx → EReal) : (⟨2, ![8192, 4096]⟩ : Shape).Idx → EReal :=
  fun i => row a w x g ⟨(i 0).val, (i 0).isLt⟩ ⟨(i 1).val, (i 1).isLt⟩

/-- Its normalised rows, gained. -/
def normed (a : (⟨2, ![8192, 4096]⟩ : Shape).Idx → EReal) (w : (⟨3, ![4, 4096, 4096]⟩ : Shape).Idx → EReal)
    (x : (⟨2, ![8192, 4096]⟩ : Shape).Idx → EReal) (g h : (⟨1, ![4096]⟩ : Shape).Idx → EReal) : (⟨2, ![8192, 4096]⟩ : Shape).Idx → EReal :=
  fun i => row a w x g ⟨(i 0).val, (i 0).isLt⟩ ⟨(i 1).val, (i 1).isLt⟩ * scale (row a w x g ⟨(i 0).val, (i 0).isLt⟩) * h (ix1 ⟨(i 1).val, (i 1).isLt⟩)

end Cert.OutResidual

end
-- ==== Proof.Out.Block.lean ====
module

public import proofs.«01_k».proof.Proof.Out.Run
public import proofs.«01_k».proof.Proof.Out.Spec
public import Idealize.ShloMosaic.Lib.MatmulPlain
public import Idealize.ShloMosaic.Lib.ValueLayout
public import Idealize.ShloMosaic.Lib.IdealHost
public import Idealize.ShloMosaic.PureOps.IdealRules

@[expose] public section

set_option maxRecDepth 16384

noncomputable section

/-! What one point of the output projection computes, read at an index. -/

namespace Cert.OutIdeal.Block

open Cert.OutIdeal Cert.OutIdeal.Gen Cert.OutIdeal.Body Idealize.ShloMosaic Idealize.ShloMosaic.TcCoe Idealize.SL.Sem
open Idealize.ShloMosaic.ValueIdx Cert.OutResidual
open Cert.Residual (scale)
open scoped BigOperators

theorem zero_apply {S : Shape} (h : S.ShapeCasts S) (y : S.Idx) :
    shapeCast S (broadcast S (Scalar.ofBits (F := Ideal) .f32 0x00000000#32)) h y = (0 : EReal) := by
  rw [shapeCast_self]
  exact Ideal.ofBits_zero_f32

theorem pay13_apply (y : S1024x4096.Idx) : k0_pay13 (F := Ideal) y = (0 : EReal) := zero_apply shapeCasts_S1024x4096_S1024x4096 y
theorem pay14_apply (y : S1024x4096.Idx) : k0_pay14 (F := Ideal) y = (0 : EReal) := zero_apply shapeCasts_S1024x4096_S1024x4096 y
theorem pay15_apply (y : S128x4096.Idx) : k0_pay15 (F := Ideal) y = (0 : EReal) := zero_apply shapeCasts_S128x4096_S128x4096 y

/-- An accumulator with a point's product added. -/
theorem pay16_apply (s : Vec Ideal S1024x4096 .f32) (a : Vec Ideal S1024x512 .bf16) (w : Vec Ideal S1x512x4096 .bf16) (r : Fin 1024) (d : Fin 4096) :
    k0_pay16 s a w (ix2 r d) = s (ix2 r d) + ∑ q : Fin 512, a (ix2 r q) * w (ix3 0 q d) := by
  unfold k0_pay16
  rw [shapeCast_self, shapeCast_self]
  rw [addf_apply]
  refine congrArg (fun z : EReal => s (ix2 r d) + z) ?_
  refine (Ideal.matmul_plain_apply (M := 1024) (K := 512) (N := 4096) none a _ _ r d).trans ?_
  rw [constant_apply, Ideal.ofBits_zero_f32, zero_add]
  refine Finset.sum_congr rfl fun q _ => ?_
  rw [shapeCast_apply _ _ (ix2 q d) (ix3 0 q d) (by
    rw [Shape.rowMajor_val_three, Shape.rowMajor_val_two]
    show (0 * 512 + q.val) * 4096 + d.val = q.val * 4096 + d.val
    omega)]

/-- Rows set to zero, read at an index. -/
theorem cleared_apply (k : Fin 8) (x : Vec Ideal S1024x4096 .f32) (r : Fin 1024) (d : Fin 4096) :
    cleared k x (ix2 r d) = if 128 * k.val ≤ r.val ∧ r.val < 128 * k.val + 128 then (0 : EReal) else x (ix2 r d) := by
  unfold cleared VecWindow.put
  have hd : d.val < 4096 := d.isLt
  by_cases h : 128 * k.val ≤ r.val ∧ r.val < 128 * k.val + 128
  · rw [if_pos h, dif_pos (fun a => by
      match a with
      | ⟨0, _⟩ => exact h
      | ⟨1, _⟩ => exact ⟨Nat.zero_le _, by show d.val < 0 + 4096; omega⟩)]
    exact pay15_apply _
  · rw [if_neg h, dif_neg (fun h' => h (h' 0))]

/-- A group of rows, read at an index. -/
theorem rows_apply (k : Fin 8) (x : Vec Ideal S1024x4096 .f32) (r : Fin 128) (d : Fin 4096) (i : Fin 1024) (hi : i.val = 128 * k.val + r.val) :
    rows k x (ix2 r d) = x (ix2 i d) := by
  unfold rows VecWindow.window
  refine congrArg x (funext fun a => Fin.ext ?_)
  match a with
  | ⟨0, _⟩ => show 128 * k.val + 1 * r.val = i.val; omega
  | ⟨1, _⟩ => show 0 + 1 * d.val = d.val; omega

/-- The normalising factor of every row of a block, spread over its columns. -/
theorem factor_apply (v : FVec Ideal S128x4096 .f32) (r : Fin 128) (d : Fin 4096) :
    broadcastTo S128x4096 (rsqrt (addf (divf (shapeCast S128x1 (multiReduction .add [1] S128 (mulf v v) 0x00000000#32 reduces_S128x4096_S128 (.inl rfl) rfl) shapeCasts_S128_S128x1)
      (broadcast S128x1 (Scalar.ofBits (F := Ideal) .f32 0x45800000#32))) (broadcast S128x1 (Scalar.ofBits (F := Ideal) .f32 0x358637BD#32)))) broadcasts_S128x1_S128x4096 (ix2 r d)
      = scale fun d => v (ix2 r d) := by
  rw [broadcastTo_apply _ _ _ (ix2 r 0) (fun a => by
    match a with
    | ⟨0, _⟩ => rfl
    | ⟨1, _⟩ => rfl)]
  unfold scale
  refine congrArg Ideal.rsqrt (congrArg (fun z : EReal => Ideal.div z (Ideal.ofBits .f32 0x45800000#32) + Ideal.ofBits .f32 0x358637BD#32) ?_)
  rw [shapeCast_apply _ _ (ix2 r 0) (ix1 r) (by
    rw [Shape.rowMajor_val_one, Shape.rowMajor_val_two]
    show r.val = r.val * 1 + 0
    omega)]
  refine (Ideal.multiReduction_add_single (mulf v v) _ reduces_S128x4096_S128 (.inl rfl) rfl (ix1 r)).trans ?_
  refine Finset.sum_congr rfl fun l _ => ?_
  have e : reduces_S128x4096_S128.lift (ix1 r) l = (ix2 r l : S128x4096.Idx) := by
    funext a; apply Fin.ext
    match a with
    | ⟨0, _⟩ => rfl
    | ⟨1, _⟩ => rfl
  rw [e]
  rfl

theorem gain_apply (g : Vec Ideal S1x4096 .f32) (r : Fin 128) (d : Fin 4096) :
    broadcastTo S128x4096 (shapeCast S1x4096 g shapeCasts_S1x4096_S1x4096) broadcasts_S1x4096_S128x4096 (ix2 r d) = g (ix2 0 d) := by
  rw [shapeCast_self]
  exact broadcastTo_1b_ab_apply _ _ r d

theorem one_eq : (Scalar.ofBits .f32 0x3F800000#32 : Ideal .f32) = (1 : EReal) := by
  show Ideal.ofBits .f32 0x3F800000#32 = _
  simp [Ideal.ofBits, Ideal.ieee, -EReal.coe_mul]; norm_num

/-- The rows of the stream a point writes. -/
theorem pay5_apply (x y : Vec Ideal S128x4096 .f32) (g : Vec Ideal S1x4096 .f32) (r : Fin 128) (d : Fin 4096) :
    k0_pay5 x y g (ix2 r d) = upd (fun d => y (ix2 r d)) (fun d => x (ix2 r d)) (fun d => g (ix2 0 d)) d := by
  unfold k0_pay5
  dsimp only
  rw [addf_apply, mulf_apply, mulf_apply, mulf_apply, factor_apply, gain_apply]
  exact congrArg (fun z : EReal => x (ix2 r d) + z) ((congrArg (fun o : EReal => o * _) one_eq).trans (one_mul _))

/-- The normalised rows a point writes. -/
theorem pay6_apply (x y : Vec Ideal S128x4096 .f32) (g h : Vec Ideal S1x4096 .f32) (r : Fin 128) (d : Fin 4096) :
    k0_pay6 x y g h (ix2 r d)
      = upd (fun d => y (ix2 r d)) (fun d => x (ix2 r d)) (fun d => g (ix2 0 d)) d
        * scale (upd (fun d => y (ix2 r d)) (fun d => x (ix2 r d)) (fun d => g (ix2 0 d))) * h (ix2 0 d) := by
  unfold k0_pay6
  dsimp only
  rw [truncf_apply (ψ := .bf16) _ bitsLt_bf16_f32, mulf_apply, mulf_apply, factor_apply, gain_apply, pay5_apply]
  simp only [pay5_apply]

end Cert.OutIdeal.Block

end
-- ==== Proof.Out.Array.lean ====
module

public import proofs.«01_k».proof.Proof.Out.Block
public import Idealize.ShloMosaic.Lib.Pipeline.ValueKit.Geometry

@[expose] public section

set_option maxRecDepth 16384

noncomputable section

/-! The two result arrays of the output projection, from the arguments. -/

namespace Cert.OutIdeal.Array

open Cert.OutIdeal Cert.OutIdeal.Gen Cert.OutIdeal.Body Cert.OutIdeal.Block
open Idealize.ShloMosaic Idealize.ShloMosaic.TcCoe Idealize.SL.Sem
open Idealize.ShloMosaic.ValueIdx Cert.OutResidual
open Idealize.ShloMosaic.Pipeline (Dat)
open scoped BigOperators

variable (m : (ℓ : Loc nD τ sig) → Buf (Elt Ideal) ℓ) (ρ : Dev nD → PrngReg) (c : Dev nD)

/-- The mixers' normalised outputs as launched. -/
abbrev a : (⟨2, ![8192, 4096]⟩ : Shape).Idx → EReal := m ((c : Thread nD τ).loc main_arg0)
/-- The weights as launched. -/
abbrev w : (⟨3, ![4, 4096, 4096]⟩ : Shape).Idx → EReal := m ((c : Thread nD τ).loc main_arg1)
/-- The residual stream as launched. -/
abbrev x : (⟨2, ![8192, 4096]⟩ : Shape).Idx → EReal := m ((c : Thread nD τ).loc main_arg2)
/-- The gain of the update as launched. -/
abbrev g : (⟨1, ![4096]⟩ : Shape).Idx → EReal := m ((c : Thread nD τ).loc main_arg3)
/-- The gain of the normalised rows as launched. -/
abbrev h : (⟨1, ![4096]⟩ : Shape).Idx → EReal := m ((c : Thread nD τ).loc main_arg4)

theorem V_a_apply (i : S8192x4096.Idx) : V m c main_v0 i = a m c i := by
  have e : V m c main_v0 = truncf (F := Ideal) .bf16 (a m c) bitsLt_bf16_f32 := by
    unfold V; after_results
  rw [e]
  exact truncf_apply (ψ := .bf16) _ bitsLt_bf16_f32 _

theorem V_w_apply (i : S4x4096x4096.Idx) : V m c main_v1 i = w m c i := by
  have e : V m c main_v1 = truncf (F := Ideal) .bf16 (w m c) bitsLt_bf16_f32 := by
    unfold V; after_results
  rw [e]
  exact truncf_apply (ψ := .bf16) _ bitsLt_bf16_f32 _

theorem V_g_apply (d : Fin 4096) : V m c main_v2 (ix2 (0 : Fin 1) d : S1x4096.Idx) = g m c (ix1 d) := by
  have e : (V m c main_v2 : S1x4096.Idx → EReal) = shapeCast S1x4096 (g m c) shapeCasts_S4096_S1x4096 := by
    unfold V; after_results; rfl
  rw [e]
  exact shapeCast_apply _ _ _ (ix1 d) (by
    rw [Shape.rowMajor_val_one, Shape.rowMajor_val_two]
    show d.val = 0 * 4096 + d.val
    omega)

theorem V_h_apply (d : Fin 4096) : V m c main_v3 (ix2 (0 : Fin 1) d : S1x4096.Idx) = h m c (ix1 d) := by
  have e : (V m c main_v3 : S1x4096.Idx → EReal) = shapeCast S1x4096 (h m c) shapeCasts_S4096_S1x4096 := by
    unfold V; after_results; rfl
  rw [e]
  exact shapeCast_apply _ _ _ (ix1 d) (by
    rw [Shape.rowMajor_val_one, Shape.rowMajor_val_two]
    show d.val = 0 * 4096 + d.val
    omega)

/-- Grid point `t` multiplies in row tile `t / 8` and chunk `t % 8`; the rows it reads of the stream and writes are the group `t - 8`. -/
theorem idx_facts : ∀ t : Fin cfg0.N, t.val < 72
    ∧ (t.val < 64 → win0_0.index t (0 : Fin 2) = t.val / 8 ∧ win0_0.index t (1 : Fin 2) = t.val % 8)
    ∧ (t.val < 64 → win0_1.index t (0 : Fin 3) = 3 ∧ win0_1.index t (1 : Fin 3) = t.val % 8 ∧ win0_1.index t (2 : Fin 3) = 0)
    ∧ (win0_2.index t (0 : Fin 2) = t.val - 8 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val - 8 ∧ win0_5.index t (1 : Fin 2) = 0)
    ∧ (win0_6.index t (0 : Fin 2) = t.val - 8 ∧ win0_6.index t (1 : Fin 2) = 0)
    ∧ (col (grid0.coords t)).val = t.val % 8 :=
  (by decide +kernel : ∀ t : Fin grid0.N, _)

/-- Only the points from the eighth on write back. -/
theorem late5 : ∀ t : Fin cfg0.N, (cfg0.win 5).flush t = true → 8 ≤ t.val :=
  (by decide +kernel : ∀ t : Fin grid0.N, (cfg0.win 5).flush t = true → 8 ≤ t.val)
theorem late6 : ∀ t : Fin cfg0.N, (cfg0.win 6).flush t = true → 8 ≤ t.val :=
  (by decide +kernel : ∀ t : Fin grid0.N, (cfg0.win 6).flush t = true → 8 ≤ t.val)

theorem a_block (t : Fin cfg0.N) (ht : t.val < 64) (r : Fin 1024) (q : Fin 512) (i : Fin 8192) (k : Fin 4096)
    (hi : i.val = 1024 * (t.val / 8) + r.val) (hk : k.val = 512 * (t.val % 8) + q.val) :
    (iblk m c 0 t : Vec Ideal S1024x512 .bf16) (ix2 r q) = a m c (ix2 i k) := by
  rw [← V_a_apply]
  obtain ⟨_, e, _⟩ := idx_facts t
  obtain ⟨e0, e1⟩ := e ht
  show V m c main_v0 (((cfg0.win 0).blk t).view.emb (ix2 r q)) = _
  refine congrArg (V m c main_v0) (funext fun b => Fin.ext ?_)
  match b with
  | ⟨0, _⟩ => show win0_0.index t (0 : Fin 2) * 1024 + 1 * r.val = i.val; omega
  | ⟨1, _⟩ => show win0_0.index t (1 : Fin 2) * 512 + 1 * q.val = k.val; omega

theorem w_block (t : Fin cfg0.N) (ht : t.val < 64) (q : Fin 512) (d : Fin 4096) (k : Fin 4096) (hk : k.val = 512 * (t.val % 8) + q.val) :
    (iblk m c 1 t : Vec Ideal S1x512x4096 .bf16) (ix3 0 q d) = w m c (ix3 3 k d) := by
  rw [← V_w_apply]
  obtain ⟨_, _, e, _⟩ := idx_facts t
  obtain ⟨e0, e1, e2⟩ := e ht
  show V m c main_v1 (((cfg0.win 1).blk t).view.emb (ix3 0 q d)) = _
  refine congrArg (V m c main_v1) (funext fun b => Fin.ext ?_)
  match b with
  | ⟨0, _⟩ => show win0_1.index t (0 : Fin 3) * 1 + 1 * 0 = 3; omega
  | ⟨1, _⟩ => show win0_1.index t (1 : Fin 3) * 512 + 1 * q.val = k.val; omega
  | ⟨2, _⟩ => show win0_1.index t (2 : Fin 3) * 4096 + 1 * d.val = d.val; omega

theorem x_block (t : Fin cfg0.N) (r : Fin 128) (d : Fin 4096) (i : Fin 8192) (hi : i.val = 128 * (t.val - 8) + r.val) :
    (iblk m c 2 t : Vec Ideal S128x4096 .f32) (ix2 r d) = x m c (ix2 i d) := by
  obtain ⟨_, _, _, ⟨e0, e1⟩, _⟩ := idx_facts t
  rw [show x m c = V m c main_arg2 from (V_main_arg2 m c).symm]
  show V m c main_arg2 (((cfg0.win 2).blk t).view.emb (ix2 r d)) = _
  refine congrArg (V m c main_arg2) (funext fun b => Fin.ext ?_)
  match b with
  | ⟨0, _⟩ => show win0_2.index t (0 : Fin 2) * 128 + 1 * r.val = i.val; omega
  | ⟨1, _⟩ => show win0_2.index t (1 : Fin 2) * 4096 + 1 * d.val = d.val; omega

theorem g_block (t : Fin cfg0.N) (d : Fin 4096) : (iblk m c 3 t : Vec Ideal S1x4096 .f32) (ix2 0 d) = g m c (ix1 d) := by
  rw [← V_g_apply]
  obtain ⟨_, _, _, _, ⟨e0, e1⟩, _⟩ := idx_facts t
  show V m c main_v2 (((cfg0.win 3).blk t).view.emb (ix2 0 d)) = _
  refine congrArg (V m c main_v2) (funext fun b => Fin.ext ?_)
  match b with
  | ⟨0, _⟩ => show win0_3.index t (0 : Fin 2) * 1 + 1 * 0 = 0; omega
  | ⟨1, _⟩ => show win0_3.index t (1 : Fin 2) * 4096 + 1 * d.val = d.val; omega

theorem h_block (t : Fin cfg0.N) (d : Fin 4096) : (iblk m c 4 t : Vec Ideal S1x4096 .f32) (ix2 0 d) = h m c (ix1 d) := by
  rw [← V_h_apply]
  obtain ⟨_, _, _, _, _, ⟨e0, e1⟩, _⟩ := idx_facts t
  show V m c main_v3 (((cfg0.win 4).blk t).view.emb (ix2 0 d)) = _
  refine congrArg (V m c main_v3) (funext fun b => Fin.ext ?_)
  match b with
  | ⟨0, _⟩ => show win0_4.index t (0 : Fin 2) * 1 + 1 * 0 = 0; omega
  | ⟨1, _⟩ => show win0_4.index t (1 : Fin 2) * 4096 + 1 * d.val = d.val; omega

/-! ## The accumulators -/

/-- One summand of the product, zero outside the arrays. -/
def term (R : ℕ) (d : Fin 4096) (n : ℕ) : EReal :=
  if hb : R < 8192 ∧ n < 4096 then a m c (ix2 (⟨R, hb.1⟩ : Fin 8192) (⟨n, hb.2⟩ : Fin 4096)) * w m c (ix3 (3 : Fin 4) (⟨n, hb.2⟩ : Fin 4096) d) else 0

/-- The first `k` chunks of the product at a row. -/
def part (R k : ℕ) (d : Fin 4096) : EReal := ∑ n ∈ Finset.range (512 * k), term m c R d n

theorem part_zero (R : ℕ) (d : Fin 4096) : part m c R 0 d = 0 := by unfold part; rfl

theorem part_succ (R k : ℕ) (d : Fin 4096) : part m c R (k + 1) d = part m c R k d + ∑ q : Fin 512, term m c R d (512 * k + q.val) := by
  unfold part
  rw [Nat.mul_succ, Finset.sum_range_add, Finset.sum_range (fun q => term m c R d (512 * k + q))]

/-- All eight chunks are the whole product. -/
theorem part_full (R : Fin 8192) (d : Fin 4096) : part m c R.val 8 d = proj (a m c) (w m c) R d := by
  unfold part proj
  rw [show 512 * 8 = 4096 from rfl, Finset.sum_range]
  refine Finset.sum_congr rfl fun k _ => ?_
  unfold term
  rw [dif_pos ⟨R.isLt, k.isLt⟩]

/-- The accumulator in use holds the first `k` chunks of row tile `i`; the other holds the whole product of the tile before,
    its first `k` groups of rows set to zero. -/
def Holds (i k : ℕ) (cur prv : Vec Ideal S1024x4096 .f32) : Prop :=
  (i < 8 → ∀ (r : Fin 1024) (d : Fin 4096), cur (ix2 r d) = part m c (1024 * i + r.val) k d)
    ∧ ∀ (r : Fin 1024) (d : Fin 4096), prv (ix2 r d) = if i = 0 ∨ r.val < 128 * k then (0 : EReal) else part m c (1024 * (i - 1) + r.val) 8 d

theorem cleared_holds {i k : ℕ} (prv : Vec Ideal S1024x4096 .f32) (p : Fin 8) (hp : p.val = k)
    (hv : ∀ (r : Fin 1024) (d : Fin 4096), prv (ix2 r d) = if i = 0 ∨ r.val < 128 * k then (0 : EReal) else part m c (1024 * (i - 1) + r.val) 8 d)
    (r : Fin 1024) (d : Fin 4096) :
    cleared p prv (ix2 r d) = if i = 0 ∨ r.val < 128 * (k + 1) then (0 : EReal) else part m c (1024 * (i - 1) + r.val) 8 d := by
  rw [cleared_apply, hv r d, hp]
  by_cases h0 : i = 0 ∨ r.val < 128 * k
  · rw [if_pos h0, if_pos (h0.imp id fun hr => by omega), ite_self]
  · by_cases h1 : r.val < 128 * k + 128
    · rw [if_pos ⟨by omega, h1⟩, if_pos (Or.inr (by omega))]
    · rw [if_neg (fun hh => h1 hh.2), if_neg h0, if_neg (fun hh => hh.elim (fun e => h0 (Or.inl e)) fun e => h1 (by omega))]

theorem Holds.add {i k : ℕ} {cur prv : Vec Ideal S1024x4096 .f32} (H : Holds m c i k cur prv) (t : Fin cfg0.N) (ht : t.val < 64)
    (hi : t.val / 8 = i) (hk : t.val % 8 = k) :
    Holds m c i (k + 1) (k0_pay16 cur (iblk m c 0 t) (iblk m c 1 t)) (cleared (col (grid0.coords t)) prv) := by
  obtain ⟨_, _, _, _, _, _, _, _, hcol⟩ := idx_facts t
  refine ⟨fun h8 r d => ?_, cleared_holds m c prv _ (by omega) H.2⟩
  rw [pay16_apply, H.1 h8 r d, part_succ]
  refine congrArg (fun z : EReal => part m c (1024 * i + r.val) k d + z) (Finset.sum_congr rfl fun q _ => ?_)
  have hr : r.val < 1024 := r.isLt
  have hq : q.val < 512 := q.isLt
  unfold term
  rw [dif_pos ⟨by omega, by omega⟩]
  rw [a_block m c t ht r q ⟨1024 * i + r.val, by omega⟩ ⟨512 * k + q.val, by omega⟩ (by show 1024 * i + r.val = _; omega) (by show 512 * k + q.val = _; omega),
    w_block m c t ht q d ⟨512 * k + q.val, by omega⟩ (by show 512 * k + q.val = _; omega)]

theorem Holds.keep {k : ℕ} {cur prv : Vec Ideal S1024x4096 .f32} (H : Holds m c 8 k cur prv) (p : Fin 8) (hp : p.val = k) :
    Holds m c 8 (k + 1) cur (cleared p prv) :=
  ⟨fun h8 => absurd h8 (Nat.lt_irrefl _), cleared_holds m c prv p hp H.2⟩

/-- After eight points the two accumulators change places. -/
theorem Holds.swap {i : ℕ} {cur prv : Vec Ideal S1024x4096 .f32} (h8 : i < 8) (H : Holds m c i 8 cur prv) : Holds m c (i + 1) 0 prv cur := by
  refine ⟨fun _ r d => ?_, fun r d => ?_⟩
  · have hr : r.val < 1024 := r.isLt
    rw [H.2 r d, if_pos (Or.inr (by omega)), part_zero]
  · rw [H.1 h8 r d, if_neg (by omega), Nat.add_sub_cancel]

/-- The accumulator a point adds to, and the other. -/
def cur (n : ℕ) (s : Accs Ideal) : Vec Ideal S1024x4096 .f32 := if n / 8 % 2 = 0 then s.1 else s.2
def prv (n : ℕ) (s : Accs Ideal) : Vec Ideal S1024x4096 .f32 := if n / 8 % 2 = 0 then s.2 else s.1

/-- Before every point. -/
theorem holds : ∀ (n : ℕ) (hn : n < 72) (hle : n ≤ cfg0.N), Holds m c (n / 8) (n % 8) (cur n (accs m c n hle)) (prv n (accs m c n hle)) := by
  intro n
  induction n with
  | zero =>
    intro _ hle
    refine ⟨fun _ r d => ?_, fun r d => ?_⟩
    · rw [show (0 % 8 : ℕ) = 0 from rfl, part_zero]
      exact pay13_apply (ix2 r d)
    · rw [if_pos (Or.inl rfl)]
      exact pay14_apply (ix2 r d)
  | succ n ih =>
    intro hn hle
    have H := ih (by omega) (Nat.le_of_succ_le hle)
    rw [show accs m c (n + 1) hle = step m c ⟨n, hle⟩ (accs m c n (Nat.le_of_succ_le hle)) from rfl]
    revert H
    generalize accs m c n (Nat.le_of_succ_le hle) = s
    intro H
    have hcol : (col (grid0.coords (⟨n, hle⟩ : Fin cfg0.N))).val = n % 8 := (idx_facts ⟨n, hle⟩).2.2.2.2.2.2.2.2
    have hstep : Holds m c (n / 8) (n % 8 + 1) (cur n (step m c ⟨n, hle⟩ s)) (prv n (step m c ⟨n, hle⟩ s)) := by
      unfold step
      by_cases h64 : 64 ≤ n
      · have e8 : n / 8 = 8 := by omega
        rw [if_pos h64]
        unfold cur prv at H ⊢
        rw [e8] at H ⊢
        exact H.keep m c _ hcol
      · rw [if_neg h64]
        unfold cur prv at H ⊢
        by_cases hp : n / 8 % 2 = 0
        · rw [if_pos hp, if_pos hp] at H
          rw [if_pos hp, if_pos hp, if_pos hp]
          exact H.add m c ⟨n, hle⟩ (by show n < 64; omega) rfl rfl
        · rw [if_neg hp, if_neg hp] at H
          rw [if_neg hp, if_neg hp, if_neg hp]
          exact H.add m c ⟨n, hle⟩ (by show n < 64; omega) rfl rfl
    revert hstep
    generalize step m c ⟨n, hle⟩ s = s'
    intro hstep
    by_cases hk : n % 8 = 7
    · have e1 : (n + 1) / 8 = n / 8 + 1 := by omega
      have e2 : (n + 1) % 8 = 0 := by omega
      rw [hk] at hstep
      have h' := hstep.swap m c (by omega)
      unfold cur prv at h' ⊢
      rw [e1, e2]
      by_cases hp : n / 8 % 2 = 0
      · rw [if_pos hp, if_pos hp] at h'
        rw [if_neg (by omega), if_neg (by omega)]
        exact h'
      · rw [if_neg hp, if_neg hp] at h'
        rw [if_pos (by omega), if_pos (by omega)]
        exact h'
    · have e1 : (n + 1) / 8 = n / 8 := by omega
      have e2 : (n + 1) % 8 = n % 8 + 1 := by omega
      unfold cur prv at hstep ⊢
      rw [e1, e2]
      exact hstep

/-- The rows of the whole product a point computes its output from. -/
theorem done_rows (t : Fin cfg0.N) (ht : 8 ≤ t.val) (r : Fin 128) (d : Fin 4096) (i : Fin 8192) (hi : i.val = 128 * (t.val - 8) + r.val) :
    rows (col (grid0.coords t)) (done t (accs m c t.val (Nat.le_of_lt t.isLt))) (ix2 r d) = proj (a m c) (w m c) i d := by
  obtain ⟨hN, _, _, _, _, _, _, _, hcol⟩ := idx_facts t
  have hr : r.val < 128 := r.isLt
  have H := (holds m c t.val hN (Nat.le_of_lt t.isLt)).2
  have e : done t (accs m c t.val (Nat.le_of_lt t.isLt)) = prv t.val (accs m c t.val (Nat.le_of_lt t.isLt)) := by
    unfold done prv
    by_cases h64 : 64 ≤ t.val
    · rw [if_pos h64, if_pos (by omega)]
    · rw [if_neg h64]
  rw [e, rows_apply _ _ r d ⟨128 * (t.val % 8) + r.val, by omega⟩ (by show 128 * (t.val % 8) + r.val = _; omega), H,
    if_neg (by show ¬(t.val / 8 = 0 ∨ 128 * (t.val % 8) + r.val < 128 * (t.val % 8)); omega)]
  rw [show 1024 * (t.val / 8 - 1) + (128 * (t.val % 8) + r.val) = i.val from by omega]
  exact part_full m c i d

/-- The row a point computes is a row of the updated stream. -/
theorem row_eq (t : Fin cfg0.N) (ht : 8 ≤ t.val) (r : Fin 128) (i : Fin 8192) (hi : i.val = 128 * (t.val - 8) + r.val) :
    upd (fun d => rows (col (grid0.coords t)) (done t (accs m c t.val (Nat.le_of_lt t.isLt))) (ix2 r d)) (fun d => (iblk m c 2 t : Vec Ideal S128x4096 .f32) (ix2 r d))
      (fun d => (iblk m c 3 t : Vec Ideal S1x4096 .f32) (ix2 0 d)) = row (a m c) (w m c) (x m c) (g m c) i := by
  unfold row
  have e1 : (fun d => rows (col (grid0.coords t)) (done t (accs m c t.val (Nat.le_of_lt t.isLt))) (ix2 r d)) = proj (a m c) (w m c) i :=
    funext fun d => done_rows m c t ht r d i hi
  have e2 : (fun d => (iblk m c 2 t : Vec Ideal S128x4096 .f32) (ix2 r d)) = fun d => x m c (ix2 i d) := funext fun d => x_block m c t r d i hi
  have e3 : (fun d => (iblk m c 3 t : Vec Ideal S1x4096 .f32) (ix2 0 d)) = fun d => g m c (ix1 d) := funext fun d => g_block m c t d
  rw [e1, e2, e3]

/-- What a point writes back of the stream. -/
theorem flushed5 (t : Fin cfg0.N) (hf : (cfg0.win 5).flush t = true) :
    (dats m 0 c).flushed 5 t = ((cfg0.win 5).blk t).view.read (Elt Ideal) (stream (a m c) (w m c) (x m c) (g m c)) := by
  have ht := late5 t hf
  obtain ⟨hN, _, _, _, _, _, ⟨f0, f1⟩, _, _⟩ := idx_facts t
  show (cfg0.win 5).cut (grid0.coords t) ((dats m 0 c).after 5 t) = _
  rw [after5]
  funext y
  have hy0 : (y 0).val < 128 := (y 0).isLt
  have hy1 : (y 1).val < 4096 := (y 1).isLt
  have hb0 : (((cfg0.win 5).blk t).view.emb y 0).val = win0_5.index t (0 : Fin 2) * 128 + 1 * (y 0).val := rfl
  have hb1 : (((cfg0.win 5).blk t).view.emb y 1).val = win0_5.index t (1 : Fin 2) * 4096 + 1 * (y 1).val := rfl
  have hx : (cfg0.win 5).xinj (grid0.coords t) y = ix2 (⟨(y 0).val, hy0⟩ : Fin 128) (⟨(y 1).val, hy1⟩ : Fin 4096) := by
    funext b; apply Fin.ext
    match b with
    | ⟨0, _⟩ => rfl
    | ⟨1, _⟩ => rfl
  show out5 m c t ((cfg0.win 5).xinj (grid0.coords t) y) = stream (a m c) (w m c) (x m c) (g m c) (((cfg0.win 5).blk t).view.emb y)
  rw [hx]
  unfold out5
  rw [pay5_apply, row_eq m c t ht ⟨(y 0).val, hy0⟩ ⟨(((cfg0.win 5).blk t).view.emb y 0).val, (((cfg0.win 5).blk t).view.emb y 0).isLt⟩ (by
    show (((cfg0.win 5).blk t).view.emb y 0).val = 128 * (t.val - 8) + (y 0).val
    rw [hb0]; omega)]
  unfold stream
  refine congrArg _ (Fin.ext ?_)
  show (y 1).val = (((cfg0.win 5).blk t).view.emb y 1).val
  rw [hb1]; omega

/-- What a point writes back of the normalised rows. -/
theorem flushed6 (t : Fin cfg0.N) (hf : (cfg0.win 6).flush t = true) :
    (dats m 0 c).flushed 6 t = ((cfg0.win 6).blk t).view.read (Elt Ideal) (normed (a m c) (w m c) (x m c) (g m c) (h m c)) := by
  have ht := late6 t hf
  obtain ⟨hN, _, _, _, _, _, _, ⟨f0, f1⟩, _⟩ := idx_facts t
  show (cfg0.win 6).cut (grid0.coords t) ((dats m 0 c).after 6 t) = _
  rw [after6]
  funext y
  have hy0 : (y 0).val < 128 := (y 0).isLt
  have hy1 : (y 1).val < 4096 := (y 1).isLt
  have hb0 : (((cfg0.win 6).blk t).view.emb y 0).val = win0_6.index t (0 : Fin 2) * 128 + 1 * (y 0).val := rfl
  have hb1 : (((cfg0.win 6).blk t).view.emb y 1).val = win0_6.index t (1 : Fin 2) * 4096 + 1 * (y 1).val := rfl
  have hx : (cfg0.win 6).xinj (grid0.coords t) y = ix2 (⟨(y 0).val, hy0⟩ : Fin 128) (⟨(y 1).val, hy1⟩ : Fin 4096) := by
    funext b; apply Fin.ext
    match b with
    | ⟨0, _⟩ => rfl
    | ⟨1, _⟩ => rfl
  show out6 m c t ((cfg0.win 6).xinj (grid0.coords t) y) = normed (a m c) (w m c) (x m c) (g m c) (h m c) (((cfg0.win 6).blk t).view.emb y)
  rw [hx]
  unfold out6
  rw [pay6_apply, row_eq m c t ht ⟨(y 0).val, hy0⟩ ⟨(((cfg0.win 6).blk t).view.emb y 0).val, (((cfg0.win 6).blk t).view.emb y 0).isLt⟩ (by
    show (((cfg0.win 6).blk t).view.emb y 0).val = 128 * (t.val - 8) + (y 0).val
    rw [hb0]; omega), h_block]
  unfold normed
  have e1 : (⟨(y 1).val, hy1⟩ : Fin 4096) = ⟨(((cfg0.win 6).blk t).view.emb y 1).val, (((cfg0.win 6).blk t).view.emb y 1).isLt⟩ := by
    apply Fin.ext
    show (y 1).val = (((cfg0.win 6).blk t).view.emb y 1).val
    rw [hb1]; omega
  rw [e1]

theorem covers5 : (cfg0.win 5).Covers := by decide +kernel
theorem covers6 : (cfg0.win 6).Covers := by decide +kernel

/-- The first result array after the run. -/
theorem final5 : (dats m 0 c).arrAt 5 cfg0.N = stream (a m c) (w m c) (x m c) (g m c) :=
  (dats m 0 c).arrAt_eq_of_cover 5 _ (fun t hf => flushed5 m c t hf) (covers5.cover _ (Memref.isWhole_whole _))

/-- The second result array after the run. -/
theorem final6 : (dats m 0 c).arrAt 6 cfg0.N = normed (a m c) (w m c) (x m c) (g m c) (h m c) :=
  (dats m 0 c).arrAt_eq_of_cover 6 _ (fun t hf => flushed6 m c t hf) (covers6.cover _ (Memref.isWhole_whole _))

end Cert.OutIdeal.Array

end
-- ==== Proof.Out.Ref.lean ====
module

public import proofs.«01_k».proof.Proof.Out.Spec
public import proofs.«01_k».proof.Proof.Gen.OutReferenceIdeal.Read
public import Idealize.ShloMosaic.Lib.IdealHost

@[expose] public section

set_option maxRecDepth 16384

noncomputable section

/-! The output projection's reference, its two results read at an index. -/

namespace Cert.OutReferenceIdeal.Ref

open Cert.OutReferenceIdeal Cert.OutReferenceIdeal.Gen Cert.OutReferenceIdeal.Read Idealize.ShloMosaic Idealize.ShloMosaic.ValueIdx
open Cert.OutResidual
open Cert.Residual (scale)
open scoped BigOperators

variable (a : S8192x4096.Idx → EReal) (w : S4x4096x4096.Idx → EReal) (x : S8192x4096.Idx → EReal) (g h : S4096.Idx → EReal)

theorem product_apply (r : Fin 8192) (d : Fin 4096) : val_main_v2 (F := Ideal) a w (ix2 r d) = proj a w r d := by
  rw [val_main_v2_apply]
  unfold proj
  refine Finset.sum_congr rfl fun k _ => ?_
  rw [val_main_v1_apply, val_main_v0_apply]
  have hd : d.val < 4096 := d.isLt
  have hk : k.val < 4096 := k.isLt
  refine congrArg₂ (fun a b : EReal => a * b) (congrArg a ?_) (congrArg w ?_)
  · funext b; apply Fin.ext
    match b with
    | ⟨0, _⟩ => rfl
    | ⟨1, _⟩ => rfl
  · funext b; apply Fin.ext
    match b with
    | ⟨0, _⟩ => rfl
    | ⟨1, _⟩ => show (k.val * 4096 + d.val) / 4096 % 4096 = k.val; omega
    | ⟨2, _⟩ => show (k.val * 4096 + d.val) % 4096 = d.val; omega

/-- The normalising factor of the product's row. -/
theorem scale_product (r : Fin 8192) (d : Fin 4096) : val_main_v11 (F := Ideal) a w (ix2 r d) = scale (proj a w r) := by
  rw [val_main_v11_apply, val_main_v10_apply, val_main_v9_apply, val_main_v7_apply, val_main_v8_apply, val_main_v6_apply, val_main_v5_apply, val_main_v4_apply,
    val_main_cst_apply, val_main_cst_0_apply, val_main_cst_1_apply]
  unfold scale
  refine congrArg Ideal.rsqrt (congrArg (fun z : EReal => Ideal.div z (Ideal.ofBits .f32 0x45800000#32) + Ideal.ofBits .f32 0x358637BD#32) ?_)
  refine (congrArg₂ (fun a b : EReal => a + b) Ideal.ofBits_zero_f32 (Finset.sum_congr rfl fun k _ => ?_)).trans (zero_add _)
  have e : idx_main_v4 (idx_main_v5 (idx_main_v11 (ix2 r d))) k = ix2 r k := by
    funext b; apply Fin.ext
    match b with
    | ⟨0, _⟩ => rfl
    | ⟨1, _⟩ => rfl
  rw [val_main_v3_apply, e, product_apply]
  rfl

/-- The updated stream at an index. -/
theorem stream_apply (r : Fin 8192) (d : Fin 4096) : val_main_v16 (F := Ideal) a w x g (ix2 r d) = row a w x g r d := by
  rw [val_main_v16_apply, val_main_v15_apply, val_main_v12_apply, val_main_v14_apply, val_main_v13_apply,
    scale_product, product_apply]
  have e : idx_main_v13 (idx_main_v14 (ix2 r d)) = ix1 d := by
    funext b; apply Fin.ext
    match b with
    | ⟨0, _⟩ => rfl
  rw [e]
  rfl

/-- The normalising factor of the updated stream's row. -/
theorem scale_stream (r : Fin 8192) (d : Fin 4096) : val_main_v25 (F := Ideal) a w x g (ix2 r d) = scale (row a w x g r) := by
  rw [val_main_v25_apply, val_main_v24_apply, val_main_v23_apply, val_main_v21_apply, val_main_v22_apply, val_main_v20_apply, val_main_v19_apply, val_main_v18_apply,
    val_main_cst_2_apply, val_main_cst_3_apply, val_main_cst_4_apply]
  unfold scale
  refine congrArg Ideal.rsqrt (congrArg (fun z : EReal => Ideal.div z (Ideal.ofBits .f32 0x45800000#32) + Ideal.ofBits .f32 0x358637BD#32) ?_)
  refine (congrArg₂ (fun a b : EReal => a + b) Ideal.ofBits_zero_f32 (Finset.sum_congr rfl fun k _ => ?_)).trans (zero_add _)
  have e : idx_main_v18 (idx_main_v19 (idx_main_v25 (ix2 r d))) k = ix2 r k := by
    funext b; apply Fin.ext
    match b with
    | ⟨0, _⟩ => rfl
    | ⟨1, _⟩ => rfl
  rw [val_main_v17_apply, e, stream_apply]
  rfl

theorem split_idx (i : S8192x4096.Idx) : i = ix2 (⟨(i 0).val, (i 0).isLt⟩ : Fin 8192) (⟨(i 1).val, (i 1).isLt⟩ : Fin 4096) := by
  funext b; apply Fin.ext
  match b with
  | ⟨0, _⟩ => rfl
  | ⟨1, _⟩ => rfl

/-- The reference's first result is the updated stream. -/
theorem stream_eq : val_main_v16 (F := Ideal) a w x g = stream a w x g := by
  funext i
  conv_lhs => rw [split_idx i]
  rw [stream_apply]
  rfl

/-- The reference's second result is its normalised rows. -/
theorem normed_eq : val_main_v30 (F := Ideal) a w x g h = normed a w x g h := by
  funext i
  conv_lhs => rw [split_idx i]
  rw [val_main_v30_apply, val_main_v29_apply, val_main_v26_apply, val_main_v28_apply, val_main_v27_apply, stream_apply, scale_stream]
  have e : idx_main_v27 (idx_main_v28 (ix2 (⟨(i 0).val, (i 0).isLt⟩ : Fin 8192) (⟨(i 1).val, (i 1).isLt⟩ : Fin 4096))) = ix1 (⟨(i 1).val, (i 1).isLt⟩ : Fin 4096) := by
    funext b; apply Fin.ext
    match b with
    | ⟨0, _⟩ => rfl
  rw [e]
  rfl

end Cert.OutReferenceIdeal.Ref

end
-- ==== Proof.Out.Claims.lean ====
module

public import proofs.«01_k».proof.Defs
public import proofs.«01_k».proof.Proof.Gen.Out.Frame
public import proofs.«01_k».proof.Proof.Gen.OutReferenceIdeal.Run
public import proofs.«01_k».proof.Proof.Gen.OutReferenceIdeal.Read
public import proofs.«01_k».proof.Proof.Out.Array
public import proofs.«01_k».proof.Proof.Out.Ref
public import Idealize.ShloMosaic.Adequacy
public import Idealize.ShloMosaic.Init

@[expose] public section

set_option maxRecDepth 16384

noncomputable section

/-! The claims about the output projection. -/

namespace Cert.Proof.Out

open Idealize.ShloMosaic Idealize.SL.Sem Cert.OutResidual

/-- The program's body table is the idealized program's: the two have the same text. -/
theorem bodies_eq : Cert.Out.defs₀ (F := Bits) = Cert.OutIdeal.defs₀ (F := Bits) := by
  unfold Cert.Out.defs₀ Cert.OutIdeal.defs₀
  refine congrArg (Defs.onTc (nD := Cert.Out.nD) (τ := Cert.Out.τ) (sig := Cert.Out.sig) (Val := Elt Bits) (Λ := Cert.Out.Λ₀)) ?_
  funext l a
  match l, a with
  | 0, (t, s) => rfl
  | ⟨_ + 1, h⟩, _ => exact absurd h (Nat.not_lt.2 (Nat.le_add_left _ _))

theorem tables_eq : Cert.Out.defs (F := Bits) = Cert.OutIdeal.defs (F := Bits) := by
  unfold Cert.Out.defs Cert.OutIdeal.defs
  rw [bodies_eq]
  rfl

theorem frame_kernel : Cert.quiescent_Out := fun m ρ _ => by
  rw [tables_eq]
  exact (θ_run Cert.OutIdeal.defs _ _).mono (fun _ h => h) (Cert.OutIdeal.Body.frame (F := Bits) m ρ)

theorem frame_ideal : Cert.quiescent_OutIdeal := fun m ρ _ => Cert.OutIdeal.Body.frame (F := Ideal) m ρ

theorem frame_ref : Cert.quiescent_OutReferenceIdeal := fun m ρ _ =>
  (θ_run Cert.OutReferenceIdeal.defs _ _).mono (fun r h => ⟨fun c => (h c).2.2, sem_eq_zero_of_no_sems (by decide) r.2⟩)
    (Cert.OutReferenceIdeal.Value.run (F := Ideal) m ρ)

theorem preserves : Cert.preserves_Out_OutIdeal := trivial

/-- The kernel and the reference both end at the updated stream and its normalised rows. -/
theorem algebraic : Cert.algebraic_OutIdeal_OutReferenceIdeal := by
  intro m ρ m' ρ' _ hagree
  refine ⟨fun c => stream (Cert.OutIdeal.Array.a m c) (Cert.OutIdeal.Array.w m c) (Cert.OutIdeal.Array.x m c) (Cert.OutIdeal.Array.g m c),
    fun c => normed (Cert.OutIdeal.Array.a m c) (Cert.OutIdeal.Array.w m c) (Cert.OutIdeal.Array.x m c) (Cert.OutIdeal.Array.g m c) (Cert.OutIdeal.Array.h m c), ?_, ?_⟩
  · refine (θ_run Cert.OutIdeal.defs _ _).mono (fun r h c => ?_) (Cert.OutIdeal.Body.run_results m ρ)
    exact ⟨(h c).1.trans (Cert.OutIdeal.Array.final5 m c), (h c).2.1.trans (Cert.OutIdeal.Array.final6 m c), (h c).2.2⟩
  · refine (θ_run Cert.OutReferenceIdeal.defs _ _).mono (fun r h c => ?_) (Cert.OutReferenceIdeal.Value.run (F := Ideal) m' ρ')
    obtain ⟨e0, e1, e2, e3, e4⟩ := hagree c
    refine ⟨(h c).1.trans ?_, (h c).2.1.trans ?_, (h c).2.2⟩
    · rw [Cert.OutReferenceIdeal.Read.val_main_v16_eq, e0, e1, e2, e3]
      exact Cert.OutReferenceIdeal.Ref.stream_eq _ _ _ _
    · rw [Cert.OutReferenceIdeal.Read.val_main_v30_eq, e0, e1, e2, e3, e4]
      exact Cert.OutReferenceIdeal.Ref.normed_eq _ _ _ _ _

end Cert.Proof.Out

end
-- ==== Proof.Diff.Fold.lean ====
module

public import proofs.«01_k».proof.Proof.Gen.DiffIdeal.Value
public import Idealize.ShloMosaic.Lib.ValueIdx

@[expose] public section

set_option maxRecDepth 16384

noncomputable section

/-! What one grid point of the differential attention leaves in its block of the output: sixteen key chunks folded one
    after another for both halves of a head at once, the two halves' quotients mixed and normalised at the end. -/

namespace Cert.DiffIdeal.Block

open Cert.DiffIdeal Cert.DiffIdeal.Gen Idealize.ShloMosaic Idealize.ShloMosaic.TcCoe Idealize.ShloMosaic.Tactic Idealize.SL.Sem
open Idealize.ShloMosaic.ValueIdx

variable {F : FTy → Type} [FloatOps F] [Named F]

/-- The 256 keys from row `o`. -/
def keys (x1 : Vec F S4096x128 .bf16) (o : ℕ) : Vec F S256x128 .bf16 :=
  fun j => x1 (ix2 ⟨(o + (j 0).val) % 4096, Nat.mod_lt _ (by decide)⟩ (j 1))

/-- The 256 rows of the widened values from row `o`. -/
def part (xs : Vec F S4096x256 .bf16) (o : ℕ) : Vec F S256x256 .bf16 :=
  fun j => xs (ix2 ⟨(o + (j 0).val) % 4096, Nat.mod_lt _ (by decide)⟩ (j 1))

/-- The values beside 128 columns of ones. -/
def wide (x2 : Vec F S4096x128 .bf16) : Vec F S4096x256 .bf16 :=
  fun j => if h : (j 1).val < 128 then x2 (ix2 (j 0) ⟨(j 1).val, h⟩) else Scalar.ofBits .bf16 0x3F80#16

/-- Where the window of the bias table starts that 128 queries from row `a` see of the keys from row `b`. -/
def off (i : grid0.Coords) (a b : ℕ) : ℕ :=
  BitVec.toNat (Scalar.indexCast (Scalar.addi (Scalar.subi 3968#32 (Scalar.addi (Scalar.muli (BitVec.ofNat 32 (i 2).val) 2048#32) (BitVec.ofNat 32 a)))
    (BitVec.ofNat 32 b)))

/-- The 256 columns of the bias table from column `o`. -/
def win (x3 : Vec F S1x128x8064 .f32) (o : ℕ) : Vec F S1x128x256 .f32 :=
  fun j => x3 (ix3 0 (j 1) ⟨(o + (j 2).val) % 8064, Nat.mod_lt _ (by decide)⟩)

/-- The same, as a block of rows. -/
def grp (i : grid0.Coords) (x3 : Vec F S1x128x8064 .f32) (a b : ℕ) : FVec F S128x256 .f32 :=
  shapeCast S128x256 (win x3 (off i a b)) shapeCasts_S1x128x256_S128x256

/-- The biases of one chunk: both halves of a head have the same. -/
def biases (i : grid0.Coords) (x3 : Vec F S1x128x8064 .f32) (b : ℕ) : FVec F S4096x256 .f32 :=
  concatenate S4096x256 0
    [⟨S128x256, grp i x3 0 b⟩, ⟨S128x256, grp i x3 128 b⟩, ⟨S128x256, grp i x3 256 b⟩, ⟨S128x256, grp i x3 384 b⟩,
      ⟨S128x256, grp i x3 512 b⟩, ⟨S128x256, grp i x3 640 b⟩, ⟨S128x256, grp i x3 768 b⟩, ⟨S128x256, grp i x3 896 b⟩,
      ⟨S128x256, grp i x3 1024 b⟩, ⟨S128x256, grp i x3 1152 b⟩, ⟨S128x256, grp i x3 1280 b⟩, ⟨S128x256, grp i x3 1408 b⟩,
      ⟨S128x256, grp i x3 1536 b⟩, ⟨S128x256, grp i x3 1664 b⟩, ⟨S128x256, grp i x3 1792 b⟩, ⟨S128x256, grp i x3 1920 b⟩,
      ⟨S128x256, grp i x3 0 b⟩, ⟨S128x256, grp i x3 128 b⟩, ⟨S128x256, grp i x3 256 b⟩, ⟨S128x256, grp i x3 384 b⟩,
      ⟨S128x256, grp i x3 512 b⟩, ⟨S128x256, grp i x3 640 b⟩, ⟨S128x256, grp i x3 768 b⟩, ⟨S128x256, grp i x3 896 b⟩,
      ⟨S128x256, grp i x3 1024 b⟩, ⟨S128x256, grp i x3 1152 b⟩, ⟨S128x256, grp i x3 1280 b⟩, ⟨S128x256, grp i x3 1408 b⟩,
      ⟨S128x256, grp i x3 1536 b⟩, ⟨S128x256, grp i x3 1664 b⟩, ⟨S128x256, grp i x3 1792 b⟩, ⟨S128x256, grp i x3 1920 b⟩]
    concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S4096x256_d0

/-- The scores of one chunk. -/
def scores (q : FVec F S4096x128 .bf16) (kc : Vec F S256x128 .bf16) (bs : FVec F S4096x256 .f32) : FVec F S4096x256 .f32 :=
  addf (matmul dot_S4096x128_S256x128_S4096x256_1_1_0_0_n_n none q (shapeCast S256x128 kc shapeCasts_S256x128_S256x128)
    (constant S4096x256 .f32 0x00000000#32)) (mulf bs (broadcast S4096x256 (Named.named κ "log2e" 0x3FB8AA3B#32)))

/-- The row maxima of one chunk's scores. -/
def tops (s : FVec F S4096x256 .f32) : FVec F S4096x1 .f32 :=
  shapeCast S4096x1 (multiReduction .maximumf [1] S4096 s 0xFF800000#32 reduces_S4096x256_S4096 (.inl rfl) rfl) shapeCasts_S4096_S4096x1

/-- One chunk's weights at a base times its values. -/
def weighted (s : FVec F S4096x256 .f32) (mx : FVec F S4096x1 .f32) (v : Vec F S256x256 .bf16) : FVec F S4096x256 .f32 :=
  matmul dot_S4096x256_S256x256_S4096x256_1_0_0_1_n_n none
    (truncf .bf16 (exp2 (subf s (broadcastTo S4096x256 mx broadcasts_S4096x1_S4096x256))) bitsLt_bf16_f32) v
    (constant S4096x256 .f32 0x00000000#32)

/-- The scores of chunk `n`. -/
def chunk (i : grid0.Coords) (q : FVec F S4096x128 .bf16) (x1 : Vec F S4096x128 .bf16) (x3 : Vec F S1x128x8064 .f32) (n : ℕ) :
    FVec F S4096x256 .f32 :=
  scores q (keys x1 (256 * n)) (biases i x3 (256 * n))

/-- The running maximum after chunk `n`. -/
def runMax (s : ℕ → FVec F S4096x256 .f32) : ℕ → FVec F S4096x1 .f32
  | 0 => tops (s 0)
  | n + 1 => maximumf (runMax s n) (tops (s (n + 1)))

/-- The running weighted sums after chunk `n`. -/
def runAcc (s : ℕ → FVec F S4096x256 .f32) (xs : Vec F S4096x256 .bf16) : ℕ → FVec F S4096x256 .f32
  | 0 => weighted (s 0) (runMax s 0) (part xs (256 * 0))
  | n + 1 => addf (mulf (runAcc s xs n) (broadcastTo S4096x256 (exp2 (subf (runMax s n) (runMax s (n + 1)))) broadcasts_S4096x1_S4096x256))
      (weighted (s (n + 1)) (runMax s (n + 1)) (part xs (256 * (n + 1))))

/-- The quotients of both halves. -/
def ratio (a : FVec F S4096x256 .f32) : FVec F S4096x128 .f32 :=
  divf (extractStridedSlice S4096x128 ![0, 0] a slices_S4096x256_o0_0_S4096x128)
    (extractStridedSlice S4096x128 ![0, 128] a slices_S4096x256_o0_128_S4096x128)

/-- The two halves mixed. -/
def mix (l : FVec F S1x1 .f32) (o : FVec F S4096x128 .f32) : FVec F S2048x128 .f32 :=
  subf (extractStridedSlice S2048x128 ![0, 0] o slices_S4096x128_o0_0_S2048x128)
    (mulf (broadcastTo S2048x128 l broadcasts_S1x1_S2048x128) (extractStridedSlice S2048x128 ![2048, 0] o slices_S4096x128_o2048_0_S2048x128))

/-- Rows over the root of their mean square, scaled. -/
def normed (o : FVec F S2048x128 .f32) (x5 : Vec F S1x128 .f32) : FVec F S2048x128 .f32 :=
  mulf (mulf (mulf o (broadcastTo S2048x128 (rsqrt (addf (divf (shapeCast S2048x1
      (multiReduction .add [1] S2048 (mulf o o) 0x00000000#32 reduces_S2048x128_S2048 (.inl rfl) rfl) shapeCasts_S2048_S2048x1)
      (broadcast S2048x1 (Scalar.ofBits .f32 0x43000000#32))) (broadcast S2048x1 (Scalar.ofBits .f32 0x358637BD#32)))) broadcasts_S2048x1_S2048x128))
    (broadcastTo S2048x128 (shapeCast S1x128 x5 shapeCasts_S1x128_S1x128) broadcasts_S1x128_S2048x128))
    (broadcast S2048x128 (Scalar.ofBits .f32 0x3EE34C57#32))

/-- The block. -/
def block (i : grid0.Coords) (x0 : Vec F S2048x128 .f32) (x1 : Vec F S4096x128 .bf16) (xs : Vec F S4096x256 .bf16)
    (x3 : Vec F S1x128x8064 .f32) (x4 : Vec F S4x64 .f32) (x5 : Vec F S1x128 .f32) : FVec F S2048x128 .f32 :=
  normed (mix (k0_pay4 x4) (ratio (runAcc (chunk i (k0_pay5 x0) x1 x3) xs 15))) x5

/-- A load of 256 keys. -/
theorem ld_keys (x1 : Vec F S4096x128 .bf16) (o : ℕ) (h : ∀ a, (![o, 0] : Fin 2 → ℕ) a + (![256, 128] : Fin 2 → ℕ) a ≤ S4096x128.size a) :
    View.ld x1 (Rect.unit (s := S4096x128) ![o, 0] ![256, 128] h) = keys x1 o := by
  funext j
  have h0 : (j 0).val < 256 := (j 0).isLt
  have hh : o + 256 ≤ 4096 := h 0
  show x1 _ = x1 _
  congr 1
  funext a; apply Fin.ext
  match a with
  | ⟨0, _⟩ => show o + 1 * (j 0).val = (o + (j 0).val) % 4096; omega
  | ⟨1, _⟩ => show 0 + 1 * (j 1).val = (j 1).val; omega

/-- A load of 256 rows of the widened values. -/
theorem ld_part (xs : Vec F S4096x256 .bf16) (o : ℕ) (h : ∀ a, (![o, 0] : Fin 2 → ℕ) a + (![256, 256] : Fin 2 → ℕ) a ≤ S4096x256.size a) :
    View.ld xs (Rect.unit (s := S4096x256) ![o, 0] ![256, 256] h) = part xs o := by
  funext j
  have h0 : (j 0).val < 256 := (j 0).isLt
  have hh : o + 256 ≤ 4096 := h 0
  show xs _ = xs _
  congr 1
  funext a; apply Fin.ext
  match a with
  | ⟨0, _⟩ => show o + 1 * (j 0).val = (o + (j 0).val) % 4096; omega
  | ⟨1, _⟩ => show 0 + 1 * (j 1).val = (j 1).val; omega

/-- A load of a window of the bias table. -/
theorem ld_win (i : grid0.Coords) (x3 : Vec F S1x128x8064 .f32) (a b : ℕ)
    (h : ∀ d, k0_off1 i (BitVec.ofNat 32 a) (BitVec.ofNat 32 b) d + (![1, 128, 256] : Fin 3 → ℕ) d ≤ S1x128x8064.size d) :
    View.ld x3 (Rect.unit (s := S1x128x8064) (k0_off1 i (BitVec.ofNat 32 a) (BitVec.ofNat 32 b)) ![1, 128, 256] h) = win x3 (off i a b) := by
  funext j
  have h0 : (j 0).val < 1 := (j 0).isLt
  have h2 : (j 2).val < 256 := (j 2).isLt
  have hh : off i a b + 256 ≤ 8064 := h 2
  show x3 _ = x3 _
  congr 1
  funext d; apply Fin.ext
  match d with
  | ⟨0, _⟩ => show 0 + 1 * (j 0).val = 0; omega
  | ⟨1, _⟩ => show 0 + 1 * (j 1).val = (j 1).val; omega
  | ⟨2, _⟩ => show off i a b + 1 * (j 2).val = (off i a b + (j 2).val) % 8064; omega

/-- A load of the whole of a matrix. -/
theorem ld_whole {m n : ℕ} {t : EltTy} (x : Vec F (⟨2, ![m, n]⟩ : Shape) t)
    (h : ∀ a, (![0, 0] : Fin 2 → ℕ) a + (![m, n] : Fin 2 → ℕ) a ≤ (⟨2, ![m, n]⟩ : Shape).size a) :
    View.ld x (Rect.unit (s := ⟨2, ![m, n]⟩) ![0, 0] ![m, n] h) = x := by
  funext j
  show x _ = x _
  congr 1
  funext a; apply Fin.ext
  match a with
  | ⟨0, _⟩ => show 0 + 1 * (j 0).val = (j 0).val; omega
  | ⟨1, _⟩ => show 0 + 1 * (j 1).val = (j 1).val; omega

end Cert.DiffIdeal.Block

end
-- ==== Proof.Diff.Block.lean ====
module

public import proofs.«01_k».proof.Proof.Diff.Fold

@[expose] public section

set_option maxRecDepth 16384

noncomputable section

/-! What one grid point of the differential attention leaves in its block of the output and in the scratch it keeps. -/

namespace Cert.DiffIdeal.Block

open Cert.DiffIdeal Cert.DiffIdeal.Gen Idealize.ShloMosaic Idealize.ShloMosaic.TcCoe Idealize.ShloMosaic.Tactic Idealize.SL.Sem
open Idealize.ShloMosaic.ValueIdx

variable {F : FTy → Type} [FloatOps F] [Named F]

/-- The scratch written: the values left, ones right. -/
theorem canon_wide (x2 : Vec F S4096x128 .bf16) (h1 : ∀ a, (![0, 128] : Fin 2 → ℕ) a + (![4096, 128] : Fin 2 → ℕ) a ≤ S4096x256.size a)
    (h2 : ∀ a, (![0, 0] : Fin 2 → ℕ) a + (![4096, 128] : Fin 2 → ℕ) a ≤ S4096x256.size a) :
    View.canon (Val := Elt F) [⟨Rect.unit (s := S4096x256) ![0, 128] ![4096, 128] h1, k0_pay3⟩, ⟨Rect.unit (s := S4096x256) ![0, 0] ![4096, 128] h2, k0_pay2 x2⟩]
      = wide x2 := by
  funext j
  have hj0 : (j 0).val < 4096 := (j 0).isLt
  have hj1 : (j 1).val < 256 := (j 1).isLt
  unfold wide
  by_cases hd : (j 1).val < 128
  · rw [dif_pos hd, View.canon_cons_of_not_mem _ _ (by
      intro hm
      have := ((Rect.mem_set_unit (inb := h1)).1 hm 1).1
      have e2 : (![0, 128] : Fin 2 → ℕ) 1 = 128 := rfl
      omega)]
    have e : j = (Rect.unit (s := S4096x256) ![0, 0] ![4096, 128] h2).emb (ix2 (n0 := 4096) (n1 := 128) (j 0) ⟨(j 1).val, hd⟩) := by
      funext a; apply Fin.ext
      match a with
      | ⟨0, _⟩ => show (j 0).val = 0 + 1 * (j 0).val; omega
      | ⟨1, _⟩ => show (j 1).val = 0 + 1 * (j 1).val; omega
    refine (congrArg _ e).trans ((View.canon_cons_emb _ _ _ _).trans ?_)
    unfold k0_pay2
    rw [shapeCast_self, shapeCast_self]
  · rw [dif_neg hd]
    have e : j = (Rect.unit (s := S4096x256) ![0, 128] ![4096, 128] h1).emb (ix2 (n0 := 4096) (n1 := 128) (j 0) ⟨(j 1).val - 128, by omega⟩) := by
      funext a; apply Fin.ext
      match a with
      | ⟨0, _⟩ => show (j 0).val = 0 + 1 * (j 0).val; omega
      | ⟨1, _⟩ => show (j 1).val = 128 + 1 * ((j 1).val - 128); omega
    refine (congrArg _ e).trans ((View.canon_cons_emb _ _ _ _).trans ?_)
    rfl

/-- The scratch read back, 256 rows at a time. -/
theorem readCov_part (v : View sig .tc .vmem S4096x256 .bf16) (x2 : Vec F S4096x128 .bf16) (o : ℕ)
    (h1 : ∀ a, (![0, 128] : Fin 2 → ℕ) a + (![4096, 128] : Fin 2 → ℕ) a ≤ S4096x256.size a)
    (h2 : ∀ a, (![0, 0] : Fin 2 → ℕ) a + (![4096, 128] : Fin 2 → ℕ) a ≤ S4096x256.size a)
    (h3 : ∀ a, (![o, 0] : Fin 2 → ℕ) a + (![256, 256] : Fin 2 → ℕ) a ≤ S4096x256.size a) :
    v.readCov (Val := Elt F) [⟨Rect.unit (s := S4096x256) ![0, 128] ![4096, 128] h1, k0_pay3⟩, ⟨Rect.unit (s := S4096x256) ![0, 0] ![4096, 128] h2, k0_pay2 x2⟩]
      (Rect.unit (s := S4096x256) ![o, 0] ![256, 256] h3).toLoadRect = part (wide x2) o := by
  rw [View.readCov_eq_canon', canon_wide]
  exact ld_part (wide x2) o h3

set_option maxHeartbeats 4000000 in
/-- At a head's first block of queries the scratch is left holding the widened values. -/
theorem sout_A_0 (c : Dev nD) (i : grid0.Coords) (arg3 : Memref sig .tc .vmem S2048x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128x8064 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S4096x256 .bf16) (harg10 : arg10.IsWhole) (hc0 : cond0_0 i)
    (x0 : Vec F S2048x128 .f32) (x1 : Vec F S4096x128 .bf16) (x2 : Vec F S4096x128 .bf16) (x3 : Vec F S1x128x8064 .f32) (x4 : Vec F S4x64 .f32) (x5 : Vec F S1x128 .f32) :
    sout0_A_0 c i arg3 harg3 arg4 harg4 arg5 harg5 arg6 harg6 arg7 harg7 arg8 harg8 arg9 harg9 arg10 harg10 hc0 x0 x1 x2 x3 x4 x5 = wide x2 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 x5)]
  unfold kernelRun0_A
  dsimp only
  sl_unfold_run_names
  simp only [View.readAt_eq_ld, harg5.read_unread]
  simp only [ld_whole]
  exact canon_wide x2 _ _

set_option maxHeartbeats 16000000 in
/-- What a head's first block of queries leaves in its block of the output. -/
theorem out_A (c : Dev nD) (i : grid0.Coords) (arg3 : Memref sig .tc .vmem S2048x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128x8064 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S4096x256 .bf16) (harg10 : arg10.IsWhole) (hc0 : cond0_0 i)
    (x0 : Vec F S2048x128 .f32) (x1 : Vec F S4096x128 .bf16) (x2 : Vec F S4096x128 .bf16) (x3 : Vec F S1x128x8064 .f32) (x4 : Vec F S4x64 .f32) (x5 : Vec F S1x128 .f32) :
    out0_A_6 c i arg3 harg3 arg4 harg4 arg5 harg5 arg6 harg6 arg7 harg7 arg8 harg8 arg9 harg9 arg10 harg10 hc0 x0 x1 x2 x3 x4 x5 = block i x0 x1 (wide x2) x3 x4 x5 := by
  unfold out0_A_6
  rw [View.read_writes_eq_canon _ _ _ (cover0_A_6 c i arg3 harg3 arg4 harg4 arg5 harg5 arg6 harg6 arg7 harg7 arg8 harg8 arg9 harg9 arg10 harg10 hc0 x0 x1 x2 x3 x4 x5)]
  unfold kernelRun0_A
  dsimp only
  sl_unfold_run_names
  simp only [View.readAt_eq_ld, harg3.read_unread, harg4.read_unread, harg5.read_unread, harg6.read_unread, harg7.read_unread, harg8.read_unread]
  refine (View.canon_unit_zero (S := S2048x128) (by funext a; fin_cases a <;> rfl) _ _).trans ?_
  simp only [ld_whole, ld_keys, readCov_part, ld_win]
  rfl

set_option maxHeartbeats 16000000 in
/-- What a grid point that finds the widened values leaves in its block of the output. -/
theorem out_B (c : Dev nD) (i : grid0.Coords) (arg3 : Memref sig .tc .vmem S2048x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128x8064 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S4096x256 .bf16) (harg10 : arg10.IsWhole) (hc0 : ¬cond0_0 i)
    (x0 : Vec F S2048x128 .f32) (x1 : Vec F S4096x128 .bf16) (x2 : Vec F S4096x128 .bf16) (x3 : Vec F S1x128x8064 .f32) (x4 : Vec F S4x64 .f32) (x5 : Vec F S1x128 .f32) (xs0 : Vec F S4096x256 .bf16) :
    out0_B_6 c i arg3 harg3 arg4 harg4 arg5 harg5 arg6 harg6 arg7 harg7 arg8 harg8 arg9 harg9 arg10 harg10 hc0 x0 x1 x2 x3 x4 x5 xs0 = block i x0 x1 xs0 x3 x4 x5 := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  unfold kernelRun0_B
  dsimp only
  sl_unfold_run_names
  simp only [View.readAt_eq_ld, harg3.read_unread, harg4.read_unread, harg5.read_unread, harg6.read_unread, harg7.read_unread, harg8.read_unread, harg10.read_unread]
  refine (View.canon_unit_zero (S := S2048x128) (by funext a; fin_cases a <;> rfl) _ _).trans ?_
  simp only [ld_whole, ld_keys, ld_part, ld_win]
  rfl

end Cert.DiffIdeal.Block

end
-- ==== Proof.Diff.Spec.lean ====
module

public import proofs.«01_k».proof.Proof.Online
public import Idealize.ShloMosaic.Lib.ValueIdx
public import Idealize.ShloMosaic.Lib.Affine
public import Idealize.ShloMosaic.Lib.Pipeline.Value

@[expose] public section

noncomputable section

/-! What the differential attention computes, said once for both programs. -/

namespace Cert.DiffAttention

open Idealize.ShloMosaic Idealize.ShloMosaic.ValueIdx Cert.Online
open scoped BigOperators

/-- The projected rows: queries, keys and values side by side. -/
abbrev Zs : Shape := ⟨3, ![2, 4096, 3072]⟩
/-- The four vectors that make the mixing weight. -/
abbrev Ls : Shape := ⟨2, ![4, 64]⟩
/-- The scale of the normalised rows. -/
abbrev Gs : Shape := ⟨1, ![128]⟩

/-- Every element of the array is a real number. -/
def IsReal {s : Shape} (x : s.Idx → EReal) : Prop := ∀ i, ∃ r : ℝ, x i = r

theorem IsReal.toReal {s : Shape} {x : s.Idx → EReal} (h : IsReal x) (i : s.Idx) : x i = ((x i).toReal : EReal) := by
  obtain ⟨r, hr⟩ := h i
  rw [hr, EReal.toReal_coe]

/-- The slope of head `h`'s distance bias. -/
def slope (h : ℕ) : ℝ := Real.rpow 2 ((-8 * (1 + (h : ℝ))) * (1 / 8))

/-- The bias of a key `e` rows away. -/
def bias (h : ℕ) (e : ℤ) : ℝ := (-slope h) * ((|e| : ℤ) : ℝ)

/-- A query of half `p` of head `h`. -/
def qr (z : Zs.Idx → EReal) (b : Fin 2) (h : Fin 8) (p : Fin 2) (r : Fin 4096) (d : Fin 64) : ℝ :=
  (z (ix3 b r ⟨128 * h.val + 64 * p.val + d.val, by omega⟩)).toReal

/-- A key of half `p` of head `h`. -/
def kr (z : Zs.Idx → EReal) (b : Fin 2) (h : Fin 8) (p : Fin 2) (r : Fin 4096) (d : Fin 64) : ℝ :=
  (z (ix3 b r ⟨1024 + 128 * h.val + 64 * p.val + d.val, by omega⟩)).toReal

/-- A value of head `h`. -/
def vr (z : Zs.Idx → EReal) (b : Fin 2) (h : Fin 8) (r : Fin 4096) (e : Fin 128) : ℝ :=
  (z (ix3 b r ⟨2048 + 128 * h.val + e.val, by omega⟩)).toReal

/-- The score of query `r` against key `j` in one half of a head, its distance bias added. -/
def score (z : Zs.Idx → EReal) (b : Fin 2) (h : Fin 8) (p : Fin 2) (r j : Fin 4096) : ℝ :=
  (∑ d : Fin 64, qr z b h p r d * kr z b h p j d) * (1 / 8) + bias h.val ((r.val : ℤ) - (j.val : ℤ))

/-- The constant of the mixing weight. -/
def lam0 : ℝ := (Ideal.ofBits .f32 0x3F0E59D5#32).toReal

theorem lam0_eq : Ideal.ofBits .f32 0x3F0E59D5#32 = (lam0 : EReal) := by
  have h : ∃ r : ℝ, Ideal.ofBits .f32 0x3F0E59D5#32 = (r : EReal) := by
    refine ⟨9329109 / 16777216, ?_⟩
    simp [Ideal.ofBits, Ideal.ieee, -EReal.coe_mul]; norm_num
  obtain ⟨r, hr⟩ := h
  unfold lam0
  rw [hr, EReal.toReal_coe]

/-- The mixing weight. -/
def lam (x : Ls.Idx → EReal) : ℝ :=
  Real.exp (∑ d : Fin 64, (x (ix2 0 d)).toReal * (x (ix2 1 d)).toReal)
    - Real.exp (∑ d : Fin 64, (x (ix2 2 d)).toReal * (x (ix2 3 d)).toReal) + lam0

/-- The difference of the two softmaxes times the values. -/
def att (z : Zs.Idx → EReal) (x : Ls.Idx → EReal) (b : Fin 2) (h : Fin 8) (r : Fin 4096) (e : Fin 128) : ℝ :=
  ∑ j : Fin 4096, vr z b h j e * (soft (score z b h 0 r) j - lam x * soft (score z b h 1 r) j)

/-- A row over the root of its mean square, times a scale and a constant. -/
def norm (o : Fin 128 → EReal) (g : Gs.Idx → EReal) (e : Fin 128) : EReal :=
  o e * Ideal.rsqrt (Ideal.div (∑ d : Fin 128, o d * o d) (Ideal.ofBits .f32 0x43000000#32) + Ideal.ofBits .f32 0x358637BD#32)
    * g (ix1 e) * Ideal.ofBits .f32 0x3EE34C57#32

/-- The result array of [token, head and column]. -/
def out (z : Zs.Idx → EReal) (x : Ls.Idx → EReal) (g : Gs.Idx → EReal) : (⟨2, ![8192, 1024]⟩ : Shape).Idx → EReal := fun i =>
  norm (fun e => (att z x ⟨(i 0).val / 4096, by have h : (i 0).val < 8192 := (i 0).isLt; omega⟩
      ⟨(i 1).val / 128, by have h : (i 1).val < 1024 := (i 1).isLt; omega⟩ ⟨(i 0).val % 4096, Nat.mod_lt _ (by omega)⟩ e : EReal)) g
    ⟨(i 1).val % 128, Nat.mod_lt _ (by omega)⟩

/-- The slope, as the host computes it. -/
theorem slope_eq (h : ℕ) (hh : h < 8) :
    Ideal.pow (Ideal.ofBits .f32 0x40000000#32) (Ideal.div (Ideal.ofBits .f32 0xC1000000#32 * (Ideal.ofBits .f32 0x3F800000#32
      + (((BitVec.ofNat 32 h).toInt : ℝ) : EReal))) (Ideal.ofBits .f32 0x41000000#32)) = (slope h : EReal) := by
  have h1 : Ideal.ofBits .f32 0x40000000#32 = ((2 : ℝ) : EReal) := by
    simp [Ideal.ofBits, Ideal.ieee, -EReal.coe_mul]; norm_num
  have h2 : Ideal.ofBits .f32 0xC1000000#32 = ((-8 : ℝ) : EReal) := by
    simp [Ideal.ofBits, Ideal.ieee, -EReal.coe_mul]; norm_num
  have h3 : Ideal.ofBits .f32 0x3F800000#32 = ((1 : ℝ) : EReal) := by
    simp [Ideal.ofBits, Ideal.ieee, -EReal.coe_mul]; norm_num
  have h4 : Ideal.ofBits .f32 0x41000000#32 = ((8 : ℝ) : EReal) := by
    simp [Ideal.ofBits, Ideal.ieee, -EReal.coe_mul]; norm_num
  have h5 : (BitVec.ofNat 32 h).toInt = (h : ℤ) := by
    rw [BitVec.toInt_ofNat', Int.bmod_eq_of_le (by omega) (by omega)]
  rw [h1, h2, h3, h4, h5, Ideal.div_coe (by norm_num), Int.cast_natCast, ← EReal.coe_add, ← EReal.coe_mul, ← EReal.coe_mul, Ideal.pow_coe_coe]
  rfl

/-- The distance, as the host computes it from a word. -/
theorem dist_eq (x : BitVec 32) (e : ℤ) (hx : x.toInt = e) (h1 : -2 ^ 31 < e) :
    (FloatOps.sitofp (F := Ideal) .f32 (IntOp.absi x) : Ideal .f32) = (((|e| : ℤ) : ℝ) : EReal) := by
  have h2 : e < 2 ^ 31 := by have := BitVec.toInt_lt (x := x); omega
  have hk : (IntOp.absi x).toInt = |e| := by
    unfold IntOp.absi
    rw [BitVec.msb_eq_toInt, hx]
    by_cases h : e < 0
    · rw [if_pos (by simpa using h), BitVec.toInt_neg, hx, Int.bmod_eq_of_le (by omega) (by omega), abs_of_neg h]
    · rw [if_neg (by simpa using h), hx, abs_of_nonneg (by omega)]
  show (((IntOp.absi x).toInt : ℝ) : EReal) = _
  rw [hk]

end Cert.DiffAttention

end
-- ==== Proof.Diff.BlockVal.lean ====
module

public import proofs.«01_k».proof.Proof.Diff.Fold
public import proofs.«01_k».proof.Proof.Diff.Spec
public import Idealize.ShloMosaic.Lib.MatmulPlain
public import Idealize.ShloMosaic.PureOps.IdealRules

@[expose] public section

set_option maxRecDepth 16384

noncomputable section

/-! The block of the differential attention, read at an index as extended reals. -/

namespace Cert.DiffIdeal.Block

open Cert.DiffIdeal Cert.DiffIdeal.Gen Idealize.ShloMosaic Idealize.ShloMosaic.TcCoe Idealize.SL.Sem
open Idealize.ShloMosaic.ValueIdx Cert.Online Cert.DiffAttention
open scoped BigOperators

/-- The start of a window of the bias table. -/
theorem off_eq (i : grid0.Coords) (a b : ℕ) (ha : a ≤ 1920) (hb : b ≤ 3840) : off i a b + (2048 * (i 2).val + a) = 3968 + b := by
  have h2 : (i 2).val < 2 := (i 2).isLt
  unfold off
  simp only [Scalar.indexCast, Scalar.addi, Scalar.subi, Scalar.muli, IntOp.addi, IntOp.subi, IntOp.muli, BitVec.toNat_add, BitVec.toNat_sub,
    BitVec.toNat_mul, BitVec.toNat_ofNat]
  omega

/-- A window of the bias table, read at an index. -/
theorem grp_apply (i : grid0.Coords) (x3 : Vec Ideal S1x128x8064 .f32) (a b : ℕ) (l : Fin 128) (u : Fin 256) :
    grp i x3 a b (ix2 l u) = x3 (ix3 0 l ⟨(off i a b + u.val) % 8064, Nat.mod_lt _ (by decide)⟩) := by
  unfold grp
  rw [shapeCast_apply _ _ (ix2 l u) (ix3 0 l u) (by
    rw [Shape.rowMajor_val_three, Shape.rowMajor_val_two]
    show (0 * 128 + l.val) * 256 + u.val = l.val * 256 + u.val
    omega)]
  rfl

/-- A chunk's biases, read at an index. -/
theorem biases_apply (i : grid0.Coords) (x3 : Vec Ideal S1x128x8064 .f32) (b : ℕ) (R : Fin 4096) (u : Fin 256) :
    biases i x3 b (ix2 R u) = grp i x3 (128 * (R.val / 128 % 16)) b (ix2 ⟨R.val % 128, Nat.mod_lt _ (by decide)⟩ u) := by
  have hR := R.isLt
  refine (concatenate_ofFn_apply (s₁ := S128x256) (t := S4096x256) 0 (fun n : Fin 32 => grp i x3 (128 * (n.val % 16)) b)
    concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S4096x256_d0
    rfl 128 rfl (ix2 R u) ⟨R.val / 128, by omega⟩ rfl (ix2 ⟨R.val % 128, Nat.mod_lt _ (by decide)⟩ u) rfl (fun d hd => ?_))
  match d with
  | ⟨0, _⟩ => exact absurd rfl hd
  | ⟨1, _⟩ => rfl

/-- The queries' name for their scale denotes the real number it names. -/
theorem dscale_eq : (Named.named (F := Ideal) κ "dscale" 0x3E38AA3B#32 : Ideal .f32) = (((Real.sqrt 64)⁻¹ * (Real.log 2)⁻¹ : ℝ) : EReal) :=
  IdealRules.named_const.ideal_named_scalar _ _ _ _ rfl

/-- The biases' name for their scale denotes the real number it names. -/
theorem log2e_eq : (Named.named (F := Ideal) κ "log2e" 0x3FB8AA3B#32 : Ideal .f32) = (((Real.log 2)⁻¹ : ℝ) : EReal) :=
  IdealRules.named_const.ideal_named_scalar _ _ _ _ rfl

/-- A lane's number compared with the half of a head. -/
theorem lane_lt (d : Fin 128) : IntOp.cmpi .slt (BitVec.ofNat 32 d.val) 64#32 = if d.val < 64 then 1#1 else 0#1 := by
  revert d; decide +kernel
theorem lane_ge (d : Fin 128) : IntOp.cmpi .sge (BitVec.ofNat 32 d.val) 64#32 = if d.val < 64 then 0#1 else 1#1 := by
  revert d; decide +kernel

/-- The queries scaled: the first half's lanes above the second half's, the other lanes zero. -/
theorem lhs_apply (x0 : Vec Ideal S2048x128 .f32) (R : Fin 4096) (d : Fin 128) :
    k0_pay5 x0 (ix2 R d) = if d.val / 64 = R.val / 2048 then x0 (ix2 ⟨R.val % 2048, Nat.mod_lt _ (by decide)⟩ d)
      * (((Real.sqrt 64)⁻¹ * (Real.log 2)⁻¹ : ℝ) : EReal) else 0 := by
  have hR := R.isLt
  have hd := d.isLt
  have hz : (Scalar.ofBits .bf16 0x0000#16 : Ideal .bf16) = (0 : EReal) := by
    show Ideal.ofBits .bf16 0x0000#16 = 0
    simp [Ideal.ofBits, Ideal.ieee]
  unfold k0_pay5
  by_cases h : R.val < 2048
  · rw [concatenate_pair_apply_left (t := S4096x128) (s₁ := S2048x128) (s₂ := S2048x128) 0 _ _ _ (ix2 R d) rfl (ix2 ⟨R.val, h⟩ d) (fun b => by
      match b with
      | ⟨0, _⟩ => rfl
      | ⟨1, _⟩ => rfl)]
    have hr : (⟨R.val % 2048, Nat.mod_lt _ (by decide)⟩ : Fin 2048) = ⟨R.val, h⟩ := Fin.ext (Nat.mod_eq_of_lt h)
    rw [hr]
    show Scalar.select (IntOp.cmpi .slt (BitVec.ofNat 32 (0 * 128 + d.val)) 64#32)
      (shapeCast S2048x128 x0 shapeCasts_S2048x128_S2048x128 (ix2 ⟨R.val, h⟩ d) * (Named.named (F := Ideal) κ "dscale" 0x3E38AA3B#32 : Ideal .f32) : EReal)
      (Scalar.ofBits .bf16 0x0000#16 : Ideal .bf16) = _
    rw [Nat.zero_mul, Nat.zero_add, lane_lt, dscale_eq, shapeCast_self, hz]
    by_cases h1 : d.val < 64
    · rw [if_pos h1, if_pos (by omega)]; rfl
    · rw [if_neg h1, if_neg (by omega)]; rfl
  · rw [concatenate_pair_apply_right (t := S4096x128) (s₁ := S2048x128) (s₂ := S2048x128) 0 _ _ _ (ix2 R d) rfl rfl (ix2 ⟨R.val - 2048, by omega⟩ d) (fun b hb => by
      match b with
      | ⟨0, _⟩ => exact absurd rfl hb
      | ⟨1, _⟩ => rfl) (by show R.val - 2048 + 2048 = R.val; omega)]
    have hr : (⟨R.val % 2048, Nat.mod_lt _ (by decide)⟩ : Fin 2048) = ⟨R.val - 2048, by omega⟩ := Fin.ext (by show R.val % 2048 = R.val - 2048; omega)
    rw [hr]
    show Scalar.select (IntOp.cmpi .sge (BitVec.ofNat 32 (0 * 128 + d.val)) 64#32)
      (shapeCast S2048x128 x0 shapeCasts_S2048x128_S2048x128 (ix2 ⟨R.val - 2048, by omega⟩ d) * (Named.named (F := Ideal) κ "dscale" 0x3E38AA3B#32 : Ideal .f32) : EReal)
      (Scalar.ofBits .bf16 0x0000#16 : Ideal .bf16) = _
    rw [Nat.zero_mul, Nat.zero_add, lane_ge, dscale_eq, shapeCast_self, hz]
    by_cases h1 : d.val < 64
    · rw [if_pos h1, if_neg (by omega)]; rfl
    · rw [if_neg h1, if_pos (by omega)]; rfl

/-- A chunk's scores, read at an index. -/
theorem scores_apply (q : FVec Ideal S4096x128 .bf16) (kc : Vec Ideal S256x128 .bf16) (bs : FVec Ideal S4096x256 .f32) (r : Fin 4096) (l : Fin 256) :
    scores q kc bs (ix2 r l) = (∑ d : Fin 128, q (ix2 r d) * kc (ix2 l d)) + bs (ix2 r l) * (((Real.log 2)⁻¹ : ℝ) : EReal) := by
  unfold scores
  rw [addf_apply]
  have h1 := Ideal.matmul_transposedRhs_apply (φ₂ := .bf16) (M := 4096) (K := 128) (N := 256) none q (shapeCast S256x128 (kc : FVec Ideal S256x128 .bf16) shapeCasts_S256x128_S256x128)
    (constant S4096x256 .f32 0x00000000#32) r l
  rw [constant_apply, Ideal.ofBits_zero_f32, zero_add, shapeCast_self] at h1
  refine congrArg₂ (fun a b : EReal => a + b) ?_ ?_
  · rw [shapeCast_self]; exact h1
  · show bs (ix2 r l) * (Named.named (F := Ideal) κ "log2e" 0x3FB8AA3B#32 : Ideal .f32) = _
    rw [log2e_eq]

/-- The row maxima, read at an index. -/
theorem tops_apply (s : FVec Ideal S4096x256 .f32) (r : Fin 4096) :
    tops s (ix2 r 0) = (Finset.univ : Finset (Fin 256)).fold max ⊥ fun l => s (ix2 r l) := by
  unfold tops
  rw [shapeCast_apply _ _ (ix2 r 0) (ix1 r) (by
    rw [Shape.rowMajor_val_one, Shape.rowMajor_val_two]
    show r.val = r.val * 1 + 0
    omega)]
  refine (Ideal.multiReduction_maximumf_single s _ reduces_S4096x256_S4096 (.inl rfl) rfl (ix1 r)).trans ?_
  have hb : (FloatOps.ofBits FTy.f32 (FKind.maximumf.neutral FTy.f32 (.inl rfl)) : Ideal .f32) = (⊥ : EReal) := by
    show Ideal.ofBits .f32 0xFF800000#32 = ⊥
    simp [Ideal.ofBits, Ideal.ieee]
  rw [hb]
  congr 1
  funext l
  show s _ = s _
  congr 1
  funext a; apply Fin.ext
  match a with
  | ⟨0, _⟩ => rfl
  | ⟨1, _⟩ => rfl

/-- One column spread over a block's columns. -/
theorem spread_apply (mx : FVec Ideal S4096x1 .f32) (r : Fin 4096) (l : Fin 256) :
    broadcastTo S4096x256 mx broadcasts_S4096x1_S4096x256 (ix2 r l) = mx (ix2 r 0) := by
  rw [broadcastTo_apply _ _ _ (ix2 r 0)]
  intro a
  match a with
  | ⟨0, _⟩ => rfl
  | ⟨1, _⟩ => rfl

/-- A chunk's weighted sums, read at an index. -/
theorem weighted_apply (s : FVec Ideal S4096x256 .f32) (mx : FVec Ideal S4096x1 .f32) (v : Vec Ideal S256x256 .bf16) (r : Fin 4096) (j : Fin 256) :
    weighted s mx v (ix2 r j) = ∑ l : Fin 256, Ideal.exp2 (s (ix2 r l) - mx (ix2 r 0)) * v (ix2 l j) := by
  unfold weighted
  refine (Ideal.matmul_plain_apply (M := 4096) (K := 256) (N := 256) none _ v _ r j).trans ?_
  rw [constant_apply, Ideal.ofBits_zero_f32, zero_add]
  refine Finset.sum_congr rfl fun l _ => ?_
  rw [truncf_apply]
  show Ideal.exp2 (s (ix2 r l) - broadcastTo S4096x256 mx broadcasts_S4096x1_S4096x256 (ix2 r l)) * _ = _
  rw [spread_apply]

/-- A sum over the lanes of one half. -/
theorem half_sum (p : Fin 2) (f : Fin 128 → ℝ) :
    (∑ d : Fin 128, if d.val / 64 = p.val then f d else 0) = ∑ d : Fin 64, f ⟨64 * p.val + d.val, by omega⟩ := by
  have h := Fin.sum_univ_add (a := 64) (b := 64) (fun d : Fin (64 + 64) => if d.val / 64 = p.val then f d else 0)
  refine h.trans ?_
  match p with
  | ⟨0, _⟩ =>
    rw [Finset.sum_eq_zero (s := Finset.univ) (f := fun d : Fin 64 => if (Fin.natAdd 64 d).val / 64 = 0 then f (Fin.natAdd 64 d) else 0) fun d _ =>
      if_neg (by show ¬ (64 + d.val) / 64 = 0; omega), add_zero]
    refine Finset.sum_congr rfl fun d _ => ?_
    rw [if_pos (by show d.val / 64 = 0; omega)]
    congr 1; apply Fin.ext; show d.val = 64 * 0 + d.val; omega
  | ⟨1, _⟩ =>
    rw [Finset.sum_eq_zero (s := Finset.univ) (f := fun d : Fin 64 => if (Fin.castAdd 64 d).val / 64 = 1 then f (Fin.castAdd 64 d) else 0) fun d _ =>
      if_neg (by show ¬ d.val / 64 = 1; omega), zero_add]
    refine Finset.sum_congr rfl fun d _ => ?_
    rw [if_pos (by show (64 + d.val) / 64 = 1; omega)]
    rfl

section
variable (i : grid0.Coords) (x0 : Vec Ideal S2048x128 .f32) (x1 : Vec Ideal S4096x128 .bf16) (x2 : Vec Ideal S4096x128 .bf16)
variable (x3 : Vec Ideal S1x128x8064 .f32)
variable (X : Fin 2048 → Fin 128 → ℝ) (K V : Fin 4096 → Fin 128 → ℝ) (hd : ℕ)

/-- The half of a head that a row of the scores belongs to. -/
def halfOf (R : Fin 4096) : Fin 2 := ⟨R.val / 2048, by omega⟩

/-- The score of a row against key `k`, in the natural exponential's units. -/
def nat (R : Fin 4096) (k : ℕ) : ℝ :=
  (∑ d : Fin 64, X ⟨R.val % 2048, Nat.mod_lt _ (by decide)⟩ ⟨64 * (halfOf R).val + d.val, by omega⟩
    * K ⟨k % 4096, Nat.mod_lt _ (by decide)⟩ ⟨64 * (halfOf R).val + d.val, by omega⟩) * (1 / 8)
    + bias hd (((2048 * (i 2).val + R.val % 2048 : ℕ) : ℤ) - ((k % 4096 : ℕ) : ℤ))

/-- The same, in the base-two exponential's units. -/
def sc (R : Fin 4096) (k : ℕ) : ℝ := nat i X K hd R k * (Real.log 2)⁻¹

variable (hX : ∀ r d, x0 (ix2 r d) = (X r d : EReal)) (hK : ∀ k d, x1 (ix2 k d) = (K k d : EReal))
  (hB : ∀ (l : Fin 128) (u : Fin 8064), x3 (ix3 0 l u) = (bias hd ((l.val : ℤ) - (u.val : ℤ) + 3968) : EReal))
include hX hK hB

/-- A chunk's scores are the real scores. -/
theorem chunk_eq (R : Fin 4096) (n : ℕ) (hn : n < 16) (l : Fin 256) :
    chunk i (k0_pay5 x0) x1 x3 n (ix2 R l) = (sc i X K hd R (256 * n + l.val) : EReal) := by
  have hR := R.isLt
  have hl := l.isLt
  have hoff := off_eq i (128 * (R.val / 128 % 16)) (256 * n) (by omega) (by omega)
  have h2 : (i 2).val < 2 := (i 2).isLt
  unfold chunk
  rw [scores_apply, biases_apply, grp_apply, hB]
  have e1 : (∑ d : Fin 128, k0_pay5 x0 (ix2 R d) * keys x1 (256 * n) (ix2 l d))
      = ((∑ d : Fin 128, (if d.val / 64 = (halfOf R).val then X ⟨R.val % 2048, Nat.mod_lt _ (by decide)⟩ d * ((Real.sqrt 64)⁻¹ * (Real.log 2)⁻¹)
        * K ⟨(256 * n + l.val) % 4096, Nat.mod_lt _ (by decide)⟩ d else 0) : ℝ) : EReal) := by
    rw [← sum_coe]
    refine Finset.sum_congr rfl fun d _ => ?_
    rw [lhs_apply, hX]
    show _ * x1 (ix2 ⟨(256 * n + l.val) % 4096, _⟩ d) = _
    rw [hK]
    show (if d.val / 64 = R.val / 2048 then _ else _) * _ = ((if d.val / 64 = R.val / 2048 then _ else _ : ℝ) : EReal)
    by_cases h : d.val / 64 = R.val / 2048
    · rw [if_pos h, if_pos h, ← EReal.coe_mul, ← EReal.coe_mul]
    · rw [if_neg h, if_neg h, zero_mul, EReal.coe_zero]
  rw [e1, half_sum, ← EReal.coe_mul, ← EReal.coe_add]
  have e2 : (((⟨R.val % 128, Nat.mod_lt _ (by decide)⟩ : Fin 128).val : ℤ)
      - ((⟨(off i (128 * (R.val / 128 % 16)) (256 * n) + l.val) % 8064, Nat.mod_lt _ (by decide)⟩ : Fin 8064).val : ℤ) + 3968)
      = ((2048 * (i 2).val + R.val % 2048 : ℕ) : ℤ) - (((256 * n + l.val) % 4096 : ℕ) : ℤ) := by
    show ((R.val % 128 : ℕ) : ℤ) - (((off i (128 * (R.val / 128 % 16)) (256 * n) + l.val) % 8064 : ℕ) : ℤ) + 3968 = _
    have m1 : (off i (128 * (R.val / 128 % 16)) (256 * n) + l.val) % 8064 = off i (128 * (R.val / 128 % 16)) (256 * n) + l.val := Nat.mod_eq_of_lt (by omega)
    have m2 : (256 * n + l.val) % 4096 = 256 * n + l.val := Nat.mod_eq_of_lt (by omega)
    have m3 : R.val % 2048 = 128 * (R.val / 128 % 16) + R.val % 128 := by
      have e1 : R.val / 128 / 16 = R.val / 2048 := Nat.div_div_eq_div_mul _ _ _
      omega
    rw [m1, m2, m3]
    omega
  rw [e2]
  unfold sc nat
  congr 1
  rw [add_mul]
  congr 1
  rw [Finset.sum_mul, Finset.sum_mul]
  refine Finset.sum_congr rfl fun d _ => ?_
  have h8 : Real.sqrt 64 = 8 := by rw [show (64 : ℝ) = 8 ^ 2 by norm_num]; exact Real.sqrt_sq (by norm_num)
  rw [h8]
  ring

end

end Cert.DiffIdeal.Block

end
-- ==== Proof.Diff.Mix.lean ====
module

public import proofs.«01_k».proof.Proof.Diff.BlockVal

@[expose] public section

set_option maxRecDepth 16384

noncomputable section

/-! The block of the differential attention: sixteen chunks together, the quotients, the mixture and the normalised rows. -/

namespace Cert.DiffIdeal.Block

open Cert.DiffIdeal Cert.DiffIdeal.Gen Idealize.ShloMosaic Idealize.ShloMosaic.TcCoe Idealize.SL.Sem
open Idealize.ShloMosaic.ValueIdx Cert.Online Cert.DiffAttention
open scoped BigOperators

/-- The running maximum looks at no later chunk. -/
theorem runMax_congr (s s' : ℕ → FVec Ideal S4096x256 .f32) (n : ℕ) (h : ∀ m ≤ n, s m = s' m) : runMax s n = runMax s' n := by
  induction n with
  | zero => rw [runMax, runMax, h 0 (le_refl _)]
  | succ n ih => rw [runMax, runMax, h (n + 1) (le_refl _), ih fun m hm => h m (by omega)]

/-- The running sums look at no later chunk. -/
theorem runAcc_congr (s s' : ℕ → FVec Ideal S4096x256 .f32) (xs : Vec Ideal S4096x256 .bf16) (n : ℕ) (h : ∀ m ≤ n, s m = s' m) :
    runAcc s xs n = runAcc s' xs n := by
  induction n with
  | zero => rw [runAcc, runAcc, runMax_congr s s' 0 h, h 0 (le_refl _)]
  | succ n ih =>
    rw [runAcc, runAcc, runMax_congr s s' (n + 1) h, runMax_congr s s' n fun m hm => h m (by omega), h (n + 1) (le_refl _),
      ih fun m hm => h m (by omega)]

/-- The widened values, read at an index. -/
theorem part_wide (x2 : Vec Ideal S4096x128 .bf16) (o : ℕ) (l j : Fin 256) :
    part (wide x2) o (ix2 l j) = if h : j.val < 128 then x2 (ix2 ⟨(o + l.val) % 4096, Nat.mod_lt _ (by decide)⟩ ⟨j.val, h⟩) else (1 : EReal) := by
  have hone : (Scalar.ofBits .bf16 0x3F80#16 : Ideal .bf16) = (1 : EReal) := by
    show Ideal.ofBits .bf16 0x3F80#16 = 1
    simp [Ideal.ofBits, Ideal.ieee, -EReal.coe_mul]; norm_num
  show (if h : j.val < 128 then _ else _) = _
  rw [hone]

/-- Chunks of real scores folded: the weighted sums at one base. -/
theorem runAcc_eq (s : ℕ → FVec Ideal S4096x256 .f32) (x2 : Vec Ideal S4096x128 .bf16) (R : Fin 4096) (σ : ℕ → ℝ)
    (hs : ∀ n (l : Fin 256), s n (ix2 R l) = (σ (256 * n + l.val) : EReal)) :
    ∃ μ : ℝ, ∀ j : Fin 256, runAcc s (wide x2) 15 (ix2 R j) = ∑ k : Fin 4096, (wt (σ k.val) μ : EReal) *
      (if h : j.val < 128 then x2 (ix2 k ⟨j.val, h⟩) else 1) := by
  have ht : ∀ n, ∃ μ : ℝ, tops (s n) (ix2 R 0) = (μ : EReal) := fun n => by
    rw [tops_apply]
    exact fold_max_real _ Finset.univ_nonempty _ fun l => ⟨_, hs n l⟩
  have hm : ∀ n, ∃ μ : ℝ, runMax s n (ix2 R 0) = (μ : EReal) := fun n => by
    induction n with
    | zero =>
      rw [runMax]
      exact ht 0
    | succ n ih =>
      obtain ⟨a, ha⟩ := ih
      obtain ⟨b, hb⟩ := ht (n + 1)
      refine ⟨max a b, ?_⟩
      rw [runMax, maximumf_apply, ha, hb]
      exact (EReal.coe_strictMono.monotone.map_max).symm
  choose μ hμ using hm
  refine ⟨μ 15, fun j => ?_⟩
  let v : ℕ → EReal := fun k => if h : j.val < 128 then x2 (ix2 ⟨k % 4096, Nat.mod_lt _ (by decide)⟩ ⟨j.val, h⟩) else 1
  have hv : ∀ n (l : Fin 256), part (wide x2) (256 * n) (ix2 l j) = v (256 * n + l.val) := fun n l => part_wide x2 _ l j
  have hw : ∀ n, weighted (s n) (runMax s n) (part (wide x2) (256 * n)) (ix2 R j)
      = ∑ l ∈ Finset.range 256, (wt (σ (256 * n + l)) (μ n) : EReal) * v (256 * n + l) := fun n => by
    rw [weighted_apply, Finset.sum_range]
    refine Finset.sum_congr rfl fun l _ => ?_
    rw [hs, hμ, exp2_sub, hv]
  have := online 256 σ v μ (fun n => runAcc s (wide x2) n (ix2 R j)) (by
      have h0 := hw 0
      simp only [Nat.mul_zero, Nat.zero_add] at h0
      exact h0)
    (fun n => by
      show runAcc s (wide x2) n (ix2 R j) * broadcastTo S4096x256 (exp2 (subf (runMax s n) (runMax s (n + 1)))) broadcasts_S4096x1_S4096x256 (ix2 R j)
        + weighted (s (n + 1)) (runMax s (n + 1)) (part (wide x2) (256 * (n + 1))) (ix2 R j) = _
      rw [hw, spread_apply]
      show _ * Ideal.exp2 (runMax s n (ix2 R 0) - runMax s (n + 1) (ix2 R 0)) + _ = _
      rw [hμ, hμ, exp2_sub]) 15
  refine this.trans ?_
  rw [Finset.sum_range]
  refine Finset.sum_congr rfl fun k _ => ?_
  have hk : (⟨k.val % 4096, Nat.mod_lt _ (by decide)⟩ : Fin 4096) = k := Fin.ext (Nat.mod_eq_of_lt k.isLt)
  show _ * (if h : j.val < 128 then x2 (ix2 ⟨k.val % 4096, _⟩ ⟨j.val, h⟩) else 1) = _
  rw [hk]

/-- The quotients, read at an index: a softmax times the values. -/
theorem ratio_eq (s : ℕ → FVec Ideal S4096x256 .f32) (x2 : Vec Ideal S4096x128 .bf16) (R : Fin 4096) (σ : ℕ → ℝ) (t : Fin 4096 → ℝ)
    (hs : ∀ n (l : Fin 256), s n (ix2 R l) = (σ (256 * n + l.val) : EReal)) (h : ∀ k : Fin 4096, σ k.val * Real.log 2 = t k) (e : Fin 128) :
    ratio (runAcc s (wide x2) 15) (ix2 R e) = ∑ k : Fin 4096, x2 (ix2 k e) * (soft t k : EReal) := by
  obtain ⟨μ, hA⟩ := runAcc_eq s x2 R σ hs
  have e1 : extractStridedSlice S4096x128 ![0, 0] (runAcc s (wide x2) 15) slices_S4096x256_o0_0_S4096x128 (ix2 R e)
      = runAcc s (wide x2) 15 (ix2 R ⟨e.val, by omega⟩) := by
    show runAcc s (wide x2) 15 _ = runAcc s (wide x2) 15 _
    congr 1; funext a; apply Fin.ext
    match a with
    | ⟨0, _⟩ => show 0 + R.val = R.val; omega
    | ⟨1, _⟩ => show 0 + e.val = e.val; omega
  have e2 : extractStridedSlice S4096x128 ![0, 128] (runAcc s (wide x2) 15) slices_S4096x256_o0_128_S4096x128 (ix2 R e)
      = runAcc s (wide x2) 15 (ix2 R ⟨128 + e.val, by omega⟩) := by
    show runAcc s (wide x2) 15 _ = runAcc s (wide x2) 15 _
    congr 1; funext a; apply Fin.ext
    match a with
    | ⟨0, _⟩ => show 0 + R.val = R.val; omega
    | ⟨1, _⟩ => rfl
  unfold ratio
  rw [divf_apply, e1, e2, hA, hA]
  have hlt : ¬ (128 + e.val < 128) := by omega
  simp only [dif_pos e.isLt, dif_neg hlt]
  exact quotient (fun k : Fin 4096 => σ k.val) t h μ _

/-- The mixture, read at an index. -/
theorem mix_apply (l : FVec Ideal S1x1 .f32) (o : FVec Ideal S4096x128 .f32) (r : Fin 2048) (e : Fin 128) :
    mix l o (ix2 r e) = o (ix2 ⟨r.val, by omega⟩ e) - l (ix2 0 0) * o (ix2 ⟨2048 + r.val, by omega⟩ e) := by
  have e1 : extractStridedSlice S2048x128 ![0, 0] o slices_S4096x128_o0_0_S2048x128 (ix2 r e) = o (ix2 ⟨r.val, by omega⟩ e) := by
    show o _ = o _
    congr 1; funext a; apply Fin.ext
    match a with
    | ⟨0, _⟩ => show 0 + r.val = r.val; omega
    | ⟨1, _⟩ => show 0 + e.val = e.val; omega
  have e2 : extractStridedSlice S2048x128 ![2048, 0] o slices_S4096x128_o2048_0_S2048x128 (ix2 r e) = o (ix2 ⟨2048 + r.val, by omega⟩ e) := by
    show o _ = o _
    congr 1; funext a; apply Fin.ext
    match a with
    | ⟨0, _⟩ => rfl
    | ⟨1, _⟩ => show 0 + e.val = e.val; omega
  have e3 : broadcastTo S2048x128 l broadcasts_S1x1_S2048x128 (ix2 r e) = l (ix2 0 0) := by
    rw [broadcastTo_apply _ _ _ (ix2 0 0)]
    intro a
    match a with
    | ⟨0, _⟩ => rfl
    | ⟨1, _⟩ => rfl
  unfold mix
  rw [subf_apply, mulf_apply, e1, e2, e3]

/-- The normalised rows, read at an index. -/
theorem normed_apply (o : FVec Ideal S2048x128 .f32) (x5 : Vec Ideal S1x128 .f32) (g : Gs.Idx → EReal)
    (hg : ∀ e : Fin 128, x5 (ix2 0 e) = g (ix1 e)) (r : Fin 2048) (e : Fin 128) :
    normed o x5 (ix2 r e) = DiffAttention.norm (fun e => o (ix2 r e)) g e := by
  have e1 : ∀ y : FVec Ideal S2048x1 .f32, broadcastTo S2048x128 y broadcasts_S2048x1_S2048x128 (ix2 r e) = y (ix2 r 0) := fun y => by
    rw [broadcastTo_apply _ _ _ (ix2 r 0)]
    intro a
    match a with
    | ⟨0, _⟩ => rfl
    | ⟨1, _⟩ => rfl
  have e2 : broadcastTo S2048x128 (shapeCast S1x128 x5 shapeCasts_S1x128_S1x128) broadcasts_S1x128_S2048x128 (ix2 r e) = x5 (ix2 0 e) := by
    rw [broadcastTo_apply _ _ _ (ix2 0 e), shapeCast_self]
    intro a
    match a with
    | ⟨0, _⟩ => rfl
    | ⟨1, _⟩ => rfl
  have e3 : shapeCast S2048x1 (multiReduction .add [1] S2048 (mulf o o) 0x00000000#32 reduces_S2048x128_S2048 (.inl rfl) rfl) shapeCasts_S2048_S2048x1
      (ix2 r 0) = ∑ d : Fin 128, o (ix2 r d) * o (ix2 r d) := by
    rw [shapeCast_apply _ _ (ix2 r 0) (ix1 r) (by
      rw [Shape.rowMajor_val_one, Shape.rowMajor_val_two]
      show r.val = r.val * 1 + 0
      omega)]
    refine (Ideal.multiReduction_add_single (mulf o o) _ reduces_S2048x128_S2048 (.inl rfl) rfl (ix1 r)).trans ?_
    refine Finset.sum_congr rfl fun d _ => ?_
    have hd : reduces_S2048x128_S2048.lift (ix1 r) d = (ix2 r d : S2048x128.Idx) := by
      funext a; apply Fin.ext
      match a with
      | ⟨0, _⟩ => rfl
      | ⟨1, _⟩ => rfl
    exact (congrArg (mulf o o) hd).trans (mulf_apply _ _ _)
  unfold normed
  rw [mulf_apply, mulf_apply, mulf_apply, e1, e2, hg]
  show o (ix2 r e) * Ideal.rsqrt (Ideal.div (shapeCast S2048x1 (multiReduction .add [1] S2048 (mulf o o) 0x00000000#32 reduces_S2048x128_S2048 (.inl rfl) rfl) shapeCasts_S2048_S2048x1
      (ix2 r 0)) (Ideal.ofBits .f32 0x43000000#32) + Ideal.ofBits .f32 0x358637BD#32) * g (ix1 e) * Ideal.ofBits .f32 0x3EE34C57#32 = _
  rw [e3]
  rfl

/-- One exponential of a product of two of the four vectors. -/
theorem dot_vec (x : Vec Ideal S4x64 .f32) (hx : IsReal x) (p q : Fin 4) (hp : S4x64.Slices ![p.val, 0] S1x64) (hq : S4x64.Slices ![q.val, 0] S1x64) :
    (shapeCast S1x1 (multiReduction (F := Ideal) (φ := .f32) .add [1] S1 (mulf (extractStridedSlice S1x64 ![p.val, 0] x hp) (extractStridedSlice S1x64 ![q.val, 0] x hq))
      0x00000000#32 reduces_S1x64_S1 (.inl rfl) rfl) shapeCasts_S1_S1x1 : FVec Ideal S1x1 .f32) (ix2 0 0)
      = ((∑ d : Fin 64, (x (ix2 p d)).toReal * (x (ix2 q d)).toReal : ℝ) : EReal) := by
  rw [shapeCast_apply _ _ (ix2 0 0) (ix1 0) (by
    rw [Shape.rowMajor_val_one, Shape.rowMajor_val_two]
    rfl)]
  refine (Ideal.multiReduction_add_single _ _ reduces_S1x64_S1 (.inl rfl) rfl (ix1 0)).trans ?_
  rw [← sum_coe]
  refine Finset.sum_congr rfl fun d _ => ?_
  have hd : reduces_S1x64_S1.lift (ix1 0) d = (ix2 0 d : S1x64.Idx) := by
    funext a; apply Fin.ext
    match a with
    | ⟨0, _⟩ => rfl
    | ⟨1, _⟩ => rfl
  have hs : ∀ (p : Fin 4) (hp : S4x64.Slices ![p.val, 0] S1x64), extractStridedSlice S1x64 ![p.val, 0] x hp (ix2 0 d) = x (ix2 p d) := fun p hp => by
    show x _ = x _
    congr 1; funext a; apply Fin.ext
    match a with
    | ⟨0, _⟩ => rfl
    | ⟨1, _⟩ => show 0 + d.val = d.val; omega
  refine (congrArg _ hd).trans ((mulf_apply _ _ _).trans ?_)
  rw [hs, hs, EReal.coe_mul, ← hx.toReal, ← hx.toReal]

/-- The mixing weight. -/
theorem lam_apply (x : Vec Ideal S4x64 .f32) (hx : IsReal x) : k0_pay4 x (ix2 0 0) = (lam x : EReal) := by
  have h1 := dot_vec x hx 0 1 slices_S4x64_o0_0_S1x64 slices_S4x64_o1_0_S1x64
  have h2 := dot_vec x hx 2 3 slices_S4x64_o2_0_S1x64 slices_S4x64_o3_0_S1x64
  unfold k0_pay4
  refine (addf_apply _ _ _).trans ?_
  refine (congrArg₂ (fun a b : EReal => a + b) ((subf_apply _ _ _).trans (congrArg₂ (fun a b : EReal => a - b)
    ((congrArg Ideal.exp h1).trans (Ideal.exp_coe _)) ((congrArg Ideal.exp h2).trans (Ideal.exp_coe _)))) lam0_eq).trans ?_
  unfold lam
  rw [EReal.coe_add, EReal.coe_sub]

section
variable (i : grid0.Coords) (x0 : Vec Ideal S2048x128 .f32) (x1 : Vec Ideal S4096x128 .bf16) (x2 : Vec Ideal S4096x128 .bf16)
variable (x3 : Vec Ideal S1x128x8064 .f32) (x4 : Vec Ideal S4x64 .f32) (x5 : Vec Ideal S1x128 .f32)
variable (X : Fin 2048 → Fin 128 → ℝ) (K V : Fin 4096 → Fin 128 → ℝ) (hd : ℕ) (g : Gs.Idx → EReal)
variable (hX : ∀ r d, x0 (ix2 r d) = (X r d : EReal)) (hK : ∀ k d, x1 (ix2 k d) = (K k d : EReal)) (hV : ∀ k d, x2 (ix2 k d) = (V k d : EReal))
  (hB : ∀ (l : Fin 128) (u : Fin 8064), x3 (ix3 0 l u) = (bias hd ((l.val : ℤ) - (u.val : ℤ) + 3968) : EReal))
  (hL : IsReal x4) (hg : ∀ e : Fin 128, x5 (ix2 0 e) = g (ix1 e))
include hX hK hV hB

/-- One half's quotients are its softmax times the values. -/
theorem half_eq (R : Fin 4096) (e : Fin 128) :
    ratio (runAcc (chunk i (k0_pay5 x0) x1 x3) (wide x2) 15) (ix2 R e)
      = ((∑ k : Fin 4096, V k e * soft (fun k : Fin 4096 => nat i X K hd R k.val) k : ℝ) : EReal) := by
  rw [runAcc_congr _ (fun n => chunk i (k0_pay5 x0) x1 x3 (n % 16)) _ 15 fun m hm => by
    show chunk i (k0_pay5 x0) x1 x3 m = chunk i (k0_pay5 x0) x1 x3 (m % 16)
    rw [Nat.mod_eq_of_lt (by omega)]]
  rw [ratio_eq (fun n => chunk i (k0_pay5 x0) x1 x3 (n % 16)) x2 R (sc i X K hd R) (fun k => nat i X K hd R k.val) (fun n l => ?_) (fun k => ?_) e]
  · rw [← sum_coe]
    refine Finset.sum_congr rfl fun k _ => ?_
    rw [hV, EReal.coe_mul]
  · have hl := l.isLt
    refine (chunk_eq i x0 x1 x3 X K hd hX hK hB R (n % 16) (Nat.mod_lt _ (by decide)) l).trans ?_
    have hm : (256 * (n % 16) + l.val) % 4096 = (256 * n + l.val) % 4096 := by omega
    unfold sc nat
    simp only [hm]
  · have hl : Real.log 2 ≠ 0 := (Real.log_pos (by norm_num)).ne'
    unfold sc
    rw [mul_assoc, inv_mul_cancel₀ hl, mul_one]

include hL hg

/-- THE BLOCK: the difference of the two softmaxes times the values, normalised by rows. -/
theorem block_eq (r : Fin 2048) (e : Fin 128) :
    block i x0 x1 (wide x2) x3 x4 x5 (ix2 r e) = DiffAttention.norm (fun e => ((∑ k : Fin 4096, V k e *
      (soft (fun k : Fin 4096 => nat i X K hd ⟨r.val, by omega⟩ k.val) k
        - lam x4 * soft (fun k : Fin 4096 => nat i X K hd ⟨2048 + r.val, by omega⟩ k.val) k) : ℝ) : EReal)) g e := by
  unfold block
  rw [normed_apply _ x5 g hg]
  congr 1
  funext e
  rw [mix_apply, half_eq i x0 x1 x2 x3 X K V hd hX hK hV hB, half_eq i x0 x1 x2 x3 X K V hd hX hK hV hB, lam_apply x4 hL,
    ← EReal.coe_mul, ← EReal.coe_sub]
  congr 1
  rw [Finset.mul_sum, ← Finset.sum_sub_distrib]
  refine Finset.sum_congr rfl fun k _ => ?_
  ring

end

end Cert.DiffIdeal.Block

end
-- ==== Proof.Diff.Table.lean ====
module

public import proofs.«01_k».proof.Proof.Diff.Spec
public import proofs.«01_k».proof.Proof.Gen.DiffIdeal.Value
public import Idealize.ShloMosaic.Lib.ValueIdx
public import Idealize.ShloMosaic.Lib.IdealHost

@[expose] public section

set_option maxRecDepth 16384

noncomputable section

/-! The arrays the differential attention is launched on: the flat rows, the bias table and the scale's row. -/

namespace Cert.DiffIdeal.Array

open Cert.DiffIdeal Cert.DiffIdeal.Gen Idealize.ShloMosaic Idealize.ShloMosaic.TcCoe Idealize.SL.Sem
open Idealize.ShloMosaic.ValueIdx Cert.DiffAttention

variable (m : (ℓ : Loc nD τ sig) → Buf (Elt Ideal) ℓ) (c : Dev nD)

/-- The projected rows as launched. -/
abbrev z : Zs.Idx → EReal := m ((c : Thread nD τ).loc main_arg0)
/-- The mixing vectors as launched. -/
abbrev x : Ls.Idx → EReal := m ((c : Thread nD τ).loc main_arg1)
/-- The scale as launched. -/
abbrev g : Gs.Idx → EReal := m ((c : Thread nD τ).loc main_arg2)

/-- The heads' slopes, negated. -/
def slopes : FVec Ideal S8 .f32 :=
  Host.negf (Host.powf (broadcastInDim S8 ![] bcast_S_S8 (constant S_ .f32 0x40000000#32))
    (Host.divf (mulf (broadcastInDim S8 ![] bcast_S_S8 (constant S_ .f32 0xC1000000#32))
      (addf (broadcastInDim S8 ![] bcast_S_S8 (constant S_ .f32 0x3F800000#32)) (sitofp .f32 (iotaInDim S8 32 0))))
      (broadcastInDim S8 ![] bcast_S_S8 (constant S_ .f32 0x41000000#32))))

/-- The distances. -/
def dists : FVec Ideal S128x8064 .f32 :=
  sitofp .f32 (absi (addi (subi (broadcastInDim S128x8064 ![0, 1] bcast_S128x1_S128x8064_0_1 (broadcastInDim S128x1 ![0] bcast_S128_S128x1_0 (iotaInDim S128 32 0)))
    (broadcastInDim S128x8064 ![0, 1] bcast_S1x8064_S128x8064_0_1 (broadcastInDim S1x8064 ![1] bcast_S8064_S1x8064_1 (iotaInDim S8064 32 0))))
    (broadcastInDim S128x8064 ![] bcast_S_S128x8064 (constantI S_ 32 3968#32))))

/-- The table. -/
def table : FVec Ideal S8x128x8064 .f32 :=
  mulf (broadcastInDim S8x128x8064 ![0, 1, 2] bcast_S8x1x1_S8x128x8064_0_1_2 (broadcastInDim S8x1x1 ![0] bcast_S8_S8x1x1_0 slopes))
    (broadcastInDim S8x128x8064 ![0, 1, 2] bcast_S1x128x8064_S8x128x8064_0_1_2 (broadcastInDim S1x128x8064 ![1, 2] bcast_S128x8064_S1x128x8064_1_2 dists))

theorem V_z : V m c main_v0 = shapeCast S8192x3072 (z m c) shapeCasts_S2x4096x3072_S8192x3072 := by
  unfold V; after_results; rfl
theorem V_zb : V m c main_v1 = truncf (F := Ideal) .bf16 (shapeCast S8192x3072 (z m c) shapeCasts_S2x4096x3072_S8192x3072) bitsLt_bf16_f32 := by
  unfold V; after_results; rfl
theorem V_table : V m c main_v27 = table := by
  unfold V; after_results; rfl
theorem V_x : V m c main_arg1 = x m c := by
  unfold V; after_results
theorem V_g : V m c main_v28 = shapeCast S1x128 (g m c) shapeCasts_S128_S1x128 := by
  unfold V; after_results; rfl

/-- The slopes, read at an index. -/
theorem slopes_apply (h : Fin 8) : slopes (ix1 h) = ((-slope h.val : ℝ) : EReal) := by
  rw [EReal.coe_neg, ← slope_eq h.val h.isLt]
  rfl

/-- The distances, read at an index. -/
theorem dists_apply (l : Fin 128) (u : Fin 8064) : dists (ix2 l u) = (((|(l.val : ℤ) - (u.val : ℤ) + 3968| : ℤ) : ℝ) : EReal) := by
  have e1 : broadcastInDim S128x8064 ![0, 1] bcast_S128x1_S128x8064_0_1 (broadcastInDim S128x1 ![0] bcast_S128_S128x1_0 (iotaInDim S128 32 0)) (ix2 l u)
      = BitVec.ofNat 32 l.val := by
    rw [broadcastInDim_apply _ _ _ (ix2 l u) (ix2 l 0) (fun a => match a with | ⟨0, _⟩ => rfl | ⟨1, _⟩ => rfl),
      broadcastInDim_apply _ _ _ (ix2 l 0) (ix1 l) (fun a => match a with | ⟨0, _⟩ => rfl)]
    rfl
  have e2 : broadcastInDim S128x8064 ![0, 1] bcast_S1x8064_S128x8064_0_1 (broadcastInDim S1x8064 ![1] bcast_S8064_S1x8064_1 (iotaInDim S8064 32 0)) (ix2 l u)
      = BitVec.ofNat 32 u.val := by
    rw [broadcastInDim_apply _ _ _ (ix2 l u) (ix2 0 u) (fun a => match a with | ⟨0, _⟩ => rfl | ⟨1, _⟩ => rfl),
      broadcastInDim_apply _ _ _ (ix2 0 u) (ix1 u) (fun a => match a with | ⟨0, _⟩ => rfl)]
    rfl
  have h1 : (BitVec.ofNat 32 l.val).toInt = (l.val : ℤ) := by rw [BitVec.toInt_ofNat', Int.bmod_eq_of_le (by omega) (by omega)]
  have h2 : (BitVec.ofNat 32 u.val).toInt = (u.val : ℤ) := by rw [BitVec.toInt_ofNat', Int.bmod_eq_of_le (by omega) (by omega)]
  have h3 : (3968#32 : BitVec 32).toInt = 3968 := by decide
  have h4 : (BitVec.ofNat 32 l.val - BitVec.ofNat 32 u.val).toInt = (l.val : ℤ) - (u.val : ℤ) := by
    rw [BitVec.toInt_sub, h1, h2, Int.bmod_eq_of_le (by omega) (by omega)]
  refine Eq.trans ?_ (dist_eq (IntOp.addi (IntOp.subi (BitVec.ofNat 32 l.val) (BitVec.ofNat 32 u.val)) 3968#32) ((l.val : ℤ) - (u.val : ℤ) + 3968) (by
    show (BitVec.ofNat 32 l.val - BitVec.ofNat 32 u.val + 3968#32).toInt = _
    rw [BitVec.toInt_add, h4, h3, Int.bmod_eq_of_le (by omega) (by omega)]) (by omega))
  rw [← e1, ← e2]
  rfl

/-- The table, read at an index. -/
theorem V_table_apply (h : Fin 8) (l : Fin 128) (u : Fin 8064) :
    V m c main_v27 (ix3 h l u) = (bias h.val ((l.val : ℤ) - (u.val : ℤ) + 3968) : EReal) := by
  have e1 : broadcastInDim S8x128x8064 ![0, 1, 2] bcast_S8x1x1_S8x128x8064_0_1_2 (broadcastInDim S8x1x1 ![0] bcast_S8_S8x1x1_0 slopes) (ix3 h l u)
      = slopes (ix1 h) := by
    rw [broadcastInDim_apply _ _ _ (ix3 h l u) (ix3 h 0 0) (fun a => match a with | ⟨0, _⟩ => rfl | ⟨1, _⟩ => rfl | ⟨2, _⟩ => rfl),
      broadcastInDim_apply _ _ _ (ix3 h 0 0) (ix1 h) (fun a => match a with | ⟨0, _⟩ => rfl)]
  have e2 : broadcastInDim S8x128x8064 ![0, 1, 2] bcast_S1x128x8064_S8x128x8064_0_1_2 (broadcastInDim S1x128x8064 ![1, 2] bcast_S128x8064_S1x128x8064_1_2 dists)
      (ix3 h l u) = dists (ix2 l u) := by
    rw [broadcastInDim_apply _ _ _ (ix3 h l u) (ix3 0 l u) (fun a => match a with | ⟨0, _⟩ => rfl | ⟨1, _⟩ => rfl | ⟨2, _⟩ => rfl),
      broadcastInDim_apply _ _ _ (ix3 0 l u) (ix2 l u) (fun a => match a with | ⟨0, _⟩ => rfl | ⟨1, _⟩ => rfl)]
  rw [V_table]
  refine (mulf_apply _ _ _).trans ?_
  rw [e1, e2, slopes_apply, dists_apply]
  unfold bias
  rw [EReal.coe_mul]

/-- The flat rows, read at an index. -/
theorem flat_apply (i : S8192x3072.Idx) (b : Fin 2) (r : Fin 4096) (d : Fin 3072) (h0 : (i 0).val = 4096 * b.val + r.val) (h1 : (i 1).val = d.val) :
    shapeCast S8192x3072 (z m c) shapeCasts_S2x4096x3072_S8192x3072 i = z m c (ix3 b r d) := by
  rw [shapeCast_apply _ _ i (ix3 b r d) (by
    rw [Shape.rowMajor_val_three, Shape.rowMajor_val_two, h0, h1]
    show (b.val * 4096 + r.val) * 3072 + d.val = (4096 * b.val + r.val) * 3072 + d.val
    omega)]

theorem V_z_apply (i : S8192x3072.Idx) (b : Fin 2) (r : Fin 4096) (d : Fin 3072) (h0 : (i 0).val = 4096 * b.val + r.val) (h1 : (i 1).val = d.val) :
    V m c main_v0 i = z m c (ix3 b r d) := by
  rw [V_z]
  exact flat_apply m c i b r d h0 h1
theorem V_zb_apply (i : S8192x3072.Idx) (b : Fin 2) (r : Fin 4096) (d : Fin 3072) (h0 : (i 0).val = 4096 * b.val + r.val) (h1 : (i 1).val = d.val) :
    V m c main_v1 i = z m c (ix3 b r d) := by
  rw [V_zb]
  exact (truncf_apply (ψ := .bf16) _ bitsLt_bf16_f32 _).trans (flat_apply m c i b r d h0 h1)
theorem V_g_apply (e : Fin 128) : V m c main_v28 (ix2 0 e) = g m c (ix1 e) := by
  rw [V_g, shapeCast_apply _ _ (ix2 0 e) (ix1 e) (by
    rw [Shape.rowMajor_val_one, Shape.rowMajor_val_two]
    show e.val = 0 * 128 + e.val
    omega)]

end Cert.DiffIdeal.Array

end
-- ==== Proof.Diff.Array.lean ====
module

public import proofs.«01_k».proof.Proof.Diff.Block
public import proofs.«01_k».proof.Proof.Diff.Mix
public import proofs.«01_k».proof.Proof.Diff.Table

@[expose] public section

set_option maxRecDepth 16384

noncomputable section

/-! The result array of the differential attention, from the arguments. -/

namespace Cert.DiffIdeal.Array

open Cert.DiffIdeal Cert.DiffIdeal.Gen Idealize.ShloMosaic Idealize.ShloMosaic.TcCoe Idealize.SL.Sem
open Idealize.ShloMosaic.ValueIdx Cert.DiffAttention Cert.Online
open Idealize.ShloMosaic.Pipeline (Dat)
open scoped BigOperators

variable (m : (ℓ : Loc nD τ sig) → Buf (Elt Ideal) ℓ) (c : Dev nD)

/-- Grid point `t` works on batch `t / 16`, head `t / 2 % 8` and half `t % 2` of the queries. -/
theorem idx_facts : ∀ t : Fin cfg0.N, t.val < 32 ∧ (grid0.coords t (2 : Fin 3)).val = t.val % 2
    ∧ win0_0.index t (0 : Fin 2) = t.val / 16 * 2 + t.val % 2 ∧ win0_0.index t (1 : Fin 2) = t.val / 2 % 8
    ∧ win0_1.index t (0 : Fin 2) = t.val / 16 ∧ win0_1.index t (1 : Fin 2) = 8 + t.val / 2 % 8
    ∧ win0_2.index t (0 : Fin 2) = t.val / 16 ∧ win0_2.index t (1 : Fin 2) = 16 + t.val / 2 % 8
    ∧ win0_3.index t (0 : Fin 3) = t.val / 2 % 8 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 16 * 2 + t.val % 2 ∧ win0_6.index t (1 : Fin 2) = t.val / 2 % 8 :=
  (by decide +kernel : ∀ t : Fin grid0.N, _)

/-- The batch of a grid point. -/
def bat (t : Fin cfg0.N) : Fin 2 := ⟨t.val / 16, by have := (idx_facts t).1; omega⟩
/-- The head of a grid point. -/
def hd (t : Fin cfg0.N) : Fin 8 := ⟨t.val / 2 % 8, Nat.mod_lt _ (by omega)⟩
/-- The row of the batch that row `r` of a grid point's queries is. -/
def row (t : Fin cfg0.N) (r : Fin 2048) : Fin 4096 := ⟨2048 * (t.val % 2) + r.val, by omega⟩

theorem q_block (t : Fin cfg0.N) (r : Fin 2048) (d : Fin 128) :
    (iblk m c 0 t : Vec Ideal S2048x128 .f32) (ix2 r d) = z m c (ix3 (bat t) (row t r) ⟨128 * (hd t).val + d.val, by omega⟩) := by
  obtain ⟨_, _, e0, e1, _⟩ := idx_facts t
  show V m c main_v0 (((cfg0.win 0).blk t).view.emb (ix2 r d)) = _
  refine V_z_apply m c _ (bat t) (row t r) _ ?_ ?_
  · show win0_0.index t (0 : Fin 2) * 2048 + 1 * r.val = 4096 * (t.val / 16) + (2048 * (t.val % 2) + r.val); omega
  · show win0_0.index t (1 : Fin 2) * 128 + 1 * d.val = 128 * (t.val / 2 % 8) + d.val; omega

theorem k_block (t : Fin cfg0.N) (k : Fin 4096) (d : Fin 128) :
    (iblk m c 1 t : Vec Ideal S4096x128 .bf16) (ix2 k d) = z m c (ix3 (bat t) k ⟨1024 + 128 * (hd t).val + d.val, by omega⟩) := by
  obtain ⟨_, _, _, _, e0, e1, _⟩ := idx_facts t
  show V m c main_v1 (((cfg0.win 1).blk t).view.emb (ix2 k d)) = _
  refine V_zb_apply m c _ (bat t) k _ ?_ ?_
  · show win0_1.index t (0 : Fin 2) * 4096 + 1 * k.val = 4096 * (t.val / 16) + k.val; omega
  · show win0_1.index t (1 : Fin 2) * 128 + 1 * d.val = 1024 + 128 * (t.val / 2 % 8) + d.val; omega

theorem v_block (t : Fin cfg0.N) (k : Fin 4096) (d : Fin 128) :
    (iblk m c 2 t : Vec Ideal S4096x128 .bf16) (ix2 k d) = z m c (ix3 (bat t) k ⟨2048 + 128 * (hd t).val + d.val, by omega⟩) := by
  obtain ⟨_, _, _, _, _, _, e0, e1, _⟩ := idx_facts t
  show V m c main_v1 (((cfg0.win 2).blk t).view.emb (ix2 k d)) = _
  refine V_zb_apply m c _ (bat t) k _ ?_ ?_
  · show win0_2.index t (0 : Fin 2) * 4096 + 1 * k.val = 4096 * (t.val / 16) + k.val; omega
  · show win0_2.index t (1 : Fin 2) * 128 + 1 * d.val = 2048 + 128 * (t.val / 2 % 8) + d.val; omega

theorem b_block (t : Fin cfg0.N) (l : Fin 128) (u : Fin 8064) :
    (iblk m c 3 t : Vec Ideal S1x128x8064 .f32) (ix3 0 l u) = (bias (hd t).val ((l.val : ℤ) - (u.val : ℤ) + 3968) : EReal) := by
  rw [← V_table_apply m c]
  obtain ⟨_, _, _, _, _, _, _, _, e0, e1, e2, _⟩ := idx_facts t
  show V m c main_v27 (((cfg0.win 3).blk t).view.emb (ix3 0 l u)) = _
  refine congrArg (V m c main_v27) (funext fun a => Fin.ext ?_)
  match a with
  | ⟨0, _⟩ => show win0_3.index t (0 : Fin 3) * 1 + 1 * 0 = t.val / 2 % 8; omega
  | ⟨1, _⟩ => show win0_3.index t (1 : Fin 3) * 128 + 1 * l.val = l.val; omega
  | ⟨2, _⟩ => show win0_3.index t (2 : Fin 3) * 8064 + 1 * u.val = u.val; omega

theorem x_block (t : Fin cfg0.N) : (iblk m c 4 t : Vec Ideal S4x64 .f32) = x m c := by
  rw [← V_x]
  obtain ⟨_, _, _, _, _, _, _, _, _, _, _, e0, e1, _⟩ := idx_facts t
  funext j
  show V m c main_arg1 (((cfg0.win 4).blk t).view.emb j) = _
  refine congrArg (V m c main_arg1) (funext fun a => Fin.ext ?_)
  match a with
  | ⟨0, _⟩ => show win0_4.index t (0 : Fin 2) * 4 + 1 * (j 0).val = (j 0).val; omega
  | ⟨1, _⟩ => show win0_4.index t (1 : Fin 2) * 64 + 1 * (j 1).val = (j 1).val; omega

theorem g_block (t : Fin cfg0.N) (e : Fin 128) : (iblk m c 5 t : Vec Ideal S1x128 .f32) (ix2 0 e) = g m c (ix1 e) := by
  rw [← V_g_apply]
  obtain ⟨_, _, _, _, _, _, _, _, _, _, _, _, _, e0, e1, _⟩ := idx_facts t
  show V m c main_v28 (((cfg0.win 5).blk t).view.emb (ix2 0 e)) = _
  refine congrArg (V m c main_v28) (funext fun a => Fin.ext ?_)
  match a with
  | ⟨0, _⟩ => show win0_5.index t (0 : Fin 2) * 1 + 1 * 0 = 0; omega
  | ⟨1, _⟩ => show win0_5.index t (1 : Fin 2) * 128 + 1 * e.val = e.val; omega

/-- A score of a grid point is the specification's. -/
theorem nat_eq (t : Fin cfg0.N) (p : Fin 2) (r : Fin 2048) (R : Fin 4096) (hR : R.val = 2048 * p.val + r.val) (k : Fin 4096) :
    Block.nat (grid0.coords t) (fun r d => (z m c (ix3 (bat t) (row t r) ⟨128 * (hd t).val + d.val, by omega⟩)).toReal)
      (fun k d => (z m c (ix3 (bat t) k ⟨1024 + 128 * (hd t).val + d.val, by omega⟩)).toReal) (hd t).val R k.val
      = score (z m c) (bat t) (hd t) p (row t r) k := by
  have hp : Block.halfOf R = p := Fin.ext (by show R.val / 2048 = p.val; omega)
  have hr : (⟨R.val % 2048, Nat.mod_lt _ (by decide)⟩ : Fin 2048) = r := Fin.ext (by show R.val % 2048 = r.val; omega)
  have hr' : R.val % 2048 = r.val := by omega
  have hk : (⟨k.val % 4096, Nat.mod_lt _ (by decide)⟩ : Fin 4096) = k := Fin.ext (Nat.mod_eq_of_lt k.isLt)
  have hk' : k.val % 4096 = k.val := Nat.mod_eq_of_lt k.isLt
  unfold Block.nat score
  rw [(idx_facts t).2.1]
  refine congrArg₂ (fun a b : ℝ => a * (1 / 8) + b) (Finset.sum_congr rfl fun d _ => ?_) ?_
  · rw [hr, hk]
    simp only [hp]
    unfold qr kr
    refine congrArg₂ (fun a b : Fin 3072 => (z m c (ix3 (bat t) (row t r) a)).toReal * (z m c (ix3 (bat t) k b)).toReal) (Fin.ext ?_) (Fin.ext ?_)
    · show 128 * (hd t).val + (64 * p.val + d.val) = 128 * (hd t).val + 64 * p.val + d.val; omega
    · show 1024 + 128 * (hd t).val + (64 * p.val + d.val) = 1024 + 128 * (hd t).val + 64 * p.val + d.val; omega
  · rw [hr', hk']
    rfl

/-- A block of the result, from the values its scratch holds. -/
theorem block_apply (hz : IsReal (z m c)) (hx : IsReal (x m c)) (t : Fin cfg0.N) (x2 : Vec Ideal S4096x128 .bf16)
    (h2 : ∀ k d, x2 (ix2 k d) = z m c (ix3 (bat t) k ⟨2048 + 128 * (hd t).val + d.val, by omega⟩)) (r : Fin 2048) (e : Fin 128) :
    Block.block (grid0.coords t) (iblk m c 0 t) (iblk m c 1 t) (Block.wide x2) (iblk m c 3 t) (iblk m c 4 t) (iblk m c 5 t) (ix2 r e)
      = DiffAttention.norm (fun e => (att (z m c) (x m c) (bat t) (hd t) (row t r) e : EReal)) (g m c) e := by
  rw [Block.block_eq (grid0.coords t) (iblk m c 0 t) (iblk m c 1 t) x2 (iblk m c 3 t) (iblk m c 4 t) (iblk m c 5 t)
    (fun r d => (z m c (ix3 (bat t) (row t r) ⟨128 * (hd t).val + d.val, by omega⟩)).toReal)
    (fun k d => (z m c (ix3 (bat t) k ⟨1024 + 128 * (hd t).val + d.val, by omega⟩)).toReal)
    (fun k d => (z m c (ix3 (bat t) k ⟨2048 + 128 * (hd t).val + d.val, by omega⟩)).toReal) (hd t).val (g m c)
    (fun r d => (q_block m c t r d).trans (hz.toReal _)) (fun k d => (k_block m c t k d).trans (hz.toReal _))
    (fun k d => (h2 k d).trans (hz.toReal _)) (b_block m c t) (by rw [x_block]; exact hx) (g_block m c t)]
  congr 1
  funext e
  rw [x_block]
  unfold att
  congr 1
  refine Finset.sum_congr rfl fun k _ => ?_
  have h0 := fun k => nat_eq m c t 0 r ⟨r.val, by omega⟩ (by show r.val = 2048 * 0 + r.val; omega) k
  have h1 := fun k => nat_eq m c t 1 r ⟨2048 + r.val, by omega⟩ (by show 2048 + r.val = 2048 * 1 + r.val; omega) k
  simp only [h0, h1]
  rfl

/-- What a grid point leaves in its block of the output. -/
theorem point_eq (hz : IsReal (z m c)) (hx : IsReal (x m c)) (t : Fin cfg0.N) (r : Fin 2048) (e : Fin 128) :
    (outsAt0 m c t.val t.isLt).1 (ix2 r e)
      = DiffAttention.norm (fun e => (att (z m c) (x m c) (bat t) (hd t) (row t r) e : EReal)) (g m c) e := by
  by_cases hc : t.val % 2 = 0
  · rw [outsAt0_A m c t hc]
    dsimp only
    rw [Block.out_A]
    exact block_apply m c hz hx t _ (v_block m c t) r e
  · rw [outsAt0_B m c t hc]
    dsimp only
    rw [Block.out_B]
    have hs : ∀ (n : ℕ) (hn : n < cfg0.N), n % 2 = 0 → (outsAt0 m c n hn).2 = Block.wide (iblk m c 2 ⟨n, hn⟩) := fun n hn h0 => by
      rw [show outsAt0 m c n hn = _ from outsAt0_A m c ⟨n, hn⟩ h0]
      dsimp only
      exact Block.sout_A_0 _ _ _ _ _ _ _ _ _ _ _ _ _ _ _ _ _ _ _ _ _ _ _ _ _
    rw [hs _ _ (by omega)]
    refine block_apply m c hz hx t _ (fun k d => (v_block m c _ k d).trans ?_) r e
    have hb : bat ⟨t.val - 1, by have := t.isLt; omega⟩ = bat t := Fin.ext (by show (t.val - 1) / 16 = t.val / 16; omega)
    have hh : (hd ⟨t.val - 1, by have := t.isLt; omega⟩).val = (hd t).val := by show (t.val - 1) / 2 % 8 = t.val / 2 % 8; omega
    simp only [hb, hh]

/-- What a point writes back is its block of the result. -/
theorem flushed_eq (hz : IsReal (z m c)) (hx : IsReal (x m c)) (t : Fin cfg0.N) :
    (dats m 0 c).flushed 6 t = ((cfg0.win 6).blk t).view.read (Elt Ideal) (out (z m c) (x m c) (g m c)) := by
  rw [Value.flushed6]
  obtain ⟨hN, _, _, _, _, _, _, _, _, _, _, _, _, _, _, f0, f1⟩ := idx_facts t
  funext y
  have hy0 : (y 0).val < 2048 := (y 0).isLt
  have hy1 : (y 1).val < 128 := (y 1).isLt
  have hb0 : (((cfg0.win 6).blk t).view.emb y 0).val = win0_6.index t (0 : Fin 2) * 2048 + 1 * (y 0).val := rfl
  have hb1 : (((cfg0.win 6).blk t).view.emb y 1).val = win0_6.index t (1 : Fin 2) * 128 + 1 * (y 1).val := rfl
  have hx' : (cfg0.win 6).xinj (grid0.coords t) y = ix2 (⟨(y 0).val, hy0⟩ : Fin 2048) (⟨(y 1).val, hy1⟩ : Fin 128) := by
    funext a; apply Fin.ext
    match a with
    | ⟨0, _⟩ => rfl
    | ⟨1, _⟩ => rfl
  show (outsAt0 m c t.val t.isLt).1 ((cfg0.win 6).xinj (grid0.coords t) y) = out (z m c) (x m c) (g m c) (((cfg0.win 6).blk t).view.emb y)
  rw [hx', point_eq m c hz hx]
  have g0 : (⟨(((cfg0.win 6).blk t).view.emb y 0).val / 4096, by rw [hb0]; omega⟩ : Fin 2) = bat t :=
    Fin.ext (by show (((cfg0.win 6).blk t).view.emb y 0).val / 4096 = t.val / 16; rw [hb0]; omega)
  have g1 : (⟨(((cfg0.win 6).blk t).view.emb y 1).val / 128, by rw [hb1]; omega⟩ : Fin 8) = hd t :=
    Fin.ext (by show (((cfg0.win 6).blk t).view.emb y 1).val / 128 = t.val / 2 % 8; rw [hb1]; omega)
  have g2 : (⟨(((cfg0.win 6).blk t).view.emb y 0).val % 4096, Nat.mod_lt _ (by omega)⟩ : Fin 4096) = row t ⟨(y 0).val, hy0⟩ :=
    Fin.ext (by show (((cfg0.win 6).blk t).view.emb y 0).val % 4096 = 2048 * (t.val % 2) + (y 0).val; rw [hb0]; omega)
  have g3 : (⟨(((cfg0.win 6).blk t).view.emb y 1).val % 128, Nat.mod_lt _ (by omega)⟩ : Fin 128) = ⟨(y 1).val, hy1⟩ :=
    Fin.ext (by show (((cfg0.win 6).blk t).view.emb y 1).val % 128 = (y 1).val; rw [hb1]; omega)
  unfold out
  rw [g0, g1, g2, g3]

/-- An index of the array is in point `t`'s block iff each coordinate is in the block's range on its axis. -/
theorem mem_block (t : Fin cfg0.N) (i : S8192x1024.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v29).slice (win0_6.rect t)).set ↔ _
  rw [View.set_slice_whole, Rect.mem_set_unit]
  exact Iff.rfl

theorem flushes : ∀ t : Fin cfg0.N, (cfg0.win 6).flush t = true :=
  (by decide +kernel : ∀ t : Fin grid0.N, win0_6.flush t = true)

/-- The result array after the run. -/
theorem final (hz : IsReal (z m c)) (hx : IsReal (x m c)) :
    (dats m 0 c).arrAt 6 cfg0.N = out (z m c) (x m c) (g m c) :=
  (dats m 0 c).arrAt_eq_of_cover 6 _ (fun t _ => flushed_eq m c hz hx t) (fun i => by
    have h0 : (i 0).val < 8192 := (i 0).isLt
    have h1 : (i 1).val < 1024 := (i 1).isLt
    have hN : cfg0.N = 32 := N_0
    refine ⟨⟨16 * ((i 0).val / 4096) + 2 * ((i 1).val / 128) + (i 0).val / 2048 % 2, by omega⟩, flushes _, ?_⟩
    generalize ht : (⟨16 * ((i 0).val / 4096) + 2 * ((i 1).val / 128) + (i 0).val / 2048 % 2, by omega⟩ : Fin cfg0.N) = t
    have hv : t.val = 16 * ((i 0).val / 4096) + 2 * ((i 1).val / 128) + (i 0).val / 2048 % 2 := by rw [← ht]
    obtain ⟨_, _, _, _, _, _, _, _, _, _, _, _, _, _, _, f0, f1⟩ := idx_facts t
    rw [mem_block]
    intro a
    match a with
    | ⟨0, _⟩ => show win0_6.index t (0 : Fin 2) * 2048 ≤ (i 0).val ∧ (i 0).val < win0_6.index t (0 : Fin 2) * 2048 + 2048; omega
    | ⟨1, _⟩ => show win0_6.index t (1 : Fin 2) * 128 ≤ (i 1).val ∧ (i 1).val < win0_6.index t (1 : Fin 2) * 128 + 128; omega)

end Cert.DiffIdeal.Array

end
-- ==== Proof.Diff.Ref.lean ====
module

public import proofs.«01_k».proof.Proof.Diff.Spec
public import proofs.«01_k».proof.Proof.Gen.DiffReferenceIdeal.Read
public import Idealize.ShloMosaic.Lib.KernelVsHost

@[expose] public section

set_option maxRecDepth 16384

noncomputable section

/-! The differential attention's reference, read at an index. -/

namespace Cert.DiffReferenceIdeal.Ref

open Cert.DiffReferenceIdeal Cert.DiffReferenceIdeal.Gen Cert.DiffReferenceIdeal.Read Idealize.ShloMosaic Idealize.ShloMosaic.ValueIdx
open Cert.DiffAttention Cert.Online
open scoped BigOperators

/-- The bias of two rows. -/
theorem bias_apply (h : Fin 8) (r j : Fin 4096) :
    val_main_v52 (F := Ideal) (ix3 h r j) = (bias h.val ((r.val : ℤ) - (j.val : ℤ)) : EReal) := by
  rw [val_main_v52_apply, val_main_v50_apply, val_main_v51_apply, val_main_v49_apply, val_main_v48_apply, val_main_v47_apply,
    val_main_v46_apply, val_main_v44_apply, val_main_v45_apply, val_main_v42_apply, val_main_v43_apply, val_main_v39_apply, val_main_v39_apply,
    val_main_v41_apply, val_main_v40_apply, val_main_v38_apply, val_main_v37_apply, val_main_v36_apply, val_main_v35_apply, val_main_v34_apply,
    val_main_v33_apply, val_main_v32_apply, val_main_v31_apply]
  have hs := slope_eq h.val h.isLt
  have hd := dist_eq (IntOp.subi (BitVec.ofNat 32 r.val) (BitVec.ofNat 32 j.val)) ((r.val : ℤ) - (j.val : ℤ)) (by
    have h1 : (BitVec.ofNat 32 r.val).toInt = (r.val : ℤ) := by rw [BitVec.toInt_ofNat', Int.bmod_eq_of_le (by omega) (by omega)]
    have h2 : (BitVec.ofNat 32 j.val).toInt = (j.val : ℤ) := by rw [BitVec.toInt_ofNat', Int.bmod_eq_of_le (by omega) (by omega)]
    show (BitVec.ofNat 32 r.val - BitVec.ofNat 32 j.val).toInt = _
    rw [BitVec.toInt_sub, h1, h2, Int.bmod_eq_of_le (by omega) (by omega)]) (by omega)
  unfold bias
  rw [EReal.coe_mul, EReal.coe_neg, ← hs, ← hd]
  rfl

variable (z : Zs.Idx → EReal) (hz : IsReal z)
include hz

theorem q_apply (b : Fin 2) (h : Fin 8) (p : Fin 2) (r : Fin 4096) (d : Fin 64) :
    val_main_v3 (F := Ideal) z (ix5 b r h p d) = (qr z b h p r d : EReal) := by
  unfold qr
  rw [val_main_v3_apply, val_main_v0_apply, ← hz.toReal]
  congr 1
  have hb := b.isLt
  have hr := r.isLt
  have hh := h.isLt
  have hp := p.isLt
  have hd := d.isLt
  funext a; apply Fin.ext
  match a with
  | ⟨0, _⟩ => show ((((b.val * 4096 + r.val) * 8 + h.val) * 2 + p.val) * 64 + d.val) / 4194304 = b.val; omega
  | ⟨1, _⟩ => show ((((b.val * 4096 + r.val) * 8 + h.val) * 2 + p.val) * 64 + d.val) / 1024 % 4096 = r.val; omega
  | ⟨2, _⟩ => show ((((b.val * 4096 + r.val) * 8 + h.val) * 2 + p.val) * 64 + d.val) % 1024 = 128 * h.val + 64 * p.val + d.val; omega

theorem k_apply (b : Fin 2) (h : Fin 8) (p : Fin 2) (r : Fin 4096) (d : Fin 64) :
    val_main_v4 (F := Ideal) z (ix5 b r h p d) = (kr z b h p r d : EReal) := by
  unfold kr
  rw [val_main_v4_apply, val_main_v1_apply, ← hz.toReal]
  congr 1
  have hb := b.isLt
  have hr := r.isLt
  have hh := h.isLt
  have hp := p.isLt
  have hd := d.isLt
  funext a; apply Fin.ext
  match a with
  | ⟨0, _⟩ => show ((((b.val * 4096 + r.val) * 8 + h.val) * 2 + p.val) * 64 + d.val) / 4194304 = b.val; omega
  | ⟨1, _⟩ => show ((((b.val * 4096 + r.val) * 8 + h.val) * 2 + p.val) * 64 + d.val) / 1024 % 4096 = r.val; omega
  | ⟨2, _⟩ => show 1024 + ((((b.val * 4096 + r.val) * 8 + h.val) * 2 + p.val) * 64 + d.val) % 1024 = 1024 + 128 * h.val + 64 * p.val + d.val; omega

theorem v_apply (b : Fin 2) (h : Fin 8) (r : Fin 4096) (e : Fin 128) :
    val_main_v5 (F := Ideal) z (ix4 b r h e) = (vr z b h r e : EReal) := by
  unfold vr
  rw [val_main_v5_apply, val_main_v2_apply, ← hz.toReal]
  congr 1
  have hb := b.isLt
  have hr := r.isLt
  have hh := h.isLt
  have he := e.isLt
  funext a; apply Fin.ext
  match a with
  | ⟨0, _⟩ => show (((b.val * 4096 + r.val) * 8 + h.val) * 128 + e.val) / 4194304 = b.val; omega
  | ⟨1, _⟩ => show (((b.val * 4096 + r.val) * 8 + h.val) * 128 + e.val) / 1024 % 4096 = r.val; omega
  | ⟨2, _⟩ => show 2048 + (((b.val * 4096 + r.val) * 8 + h.val) * 128 + e.val) % 1024 = 2048 + 128 * h.val + e.val; omega

omit hz in
/-- The half of a head dropped to its own axis, undone: the index. -/
theorem half_idx (i : S2x4096x8x2x64.Idx) (b : Fin 2) (h : Fin 8) (p : Fin 2) (r : Fin 4096) (d : Fin 64)
    (h0 : (i 0).val = (((b.val * 4096 + r.val) * 8 + h.val) * 64 + d.val) / 2097152)
    (h1 : (i 1).val = (((b.val * 4096 + r.val) * 8 + h.val) * 64 + d.val) / 512 % 4096)
    (h2 : (i 2).val = (((b.val * 4096 + r.val) * 8 + h.val) * 64 + d.val) / 64 % 8)
    (h3 : (i 3).val = p.val)
    (h4 : (i 4).val = (((b.val * 4096 + r.val) * 8 + h.val) * 64 + d.val) % 64) : i = ix5 b r h p d := by
  have hb := b.isLt
  have hr := r.isLt
  have hh := h.isLt
  have hd := d.isLt
  funext a; apply Fin.ext
  match a with
  | ⟨0, _⟩ => refine h0.trans ?_; show _ = b.val; omega
  | ⟨1, _⟩ => refine h1.trans ?_; show _ = r.val; omega
  | ⟨2, _⟩ => refine h2.trans ?_; show _ = h.val; omega
  | ⟨3, _⟩ => exact h3
  | ⟨4, _⟩ => refine h4.trans ?_; show _ = d.val; omega

theorem q1_apply (b : Fin 2) (h : Fin 8) (r : Fin 4096) (d : Fin 64) :
    val_main_v7 (F := Ideal) z (ix4 b r h d) = (qr z b h 0 r d : EReal) := by
  rw [val_main_v7_apply, val_main_v6_apply, ← q_apply z hz]
  congr 1
  exact half_idx _ b h 0 r d rfl rfl rfl rfl rfl

theorem q2_apply (b : Fin 2) (h : Fin 8) (r : Fin 4096) (d : Fin 64) :
    val_main_v9 (F := Ideal) z (ix4 b r h d) = (qr z b h 1 r d : EReal) := by
  rw [val_main_v9_apply, val_main_v8_apply, ← q_apply z hz]
  congr 1
  exact half_idx _ b h 1 r d rfl rfl rfl rfl rfl

theorem k1_apply (b : Fin 2) (h : Fin 8) (r : Fin 4096) (d : Fin 64) :
    val_main_v11 (F := Ideal) z (ix4 b r h d) = (kr z b h 0 r d : EReal) := by
  rw [val_main_v11_apply, val_main_v10_apply, ← k_apply z hz]
  congr 1
  exact half_idx _ b h 0 r d rfl rfl rfl rfl rfl

theorem k2_apply (b : Fin 2) (h : Fin 8) (r : Fin 4096) (d : Fin 64) :
    val_main_v13 (F := Ideal) z (ix4 b r h d) = (kr z b h 1 r d : EReal) := by
  rw [val_main_v13_apply, val_main_v12_apply, ← k_apply z hz]
  congr 1
  exact half_idx _ b h 1 r d rfl rfl rfl rfl rfl

omit hz in
/-- The host's scale of the scores. -/
theorem eighth : (FloatOps.ofBits .f32 0x3E000000#32 : Ideal .f32) = ((1 / 8 : ℝ) : EReal) := by
  show Ideal.ofBits .f32 0x3E000000#32 = _
  simp [Ideal.ofBits, Ideal.ieee, -EReal.coe_mul]; norm_num

theorem score1_apply (b : Fin 2) (h : Fin 8) (r j : Fin 4096) :
    val_main_v58 (F := Ideal) z (ix4 b h r j) = (score z b h 0 r j : EReal) := by
  rw [val_main_v58_apply, val_main_v55_apply, val_main_v54_apply, val_main_cst_6_apply, eighth, val_main_v53_apply,
    val_main_v57_apply, val_main_v56_apply]
  have hi : idx_main_v56 (idx_main_v57 (ix4 b h r j)) = ix3 h r j := by
    funext a; match a with | ⟨0, _⟩ => rfl | ⟨1, _⟩ => rfl | ⟨2, _⟩ => rfl
  rw [hi, bias_apply]
  unfold score
  show (∑ d : Fin 64, _) * _ + _ = _
  rw [EReal.coe_add, EReal.coe_mul, ← sum_coe]
  refine congrArg (fun w : EReal => w * ((1 / 8 : ℝ) : EReal) + (bias h.val ((r.val : ℤ) - (j.val : ℤ)) : EReal)) ?_
  refine Finset.sum_congr rfl fun d _ => ?_
  rw [EReal.coe_mul, ← q1_apply z hz, ← k1_apply z hz]
  congr 1

theorem score2_apply (b : Fin 2) (h : Fin 8) (r j : Fin 4096) :
    val_main_v64 (F := Ideal) z (ix4 b h r j) = (score z b h 1 r j : EReal) := by
  rw [val_main_v64_apply, val_main_v61_apply, val_main_v60_apply, val_main_cst_7_apply, eighth, val_main_v59_apply,
    val_main_v63_apply, val_main_v62_apply]
  have hi : idx_main_v62 (idx_main_v63 (ix4 b h r j)) = ix3 h r j := by
    funext a; match a with | ⟨0, _⟩ => rfl | ⟨1, _⟩ => rfl | ⟨2, _⟩ => rfl
  rw [hi, bias_apply]
  unfold score
  show (∑ d : Fin 64, _) * _ + _ = _
  rw [EReal.coe_add, EReal.coe_mul, ← sum_coe]
  refine congrArg (fun w : EReal => w * ((1 / 8 : ℝ) : EReal) + (bias h.val ((r.val : ℤ) - (j.val : ℤ)) : EReal)) ?_
  refine Finset.sum_congr rfl fun d _ => ?_
  rw [EReal.coe_mul, ← q2_apply z hz, ← k2_apply z hz]
  congr 1

omit hz in
/-- The host's row maximum of an array of reals is real. -/
theorem max_real (y : FVec Ideal S2x8x4096x4096 .f32) (t : Fin 4096 → ℝ) (b : Fin 2) (h : Fin 8) (r : Fin 4096)
    (hy : ∀ j, y (ix4 b h r j) = (t j : EReal)) :
    ∃ τ : ℝ, (FloatOps.maximumf (FloatOps.ofBits .f32 0xFF800000#32) (Host.reduce (FloatOps.maximumf (F := Ideal) (φ := .f32)) y (constant S_ .f32 0xFF800000#32)
      reducesTo_S2x8x4096x4096_S2x8x4096_d3 h_S_ (ix3 b h r)) : Ideal .f32) = (τ : EReal) := by
  have hb : Ideal.ofBits .f32 0xFF800000#32 = (⊥ : EReal) := by
    simp [Ideal.ofBits, Ideal.ieee]
  obtain ⟨τ, hτ⟩ := fold_max_real (Finset.univ : Finset (Fin 4096)) Finset.univ_nonempty (fun j => y (ix4 b h r j)) (fun j => ⟨_, hy j⟩)
  refine ⟨τ, ?_⟩
  have hv : Host.reduce (FloatOps.maximumf (F := Ideal) (φ := .f32)) y (constant S_ .f32 0xFF800000#32)
      reducesTo_S2x8x4096x4096_S2x8x4096_d3 h_S_ (ix3 b h r) = (Finset.univ : Finset (Fin 4096)).fold max ⊥ (fun j => y (ix4 b h r j)) := by
    refine (congrFun (hostReduce_maximumf_eq_multiReduction (F := Ideal) (φ := .f32) y 0xFF800000#32 reducesTo_S2x8x4096x4096_S2x8x4096_d3 h_S_
      (by decide : S2x8x4096x4096.Reduces [3] S2x8x4096) (.inl rfl) rfl) (ix3 b h r)).trans ?_
    refine (Ideal.multiReduction_maximumf_single y _ (by decide) (.inl rfl) rfl (ix3 b h r)).trans ?_
    have hb' : (FloatOps.ofBits FTy.f32 (FKind.maximumf.neutral FTy.f32 (.inl rfl)) : Ideal .f32) = (⊥ : EReal) := hb
    rw [hb']
    congr 1
    funext j
    show y _ = y _
    congr 1
    funext a; apply Fin.ext
    match a with
    | ⟨0, _⟩ => rfl
    | ⟨1, _⟩ => rfl
    | ⟨2, _⟩ => rfl
    | ⟨3, _⟩ => rfl
  rw [hv, hτ]
  show max (Ideal.ofBits .f32 0xFF800000#32) (τ : EReal) = _
  rw [hb]
  exact max_eq_right bot_le

theorem weight1_apply (b : Fin 2) (h : Fin 8) (r j : Fin 4096) :
    val_main_v75 (F := Ideal) z (ix4 b h r j) = (soft (score z b h 0 r) j : EReal) := by
  obtain ⟨τ, hτ⟩ := max_real (val_main_v58 (F := Ideal) z) (score z b h 0 r) b h r (score1_apply z hz b h r)
  have hm : val_main_v67 (F := Ideal) z (ix3 b h r) = (τ : EReal) := by
    rw [val_main_v67_apply, val_main_v66_apply, val_main_cst_9_apply]
    unfold val_main_v65 val_main_cst_8
    exact hτ
  have he : ∀ j, val_main_v71 (F := Ideal) z (ix4 b h r j) = Ideal.exp ((score z b h 0 r j : EReal) - (τ : EReal)) := fun j => by
    rw [val_main_v71_apply, val_main_v70_apply, val_main_v69_apply, val_main_v68_apply, score1_apply z hz]
    have hi : idx_main_v68 (idx_main_v69 (ix4 b h r j)) = ix3 b h r := by
      funext a; match a with | ⟨0, _⟩ => rfl | ⟨1, _⟩ => rfl | ⟨2, _⟩ => rfl
    rw [hi, hm]
    rfl
  rw [val_main_v75_apply, val_main_v74_apply, val_main_v73_apply, val_main_v72_apply, he, val_main_cst_10_apply]
  rw [← ref_weight _ τ]
  have hz0 : (FloatOps.ofBits FTy.f32 0x00000000#32 : Ideal .f32) = (0 : EReal) := Ideal.ofBits_zero_f32
  rw [hz0]
  refine congrArg (fun w : EReal => Ideal.div (Ideal.exp ((score z b h 0 r j : EReal) - (τ : EReal))) (0 + w)) ?_
  refine Finset.sum_congr rfl fun j' _ => ?_
  rw [← he]
  refine congrArg (val_main_v71 (F := Ideal) z) ?_
  funext a; match a with | ⟨0, _⟩ => rfl | ⟨1, _⟩ => rfl | ⟨2, _⟩ => rfl | ⟨3, _⟩ => rfl

theorem weight2_apply (b : Fin 2) (h : Fin 8) (r j : Fin 4096) :
    val_main_v86 (F := Ideal) z (ix4 b h r j) = (soft (score z b h 1 r) j : EReal) := by
  obtain ⟨τ, hτ⟩ := max_real (val_main_v64 (F := Ideal) z) (score z b h 1 r) b h r (score2_apply z hz b h r)
  have hm : val_main_v78 (F := Ideal) z (ix3 b h r) = (τ : EReal) := by
    rw [val_main_v78_apply, val_main_v77_apply, val_main_cst_12_apply]
    unfold val_main_v76 val_main_cst_11
    exact hτ
  have he : ∀ j, val_main_v82 (F := Ideal) z (ix4 b h r j) = Ideal.exp ((score z b h 1 r j : EReal) - (τ : EReal)) := fun j => by
    rw [val_main_v82_apply, val_main_v81_apply, val_main_v80_apply, val_main_v79_apply, score2_apply z hz]
    have hi : idx_main_v79 (idx_main_v80 (ix4 b h r j)) = ix3 b h r := by
      funext a; match a with | ⟨0, _⟩ => rfl | ⟨1, _⟩ => rfl | ⟨2, _⟩ => rfl
    rw [hi, hm]
    rfl
  rw [val_main_v86_apply, val_main_v85_apply, val_main_v84_apply, val_main_v83_apply, he, val_main_cst_13_apply]
  rw [← ref_weight _ τ]
  have hz0 : (FloatOps.ofBits FTy.f32 0x00000000#32 : Ideal .f32) = (0 : EReal) := Ideal.ofBits_zero_f32
  rw [hz0]
  refine congrArg (fun w : EReal => Ideal.div (Ideal.exp ((score z b h 1 r j : EReal) - (τ : EReal))) (0 + w)) ?_
  refine Finset.sum_congr rfl fun j' _ => ?_
  rw [← he]
  refine congrArg (val_main_v82 (F := Ideal) z) ?_
  funext a; match a with | ⟨0, _⟩ => rfl | ⟨1, _⟩ => rfl | ⟨2, _⟩ => rfl | ⟨3, _⟩ => rfl

omit z hz in
/-- A sum over the indices of a vector. -/
theorem sum_vec {n : ℕ} (f : (⟨1, ![n]⟩ : Shape).Idx → EReal) : ∑ j, f j = ∑ d : Fin n, f (ix1 d) :=
  Fintype.sum_equiv ⟨fun i => i 0, ix1, fun i => (eq_ix1 i).symm, fun _ => rfl⟩ _ _ fun i => congrArg f (eq_ix1 i)

omit z hz in
/-- The mixing weight. -/
theorem lam_apply (x : Ls.Idx → EReal) (hx : DiffAttention.IsReal x) (i : S_.Idx) : val_main_v29 (F := Ideal) x i = (lam x : EReal) := by
  have hz0 : (FloatOps.ofBits FTy.f32 0x00000000#32 : Ideal .f32) = (0 : EReal) := Ideal.ofBits_zero_f32
  have h1 : val_main_v19 (F := Ideal) x i = ((∑ d : Fin 64, (x (ix2 0 d)).toReal * (x (ix2 1 d)).toReal : ℝ) : EReal) := by
    rw [val_main_v19_apply, val_main_cst_apply, hz0, zero_add, ← sum_coe]
    refine (sum_vec _).trans (Finset.sum_congr rfl fun d _ => ?_)
    rw [val_main_v18_apply, val_main_v15_apply, val_main_v14_apply, val_main_v17_apply, val_main_v16_apply, EReal.coe_mul, ← hx.toReal, ← hx.toReal]
    have hd := d.isLt
    refine congrArg₂ (fun a b : EReal => a * b) (congrArg x ?_) (congrArg x ?_)
    · funext a; apply Fin.ext
      match a with
      | ⟨0, _⟩ => rfl
      | ⟨1, _⟩ => show d.val % 64 = d.val; omega
    · funext a; apply Fin.ext
      match a with
      | ⟨0, _⟩ => rfl
      | ⟨1, _⟩ => show d.val % 64 = d.val; omega
  have h2 : val_main_v26 (F := Ideal) x i = ((∑ d : Fin 64, (x (ix2 2 d)).toReal * (x (ix2 3 d)).toReal : ℝ) : EReal) := by
    rw [val_main_v26_apply, val_main_cst_0_apply, hz0, zero_add, ← sum_coe]
    refine (sum_vec _).trans (Finset.sum_congr rfl fun d _ => ?_)
    rw [val_main_v25_apply, val_main_v22_apply, val_main_v21_apply, val_main_v24_apply, val_main_v23_apply, EReal.coe_mul, ← hx.toReal, ← hx.toReal]
    have hd := d.isLt
    refine congrArg₂ (fun a b : EReal => a * b) (congrArg x ?_) (congrArg x ?_)
    · funext a; apply Fin.ext
      match a with
      | ⟨0, _⟩ => rfl
      | ⟨1, _⟩ => show d.val % 64 = d.val; omega
    · funext a; apply Fin.ext
      match a with
      | ⟨0, _⟩ => rfl
      | ⟨1, _⟩ => show d.val % 64 = d.val; omega
  have key : ∀ A B : ℝ, Ideal.exp (A : EReal) - Ideal.exp (B : EReal) + Ideal.ofBits .f32 0x3F0E59D5#32
      = ((Real.exp A - Real.exp B + lam0 : ℝ) : EReal) := fun A B => by
    rw [Ideal.exp_coe, Ideal.exp_coe, lam0_eq, ← EReal.coe_sub, ← EReal.coe_add]
  rw [val_main_v29_apply, val_main_v28_apply, val_main_v20_apply, val_main_v27_apply, h1, h2, val_main_cst_1_apply]
  exact key _ _

variable (x : Ls.Idx → EReal) (hx : DiffAttention.IsReal x)
include hx

theorem att_apply (b : Fin 2) (h : Fin 8) (r : Fin 4096) (e : Fin 128) :
    val_main_v91 (F := Ideal) z x (ix4 b r h e) = (att z x b h r e : EReal) := by
  rw [val_main_v91_apply, val_main_v90_apply]
  unfold att
  rw [← sum_coe]
  refine Finset.sum_congr rfl fun j _ => ?_
  have hl : lidx_main_v90 (idx_main_v91 (ix4 b r h e)) j = ix4 b j h e := by
    funext a; match a with | ⟨0, _⟩ => rfl | ⟨1, _⟩ => rfl | ⟨2, _⟩ => rfl | ⟨3, _⟩ => rfl
  have hr : ridx_main_v90 (idx_main_v91 (ix4 b r h e)) j = ix4 b h r j := by
    funext a; match a with | ⟨0, _⟩ => rfl | ⟨1, _⟩ => rfl | ⟨2, _⟩ => rfl | ⟨3, _⟩ => rfl
  rw [hl, hr, v_apply z hz, val_main_v89_apply, val_main_v88_apply, val_main_v87_apply, weight1_apply z hz, weight2_apply z hz, lam_apply x hx,
    EReal.coe_mul, EReal.coe_sub, EReal.coe_mul]
  rfl

/-- The reference computes the differential attention. -/
theorem out_eq (g : Gs.Idx → EReal) : val_main_v107 (F := Ideal) z x g = out z x g := by
  funext i
  have h0 : (i 0).val < 8192 := (i 0).isLt
  have h1 : (i 1).val < 1024 := (i 1).isLt
  have hi : idx_main_v107 i = ix4 (n0 := 2) (n1 := 4096) (n2 := 8) (n3 := 128) ⟨(i 0).val / 4096, by omega⟩ ⟨(i 0).val % 4096, by omega⟩
      ⟨(i 1).val / 128, by omega⟩ ⟨(i 1).val % 128, by omega⟩ := by
    funext a; apply Fin.ext
    match a with
    | ⟨0, _⟩ => show ((i 0).val * 1024 + (i 1).val) / 4194304 = (i 0).val / 4096; omega
    | ⟨1, _⟩ => show ((i 0).val * 1024 + (i 1).val) / 1024 % 4096 = (i 0).val % 4096; omega
    | ⟨2, _⟩ => show ((i 0).val * 1024 + (i 1).val) / 128 % 8 = (i 1).val / 128; omega
    | ⟨3, _⟩ => show ((i 0).val * 1024 + (i 1).val) % 128 = (i 1).val % 128; omega
  rw [val_main_v107_apply, hi]
  unfold out DiffAttention.norm
  generalize (⟨(i 0).val / 4096, _⟩ : Fin 2) = b
  generalize (⟨(i 0).val % 4096, _⟩ : Fin 4096) = r
  generalize (⟨(i 1).val / 128, _⟩ : Fin 8) = h
  generalize (⟨(i 1).val % 128, _⟩ : Fin 128) = e
  rw [val_main_v106_apply, val_main_v104_apply, val_main_v101_apply, val_main_v100_apply, val_main_v99_apply, val_main_v98_apply, val_main_v97_apply,
    val_main_v96_apply, val_main_v95_apply, val_main_v94_apply, val_main_v93_apply, val_main_v105_apply, val_main_v103_apply, val_main_v102_apply,
    val_main_cst_14_apply, val_main_cst_15_apply, val_main_cst_16_apply, val_main_cst_17_apply, att_apply z hz x hx]
  have hz0 : (FloatOps.ofBits FTy.f32 0x00000000#32 : Ideal .f32) = (0 : EReal) := Ideal.ofBits_zero_f32
  have hs : ∀ k : Fin 128, val_main_v92 (F := Ideal) z x (idx_main_v93 (idx_main_v94 (idx_main_v100 (ix4 b r h e))) k)
      = (att z x b h r k : EReal) * (att z x b h r k : EReal) := fun k => by
    have hk : idx_main_v93 (idx_main_v94 (idx_main_v100 (ix4 b r h e))) k = ix4 b r h k := by
      funext a; match a with | ⟨0, _⟩ => rfl | ⟨1, _⟩ => rfl | ⟨2, _⟩ => rfl | ⟨3, _⟩ => rfl
    rw [hk, val_main_v92_apply, att_apply z hz x hx]
    rfl
  have hg : idx_main_v102 (idx_main_v103 (ix4 b r h e)) = ix1 e := by
    funext a; match a with | ⟨0, _⟩ => rfl
  rw [hz0, zero_add, Finset.sum_congr rfl fun k _ => hs k, hg]
  rfl

end Cert.DiffReferenceIdeal.Ref

end
-- ==== Proof.Diff.Pre.lean ====
module

public import proofs.«01_k».proof.Defs
public import proofs.«01_k».proof.Proof.Mla.Pre
public import proofs.«01_k».proof.Proof.Diff.Spec
public import Idealize.ShloMosaic.Lib.ReduceAll

@[expose] public section

set_option maxRecDepth 16384

noncomputable section

/-! The stated condition says that the projected rows and the vectors of the second weight are real numbers. -/

namespace Cert.Pre_finite_operands.Hand

open Idealize.ShloMosaic Cert.Pre_finite_operands Cert.DiffAttention

variable [Cert.Pre_finite_operands.Facts]
open Facts

theorem reals (z : Zs.Idx → EReal) (x : Ls.Idx → EReal) (g : Gs.Idx → EReal)
    (h : Cert.Pre_finite_operands.fn (F := Ideal) z x g = fun _ => 1#1) : IsReal z ∧ IsReal x := by
  have h1 := congrFun h (fun a => a.elim0)
  unfold Cert.Pre_finite_operands.fn at h1
  dsimp only at h1
  have both : ∀ a b : BitVec 1, IntOp.andi a b = 1#1 → a = 1#1 ∧ b = 1#1 := by decide
  obtain ⟨ha, hb⟩ := both _ _ h1
  haveI : Subsingleton S_.Idx := ⟨fun a b => funext fun i => i.elim0⟩
  refine ⟨fun i => ?_, fun i => ?_⟩
  · exact Cert.Pre_finite_scores.Hand.real_of_test _ (Host.reduce_andi_all _ _ _ _ _ ha i)
  · exact Cert.Pre_finite_scores.Hand.real_of_test _ (Host.reduce_andi_all _ _ _ _ _ hb i)

end Cert.Pre_finite_operands.Hand

end
-- ==== Proof.Diff.Claims.lean ====
module

public import proofs.«01_k».proof.Defs
public import proofs.«01_k».proof.Proof.Gen.Diff.Frame
public import proofs.«01_k».proof.Proof.Gen.DiffIdeal.Value
public import proofs.«01_k».proof.Proof.Gen.DiffReferenceIdeal.Run
public import proofs.«01_k».proof.Proof.Gen.DiffReferenceIdeal.Read
public import proofs.«01_k».proof.Proof.Gen.Pre_finite_operands
public import proofs.«01_k».proof.Proof.Diff.Array
public import proofs.«01_k».proof.Proof.Diff.Ref
public import proofs.«01_k».proof.Proof.Diff.Pre
public import Idealize.ShloMosaic.Adequacy
public import Idealize.ShloMosaic.Init

@[expose] public section

set_option maxRecDepth 16384

noncomputable section

/-! The claims about the differential attention. -/

namespace Cert.Proof.Diff

open Idealize.ShloMosaic Idealize.SL.Sem Cert.DiffAttention

theorem frame_kernel : Cert.quiescent_Diff := fun m ρ _ => Cert.Diff.Gen.frame m ρ

theorem frame_ideal : Cert.quiescent_DiffIdeal := fun m ρ _ => Cert.DiffIdeal.Gen.frame m ρ

theorem frame_ideal_pre : Cert.quiescent_DiffIdeal_pre_finite_operands := fun m ρ _ => Cert.DiffIdeal.Gen.frame m ρ

theorem frame_ref : Cert.quiescent_DiffReferenceIdeal := fun m ρ _ =>
  (θ_run Cert.DiffReferenceIdeal.defs _ _).mono (fun r h => ⟨fun c => (h c).2, sem_eq_zero_of_no_sems (by decide) r.2⟩)
    (Cert.DiffReferenceIdeal.Value.run (F := Ideal) m ρ)

theorem frame_ref_pre : Cert.quiescent_DiffReferenceIdeal_pre_finite_operands := fun m ρ _ => frame_ref m ρ trivial

/-- The named constants are the reciprocals of `√64 · ln 2` and of `ln 2`. -/
theorem preserves : Cert.preserves_Diff_DiffIdeal :=
  ⟨IdealRules.named_const.statement Cert.DiffIdeal.κ "dscale" .f32 0x3E38AA3B#32 _ rfl,
    IdealRules.named_const.statement Cert.DiffIdeal.κ "log2e" .f32 0x3FB8AA3B#32 _ rfl⟩

/-- The kernel and the reference both end at the differential attention of the launched arrays. -/
theorem algebraic : Cert.algebraic_DiffIdeal_DiffReferenceIdeal_pre_finite_operands := by
  intro m ρ m' ρ' hpre hagree
  refine ⟨fun c => out (Cert.DiffIdeal.Array.z m c) (Cert.DiffIdeal.Array.x m c) (Cert.DiffIdeal.Array.g m c), ?_, ?_⟩
  · refine (θ_run Cert.DiffIdeal.defs _ _).mono (fun r h c => ?_) (Cert.DiffIdeal.Value.run_blocks m ρ)
    obtain ⟨hz, hx⟩ := Cert.Pre_finite_operands.Hand.reals _ _ _ (hpre c)
    exact ⟨(h c).1.trans (Cert.DiffIdeal.Array.final m c hz hx), (h c).2⟩
  · refine (θ_run Cert.DiffReferenceIdeal.defs _ _).mono (fun r h c => ?_) (Cert.DiffReferenceIdeal.Value.run (F := Ideal) m' ρ')
    obtain ⟨hz, hx⟩ := Cert.Pre_finite_operands.Hand.reals _ _ _ (hpre c)
    refine ⟨(h c).1.trans ?_, (h c).2⟩
    rw [Cert.DiffReferenceIdeal.Read.val_main_v107_eq, (hagree c).1, (hagree c).2.1, (hagree c).2.2]
    exact Cert.DiffReferenceIdeal.Ref.out_eq _ hz _ hx _

end Cert.Proof.Diff

end
-- ==== Proof.First.Spec.lean ====
module

public import Idealize.ShloMosaic.PureOps.Ideal
public import Idealize.ShloMosaic.Lib.ValueIdx

@[expose] public section

noncomputable section

/-! Rows normalised by the root of their mean square, as functions of the rows and the gains. -/

namespace Cert.RowNorm

open Idealize.ShloMosaic Idealize.ShloMosaic.ValueIdx
open scoped BigOperators

/-- A row of `n` entries, each over the root of the mean square and a small constant, times its gain. The length is
given as an extended real too. -/
def normed {n : ℕ} (len : EReal) (v g : Fin n → EReal) (d : Fin n) : EReal :=
  v d * Ideal.rsqrt (Ideal.div (∑ e : Fin n, v e * v e) len + Ideal.ofBits .f32 0x358637BD#32) * g d

/-- The rows of the model's input, normalised. -/
def first (x : (⟨2, ![8192, 4096]⟩ : Shape).Idx → EReal) (g : (⟨1, ![4096]⟩ : Shape).Idx → EReal) : (⟨2, ![8192, 4096]⟩ : Shape).Idx → EReal :=
  fun i => normed (Ideal.ofBits .f32 0x45800000#32) (fun d => x (ix2 ⟨(i 0).val, (i 0).isLt⟩ d)) (fun d => g (ix1 d)) ⟨(i 1).val, (i 1).isLt⟩

/-- Row `r` of the outputs of one group of heads, normalised with the group's part of the gains. -/
def group (y : (⟨2, ![8192, 1024]⟩ : Shape).Idx → EReal) (g : (⟨1, ![4096]⟩ : Shape).Idx → EReal) (n : Fin 4) (r : Fin 8192) : Fin 1024 → EReal :=
  normed (Ideal.ofBits .f32 0x44800000#32) (fun d => y (ix2 r d)) (fun d => g (ix1 ⟨1024 * n.val + d.val, by omega⟩))

/-- The outputs of the four groups of heads, normalised each by itself and set side by side. -/
def groups (y : Fin 4 → (⟨2, ![8192, 1024]⟩ : Shape).Idx → EReal) (g : (⟨1, ![4096]⟩ : Shape).Idx → EReal) : (⟨2, ![8192, 4096]⟩ : Shape).Idx → EReal :=
  fun i => group (y ⟨(i 1).val / 1024, by have : (i 1).val < 4096 := (i 1).isLt; omega⟩) g
    ⟨(i 1).val / 1024, by have : (i 1).val < 4096 := (i 1).isLt; omega⟩ ⟨(i 0).val, (i 0).isLt⟩ ⟨(i 1).val % 1024, Nat.mod_lt _ (by omega)⟩

end Cert.RowNorm

end
-- ==== Proof.First.Array.lean ====
module

public import proofs.«01_k».proof.Proof.Gen.FirstIdeal.Value
public import proofs.«01_k».proof.Proof.First.Spec
public import Idealize.ShloMosaic.Lib.ValueLayout
public import Idealize.ShloMosaic.Lib.IdealHost
public import Idealize.ShloMosaic.Lib.MatmulPlain
public import Idealize.ShloMosaic.PureOps.IdealRules
public import Idealize.ShloMosaic.Lib.Pipeline.ValueKit.Geometry

@[expose] public section

set_option maxRecDepth 16384

noncomputable section

/-! The result array of the first norm, from the arguments. -/

namespace Cert.FirstIdeal.Array

open Cert.FirstIdeal Cert.FirstIdeal.Gen Idealize.ShloMosaic Idealize.ShloMosaic.TcCoe Idealize.SL.Sem
open Idealize.ShloMosaic.ValueIdx Cert.RowNorm
open Idealize.ShloMosaic.Pipeline (Dat)
open scoped BigOperators

/-- The normalising factor of every row of a block, spread over its columns. -/
theorem factor_apply (v : FVec Ideal S512x4096 .f32) (r : Fin 512) (d : Fin 4096) :
    broadcastTo S512x4096 (rsqrt (addf (divf (shapeCast S512x1 (multiReduction .add [1] S512 (mulf v v) 0x00000000#32 reduces_S512x4096_S512 (.inl rfl) rfl) shapeCasts_S512_S512x1)
      (broadcast S512x1 (Scalar.ofBits (F := Ideal) .f32 0x45800000#32))) (broadcast S512x1 (Scalar.ofBits (F := Ideal) .f32 0x358637BD#32)))) broadcasts_S512x1_S512x4096 (ix2 r d)
      = Ideal.rsqrt (Ideal.div (∑ e : Fin 4096, v (ix2 r e) * v (ix2 r e)) (Ideal.ofBits .f32 0x45800000#32) + Ideal.ofBits .f32 0x358637BD#32) := by
  rw [broadcastTo_apply _ _ _ (ix2 r 0) (fun a => by
    match a with
    | ⟨0, _⟩ => rfl
    | ⟨1, _⟩ => rfl)]
  refine congrArg Ideal.rsqrt (congrArg (fun z : EReal => Ideal.div z (Ideal.ofBits .f32 0x45800000#32) + Ideal.ofBits .f32 0x358637BD#32) ?_)
  rw [shapeCast_apply _ _ (ix2 r 0) (ix1 r) (by
    rw [Shape.rowMajor_val_one, Shape.rowMajor_val_two]
    show r.val = r.val * 1 + 0
    omega)]
  refine (Ideal.multiReduction_add_single (mulf v v) _ reduces_S512x4096_S512 (.inl rfl) rfl (ix1 r)).trans ?_
  refine Finset.sum_congr rfl fun l _ => ?_
  have e : reduces_S512x4096_S512.lift (ix1 r) l = (ix2 r l : S512x4096.Idx) := by
    funext a; apply Fin.ext
    match a with
    | ⟨0, _⟩ => rfl
    | ⟨1, _⟩ => rfl
  rw [e]
  rfl

/-- The body's normalised rows, read at an index. -/
theorem k0_pay1_apply (x : Vec Ideal S512x4096 .f32) (g : Vec Ideal S1x4096 .f32) (r : Fin 512) (d : Fin 4096) :
    k0_pay1 x g (ix2 r d) = normed (Ideal.ofBits .f32 0x45800000#32) (fun d => x (ix2 r d)) (fun d => g (ix2 0 d)) d := by
  unfold k0_pay1
  dsimp only
  rw [truncf_apply (ψ := .bf16) _ bitsLt_bf16_f32, mulf_apply, mulf_apply, shapeCast_self, broadcastTo_1b_ab_apply, factor_apply]
  rfl

variable (m : (ℓ : Loc nD τ sig) → Buf (Elt Ideal) ℓ) (c : Dev nD)

/-- The rows as launched. -/
abbrev x : (⟨2, ![8192, 4096]⟩ : Shape).Idx → EReal := m ((c : Thread nD τ).loc main_arg0)
/-- The gains as launched. -/
abbrev g : (⟨1, ![4096]⟩ : Shape).Idx → EReal := m ((c : Thread nD τ).loc main_arg1)

theorem V_x : V m c main_arg0 = x m c := by
  unfold V; after_results

theorem V_g_apply (d : Fin 4096) : V m c main_v0 (ix2 (0 : Fin 1) d : S1x4096.Idx) = g m c (ix1 d) := by
  have e : (V m c main_v0 : S1x4096.Idx → EReal) = shapeCast S1x4096 (g m c) shapeCasts_S4096_S1x4096 := by
    unfold V; after_results; rfl
  rw [e]
  exact shapeCast_apply _ _ _ (ix1 d) (by
    rw [Shape.rowMajor_val_one, Shape.rowMajor_val_two]
    show d.val = 0 * 4096 + d.val
    omega)

/-- Grid point `t` works on row tile `t`. -/
theorem idx_facts : ∀ t : Fin cfg0.N, t.val < 16
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem x_block (t : Fin cfg0.N) (r : Fin 512) (d : Fin 4096) (i : Fin 8192) (hi : i.val = 512 * t.val + r.val) :
    (iblk m c 0 t : Vec Ideal S512x4096 .f32) (ix2 r d) = x m c (ix2 i d) := by
  rw [← V_x]
  obtain ⟨_, e0, e1, _⟩ := idx_facts t
  show V m c main_arg0 (((cfg0.win 0).blk t).view.emb (ix2 r d)) = _
  refine congrArg (V m c main_arg0) (funext fun a => Fin.ext ?_)
  match a with
  | ⟨0, _⟩ => show win0_0.index t (0 : Fin 2) * 512 + 1 * r.val = i.val; omega
  | ⟨1, _⟩ => show win0_0.index t (1 : Fin 2) * 4096 + 1 * d.val = d.val; omega

theorem g_block (t : Fin cfg0.N) (d : Fin 4096) : (iblk m c 1 t : Vec Ideal S1x4096 .f32) (ix2 0 d) = g m c (ix1 d) := by
  rw [← V_g_apply]
  obtain ⟨_, _, _, e0, e1, _⟩ := idx_facts t
  show V m c main_v0 (((cfg0.win 1).blk t).view.emb (ix2 0 d)) = _
  refine congrArg (V m c main_v0) (funext fun a => Fin.ext ?_)
  match a with
  | ⟨0, _⟩ => show win0_1.index t (0 : Fin 2) * 1 + 1 * 0 = 0; omega
  | ⟨1, _⟩ => show win0_1.index t (1 : Fin 2) * 4096 + 1 * d.val = d.val; omega

theorem out_apply (a : Vec Ideal S512x4096 .f32) (b : Vec Ideal S1x4096 .f32) (r : Fin 512) (d : Fin 4096) :
    out0_2 a b (ix2 r d) = normed (Ideal.ofBits .f32 0x45800000#32) (fun d => a (ix2 r d)) (fun d => b (ix2 0 d)) d := by
  unfold out0_2
  rw [View.canon_unit_zero (S := S512x4096) (by funext a; fin_cases a <;> rfl) _ _,
    View.ld_unit_zero (S := S512x4096) (by funext a; fin_cases a <;> rfl), View.ld_unit_zero (S := S1x4096) (by funext a; fin_cases a <;> rfl)]
  exact k0_pay1_apply a b r d

/-- What a point writes back is its block of the normalised rows. -/
theorem flushed_eq (t : Fin cfg0.N) :
    (dats m 0 c).flushed 2 t = ((cfg0.win 2).blk t).view.read (Elt Ideal) (first (x m c) (g m c)) := by
  obtain ⟨hN, _, _, _, _, f0, f1⟩ := idx_facts t
  rw [Value.flushed2]
  funext y
  have hy0 : (y 0).val < 512 := (y 0).isLt
  have hy1 : (y 1).val < 4096 := (y 1).isLt
  have hb0 : (((cfg0.win 2).blk t).view.emb y 0).val = win0_2.index t (0 : Fin 2) * 512 + 1 * (y 0).val := rfl
  have hb1 : (((cfg0.win 2).blk t).view.emb y 1).val = win0_2.index t (1 : Fin 2) * 4096 + 1 * (y 1).val := rfl
  have hx : (cfg0.win 2).xinj (grid0.coords t) y = ix2 (⟨(y 0).val, hy0⟩ : Fin 512) (⟨(y 1).val, hy1⟩ : Fin 4096) := by
    funext a; apply Fin.ext
    match a with
    | ⟨0, _⟩ => rfl
    | ⟨1, _⟩ => rfl
  show out0_2 (iblk m c 0 t) (iblk m c 1 t) ((cfg0.win 2).xinj (grid0.coords t) y) = first (x m c) (g m c) (((cfg0.win 2).blk t).view.emb y)
  rw [hx, out_apply]
  have h1 : (⟨(((cfg0.win 2).blk t).view.emb y 1).val, (((cfg0.win 2).blk t).view.emb y 1).isLt⟩ : Fin 4096) = ⟨(y 1).val, hy1⟩ :=
    Fin.ext (by show (((cfg0.win 2).blk t).view.emb y 1).val = (y 1).val; rw [hb1]; omega)
  have h0 : ∀ d : Fin 4096, (iblk m c 0 t : Vec Ideal S512x4096 .f32) (ix2 (⟨(y 0).val, hy0⟩ : Fin 512) d)
      = x m c (ix2 ⟨(((cfg0.win 2).blk t).view.emb y 0).val, (((cfg0.win 2).blk t).view.emb y 0).isLt⟩ d) := fun d =>
    x_block m c t _ d _ (by show (((cfg0.win 2).blk t).view.emb y 0).val = 512 * t.val + (y 0).val; rw [hb0]; omega)
  unfold first
  rw [h1]
  simp only [h0, g_block]

theorem covers : (cfg0.win 2).Covers := by decide +kernel

/-- The result array after the run. -/
theorem final : (dats m 0 c).arrAt 2 cfg0.N = first (x m c) (g m c) :=
  (dats m 0 c).arrAt_eq_of_cover 2 _ (fun t _ => flushed_eq m c t) (covers.cover _ (Memref.isWhole_whole _))

end Cert.FirstIdeal.Array

end
-- ==== Proof.First.Ref.lean ====
module

public import proofs.«01_k».proof.Proof.First.Spec
public import proofs.«01_k».proof.Proof.Gen.FirstReferenceIdeal.Read
public import Idealize.ShloMosaic.Lib.IdealHost

@[expose] public section

set_option maxRecDepth 16384

noncomputable section

/-! The result of the reference of the first norm, read at an index. -/

namespace Cert.FirstReferenceIdeal.Ref

open Cert.FirstReferenceIdeal Cert.FirstReferenceIdeal.Gen Cert.FirstReferenceIdeal.Read Idealize.ShloMosaic Idealize.ShloMosaic.ValueIdx
open Cert.RowNorm
open scoped BigOperators

/-- The reference's rows, read at an index. -/
theorem out_apply (x : S8192x4096.Idx → EReal) (g : S4096.Idx → EReal) (r : Fin 8192) (d : Fin 4096) :
    val_main_v13 (F := Ideal) x g (ix2 r d) = normed (Ideal.ofBits .f32 0x45800000#32) (fun d => x (ix2 r d)) (fun d => g (ix1 d)) d := by
  rw [val_main_v13_apply, val_main_v12_apply, val_main_v9_apply, val_main_v11_apply, val_main_v10_apply, val_main_v8_apply, val_main_v7_apply,
    val_main_v6_apply, val_main_v4_apply, val_main_v5_apply, val_main_v3_apply, val_main_v2_apply, val_main_v1_apply,
    val_main_cst_apply, val_main_cst_0_apply, val_main_cst_1_apply]
  have hg : idx_main_v10 (idx_main_v11 (ix2 r d)) = ix1 d := by
    funext a; apply Fin.ext
    match a with
    | ⟨0, _⟩ => rfl
  have hk : ∀ k : Fin 4096, idx_main_v1 (idx_main_v2 (idx_main_v8 (ix2 r d))) k = ix2 r k := fun k => by
    funext a; apply Fin.ext
    match a with
    | ⟨0, _⟩ => rfl
    | ⟨1, _⟩ => rfl
  simp only [val_main_v0_apply, hg, hk]
  unfold normed
  refine congrArg (fun s : EReal => x (ix2 r d) * Ideal.rsqrt (Ideal.div s (Ideal.ofBits .f32 0x45800000#32) + Ideal.ofBits .f32 0x358637BD#32)
    * g (ix1 d)) ?_
  exact (congrArg (fun o : EReal => o + _) Ideal.ofBits_zero_f32).trans (zero_add _)

theorem out_eq (x : S8192x4096.Idx → EReal) (g : S4096.Idx → EReal) : val_main_v13 (F := Ideal) x g = first x g := by
  funext i
  have hi : i = ix2 (⟨(i 0).val, (i 0).isLt⟩ : Fin 8192) (⟨(i 1).val, (i 1).isLt⟩ : Fin 4096) := by
    funext a; apply Fin.ext
    match a with
    | ⟨0, _⟩ => rfl
    | ⟨1, _⟩ => rfl
  exact (congrArg (val_main_v13 (F := Ideal) x g) hi).trans (out_apply x g _ _)

end Cert.FirstReferenceIdeal.Ref

end
-- ==== Proof.First.Claims.lean ====
module

public import proofs.«01_k».proof.Defs
public import proofs.«01_k».proof.Proof.Gen.First.Frame
public import proofs.«01_k».proof.Proof.Gen.FirstIdeal.Value
public import proofs.«01_k».proof.Proof.Gen.FirstReferenceIdeal.Run
public import proofs.«01_k».proof.Proof.Gen.FirstReferenceIdeal.Read
public import proofs.«01_k».proof.Proof.First.Array
public import proofs.«01_k».proof.Proof.First.Ref
public import Idealize.ShloMosaic.Adequacy
public import Idealize.ShloMosaic.Init

@[expose] public section

set_option maxRecDepth 16384

noncomputable section

/-! The claims about the first norm. -/

namespace Cert.Proof.First

open Idealize.ShloMosaic Idealize.SL.Sem Cert.RowNorm

theorem frame_kernel : Cert.quiescent_First := fun m ρ _ => Cert.First.Gen.frame m ρ

theorem frame_ideal : Cert.quiescent_FirstIdeal := fun m ρ _ => Cert.FirstIdeal.Gen.frame m ρ

theorem frame_ref : Cert.quiescent_FirstReferenceIdeal := fun m ρ _ =>
  (θ_run Cert.FirstReferenceIdeal.defs _ _).mono (fun r h => ⟨fun c => (h c).2, sem_eq_zero_of_no_sems (by decide) r.2⟩)
    (Cert.FirstReferenceIdeal.Value.run (F := Ideal) m ρ)

theorem preserves : Cert.preserves_First_FirstIdeal := trivial

/-- The kernel and the reference both end at the normalised rows. -/
theorem algebraic : Cert.algebraic_FirstIdeal_FirstReferenceIdeal := by
  intro m ρ m' ρ' _ hagree
  refine ⟨fun c => first (Cert.FirstIdeal.Array.x m c) (Cert.FirstIdeal.Array.g m c), ?_, ?_⟩
  · refine (θ_run Cert.FirstIdeal.defs _ _).mono (fun r h c => ?_) (Cert.FirstIdeal.Value.run_blocks m ρ)
    exact ⟨(h c).1.trans (Cert.FirstIdeal.Array.final m c), (h c).2⟩
  · refine (θ_run Cert.FirstReferenceIdeal.defs _ _).mono (fun r h c => ?_) (Cert.FirstReferenceIdeal.Value.run (F := Ideal) m' ρ')
    refine ⟨(h c).1.trans ?_, (h c).2⟩
    rw [Cert.FirstReferenceIdeal.Read.val_main_v13_eq, (hagree c).1, (hagree c).2]
    exact Cert.FirstReferenceIdeal.Ref.out_eq _ _

end Cert.Proof.First

end
-- ==== Proof.Group.Array.lean ====
module

public import proofs.«01_k».proof.Proof.Gen.GroupIdeal.Value
public import proofs.«01_k».proof.Proof.First.Spec
public import Idealize.ShloMosaic.Lib.ValueLayout
public import Idealize.ShloMosaic.Lib.IdealHost
public import Idealize.ShloMosaic.Lib.MatmulPlain
public import Idealize.ShloMosaic.PureOps.IdealRules
public import Idealize.ShloMosaic.Lib.Pipeline.ValueKit.Geometry

@[expose] public section

set_option maxRecDepth 16384

noncomputable section

/-! The result array of the norms of the groups, from the arguments. -/

namespace Cert.GroupIdeal.Array

open Cert.GroupIdeal Cert.GroupIdeal.Gen Idealize.ShloMosaic Idealize.ShloMosaic.TcCoe Idealize.SL.Sem
open Idealize.ShloMosaic.ValueIdx Cert.RowNorm
open Idealize.ShloMosaic.Pipeline (Dat)
open scoped BigOperators

/-- The normalising factor of every row of a block, spread over its columns. -/
theorem factor_apply (v : FVec Ideal S512x1024 .f32) (r : Fin 512) (d : Fin 1024) :
    broadcastTo S512x1024 (rsqrt (addf (divf (shapeCast S512x1 (multiReduction .add [1] S512 (mulf v v) 0x00000000#32 reduces_S512x1024_S512 (.inl rfl) rfl) shapeCasts_S512_S512x1)
      (broadcast S512x1 (Scalar.ofBits (F := Ideal) .f32 0x44800000#32))) (broadcast S512x1 (Scalar.ofBits (F := Ideal) .f32 0x358637BD#32)))) broadcasts_S512x1_S512x1024 (ix2 r d)
      = Ideal.rsqrt (Ideal.div (∑ e : Fin 1024, v (ix2 r e) * v (ix2 r e)) (Ideal.ofBits .f32 0x44800000#32) + Ideal.ofBits .f32 0x358637BD#32) := by
  rw [broadcastTo_apply _ _ _ (ix2 r 0) (fun a => by
    match a with
    | ⟨0, _⟩ => rfl
    | ⟨1, _⟩ => rfl)]
  refine congrArg Ideal.rsqrt (congrArg (fun z : EReal => Ideal.div z (Ideal.ofBits .f32 0x44800000#32) + Ideal.ofBits .f32 0x358637BD#32) ?_)
  rw [shapeCast_apply _ _ (ix2 r 0) (ix1 r) (by
    rw [Shape.rowMajor_val_one, Shape.rowMajor_val_two]
    show r.val = r.val * 1 + 0
    omega)]
  refine (Ideal.multiReduction_add_single (mulf v v) _ reduces_S512x1024_S512 (.inl rfl) rfl (ix1 r)).trans ?_
  refine Finset.sum_congr rfl fun l _ => ?_
  have e : reduces_S512x1024_S512.lift (ix1 r) l = (ix2 r l : S512x1024.Idx) := by
    funext a; apply Fin.ext
    match a with
    | ⟨0, _⟩ => rfl
    | ⟨1, _⟩ => rfl
  rw [e]
  rfl

/-- The body's normalised rows, read at an index. -/
theorem k0_pay1_apply (x : Vec Ideal S512x1024 .f32) (g : Vec Ideal S1x1024 .f32) (r : Fin 512) (d : Fin 1024) :
    k0_pay1 x g (ix2 r d) = normed (Ideal.ofBits .f32 0x44800000#32) (fun d => x (ix2 r d)) (fun d => g (ix2 0 d)) d := by
  unfold k0_pay1
  dsimp only
  rw [truncf_apply (ψ := .bf16) _ bitsLt_bf16_f32, mulf_apply, mulf_apply, shapeCast_self, broadcastTo_1b_ab_apply, factor_apply]
  rfl

/-- The body's normalised rows, read at an index. -/
theorem k0_pay2_apply (x : Vec Ideal S512x1024 .f32) (g : Vec Ideal S1x1024 .f32) (r : Fin 512) (d : Fin 1024) :
    k0_pay2 x g (ix2 r d) = normed (Ideal.ofBits .f32 0x44800000#32) (fun d => x (ix2 r d)) (fun d => g (ix2 0 d)) d := by
  unfold k0_pay2
  dsimp only
  rw [truncf_apply (ψ := .bf16) _ bitsLt_bf16_f32, mulf_apply, mulf_apply, shapeCast_self, broadcastTo_1b_ab_apply, factor_apply]
  rfl

/-- The body's normalised rows, read at an index. -/
theorem k0_pay3_apply (x : Vec Ideal S512x1024 .f32) (g : Vec Ideal S1x1024 .f32) (r : Fin 512) (d : Fin 1024) :
    k0_pay3 x g (ix2 r d) = normed (Ideal.ofBits .f32 0x44800000#32) (fun d => x (ix2 r d)) (fun d => g (ix2 0 d)) d := by
  unfold k0_pay3
  dsimp only
  rw [truncf_apply (ψ := .bf16) _ bitsLt_bf16_f32, mulf_apply, mulf_apply, shapeCast_self, broadcastTo_1b_ab_apply, factor_apply]
  rfl

/-- The body's normalised rows, read at an index. -/
theorem k0_pay4_apply (x : Vec Ideal S512x1024 .f32) (g : Vec Ideal S1x1024 .f32) (r : Fin 512) (d : Fin 1024) :
    k0_pay4 x g (ix2 r d) = normed (Ideal.ofBits .f32 0x44800000#32) (fun d => x (ix2 r d)) (fun d => g (ix2 0 d)) d := by
  unfold k0_pay4
  dsimp only
  rw [truncf_apply (ψ := .bf16) _ bitsLt_bf16_f32, mulf_apply, mulf_apply, shapeCast_self, broadcastTo_1b_ab_apply, factor_apply]
  rfl

variable (m : (ℓ : Loc nD τ sig) → Buf (Elt Ideal) ℓ) (c : Dev nD)

/-- The outputs of the four groups as launched. -/
abbrev y0 : (⟨2, ![8192, 1024]⟩ : Shape).Idx → EReal := m ((c : Thread nD τ).loc main_arg0)
abbrev y1 : (⟨2, ![8192, 1024]⟩ : Shape).Idx → EReal := m ((c : Thread nD τ).loc main_arg1)
abbrev y2 : (⟨2, ![8192, 1024]⟩ : Shape).Idx → EReal := m ((c : Thread nD τ).loc main_arg2)
abbrev y3 : (⟨2, ![8192, 1024]⟩ : Shape).Idx → EReal := m ((c : Thread nD τ).loc main_arg3)
/-- The gains as launched. -/
abbrev g : (⟨1, ![4096]⟩ : Shape).Idx → EReal := m ((c : Thread nD τ).loc main_arg4)

theorem V_g_apply (d : Fin 4096) : V m c main_v0 (ix2 (0 : Fin 1) d : S1x4096.Idx) = g m c (ix1 d) := by
  have e : (V m c main_v0 : S1x4096.Idx → EReal) = shapeCast S1x4096 (g m c) shapeCasts_S4096_S1x4096 := by
    unfold V; after_results; rfl
  rw [e]
  exact shapeCast_apply _ _ _ (ix1 d) (by
    rw [Shape.rowMajor_val_one, Shape.rowMajor_val_two]
    show d.val = 0 * 4096 + d.val
    omega)

/-- Grid point `t` works on row tile `t`. -/
theorem idx_facts : ∀ t : Fin cfg0.N, t.val < 16
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem V_y0 : V m c main_arg0 = y0 m c := by
  unfold V; after_results

theorem y0_block (t : Fin cfg0.N) (r : Fin 512) (d : Fin 1024) (i : Fin 8192) (hi : i.val = 512 * t.val + r.val) :
    (iblk m c 0 t : Vec Ideal S512x1024 .f32) (ix2 r d) = y0 m c (ix2 i d) := by
  rw [← V_y0]
  obtain ⟨_, e0, e1, _⟩ := idx_facts t
  show V m c main_arg0 (((cfg0.win 0).blk t).view.emb (ix2 r d)) = _
  refine congrArg (V m c main_arg0) (funext fun a => Fin.ext ?_)
  match a with
  | ⟨0, _⟩ => show win0_0.index t (0 : Fin 2) * 512 + 1 * r.val = i.val; omega
  | ⟨1, _⟩ => show win0_0.index t (1 : Fin 2) * 1024 + 1 * d.val = d.val; omega

theorem V_y1 : V m c main_arg1 = y1 m c := by
  unfold V; after_results

theorem y1_block (t : Fin cfg0.N) (r : Fin 512) (d : Fin 1024) (i : Fin 8192) (hi : i.val = 512 * t.val + r.val) :
    (iblk m c 1 t : Vec Ideal S512x1024 .f32) (ix2 r d) = y1 m c (ix2 i d) := by
  rw [← V_y1]
  obtain ⟨_, _, _, e0, e1, _⟩ := idx_facts t
  show V m c main_arg1 (((cfg0.win 1).blk t).view.emb (ix2 r d)) = _
  refine congrArg (V m c main_arg1) (funext fun a => Fin.ext ?_)
  match a with
  | ⟨0, _⟩ => show win0_1.index t (0 : Fin 2) * 512 + 1 * r.val = i.val; omega
  | ⟨1, _⟩ => show win0_1.index t (1 : Fin 2) * 1024 + 1 * d.val = d.val; omega

theorem V_y2 : V m c main_arg2 = y2 m c := by
  unfold V; after_results

theorem y2_block (t : Fin cfg0.N) (r : Fin 512) (d : Fin 1024) (i : Fin 8192) (hi : i.val = 512 * t.val + r.val) :
    (iblk m c 2 t : Vec Ideal S512x1024 .f32) (ix2 r d) = y2 m c (ix2 i d) := by
  rw [← V_y2]
  obtain ⟨_, _, _, _, _, e0, e1, _⟩ := idx_facts t
  show V m c main_arg2 (((cfg0.win 2).blk t).view.emb (ix2 r d)) = _
  refine congrArg (V m c main_arg2) (funext fun a => Fin.ext ?_)
  match a with
  | ⟨0, _⟩ => show win0_2.index t (0 : Fin 2) * 512 + 1 * r.val = i.val; omega
  | ⟨1, _⟩ => show win0_2.index t (1 : Fin 2) * 1024 + 1 * d.val = d.val; omega

theorem V_y3 : V m c main_arg3 = y3 m c := by
  unfold V; after_results

theorem y3_block (t : Fin cfg0.N) (r : Fin 512) (d : Fin 1024) (i : Fin 8192) (hi : i.val = 512 * t.val + r.val) :
    (iblk m c 3 t : Vec Ideal S512x1024 .f32) (ix2 r d) = y3 m c (ix2 i d) := by
  rw [← V_y3]
  obtain ⟨_, _, _, _, _, _, _, e0, e1, _⟩ := idx_facts t
  show V m c main_arg3 (((cfg0.win 3).blk t).view.emb (ix2 r d)) = _
  refine congrArg (V m c main_arg3) (funext fun a => Fin.ext ?_)
  match a with
  | ⟨0, _⟩ => show win0_3.index t (0 : Fin 2) * 512 + 1 * r.val = i.val; omega
  | ⟨1, _⟩ => show win0_3.index t (1 : Fin 2) * 1024 + 1 * d.val = d.val; omega

theorem g_block (t : Fin cfg0.N) (d : Fin 4096) : (iblk m c 4 t : Vec Ideal S1x4096 .f32) (ix2 0 d) = g m c (ix1 d) := by
  rw [← V_g_apply]
  obtain ⟨_, _, _, _, _, _, _, _, _, e0, e1, _⟩ := idx_facts t
  show V m c main_v0 (((cfg0.win 4).blk t).view.emb (ix2 0 d)) = _
  refine congrArg (V m c main_v0) (funext fun a => Fin.ext ?_)
  match a with
  | ⟨0, _⟩ => show win0_4.index t (0 : Fin 2) * 1 + 1 * 0 = 0; omega
  | ⟨1, _⟩ => show win0_4.index t (1 : Fin 2) * 4096 + 1 * d.val = d.val; omega

/-- The gains of group `n`, as a load of the row of gains. -/
theorem ld_gain (b : Vec Ideal S1x4096 .f32) (n : Fin 4) (o : ℕ) (ho : o = 1024 * n.val)
    (h : ∀ a, (![0, o] : Fin 2 → ℕ) a + S1x1024.size a ≤ S1x4096.size a) (d : Fin 1024) :
    View.ld (Val := Elt Ideal) b (Rect.unit (s := S1x4096) ![0, o] S1x1024.size h) (ix2 0 d) = b (ix2 0 ⟨1024 * n.val + d.val, by omega⟩) := by
  subst ho
  refine congrArg b (funext fun a => Fin.ext ?_)
  match a with
  | ⟨0, _⟩ => rfl
  | ⟨1, _⟩ => show 1024 * n.val + 1 * d.val = 1024 * n.val + d.val; omega

/-- An index of a point's block lies in the rectangle of its group. -/
theorem emb_group (o : ℕ) (h : ∀ a, (![0, o] : Fin 2 → ℕ) a + S512x1024.size a ≤ S512x4096.size a)
    (r : Fin 512) (d : Fin 1024) (j : Fin 4096) (hj : j.val = o + d.val) :
    (ix2 r j : S512x4096.Idx) = (Rect.unit (s := S512x4096) ![0, o] S512x1024.size h).emb (ix2 r d) := by
  funext a; apply Fin.ext
  match a with
  | ⟨0, _⟩ => show r.val = 0 + 1 * r.val; omega
  | ⟨1, _⟩ => show j.val = o + 1 * d.val; omega

/-- It lies in no later group's rectangle. -/
theorem not_mem_group (o : ℕ) (h : ∀ a, (![0, o] : Fin 2 → ℕ) a + S512x1024.size a ≤ S512x4096.size a)
    (r : Fin 512) (j : Fin 4096) (hj : j.val < o) :
    (ix2 r j : S512x4096.Idx) ∉ (Rect.unit (s := S512x4096) ![0, o] S512x1024.size h).set := by
  intro hm
  have := ((Rect.mem_set_unit (inb := h)).1 hm 1).1
  have e2 : (![0, o] : Fin 2 → ℕ) 1 = o := rfl
  have e3 : ((ix2 r j : S512x4096.Idx) 1).val = j.val := rfl
  omega

variable (p0 p1 p2 p3 : Vec Ideal S512x1024 .bf16)

/-- The four stores of a point, each a group's columns. -/
abbrev stores : List (View.Piece (Elt Ideal) S512x4096 .bf16) := [⟨r0_8, p3⟩, ⟨r0_6, p2⟩, ⟨r0_4, p1⟩, ⟨r0_2, p0⟩]

theorem stores_3 (r : Fin 512) (d : Fin 1024) (j : Fin 4096) (hj : j.val = 3072 + d.val) :
    View.canon (stores p0 p1 p2 p3) (ix2 r j) = p3 (ix2 r d) := by
  rw [emb_group 3072 inb_S512x4096_S512x1024_0_3072 r d j hj]
  exact View.canon_cons_emb _ _ _ _

theorem stores_2 (r : Fin 512) (d : Fin 1024) (j : Fin 4096) (hj : j.val = 2048 + d.val) :
    View.canon (stores p0 p1 p2 p3) (ix2 r j) = p2 (ix2 r d) := by
  refine (View.canon_cons_of_not_mem _ _ (by exact not_mem_group 3072 inb_S512x4096_S512x1024_0_3072 r j (by omega))).trans ?_
  rw [emb_group 2048 inb_S512x4096_S512x1024_0_2048 r d j hj]
  exact View.canon_cons_emb _ _ _ _

theorem stores_1 (r : Fin 512) (d : Fin 1024) (j : Fin 4096) (hj : j.val = 1024 + d.val) :
    View.canon (stores p0 p1 p2 p3) (ix2 r j) = p1 (ix2 r d) := by
  refine (View.canon_cons_of_not_mem _ _ (by exact not_mem_group 3072 inb_S512x4096_S512x1024_0_3072 r j (by omega))).trans ?_
  refine (View.canon_cons_of_not_mem _ _ (by exact not_mem_group 2048 inb_S512x4096_S512x1024_0_2048 r j (by omega))).trans ?_
  rw [emb_group 1024 inb_S512x4096_S512x1024_0_1024 r d j hj]
  exact View.canon_cons_emb _ _ _ _

theorem stores_0 (r : Fin 512) (d : Fin 1024) (j : Fin 4096) (hj : j.val = d.val) :
    View.canon (stores p0 p1 p2 p3) (ix2 r j) = p0 (ix2 r d) := by
  refine (View.canon_cons_of_not_mem _ _ (by exact not_mem_group 3072 inb_S512x4096_S512x1024_0_3072 r j (by omega))).trans ?_
  refine (View.canon_cons_of_not_mem _ _ (by exact not_mem_group 2048 inb_S512x4096_S512x1024_0_2048 r j (by omega))).trans ?_
  refine (View.canon_cons_of_not_mem _ _ (by exact not_mem_group 1024 inb_S512x4096_S512x1024_0_1024 r j (by omega))).trans ?_
  rw [emb_group 0 inb_S512x4096_S512x1024_0_0 r d j (by omega)]
  exact View.canon_cons_emb _ _ _ _

theorem ld_y (a : Vec Ideal S512x1024 .f32) : View.ld (Val := Elt Ideal) a r0_0 = a :=
  View.ld_unit_zero (S := S512x1024) (by funext a; fin_cases a <;> rfl) _ _

/-- A point's block of the output, group by group. -/
theorem out_apply (a0 a1 a2 a3 : Vec Ideal S512x1024 .f32) (b : Vec Ideal S1x4096 .f32) (n : Fin 4) (r : Fin 512) (d : Fin 1024) :
    out0_5 a0 a1 a2 a3 b (ix2 r (⟨1024 * n.val + d.val, by omega⟩ : Fin 4096))
      = normed (Ideal.ofBits .f32 0x44800000#32) (fun d => (![a0, a1, a2, a3] n : Vec Ideal S512x1024 .f32) (ix2 r d))
          (fun d => b (ix2 0 ⟨1024 * n.val + d.val, by omega⟩)) d := by
  unfold out0_5
  rw [ld_y, ld_y, ld_y, ld_y]
  match n with
  | ⟨0, _⟩ => exact (stores_0 _ _ _ _ r d _ (by show 1024 * 0 + d.val = d.val; omega)).trans ((k0_pay3_apply _ _ r d).trans
      (congrArg (fun w => normed _ _ w d) (funext fun e => ld_gain b 0 0 rfl _ e)))
  | ⟨1, _⟩ => exact (stores_1 _ _ _ _ r d _ (rfl)).trans ((k0_pay4_apply _ _ r d).trans
      (congrArg (fun w => normed _ _ w d) (funext fun e => ld_gain b 1 1024 rfl _ e)))
  | ⟨2, _⟩ => exact (stores_2 _ _ _ _ r d _ (rfl)).trans ((k0_pay1_apply _ _ r d).trans
      (congrArg (fun w => normed _ _ w d) (funext fun e => ld_gain b 2 2048 rfl _ e)))
  | ⟨3, _⟩ => exact (stores_3 _ _ _ _ r d _ (rfl)).trans ((k0_pay2_apply _ _ r d).trans
      (congrArg (fun w => normed _ _ w d) (funext fun e => ld_gain b 3 3072 rfl _ e)))

/-- What a point writes back is its block of the normalised rows. -/
theorem flushed_eq (t : Fin cfg0.N) :
    (dats m 0 c).flushed 5 t = ((cfg0.win 5).blk t).view.read (Elt Ideal) (groups ![y0 m c, y1 m c, y2 m c, y3 m c] (g m c)) := by
  obtain ⟨hN, _, _, _, _, _, _, _, _, _, _, f0, f1⟩ := idx_facts t
  rw [Value.flushed5]
  funext y
  have hy0 : (y 0).val < 512 := (y 0).isLt
  have hy1 : (y 1).val < 4096 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 4096 + 1 * (y 1).val := rfl
  obtain ⟨n, hn⟩ : ∃ n : Fin 4, n.val = (y 1).val / 1024 := ⟨⟨(y 1).val / 1024, by omega⟩, rfl⟩
  obtain ⟨d, hd⟩ : ∃ d : Fin 1024, d.val = (y 1).val % 1024 := ⟨⟨(y 1).val % 1024, Nat.mod_lt _ (by omega)⟩, rfl⟩
  have hx : (cfg0.win 5).xinj (grid0.coords t) y = ix2 (⟨(y 0).val, hy0⟩ : Fin 512) (⟨1024 * n.val + d.val, by omega⟩ : Fin 4096) := by
    funext a; apply Fin.ext
    match a with
    | ⟨0, _⟩ => rfl
    | ⟨1, _⟩ => show (y 1).val = 1024 * n.val + d.val; omega
  show out0_5 (iblk m c 0 t) (iblk m c 1 t) (iblk m c 2 t) (iblk m c 3 t) (iblk m c 4 t) ((cfg0.win 5).xinj (grid0.coords t) y)
    = groups ![y0 m c, y1 m c, y2 m c, y3 m c] (g m c) (((cfg0.win 5).blk t).view.emb y)
  rw [hx, out_apply]
  have h1 : (⟨(((cfg0.win 5).blk t).view.emb y 1).val / 1024, by rw [hb1]; omega⟩ : Fin 4) = n :=
    Fin.ext (by show (((cfg0.win 5).blk t).view.emb y 1).val / 1024 = n.val; rw [hb1]; omega)
  have h2 : (⟨(((cfg0.win 5).blk t).view.emb y 1).val % 1024, Nat.mod_lt _ (by omega)⟩ : Fin 1024) = d :=
    Fin.ext (by show (((cfg0.win 5).blk t).view.emb y 1).val % 1024 = d.val; rw [hb1]; omega)
  unfold groups group
  rw [h1, h2]
  simp only [g_block]
  refine congrArg (fun v => normed _ v _ d) (funext fun e => ?_)
  have h0 : (((cfg0.win 5).blk t).view.emb y 0).val = 512 * t.val + (y 0).val := by rw [hb0]; omega
  match n with
  | ⟨0, _⟩ => exact y0_block m c t _ e _ h0
  | ⟨1, _⟩ => exact y1_block m c t _ e _ h0
  | ⟨2, _⟩ => exact y2_block m c t _ e _ h0
  | ⟨3, _⟩ => exact y3_block m c t _ e _ h0

theorem covers : (cfg0.win 5).Covers := by decide +kernel

/-- The result array after the run. -/
theorem final : (dats m 0 c).arrAt 5 cfg0.N = groups ![y0 m c, y1 m c, y2 m c, y3 m c] (g m c) :=
  (dats m 0 c).arrAt_eq_of_cover 5 _ (fun t _ => flushed_eq m c t) (covers.cover _ (Memref.isWhole_whole _))

end Cert.GroupIdeal.Array

end
-- ==== Proof.Group.Ref.lean ====
module

public import proofs.«01_k».proof.Proof.First.Spec
public import proofs.«01_k».proof.Proof.Gen.GroupReferenceIdeal.Read
public import Idealize.ShloMosaic.Lib.IdealHost

@[expose] public section

set_option maxRecDepth 16384

noncomputable section

/-! The result of the reference of the groups' norms, read at an index. -/

namespace Cert.GroupReferenceIdeal.Ref

open Cert.GroupReferenceIdeal Cert.GroupReferenceIdeal.Gen Cert.GroupReferenceIdeal.Read Idealize.ShloMosaic Idealize.ShloMosaic.ValueIdx
open Cert.RowNorm
open scoped BigOperators

/-- Group 0's normalised rows. -/
theorem group0 (y : S8192x1024.Idx → EReal) (g : S4096.Idx → EReal) (r : Fin 8192) (d : Fin 1024) :
    val_main_v16 (F := Ideal) y g (ix2 r d) = group y g 0 r d := by
  rw [val_main_v16_apply, val_main_v13_apply, val_main_v15_apply, val_main_v14_apply, val_main_v0_apply, val_main_v12_apply, val_main_v11_apply,
    val_main_v10_apply, val_main_v8_apply, val_main_v9_apply, val_main_v7_apply, val_main_v6_apply, val_main_v5_apply,
    val_main_cst_apply, val_main_cst_0_apply, val_main_cst_1_apply]
  have hg : idx_main_v0 (idx_main_v14 (idx_main_v15 (ix2 r d))) = ix1 (⟨1024 * (0 : Fin 4).val + d.val, by show 1024 * 0 + d.val < 4096; omega⟩ : Fin 4096) := by
    funext a; apply Fin.ext
    match a with
    | ⟨0, _⟩ => show d.val = 1024 * 0 + d.val; omega
  have hk : ∀ k : Fin 1024, idx_main_v5 (idx_main_v6 (idx_main_v12 (ix2 r d))) k = ix2 r k := fun k => by
    funext a; apply Fin.ext
    match a with
    | ⟨0, _⟩ => rfl
    | ⟨1, _⟩ => rfl
  simp only [val_main_v4_apply, hg, hk]
  unfold group normed
  refine congrArg (fun s : EReal => y (ix2 r d) * Ideal.rsqrt (Ideal.div s (Ideal.ofBits .f32 0x44800000#32) + Ideal.ofBits .f32 0x358637BD#32)
    * g (ix1 (⟨1024 * (0 : Fin 4).val + d.val, by show 1024 * 0 + d.val < 4096; omega⟩ : Fin 4096))) ?_
  exact (congrArg (fun o : EReal => o + _) Ideal.ofBits_zero_f32).trans (zero_add _)

/-- Group 1's normalised rows. -/
theorem group1 (y : S8192x1024.Idx → EReal) (g : S4096.Idx → EReal) (r : Fin 8192) (d : Fin 1024) :
    val_main_v29 (F := Ideal) y g (ix2 r d) = group y g 1 r d := by
  rw [val_main_v29_apply, val_main_v26_apply, val_main_v28_apply, val_main_v27_apply, val_main_v1_apply, val_main_v25_apply, val_main_v24_apply,
    val_main_v23_apply, val_main_v21_apply, val_main_v22_apply, val_main_v20_apply, val_main_v19_apply, val_main_v18_apply,
    val_main_cst_2_apply, val_main_cst_3_apply, val_main_cst_4_apply]
  have hg : idx_main_v1 (idx_main_v27 (idx_main_v28 (ix2 r d))) = ix1 (⟨1024 * (1 : Fin 4).val + d.val, by show 1024 * 1 + d.val < 4096; omega⟩ : Fin 4096) := by
    funext a; apply Fin.ext
    match a with
    | ⟨0, _⟩ => show 1024 + d.val = 1024 * 1 + d.val; omega
  have hk : ∀ k : Fin 1024, idx_main_v18 (idx_main_v19 (idx_main_v25 (ix2 r d))) k = ix2 r k := fun k => by
    funext a; apply Fin.ext
    match a with
    | ⟨0, _⟩ => rfl
    | ⟨1, _⟩ => rfl
  simp only [val_main_v17_apply, hg, hk]
  unfold group normed
  refine congrArg (fun s : EReal => y (ix2 r d) * Ideal.rsqrt (Ideal.div s (Ideal.ofBits .f32 0x44800000#32) + Ideal.ofBits .f32 0x358637BD#32)
    * g (ix1 (⟨1024 * (1 : Fin 4).val + d.val, by show 1024 * 1 + d.val < 4096; omega⟩ : Fin 4096))) ?_
  exact (congrArg (fun o : EReal => o + _) Ideal.ofBits_zero_f32).trans (zero_add _)

/-- Group 2's normalised rows. -/
theorem group2 (y : S8192x1024.Idx → EReal) (g : S4096.Idx → EReal) (r : Fin 8192) (d : Fin 1024) :
    val_main_v42 (F := Ideal) y g (ix2 r d) = group y g 2 r d := by
  rw [val_main_v42_apply, val_main_v39_apply, val_main_v41_apply, val_main_v40_apply, val_main_v2_apply, val_main_v38_apply, val_main_v37_apply,
    val_main_v36_apply, val_main_v34_apply, val_main_v35_apply, val_main_v33_apply, val_main_v32_apply, val_main_v31_apply,
    val_main_cst_5_apply, val_main_cst_6_apply, val_main_cst_7_apply]
  have hg : idx_main_v2 (idx_main_v40 (idx_main_v41 (ix2 r d))) = ix1 (⟨1024 * (2 : Fin 4).val + d.val, by show 1024 * 2 + d.val < 4096; omega⟩ : Fin 4096) := by
    funext a; apply Fin.ext
    match a with
    | ⟨0, _⟩ => show 2048 + d.val = 1024 * 2 + d.val; omega
  have hk : ∀ k : Fin 1024, idx_main_v31 (idx_main_v32 (idx_main_v38 (ix2 r d))) k = ix2 r k := fun k => by
    funext a; apply Fin.ext
    match a with
    | ⟨0, _⟩ => rfl
    | ⟨1, _⟩ => rfl
  simp only [val_main_v30_apply, hg, hk]
  unfold group normed
  refine congrArg (fun s : EReal => y (ix2 r d) * Ideal.rsqrt (Ideal.div s (Ideal.ofBits .f32 0x44800000#32) + Ideal.ofBits .f32 0x358637BD#32)
    * g (ix1 (⟨1024 * (2 : Fin 4).val + d.val, by show 1024 * 2 + d.val < 4096; omega⟩ : Fin 4096))) ?_
  exact (congrArg (fun o : EReal => o + _) Ideal.ofBits_zero_f32).trans (zero_add _)

/-- Group 3's normalised rows. -/
theorem group3 (y : S8192x1024.Idx → EReal) (g : S4096.Idx → EReal) (r : Fin 8192) (d : Fin 1024) :
    val_main_v55 (F := Ideal) y g (ix2 r d) = group y g 3 r d := by
  rw [val_main_v55_apply, val_main_v52_apply, val_main_v54_apply, val_main_v53_apply, val_main_v3_apply, val_main_v51_apply, val_main_v50_apply,
    val_main_v49_apply, val_main_v47_apply, val_main_v48_apply, val_main_v46_apply, val_main_v45_apply, val_main_v44_apply,
    val_main_cst_8_apply, val_main_cst_9_apply, val_main_cst_10_apply]
  have hg : idx_main_v3 (idx_main_v53 (idx_main_v54 (ix2 r d))) = ix1 (⟨1024 * (3 : Fin 4).val + d.val, by show 1024 * 3 + d.val < 4096; omega⟩ : Fin 4096) := by
    funext a; apply Fin.ext
    match a with
    | ⟨0, _⟩ => show 3072 + d.val = 1024 * 3 + d.val; omega
  have hk : ∀ k : Fin 1024, idx_main_v44 (idx_main_v45 (idx_main_v51 (ix2 r d))) k = ix2 r k := fun k => by
    funext a; apply Fin.ext
    match a with
    | ⟨0, _⟩ => rfl
    | ⟨1, _⟩ => rfl
  simp only [val_main_v43_apply, hg, hk]
  unfold group normed
  refine congrArg (fun s : EReal => y (ix2 r d) * Ideal.rsqrt (Ideal.div s (Ideal.ofBits .f32 0x44800000#32) + Ideal.ofBits .f32 0x358637BD#32)
    * g (ix1 (⟨1024 * (3 : Fin 4).val + d.val, by show 1024 * 3 + d.val < 4096; omega⟩ : Fin 4096))) ?_
  exact (congrArg (fun o : EReal => o + _) Ideal.ofBits_zero_f32).trans (zero_add _)

/-- The reference's result is the four groups' normalised rows side by side. -/
theorem out_eq (y0 y1 y2 y3 : S8192x1024.Idx → EReal) (g : S4096.Idx → EReal) :
    val_main_v57 (F := Ideal) y0 y1 y2 y3 g = groups ![y0, y1, y2, y3] g := by
  funext i
  rw [val_main_v57_apply]
  have h1 : (i 1).val < 4096 := (i 1).isLt
  obtain ⟨n, hn⟩ : ∃ n : Fin 4, n.val = (i 1).val / 1024 := ⟨⟨(i 1).val / 1024, by omega⟩, rfl⟩
  obtain ⟨d, hd⟩ : ∃ d : Fin 1024, d.val = (i 1).val % 1024 := ⟨⟨(i 1).val % 1024, Nat.mod_lt _ (by omega)⟩, rfl⟩
  have e1 : (⟨(i 1).val / 1024, by omega⟩ : Fin 4) = n := Fin.ext hn.symm
  have e2 : (⟨(i 1).val % 1024, Nat.mod_lt _ (by omega)⟩ : Fin 1024) = d := Fin.ext hd.symm
  unfold groups
  rw [e1, e2]
  show val_main_v56 (F := Ideal) y0 y1 y2 y3 g i = _
  unfold val_main_v56
  refine (concatenate_ofFn_apply (s₁ := S8192x1024) (t := S8192x4096) 1
    (fun n : Fin 4 => (![val_main_v16 (F := Ideal) y0 g, val_main_v29 (F := Ideal) y1 g, val_main_v42 (F := Ideal) y2 g, val_main_v55 (F := Ideal) y3 g] n : S8192x1024.Idx → EReal))
    concatenates_S8192x1024_S8192x1024_S8192x1024_S8192x1024_S8192x4096_d1 rfl 1024 rfl i n hn.symm (ix2 ⟨(i 0).val, (i 0).isLt⟩ d) hd (fun b hb => ?_)).trans ?_
  · match b with
    | ⟨0, _⟩ => rfl
    | ⟨1, _⟩ => exact absurd rfl hb
  · match n with
    | ⟨0, _⟩ => exact group0 y0 g _ d
    | ⟨1, _⟩ => exact group1 y1 g _ d
    | ⟨2, _⟩ => exact group2 y2 g _ d
    | ⟨3, _⟩ => exact group3 y3 g _ d

end Cert.GroupReferenceIdeal.Ref

end
-- ==== Proof.Group.Claims.lean ====
module

public import proofs.«01_k».proof.Defs
public import proofs.«01_k».proof.Proof.Gen.Group.Frame
public import proofs.«01_k».proof.Proof.Gen.GroupIdeal.Value
public import proofs.«01_k».proof.Proof.Gen.GroupReferenceIdeal.Run
public import proofs.«01_k».proof.Proof.Gen.GroupReferenceIdeal.Read
public import proofs.«01_k».proof.Proof.Group.Array
public import proofs.«01_k».proof.Proof.Group.Ref
public import Idealize.ShloMosaic.Adequacy
public import Idealize.ShloMosaic.Init

@[expose] public section

set_option maxRecDepth 16384

noncomputable section

/-! The claims about the groups' norms. -/

namespace Cert.Proof.Group

open Idealize.ShloMosaic Idealize.SL.Sem Cert.RowNorm

theorem frame_kernel : Cert.quiescent_Group := fun m ρ _ => Cert.Group.Gen.frame m ρ

theorem frame_ideal : Cert.quiescent_GroupIdeal := fun m ρ _ => Cert.GroupIdeal.Gen.frame m ρ

theorem frame_ref : Cert.quiescent_GroupReferenceIdeal := fun m ρ _ =>
  (θ_run Cert.GroupReferenceIdeal.defs _ _).mono (fun r h => ⟨fun c => (h c).2, sem_eq_zero_of_no_sems (by decide) r.2⟩)
    (Cert.GroupReferenceIdeal.Value.run (F := Ideal) m ρ)

theorem preserves : Cert.preserves_Group_GroupIdeal := trivial

/-- The kernel and the reference both end at the normalised rows. -/
theorem algebraic : Cert.algebraic_GroupIdeal_GroupReferenceIdeal := by
  intro m ρ m' ρ' _ hagree
  refine ⟨fun c => groups ![Cert.GroupIdeal.Array.y0 m c, Cert.GroupIdeal.Array.y1 m c, Cert.GroupIdeal.Array.y2 m c, Cert.GroupIdeal.Array.y3 m c] (Cert.GroupIdeal.Array.g m c), ?_, ?_⟩
  · refine (θ_run Cert.GroupIdeal.defs _ _).mono (fun r h c => ?_) (Cert.GroupIdeal.Value.run_blocks m ρ)
    exact ⟨(h c).1.trans (Cert.GroupIdeal.Array.final m c), (h c).2⟩
  · refine (θ_run Cert.GroupReferenceIdeal.defs _ _).mono (fun r h c => ?_) (Cert.GroupReferenceIdeal.Value.run (F := Ideal) m' ρ')
    refine ⟨(h c).1.trans ?_, (h c).2⟩
    rw [Cert.GroupReferenceIdeal.Read.val_main_v57_eq, (hagree c).1, (hagree c).2.1, (hagree c).2.2.1, (hagree c).2.2.2.1, (hagree c).2.2.2.2]
    exact Cert.GroupReferenceIdeal.Ref.out_eq _ _ _ _ _

end Cert.Proof.Group

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_scores
public import proofs.«01_k».proof.Proof.Gen.Up.Frame
public import proofs.«01_k».proof.Proof.Gen.UpIdeal.Value
public import proofs.«01_k».proof.Proof.Gen.UpReferenceIdeal.Run
public import proofs.«01_k».proof.Proof.Gen.UpReferenceIdeal.Read
public import proofs.«01_k».proof.Proof.Gen.Down.Frame
public import proofs.«01_k».proof.Proof.Gen.DownIdeal.Frame
public import proofs.«01_k».proof.Proof.Gen.DownIdeal.Skeleton
public import proofs.«01_k».proof.Proof.Gen.DownReferenceIdeal.Run
public import proofs.«01_k».proof.Proof.Gen.DownReferenceIdeal.Read
public import proofs.«01_k».proof.Proof.Gen.ProjF.Frame
public import proofs.«01_k».proof.Proof.Gen.ProjFIdeal.Value
public import proofs.«01_k».proof.Proof.Gen.ProjFReferenceIdeal.Run
public import proofs.«01_k».proof.Proof.Gen.ProjFReferenceIdeal.Read
public import proofs.«01_k».proof.Proof.Gen.ProjB.Frame
public import proofs.«01_k».proof.Proof.Gen.ProjBIdeal.Value
public import proofs.«01_k».proof.Proof.Gen.ProjBReferenceIdeal.Run
public import proofs.«01_k».proof.Proof.Gen.ProjBReferenceIdeal.Read
public import proofs.«01_k».proof.Proof.Gen.Out.Frame
public import proofs.«01_k».proof.Proof.Gen.OutIdeal.Frame
public import proofs.«01_k».proof.Proof.Gen.OutIdeal.Skeleton
public import proofs.«01_k».proof.Proof.Gen.OutReferenceIdeal.Run
public import proofs.«01_k».proof.Proof.Gen.OutReferenceIdeal.Read
public import proofs.«01_k».proof.Proof.Gen.Pre_finite_operands
public import proofs.«01_k».proof.Proof.Gen.Diff.Frame
public import proofs.«01_k».proof.Proof.Gen.DiffIdeal.Value
public import proofs.«01_k».proof.Proof.Gen.DiffReferenceIdeal.Run
public import proofs.«01_k».proof.Proof.Gen.DiffReferenceIdeal.Read
public import proofs.«01_k».proof.Proof.Gen.First.Frame
public import proofs.«01_k».proof.Proof.Gen.FirstIdeal.Value
public import proofs.«01_k».proof.Proof.Gen.FirstReferenceIdeal.Run
public import proofs.«01_k».proof.Proof.Gen.FirstReferenceIdeal.Read
public import proofs.«01_k».proof.Proof.Gen.Group.Frame
public import proofs.«01_k».proof.Proof.Gen.GroupIdeal.Value
public import proofs.«01_k».proof.Proof.Gen.GroupReferenceIdeal.Run
public import proofs.«01_k».proof.Proof.Gen.GroupReferenceIdeal.Read
public import proofs.«01_k».proof.Proof.Mla.Claims
public import proofs.«01_k».proof.Proof.Up.Claims
public import proofs.«01_k».proof.Proof.Down.Claims
public import proofs.«01_k».proof.Proof.ProjF.Claims
public import proofs.«01_k».proof.Proof.ProjB.Claims
public import proofs.«01_k».proof.Proof.Out.Claims
public import proofs.«01_k».proof.Proof.Diff.Claims
public import proofs.«01_k».proof.Proof.First.Claims
public import proofs.«01_k».proof.Proof.Group.Claims

@[expose] public section

noncomputable section

namespace Cert.Proof

theorem claim : Cert.Claim :=
  ⟨Cert.Kernel.Gen.facts, Cert.KernelIdeal.Gen.facts, Cert.ReferenceIdeal.Gen.facts, Cert.Up.Gen.facts, Cert.UpIdeal.Gen.facts, Cert.UpReferenceIdeal.Gen.facts, Cert.Down.Gen.facts, Cert.DownIdeal.Gen.facts, Cert.DownReferenceIdeal.Gen.facts, Cert.ProjF.Gen.facts, Cert.ProjFIdeal.Gen.facts, Cert.ProjFReferenceIdeal.Gen.facts, Cert.ProjB.Gen.facts, Cert.ProjBIdeal.Gen.facts, Cert.ProjBReferenceIdeal.Gen.facts, Cert.Out.Gen.facts, Cert.OutIdeal.Gen.facts, Cert.OutReferenceIdeal.Gen.facts, Cert.Diff.Gen.facts, Cert.DiffIdeal.Gen.facts, Cert.DiffReferenceIdeal.Gen.facts, Cert.First.Gen.facts, Cert.FirstIdeal.Gen.facts, Cert.FirstReferenceIdeal.Gen.facts, Cert.Group.Gen.facts, Cert.GroupIdeal.Gen.facts, Cert.GroupReferenceIdeal.Gen.facts, Cert.Pre_finite_scores.Gen.facts, Cert.Pre_finite_operands.Gen.facts,
    Mla.frame_kernel, Mla.frame_ideal, Mla.frame_ideal_pre, Mla.frame_ref, Mla.frame_ref_pre,
    Up.frame_kernel, Up.frame_ideal, Up.frame_ref, Down.frame_kernel, Down.frame_ideal, Down.frame_ref, ProjF.frame_kernel, ProjF.frame_ideal, ProjF.frame_ref, ProjB.frame_kernel, ProjB.frame_ideal, ProjB.frame_ref, Out.frame_kernel, Out.frame_ideal, Out.frame_ref,
    Diff.frame_kernel, Diff.frame_ideal, Diff.frame_ideal_pre, Diff.frame_ref, Diff.frame_ref_pre,
    First.frame_kernel, First.frame_ideal, First.frame_ref, Group.frame_kernel, Group.frame_ideal, Group.frame_ref,
    Mla.preserves, Mla.algebraic, Up.preserves, Up.algebraic, Down.preserves, Down.algebraic, ProjF.preserves, ProjF.algebraic, ProjB.preserves, ProjB.algebraic, Out.preserves, Out.algebraic, Diff.preserves, Diff.algebraic, First.preserves, First.algebraic, Group.preserves, Group.algebraic⟩

end Cert.Proof

end
